-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDh (m : (ℓ : Loc Cert.UpDh.nD Cert.UpDh.τ Cert.UpDh.sig) → Buf (Elt Bits) ℓ) : Prop :=
  True

def Pre_UpDhIdeal (m : (ℓ : Loc Cert.UpDhIdeal.nD Cert.UpDhIdeal.τ Cert.UpDhIdeal.sig) → Buf (Elt Ideal) ℓ) : Prop :=
  True

def Pre_UpDhRefIdeal (m : (ℓ : Loc Cert.UpDhRefIdeal.nD Cert.UpDhRefIdeal.τ Cert.UpDhRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDh (m : (ℓ : Loc Cert.QkvDh.nD Cert.QkvDh.τ Cert.QkvDh.sig) → Buf (Elt Bits) ℓ) : Prop :=
  True

def Pre_QkvDhIdeal (m : (ℓ : Loc Cert.QkvDhIdeal.nD Cert.QkvDhIdeal.τ Cert.QkvDhIdeal.sig) → Buf (Elt Ideal) ℓ) : Prop :=
  True

def Pre_QkvDhRefIdeal (m : (ℓ : Loc Cert.QkvDhRefIdeal.nD Cert.QkvDhRefIdeal.τ Cert.QkvDhRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_PwOne (m : (ℓ : Loc Cert.PwOne.nD Cert.PwOne.τ Cert.PwOne.sig) → Buf (Elt Bits) ℓ) : Prop :=
  True

def Pre_PwOneIdeal (m : (ℓ : Loc Cert.PwOneIdeal.nD Cert.PwOneIdeal.τ Cert.PwOneIdeal.sig) → Buf (Elt Ideal) ℓ) : Prop :=
  True

def Pre_PwOneRefIdeal (m : (ℓ : Loc Cert.PwOneRefIdeal.nD Cert.PwOneRefIdeal.τ Cert.PwOneRefIdeal.sig) → Buf (Elt Ideal) ℓ) : Prop :=
  True

def Pre_PwOneDw (m : (ℓ : Loc Cert.PwOneDw.nD Cert.PwOneDw.τ Cert.PwOneDw.sig) → Buf (Elt Bits) ℓ) : Prop :=
  True

def Pre_PwOneDwIdeal (m : (ℓ : Loc Cert.PwOneDwIdeal.nD Cert.PwOneDwIdeal.τ Cert.PwOneDwIdeal.sig) → Buf (Elt Ideal) ℓ) : Prop :=
  True

def Pre_PwOneDwRefIdeal (m : (ℓ : Loc Cert.PwOneDwRefIdeal.nD Cert.PwOneDwRefIdeal.τ Cert.PwOneDwRefIdeal.sig) → Buf (Elt Ideal) ℓ) : Prop :=
  True

def Pre_PwOneDh (m : (ℓ : Loc Cert.PwOneDh.nD Cert.PwOneDh.τ Cert.PwOneDh.sig) → Buf (Elt Bits) ℓ) : Prop :=
  True

def Pre_PwOneDhIdeal (m : (ℓ : Loc Cert.PwOneDhIdeal.nD Cert.PwOneDhIdeal.τ Cert.PwOneDhIdeal.sig) → Buf (Elt Ideal) ℓ) : Prop :=
  True

def Pre_PwOneDhRefIdeal (m : (ℓ : Loc Cert.PwOneDhRefIdeal.nD Cert.PwOneDhRefIdeal.τ Cert.PwOneDhRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_UpZero (m : (ℓ : Loc Cert.UpZero.nD Cert.UpZero.τ Cert.UpZero.sig) → Buf (Elt Bits) ℓ) : Prop :=
  True

def Pre_UpZeroIdeal (m : (ℓ : Loc Cert.UpZeroIdeal.nD Cert.UpZeroIdeal.τ Cert.UpZeroIdeal.sig) → Buf (Elt Ideal) ℓ) : Prop :=
  True

def Pre_UpZeroRefIdeal (m : (ℓ : Loc Cert.UpZeroRefIdeal.nD Cert.UpZeroRefIdeal.τ Cert.UpZeroRefIdeal.sig) → Buf (Elt Ideal) ℓ) : Prop :=
  True

def Pre_UpDhZero (m : (ℓ : Loc Cert.UpDhZero.nD Cert.UpDhZero.τ Cert.UpDhZero.sig) → Buf (Elt Bits) ℓ) : Prop :=
  True

def Pre_UpDhZeroIdeal (m : (ℓ : Loc Cert.UpDhZeroIdeal.nD Cert.UpDhZeroIdeal.τ Cert.UpDhZeroIdeal.sig) → Buf (Elt Ideal) ℓ) : Prop :=
  True

def Pre_UpDhZeroRefIdeal (m : (ℓ : Loc Cert.UpDhZeroRefIdeal.nD Cert.UpDhZeroRefIdeal.τ Cert.UpDhZeroRefIdeal.sig) → Buf (Elt Ideal) ℓ) : Prop :=
  True

def Pre_PwTwo (m : (ℓ : Loc Cert.PwTwo.nD Cert.PwTwo.τ Cert.PwTwo.sig) → Buf (Elt Bits) ℓ) : Prop :=
  True

def Pre_PwTwoIdeal (m : (ℓ : Loc Cert.PwTwoIdeal.nD Cert.PwTwoIdeal.τ Cert.PwTwoIdeal.sig) → Buf (Elt Ideal) ℓ) : Prop :=
  True

def Pre_PwTwoRefIdeal (m : (ℓ : Loc Cert.PwTwoRefIdeal.nD Cert.PwTwoRefIdeal.τ Cert.PwTwoRefIdeal.sig) → Buf (Elt Ideal) ℓ) : Prop :=
  True

def Pre_PwTwoDw (m : (ℓ : Loc Cert.PwTwoDw.nD Cert.PwTwoDw.τ Cert.PwTwoDw.sig) → Buf (Elt Bits) ℓ) : Prop :=
  True

def Pre_PwTwoDwIdeal (m : (ℓ : Loc Cert.PwTwoDwIdeal.nD Cert.PwTwoDwIdeal.τ Cert.PwTwoDwIdeal.sig) → Buf (Elt Ideal) ℓ) : Prop :=
  True

def Pre_PwTwoDwRefIdeal (m : (ℓ : Loc Cert.PwTwoDwRefIdeal.nD Cert.PwTwoDwRefIdeal.τ Cert.PwTwoDwRefIdeal.sig) → Buf (Elt Ideal) ℓ) : Prop :=
  True

def Pre_PwTwoDu (m : (ℓ : Loc Cert.PwTwoDu.nD Cert.PwTwoDu.τ Cert.PwTwoDu.sig) → Buf (Elt Bits) ℓ) : Prop :=
  True

def Pre_PwTwoDuIdeal (m : (ℓ : Loc Cert.PwTwoDuIdeal.nD Cert.PwTwoDuIdeal.τ Cert.PwTwoDuIdeal.sig) → Buf (Elt Ideal) ℓ) : Prop :=
  True

def Pre_PwTwoDuRefIdeal (m : (ℓ : Loc Cert.PwTwoDuRefIdeal.nD Cert.PwTwoDuRefIdeal.τ Cert.PwTwoDuRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_AttnOutDm (m : (ℓ : Loc Cert.AttnOutDm.nD Cert.AttnOutDm.τ Cert.AttnOutDm.sig) → Buf (Elt Bits) ℓ) : Prop :=
  True

def Pre_AttnOutDmIdeal (m : (ℓ : Loc Cert.AttnOutDmIdeal.nD Cert.AttnOutDmIdeal.τ Cert.AttnOutDmIdeal.sig) → Buf (Elt Ideal) ℓ) : Prop :=
  True

def Pre_AttnOutDmRefIdeal (m : (ℓ : Loc Cert.AttnOutDmRefIdeal.nD Cert.AttnOutDmRefIdeal.τ Cert.AttnOutDmRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPwOne (m : (ℓ : Loc Cert.AdamPwOne.nD Cert.AdamPwOne.τ Cert.AdamPwOne.sig) → Buf (Elt Bits) ℓ) : Prop :=
  True

def Pre_AdamPwOneIdeal (m : (ℓ : Loc Cert.AdamPwOneIdeal.nD Cert.AdamPwOneIdeal.τ Cert.AdamPwOneIdeal.sig) → Buf (Elt Ideal) ℓ) : Prop :=
  True

def Pre_AdamPwOneRefIdeal (m : (ℓ : Loc Cert.AdamPwOneRefIdeal.nD Cert.AdamPwOneRefIdeal.τ Cert.AdamPwOneRefIdeal.sig) → Buf (Elt Ideal) ℓ) : Prop :=
  True

def Pre_AdamPwTwo (m : (ℓ : Loc Cert.AdamPwTwo.nD Cert.AdamPwTwo.τ Cert.AdamPwTwo.sig) → Buf (Elt Bits) ℓ) : Prop :=
  True

def Pre_AdamPwTwoIdeal (m : (ℓ : Loc Cert.AdamPwTwoIdeal.nD Cert.AdamPwTwoIdeal.τ Cert.AdamPwTwoIdeal.sig) → Buf (Elt Ideal) ℓ) : Prop :=
  True

def Pre_AdamPwTwoRefIdeal (m : (ℓ : Loc Cert.AdamPwTwoRefIdeal.nD Cert.AdamPwTwoRefIdeal.τ Cert.AdamPwTwoRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDh [hUpDh : Cert.UpDh.Facts] : Prop :=
  ∀ (m : (ℓ : Loc Cert.UpDh.nD Cert.UpDh.τ Cert.UpDh.sig) → Buf (Elt Bits) ℓ) (g : Dev Cert.UpDh.nD → PrngReg), Pre_UpDh m →
    θ_run (Cert.UpDh.defs (F := Bits)) (onTc (τ := Cert.UpDh.τ) (Cert.UpDh.main (F := Bits))) ⟨m, fun _ => 0, g⟩ (fun r => (∀ c : Dev Cert.UpDh.nD,
      r.2.mem ((c.tc : Thread Cert.UpDh.nD Cert.UpDh.τ).loc Cert.UpDh.main_arg0) = m ((c.tc : Thread Cert.UpDh.nD Cert.UpDh.τ).loc Cert.UpDh.main_arg0)
      ∧ r.2.mem ((c.tc : Thread Cert.UpDh.nD Cert.UpDh.τ).loc Cert.UpDh.main_arg1) = m ((c.tc : Thread Cert.UpDh.nD Cert.UpDh.τ).loc Cert.UpDh.main_arg1))
      ∧ r.2.sem = fun _ => 0)

def quiescent_UpDhIdeal [hUpDhIdeal : Cert.UpDhIdeal.Facts] : Prop :=
  ∀ (m : (ℓ : Loc Cert.UpDhIdeal.nD Cert.UpDhIdeal.τ Cert.UpDhIdeal.sig) → Buf (Elt Ideal) ℓ) (g : Dev Cert.UpDhIdeal.nD → PrngReg), Pre_UpDhIdeal m →
    θ_run (Cert.UpDhIdeal.defs (F := Ideal)) (onTc (τ := Cert.UpDhIdeal.τ) (Cert.UpDhIdeal.main (F := Ideal))) ⟨m, fun _ => 0, g⟩ (fun r => (∀ c : Dev Cert.UpDhIdeal.nD,
      r.2.mem ((c.tc : Thread Cert.UpDhIdeal.nD Cert.UpDhIdeal.τ).loc Cert.UpDhIdeal.main_arg0) = m ((c.tc : Thread Cert.UpDhIdeal.nD Cert.UpDhIdeal.τ).loc Cert.UpDhIdeal.main_arg0)
      ∧ r.2.mem ((c.tc : Thread Cert.UpDhIdeal.nD Cert.UpDhIdeal.τ).loc Cert.UpDhIdeal.main_arg1) = m ((c.tc : Thread Cert.UpDhIdeal.nD Cert.UpDhIdeal.τ).loc Cert.UpDhIdeal.main_arg1))
      ∧ r.2.sem = fun _ => 0)

def quiescent_UpDhRefIdeal [hUpDhRefIdeal : Cert.UpDhRefIdeal.Facts] : Prop :=
  ∀ (m : (ℓ : Loc Cert.UpDhRefIdeal.nD Cert.UpDhRefIdeal.τ Cert.UpDhRefIdeal.sig) → Buf (Elt Ideal) ℓ) (g : Dev Cert.UpDhRefIdeal.nD → PrngReg), Pre_UpDhRefIdeal m →
    θ_run (Cert.UpDhRefIdeal.defs (F := Ideal)) (onTc (τ := Cert.UpDhRefIdeal.τ) (Cert.UpDhRefIdeal.main (F := Ideal))) ⟨m, fun _ => 0, g⟩ (fun r => (∀ c : Dev Cert.UpDhRefIdeal.nD,
      r.2.mem ((c.tc : Thread Cert.UpDhRefIdeal.nD Cert.UpDhRefIdeal.τ).loc Cert.UpDhRefIdeal.main_arg0) = m ((c.tc : Thread Cert.UpDhRefIdeal.nD Cert.UpDhRefIdeal.τ).loc Cert.UpDhRefIdeal.main_arg0)
      ∧ r.2.mem ((c.tc : Thread Cert.UpDhRefIdeal.nD Cert.UpDhRefIdeal.τ).loc Cert.UpDhRefIdeal.main_arg1) = m ((c.tc : Thread Cert.UpDhRefIdeal.nD Cert.UpDhRefIdeal.τ).loc Cert.UpDhRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_QkvDh [hQkvDh : Cert.QkvDh.Facts] : Prop :=
  ∀ (m : (ℓ : Loc Cert.QkvDh.nD Cert.QkvDh.τ Cert.QkvDh.sig) → Buf (Elt Bits) ℓ) (g : Dev Cert.QkvDh.nD → PrngReg), Pre_QkvDh m →
    θ_run (Cert.QkvDh.defs (F := Bits)) (onTc (τ := Cert.QkvDh.τ) (Cert.QkvDh.main (F := Bits))) ⟨m, fun _ => 0, g⟩ (fun r => (∀ c : Dev Cert.QkvDh.nD,
      r.2.mem ((c.tc : Thread Cert.QkvDh.nD Cert.QkvDh.τ).loc Cert.QkvDh.main_arg0) = m ((c.tc : Thread Cert.QkvDh.nD Cert.QkvDh.τ).loc Cert.QkvDh.main_arg0)
      ∧ r.2.mem ((c.tc : Thread Cert.QkvDh.nD Cert.QkvDh.τ).loc Cert.QkvDh.main_arg1) = m ((c.tc : Thread Cert.QkvDh.nD Cert.QkvDh.τ).loc Cert.QkvDh.main_arg1))
      ∧ r.2.sem = fun _ => 0)

def quiescent_QkvDhIdeal [hQkvDhIdeal : Cert.QkvDhIdeal.Facts] : Prop :=
  ∀ (m : (ℓ : Loc Cert.QkvDhIdeal.nD Cert.QkvDhIdeal.τ Cert.QkvDhIdeal.sig) → Buf (Elt Ideal) ℓ) (g : Dev Cert.QkvDhIdeal.nD → PrngReg), Pre_QkvDhIdeal m →
    θ_run (Cert.QkvDhIdeal.defs (F := Ideal)) (onTc (τ := Cert.QkvDhIdeal.τ) (Cert.QkvDhIdeal.main (F := Ideal))) ⟨m, fun _ => 0, g⟩ (fun r => (∀ c : Dev Cert.QkvDhIdeal.nD,
      r.2.mem ((c.tc : Thread Cert.QkvDhIdeal.nD Cert.QkvDhIdeal.τ).loc Cert.QkvDhIdeal.main_arg0) = m ((c.tc : Thread Cert.QkvDhIdeal.nD Cert.QkvDhIdeal.τ).loc Cert.QkvDhIdeal.main_arg0)
      ∧ r.2.mem ((c.tc : Thread Cert.QkvDhIdeal.nD Cert.QkvDhIdeal.τ).loc Cert.QkvDhIdeal.main_arg1) = m ((c.tc : Thread Cert.QkvDhIdeal.nD Cert.QkvDhIdeal.τ).loc Cert.QkvDhIdeal.main_arg1))
      ∧ r.2.sem = fun _ => 0)

def quiescent_QkvDhRefIdeal [hQkvDhRefIdeal : Cert.QkvDhRefIdeal.Facts] : Prop :=
  ∀ (m : (ℓ : Loc Cert.QkvDhRefIdeal.nD Cert.QkvDhRefIdeal.τ Cert.QkvDhRefIdeal.sig) → Buf (Elt Ideal) ℓ) (g : Dev Cert.QkvDhRefIdeal.nD → PrngReg), Pre_QkvDhRefIdeal m →
    θ_run (Cert.QkvDhRefIdeal.defs (F := Ideal)) (onTc (τ := Cert.QkvDhRefIdeal.τ) (Cert.QkvDhRefIdeal.main (F := Ideal))) ⟨m, fun _ => 0, g⟩ (fun r => (∀ c : Dev Cert.QkvDhRefIdeal.nD,
      r.2.mem ((c.tc : Thread Cert.QkvDhRefIdeal.nD Cert.QkvDhRefIdeal.τ).loc Cert.QkvDhRefIdeal.main_arg0) = m ((c.tc : Thread Cert.QkvDhRefIdeal.nD Cert.QkvDhRefIdeal.τ).loc Cert.QkvDhRefIdeal.main_arg0)
      ∧ r.2.mem ((c.tc : Thread Cert.QkvDhRefIdeal.nD Cert.QkvDhRefIdeal.τ).loc Cert.QkvDhRefIdeal.main_arg1) = m ((c.tc : Thread Cert.QkvDhRefIdeal.nD Cert.QkvDhRefIdeal.τ).loc Cert.QkvDhRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_PwOne [hPwOne : Cert.PwOne.Facts] : Prop :=
  ∀ (m : (ℓ : Loc Cert.PwOne.nD Cert.PwOne.τ Cert.PwOne.sig) → Buf (Elt Bits) ℓ) (g : Dev Cert.PwOne.nD → PrngReg), Pre_PwOne m →
    θ_run (Cert.PwOne.defs (F := Bits)) (onTc (τ := Cert.PwOne.τ) (Cert.PwOne.main (F := Bits))) ⟨m, fun _ => 0, g⟩ (fun r => (∀ c : Dev Cert.PwOne.nD,
      r.2.mem ((c.tc : Thread Cert.PwOne.nD Cert.PwOne.τ).loc Cert.PwOne.main_arg0) = m ((c.tc : Thread Cert.PwOne.nD Cert.PwOne.τ).loc Cert.PwOne.main_arg0)
      ∧ r.2.mem ((c.tc : Thread Cert.PwOne.nD Cert.PwOne.τ).loc Cert.PwOne.main_arg1) = m ((c.tc : Thread Cert.PwOne.nD Cert.PwOne.τ).loc Cert.PwOne.main_arg1)
      ∧ r.2.mem ((c.tc : Thread Cert.PwOne.nD Cert.PwOne.τ).loc Cert.PwOne.main_arg2) = m ((c.tc : Thread Cert.PwOne.nD Cert.PwOne.τ).loc Cert.PwOne.main_arg2))
      ∧ r.2.sem = fun _ => 0)

def quiescent_PwOneIdeal [hPwOneIdeal : Cert.PwOneIdeal.Facts] : Prop :=
  ∀ (m : (ℓ : Loc Cert.PwOneIdeal.nD Cert.PwOneIdeal.τ Cert.PwOneIdeal.sig) → Buf (Elt Ideal) ℓ) (g : Dev Cert.PwOneIdeal.nD → PrngReg), Pre_PwOneIdeal m →
    θ_run (Cert.PwOneIdeal.defs (F := Ideal)) (onTc (τ := Cert.PwOneIdeal.τ) (Cert.PwOneIdeal.main (F := Ideal))) ⟨m, fun _ => 0, g⟩ (fun r => (∀ c : Dev Cert.PwOneIdeal.nD,
      r.2.mem ((c.tc : Thread Cert.PwOneIdeal.nD Cert.PwOneIdeal.τ).loc Cert.PwOneIdeal.main_arg0) = m ((c.tc : Thread Cert.PwOneIdeal.nD Cert.PwOneIdeal.τ).loc Cert.PwOneIdeal.main_arg0)
      ∧ r.2.mem ((c.tc : Thread Cert.PwOneIdeal.nD Cert.PwOneIdeal.τ).loc Cert.PwOneIdeal.main_arg1) = m ((c.tc : Thread Cert.PwOneIdeal.nD Cert.PwOneIdeal.τ).loc Cert.PwOneIdeal.main_arg1)
      ∧ r.2.mem ((c.tc : Thread Cert.PwOneIdeal.nD Cert.PwOneIdeal.τ).loc Cert.PwOneIdeal.main_arg2) = m ((c.tc : Thread Cert.PwOneIdeal.nD Cert.PwOneIdeal.τ).loc Cert.PwOneIdeal.main_arg2))
      ∧ r.2.sem = fun _ => 0)

def quiescent_PwOneRefIdeal [hPwOneRefIdeal : Cert.PwOneRefIdeal.Facts] : Prop :=
  ∀ (m : (ℓ : Loc Cert.PwOneRefIdeal.nD Cert.PwOneRefIdeal.τ Cert.PwOneRefIdeal.sig) → Buf (Elt Ideal) ℓ) (g : Dev Cert.PwOneRefIdeal.nD → PrngReg), Pre_PwOneRefIdeal m →
    θ_run (Cert.PwOneRefIdeal.defs (F := Ideal)) (onTc (τ := Cert.PwOneRefIdeal.τ) (Cert.PwOneRefIdeal.main (F := Ideal))) ⟨m, fun _ => 0, g⟩ (fun r => (∀ c : Dev Cert.PwOneRefIdeal.nD,
      r.2.mem ((c.tc : Thread Cert.PwOneRefIdeal.nD Cert.PwOneRefIdeal.τ).loc Cert.PwOneRefIdeal.main_arg0) = m ((c.tc : Thread Cert.PwOneRefIdeal.nD Cert.PwOneRefIdeal.τ).loc Cert.PwOneRefIdeal.main_arg0)
      ∧ r.2.mem ((c.tc : Thread Cert.PwOneRefIdeal.nD Cert.PwOneRefIdeal.τ).loc Cert.PwOneRefIdeal.main_arg1) = m ((c.tc : Thread Cert.PwOneRefIdeal.nD Cert.PwOneRefIdeal.τ).loc Cert.PwOneRefIdeal.main_arg1)
      ∧ r.2.mem ((c.tc : Thread Cert.PwOneRefIdeal.nD Cert.PwOneRefIdeal.τ).loc Cert.PwOneRefIdeal.main_arg2) = m ((c.tc : Thread Cert.PwOneRefIdeal.nD Cert.PwOneRefIdeal.τ).loc Cert.PwOneRefIdeal.main_arg2))
      ∧ r.2.sem = fun _ => 0)

def quiescent_PwOneDw [hPwOneDw : Cert.PwOneDw.Facts] : Prop :=
  ∀ (m : (ℓ : Loc Cert.PwOneDw.nD Cert.PwOneDw.τ Cert.PwOneDw.sig) → Buf (Elt Bits) ℓ) (g : Dev Cert.PwOneDw.nD → PrngReg), Pre_PwOneDw m →
    θ_run (Cert.PwOneDw.defs (F := Bits)) (onTc (τ := Cert.PwOneDw.τ) (Cert.PwOneDw.main (F := Bits))) ⟨m, fun _ => 0, g⟩ (fun r => (∀ c : Dev Cert.PwOneDw.nD,
      r.2.mem ((c.tc : Thread Cert.PwOneDw.nD Cert.PwOneDw.τ).loc Cert.PwOneDw.main_arg0) = m ((c.tc : Thread Cert.PwOneDw.nD Cert.PwOneDw.τ).loc Cert.PwOneDw.main_arg0)
      ∧ r.2.mem ((c.tc : Thread Cert.PwOneDw.nD Cert.PwOneDw.τ).loc Cert.PwOneDw.main_arg1) = m ((c.tc : Thread Cert.PwOneDw.nD Cert.PwOneDw.τ).loc Cert.PwOneDw.main_arg1))
      ∧ r.2.sem = fun _ => 0)

def quiescent_PwOneDwIdeal [hPwOneDwIdeal : Cert.PwOneDwIdeal.Facts] : Prop :=
  ∀ (m : (ℓ : Loc Cert.PwOneDwIdeal.nD Cert.PwOneDwIdeal.τ Cert.PwOneDwIdeal.sig) → Buf (Elt Ideal) ℓ) (g : Dev Cert.PwOneDwIdeal.nD → PrngReg), Pre_PwOneDwIdeal m →
    θ_run (Cert.PwOneDwIdeal.defs (F := Ideal)) (onTc (τ := Cert.PwOneDwIdeal.τ) (Cert.PwOneDwIdeal.main (F := Ideal))) ⟨m, fun _ => 0, g⟩ (fun r => (∀ c : Dev Cert.PwOneDwIdeal.nD,
      r.2.mem ((c.tc : Thread Cert.PwOneDwIdeal.nD Cert.PwOneDwIdeal.τ).loc Cert.PwOneDwIdeal.main_arg0) = m ((c.tc : Thread Cert.PwOneDwIdeal.nD Cert.PwOneDwIdeal.τ).loc Cert.PwOneDwIdeal.main_arg0)
      ∧ r.2.mem ((c.tc : Thread Cert.PwOneDwIdeal.nD Cert.PwOneDwIdeal.τ).loc Cert.PwOneDwIdeal.main_arg1) = m ((c.tc : Thread Cert.PwOneDwIdeal.nD Cert.PwOneDwIdeal.τ).loc Cert.PwOneDwIdeal.main_arg1))
      ∧ r.2.sem = fun _ => 0)

def quiescent_PwOneDwRefIdeal [hPwOneDwRefIdeal : Cert.PwOneDwRefIdeal.Facts] : Prop :=
  ∀ (m : (ℓ : Loc Cert.PwOneDwRefIdeal.nD Cert.PwOneDwRefIdeal.τ Cert.PwOneDwRefIdeal.sig) → Buf (Elt Ideal) ℓ) (g : Dev Cert.PwOneDwRefIdeal.nD → PrngReg), Pre_PwOneDwRefIdeal m →
    θ_run (Cert.PwOneDwRefIdeal.defs (F := Ideal)) (onTc (τ := Cert.PwOneDwRefIdeal.τ) (Cert.PwOneDwRefIdeal.main (F := Ideal))) ⟨m, fun _ => 0, g⟩ (fun r => (∀ c : Dev Cert.PwOneDwRefIdeal.nD,
      r.2.mem ((c.tc : Thread Cert.PwOneDwRefIdeal.nD Cert.PwOneDwRefIdeal.τ).loc Cert.PwOneDwRefIdeal.main_arg0) = m ((c.tc : Thread Cert.PwOneDwRefIdeal.nD Cert.PwOneDwRefIdeal.τ).loc Cert.PwOneDwRefIdeal.main_arg0)
      ∧ r.2.mem ((c.tc : Thread Cert.PwOneDwRefIdeal.nD Cert.PwOneDwRefIdeal.τ).loc Cert.PwOneDwRefIdeal.main_arg1) = m ((c.tc : Thread Cert.PwOneDwRefIdeal.nD Cert.PwOneDwRefIdeal.τ).loc Cert.PwOneDwRefIdeal.main_arg1))
      ∧ r.2.sem = fun _ => 0)

def quiescent_PwOneDh [hPwOneDh : Cert.PwOneDh.Facts] : Prop :=
  ∀ (m : (ℓ : Loc Cert.PwOneDh.nD Cert.PwOneDh.τ Cert.PwOneDh.sig) → Buf (Elt Bits) ℓ) (g : Dev Cert.PwOneDh.nD → PrngReg), Pre_PwOneDh m →
    θ_run (Cert.PwOneDh.defs (F := Bits)) (onTc (τ := Cert.PwOneDh.τ) (Cert.PwOneDh.main (F := Bits))) ⟨m, fun _ => 0, g⟩ (fun r => (∀ c : Dev Cert.PwOneDh.nD,
      r.2.mem ((c.tc : Thread Cert.PwOneDh.nD Cert.PwOneDh.τ).loc Cert.PwOneDh.main_arg0) = m ((c.tc : Thread Cert.PwOneDh.nD Cert.PwOneDh.τ).loc Cert.PwOneDh.main_arg0)
      ∧ r.2.mem ((c.tc : Thread Cert.PwOneDh.nD Cert.PwOneDh.τ).loc Cert.PwOneDh.main_arg1) = m ((c.tc : Thread Cert.PwOneDh.nD Cert.PwOneDh.τ).loc Cert.PwOneDh.main_arg1))
      ∧ r.2.sem = fun _ => 0)

def quiescent_PwOneDhIdeal [hPwOneDhIdeal : Cert.PwOneDhIdeal.Facts] : Prop :=
  ∀ (m : (ℓ : Loc Cert.PwOneDhIdeal.nD Cert.PwOneDhIdeal.τ Cert.PwOneDhIdeal.sig) → Buf (Elt Ideal) ℓ) (g : Dev Cert.PwOneDhIdeal.nD → PrngReg), Pre_PwOneDhIdeal m →
    θ_run (Cert.PwOneDhIdeal.defs (F := Ideal)) (onTc (τ := Cert.PwOneDhIdeal.τ) (Cert.PwOneDhIdeal.main (F := Ideal))) ⟨m, fun _ => 0, g⟩ (fun r => (∀ c : Dev Cert.PwOneDhIdeal.nD,
      r.2.mem ((c.tc : Thread Cert.PwOneDhIdeal.nD Cert.PwOneDhIdeal.τ).loc Cert.PwOneDhIdeal.main_arg0) = m ((c.tc : Thread Cert.PwOneDhIdeal.nD Cert.PwOneDhIdeal.τ).loc Cert.PwOneDhIdeal.main_arg0)
      ∧ r.2.mem ((c.tc : Thread Cert.PwOneDhIdeal.nD Cert.PwOneDhIdeal.τ).loc Cert.PwOneDhIdeal.main_arg1) = m ((c.tc : Thread Cert.PwOneDhIdeal.nD Cert.PwOneDhIdeal.τ).loc Cert.PwOneDhIdeal.main_arg1))
      ∧ r.2.sem = fun _ => 0)

def quiescent_PwOneDhRefIdeal [hPwOneDhRefIdeal : Cert.PwOneDhRefIdeal.Facts] : Prop :=
  ∀ (m : (ℓ : Loc Cert.PwOneDhRefIdeal.nD Cert.PwOneDhRefIdeal.τ Cert.PwOneDhRefIdeal.sig) → Buf (Elt Ideal) ℓ) (g : Dev Cert.PwOneDhRefIdeal.nD → PrngReg), Pre_PwOneDhRefIdeal m →
    θ_run (Cert.PwOneDhRefIdeal.defs (F := Ideal)) (onTc (τ := Cert.PwOneDhRefIdeal.τ) (Cert.PwOneDhRefIdeal.main (F := Ideal))) ⟨m, fun _ => 0, g⟩ (fun r => (∀ c : Dev Cert.PwOneDhRefIdeal.nD,
      r.2.mem ((c.tc : Thread Cert.PwOneDhRefIdeal.nD Cert.PwOneDhRefIdeal.τ).loc Cert.PwOneDhRefIdeal.main_arg0) = m ((c.tc : Thread Cert.PwOneDhRefIdeal.nD Cert.PwOneDhRefIdeal.τ).loc Cert.PwOneDhRefIdeal.main_arg0)
      ∧ r.2.mem ((c.tc : Thread Cert.PwOneDhRefIdeal.nD Cert.PwOneDhRefIdeal.τ).loc Cert.PwOneDhRefIdeal.main_arg1) = m ((c.tc : Thread Cert.PwOneDhRefIdeal.nD Cert.PwOneDhRefIdeal.τ).loc Cert.PwOneDhRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_UpZero [hUpZero : Cert.UpZero.Facts] : Prop :=
  ∀ (m : (ℓ : Loc Cert.UpZero.nD Cert.UpZero.τ Cert.UpZero.sig) → Buf (Elt Bits) ℓ) (g : Dev Cert.UpZero.nD → PrngReg), Pre_UpZero m →
    θ_run (Cert.UpZero.defs (F := Bits)) (onTc (τ := Cert.UpZero.τ) (Cert.UpZero.main (F := Bits))) ⟨m, fun _ => 0, g⟩ (fun r => (∀ c : Dev Cert.UpZero.nD,
      r.2.mem ((c.tc : Thread Cert.UpZero.nD Cert.UpZero.τ).loc Cert.UpZero.main_arg0) = m ((c.tc : Thread Cert.UpZero.nD Cert.UpZero.τ).loc Cert.UpZero.main_arg0)
      ∧ r.2.mem ((c.tc : Thread Cert.UpZero.nD Cert.UpZero.τ).loc Cert.UpZero.main_arg1) = m ((c.tc : Thread Cert.UpZero.nD Cert.UpZero.τ).loc Cert.UpZero.main_arg1))
      ∧ r.2.sem = fun _ => 0)

def quiescent_UpZeroIdeal [hUpZeroIdeal : Cert.UpZeroIdeal.Facts] : Prop :=
  ∀ (m : (ℓ : Loc Cert.UpZeroIdeal.nD Cert.UpZeroIdeal.τ Cert.UpZeroIdeal.sig) → Buf (Elt Ideal) ℓ) (g : Dev Cert.UpZeroIdeal.nD → PrngReg), Pre_UpZeroIdeal m →
    θ_run (Cert.UpZeroIdeal.defs (F := Ideal)) (onTc (τ := Cert.UpZeroIdeal.τ) (Cert.UpZeroIdeal.main (F := Ideal))) ⟨m, fun _ => 0, g⟩ (fun r => (∀ c : Dev Cert.UpZeroIdeal.nD,
      r.2.mem ((c.tc : Thread Cert.UpZeroIdeal.nD Cert.UpZeroIdeal.τ).loc Cert.UpZeroIdeal.main_arg0) = m ((c.tc : Thread Cert.UpZeroIdeal.nD Cert.UpZeroIdeal.τ).loc Cert.UpZeroIdeal.main_arg0)
      ∧ r.2.mem ((c.tc : Thread Cert.UpZeroIdeal.nD Cert.UpZeroIdeal.τ).loc Cert.UpZeroIdeal.main_arg1) = m ((c.tc : Thread Cert.UpZeroIdeal.nD Cert.UpZeroIdeal.τ).loc Cert.UpZeroIdeal.main_arg1))
      ∧ r.2.sem = fun _ => 0)

def quiescent_UpZeroRefIdeal [hUpZeroRefIdeal : Cert.UpZeroRefIdeal.Facts] : Prop :=
  ∀ (m : (ℓ : Loc Cert.UpZeroRefIdeal.nD Cert.UpZeroRefIdeal.τ Cert.UpZeroRefIdeal.sig) → Buf (Elt Ideal) ℓ) (g : Dev Cert.UpZeroRefIdeal.nD → PrngReg), Pre_UpZeroRefIdeal m →
    θ_run (Cert.UpZeroRefIdeal.defs (F := Ideal)) (onTc (τ := Cert.UpZeroRefIdeal.τ) (Cert.UpZeroRefIdeal.main (F := Ideal))) ⟨m, fun _ => 0, g⟩ (fun r => (∀ c : Dev Cert.UpZeroRefIdeal.nD,
      r.2.mem ((c.tc : Thread Cert.UpZeroRefIdeal.nD Cert.UpZeroRefIdeal.τ).loc Cert.UpZeroRefIdeal.main_arg0) = m ((c.tc : Thread Cert.UpZeroRefIdeal.nD Cert.UpZeroRefIdeal.τ).loc Cert.UpZeroRefIdeal.main_arg0)
      ∧ r.2.mem ((c.tc : Thread Cert.UpZeroRefIdeal.nD Cert.UpZeroRefIdeal.τ).loc Cert.UpZeroRefIdeal.main_arg1) = m ((c.tc : Thread Cert.UpZeroRefIdeal.nD Cert.UpZeroRefIdeal.τ).loc Cert.UpZeroRefIdeal.main_arg1))
      ∧ r.2.sem = fun _ => 0)

def quiescent_UpDhZero [hUpDhZero : Cert.UpDhZero.Facts] : Prop :=
  ∀ (m : (ℓ : Loc Cert.UpDhZero.nD Cert.UpDhZero.τ Cert.UpDhZero.sig) → Buf (Elt Bits) ℓ) (g : Dev Cert.UpDhZero.nD → PrngReg), Pre_UpDhZero m →
    θ_run (Cert.UpDhZero.defs (F := Bits)) (onTc (τ := Cert.UpDhZero.τ) (Cert.UpDhZero.main (F := Bits))) ⟨m, fun _ => 0, g⟩ (fun r => (∀ c : Dev Cert.UpDhZero.nD,
      r.2.mem ((c.tc : Thread Cert.UpDhZero.nD Cert.UpDhZero.τ).loc Cert.UpDhZero.main_arg0) = m ((c.tc : Thread Cert.UpDhZero.nD Cert.UpDhZero.τ).loc Cert.UpDhZero.main_arg0)
      ∧ r.2.mem ((c.tc : Thread Cert.UpDhZero.nD Cert.UpDhZero.τ).loc Cert.UpDhZero.main_arg1) = m ((c.tc : Thread Cert.UpDhZero.nD Cert.UpDhZero.τ).loc Cert.UpDhZero.main_arg1))
      ∧ r.2.sem = fun _ => 0)

def quiescent_UpDhZeroIdeal [hUpDhZeroIdeal : Cert.UpDhZeroIdeal.Facts] : Prop :=
  ∀ (m : (ℓ : Loc Cert.UpDhZeroIdeal.nD Cert.UpDhZeroIdeal.τ Cert.UpDhZeroIdeal.sig) → Buf (Elt Ideal) ℓ) (g : Dev Cert.UpDhZeroIdeal.nD → PrngReg), Pre_UpDhZeroIdeal m →
    θ_run (Cert.UpDhZeroIdeal.defs (F := Ideal)) (onTc (τ := Cert.UpDhZeroIdeal.τ) (Cert.UpDhZeroIdeal.main (F := Ideal))) ⟨m, fun _ => 0, g⟩ (fun r => (∀ c : Dev Cert.UpDhZeroIdeal.nD,
      r.2.mem ((c.tc : Thread Cert.UpDhZeroIdeal.nD Cert.UpDhZeroIdeal.τ).loc Cert.UpDhZeroIdeal.main_arg0) = m ((c.tc : Thread Cert.UpDhZeroIdeal.nD Cert.UpDhZeroIdeal.τ).loc Cert.UpDhZeroIdeal.main_arg0)
      ∧ r.2.mem ((c.tc : Thread Cert.UpDhZeroIdeal.nD Cert.UpDhZeroIdeal.τ).loc Cert.UpDhZeroIdeal.main_arg1) = m ((c.tc : Thread Cert.UpDhZeroIdeal.nD Cert.UpDhZeroIdeal.τ).loc Cert.UpDhZeroIdeal.main_arg1))
      ∧ r.2.sem = fun _ => 0)

def quiescent_UpDhZeroRefIdeal [hUpDhZeroRefIdeal : Cert.UpDhZeroRefIdeal.Facts] : Prop :=
  ∀ (m : (ℓ : Loc Cert.UpDhZeroRefIdeal.nD Cert.UpDhZeroRefIdeal.τ Cert.UpDhZeroRefIdeal.sig) → Buf (Elt Ideal) ℓ) (g : Dev Cert.UpDhZeroRefIdeal.nD → PrngReg), Pre_UpDhZeroRefIdeal m →
    θ_run (Cert.UpDhZeroRefIdeal.defs (F := Ideal)) (onTc (τ := Cert.UpDhZeroRefIdeal.τ) (Cert.UpDhZeroRefIdeal.main (F := Ideal))) ⟨m, fun _ => 0, g⟩ (fun r => (∀ c : Dev Cert.UpDhZeroRefIdeal.nD,
      r.2.mem ((c.tc : Thread Cert.UpDhZeroRefIdeal.nD Cert.UpDhZeroRefIdeal.τ).loc Cert.UpDhZeroRefIdeal.main_arg0) = m ((c.tc : Thread Cert.UpDhZeroRefIdeal.nD Cert.UpDhZeroRefIdeal.τ).loc Cert.UpDhZeroRefIdeal.main_arg0)
      ∧ r.2.mem ((c.tc : Thread Cert.UpDhZeroRefIdeal.nD Cert.UpDhZeroRefIdeal.τ).loc Cert.UpDhZeroRefIdeal.main_arg1) = m ((c.tc : Thread Cert.UpDhZeroRefIdeal.nD Cert.UpDhZeroRefIdeal.τ).loc Cert.UpDhZeroRefIdeal.main_arg1))
      ∧ r.2.sem = fun _ => 0)

def quiescent_PwTwo [hPwTwo : Cert.PwTwo.Facts] : Prop :=
  ∀ (m : (ℓ : Loc Cert.PwTwo.nD Cert.PwTwo.τ Cert.PwTwo.sig) → Buf (Elt Bits) ℓ) (g : Dev Cert.PwTwo.nD → PrngReg), Pre_PwTwo m →
    θ_run (Cert.PwTwo.defs (F := Bits)) (onTc (τ := Cert.PwTwo.τ) (Cert.PwTwo.main (F := Bits))) ⟨m, fun _ => 0, g⟩ (fun r => (∀ c : Dev Cert.PwTwo.nD,
      r.2.mem ((c.tc : Thread Cert.PwTwo.nD Cert.PwTwo.τ).loc Cert.PwTwo.main_arg0) = m ((c.tc : Thread Cert.PwTwo.nD Cert.PwTwo.τ).loc Cert.PwTwo.main_arg0)
      ∧ r.2.mem ((c.tc : Thread Cert.PwTwo.nD Cert.PwTwo.τ).loc Cert.PwTwo.main_arg1) = m ((c.tc : Thread Cert.PwTwo.nD Cert.PwTwo.τ).loc Cert.PwTwo.main_arg1)
      ∧ r.2.mem ((c.tc : Thread Cert.PwTwo.nD Cert.PwTwo.τ).loc Cert.PwTwo.main_arg2) = m ((c.tc : Thread Cert.PwTwo.nD Cert.PwTwo.τ).loc Cert.PwTwo.main_arg2))
      ∧ r.2.sem = fun _ => 0)

def quiescent_PwTwoIdeal [hPwTwoIdeal : Cert.PwTwoIdeal.Facts] : Prop :=
  ∀ (m : (ℓ : Loc Cert.PwTwoIdeal.nD Cert.PwTwoIdeal.τ Cert.PwTwoIdeal.sig) → Buf (Elt Ideal) ℓ) (g : Dev Cert.PwTwoIdeal.nD → PrngReg), Pre_PwTwoIdeal m →
    θ_run (Cert.PwTwoIdeal.defs (F := Ideal)) (onTc (τ := Cert.PwTwoIdeal.τ) (Cert.PwTwoIdeal.main (F := Ideal))) ⟨m, fun _ => 0, g⟩ (fun r => (∀ c : Dev Cert.PwTwoIdeal.nD,
      r.2.mem ((c.tc : Thread Cert.PwTwoIdeal.nD Cert.PwTwoIdeal.τ).loc Cert.PwTwoIdeal.main_arg0) = m ((c.tc : Thread Cert.PwTwoIdeal.nD Cert.PwTwoIdeal.τ).loc Cert.PwTwoIdeal.main_arg0)
      ∧ r.2.mem ((c.tc : Thread Cert.PwTwoIdeal.nD Cert.PwTwoIdeal.τ).loc Cert.PwTwoIdeal.main_arg1) = m ((c.tc : Thread Cert.PwTwoIdeal.nD Cert.PwTwoIdeal.τ).loc Cert.PwTwoIdeal.main_arg1)
      ∧ r.2.mem ((c.tc : Thread Cert.PwTwoIdeal.nD Cert.PwTwoIdeal.τ).loc Cert.PwTwoIdeal.main_arg2) = m ((c.tc : Thread Cert.PwTwoIdeal.nD Cert.PwTwoIdeal.τ).loc Cert.PwTwoIdeal.main_arg2))
      ∧ r.2.sem = fun _ => 0)

def quiescent_PwTwoRefIdeal [hPwTwoRefIdeal : Cert.PwTwoRefIdeal.Facts] : Prop :=
  ∀ (m : (ℓ : Loc Cert.PwTwoRefIdeal.nD Cert.PwTwoRefIdeal.τ Cert.PwTwoRefIdeal.sig) → Buf (Elt Ideal) ℓ) (g : Dev Cert.PwTwoRefIdeal.nD → PrngReg), Pre_PwTwoRefIdeal m →
    θ_run (Cert.PwTwoRefIdeal.defs (F := Ideal)) (onTc (τ := Cert.PwTwoRefIdeal.τ) (Cert.PwTwoRefIdeal.main (F := Ideal))) ⟨m, fun _ => 0, g⟩ (fun r => (∀ c : Dev Cert.PwTwoRefIdeal.nD,
      r.2.mem ((c.tc : Thread Cert.PwTwoRefIdeal.nD Cert.PwTwoRefIdeal.τ).loc Cert.PwTwoRefIdeal.main_arg0) = m ((c.tc : Thread Cert.PwTwoRefIdeal.nD Cert.PwTwoRefIdeal.τ).loc Cert.PwTwoRefIdeal.main_arg0)
      ∧ r.2.mem ((c.tc : Thread Cert.PwTwoRefIdeal.nD Cert.PwTwoRefIdeal.τ).loc Cert.PwTwoRefIdeal.main_arg1) = m ((c.tc : Thread Cert.PwTwoRefIdeal.nD Cert.PwTwoRefIdeal.τ).loc Cert.PwTwoRefIdeal.main_arg1)
      ∧ r.2.mem ((c.tc : Thread Cert.PwTwoRefIdeal.nD Cert.PwTwoRefIdeal.τ).loc Cert.PwTwoRefIdeal.main_arg2) = m ((c.tc : Thread Cert.PwTwoRefIdeal.nD Cert.PwTwoRefIdeal.τ).loc Cert.PwTwoRefIdeal.main_arg2))
      ∧ r.2.sem = fun _ => 0)

def quiescent_PwTwoDw [hPwTwoDw : Cert.PwTwoDw.Facts] : Prop :=
  ∀ (m : (ℓ : Loc Cert.PwTwoDw.nD Cert.PwTwoDw.τ Cert.PwTwoDw.sig) → Buf (Elt Bits) ℓ) (g : Dev Cert.PwTwoDw.nD → PrngReg), Pre_PwTwoDw m →
    θ_run (Cert.PwTwoDw.defs (F := Bits)) (onTc (τ := Cert.PwTwoDw.τ) (Cert.PwTwoDw.main (F := Bits))) ⟨m, fun _ => 0, g⟩ (fun r => (∀ c : Dev Cert.PwTwoDw.nD,
      r.2.mem ((c.tc : Thread Cert.PwTwoDw.nD Cert.PwTwoDw.τ).loc Cert.PwTwoDw.main_arg0) = m ((c.tc : Thread Cert.PwTwoDw.nD Cert.PwTwoDw.τ).loc Cert.PwTwoDw.main_arg0)
      ∧ r.2.mem ((c.tc : Thread Cert.PwTwoDw.nD Cert.PwTwoDw.τ).loc Cert.PwTwoDw.main_arg1) = m ((c.tc : Thread Cert.PwTwoDw.nD Cert.PwTwoDw.τ).loc Cert.PwTwoDw.main_arg1))
      ∧ r.2.sem = fun _ => 0)

def quiescent_PwTwoDwIdeal [hPwTwoDwIdeal : Cert.PwTwoDwIdeal.Facts] : Prop :=
  ∀ (m : (ℓ : Loc Cert.PwTwoDwIdeal.nD Cert.PwTwoDwIdeal.τ Cert.PwTwoDwIdeal.sig) → Buf (Elt Ideal) ℓ) (g : Dev Cert.PwTwoDwIdeal.nD → PrngReg), Pre_PwTwoDwIdeal m →
    θ_run (Cert.PwTwoDwIdeal.defs (F := Ideal)) (onTc (τ := Cert.PwTwoDwIdeal.τ) (Cert.PwTwoDwIdeal.main (F := Ideal))) ⟨m, fun _ => 0, g⟩ (fun r => (∀ c : Dev Cert.PwTwoDwIdeal.nD,
      r.2.mem ((c.tc : Thread Cert.PwTwoDwIdeal.nD Cert.PwTwoDwIdeal.τ).loc Cert.PwTwoDwIdeal.main_arg0) = m ((c.tc : Thread Cert.PwTwoDwIdeal.nD Cert.PwTwoDwIdeal.τ).loc Cert.PwTwoDwIdeal.main_arg0)
      ∧ r.2.mem ((c.tc : Thread Cert.PwTwoDwIdeal.nD Cert.PwTwoDwIdeal.τ).loc Cert.PwTwoDwIdeal.main_arg1) = m ((c.tc : Thread Cert.PwTwoDwIdeal.nD Cert.PwTwoDwIdeal.τ).loc Cert.PwTwoDwIdeal.main_arg1))
      ∧ r.2.sem = fun _ => 0)

def quiescent_PwTwoDwRefIdeal [hPwTwoDwRefIdeal : Cert.PwTwoDwRefIdeal.Facts] : Prop :=
  ∀ (m : (ℓ : Loc Cert.PwTwoDwRefIdeal.nD Cert.PwTwoDwRefIdeal.τ Cert.PwTwoDwRefIdeal.sig) → Buf (Elt Ideal) ℓ) (g : Dev Cert.PwTwoDwRefIdeal.nD → PrngReg), Pre_PwTwoDwRefIdeal m →
    θ_run (Cert.PwTwoDwRefIdeal.defs (F := Ideal)) (onTc (τ := Cert.PwTwoDwRefIdeal.τ) (Cert.PwTwoDwRefIdeal.main (F := Ideal))) ⟨m, fun _ => 0, g⟩ (fun r => (∀ c : Dev Cert.PwTwoDwRefIdeal.nD,
      r.2.mem ((c.tc : Thread Cert.PwTwoDwRefIdeal.nD Cert.PwTwoDwRefIdeal.τ).loc Cert.PwTwoDwRefIdeal.main_arg0) = m ((c.tc : Thread Cert.PwTwoDwRefIdeal.nD Cert.PwTwoDwRefIdeal.τ).loc Cert.PwTwoDwRefIdeal.main_arg0)
      ∧ r.2.mem ((c.tc : Thread Cert.PwTwoDwRefIdeal.nD Cert.PwTwoDwRefIdeal.τ).loc Cert.PwTwoDwRefIdeal.main_arg1) = m ((c.tc : Thread Cert.PwTwoDwRefIdeal.nD Cert.PwTwoDwRefIdeal.τ).loc Cert.PwTwoDwRefIdeal.main_arg1))
      ∧ r.2.sem = fun _ => 0)

def quiescent_PwTwoDu [hPwTwoDu : Cert.PwTwoDu.Facts] : Prop :=
  ∀ (m : (ℓ : Loc Cert.PwTwoDu.nD Cert.PwTwoDu.τ Cert.PwTwoDu.sig) → Buf (Elt Bits) ℓ) (g : Dev Cert.PwTwoDu.nD → PrngReg), Pre_PwTwoDu m →
    θ_run (Cert.PwTwoDu.defs (F := Bits)) (onTc (τ := Cert.PwTwoDu.τ) (Cert.PwTwoDu.main (F := Bits))) ⟨m, fun _ => 0, g⟩ (fun r => (∀ c : Dev Cert.PwTwoDu.nD,
      r.2.mem ((c.tc : Thread Cert.PwTwoDu.nD Cert.PwTwoDu.τ).loc Cert.PwTwoDu.main_arg0) = m ((c.tc : Thread Cert.PwTwoDu.nD Cert.PwTwoDu.τ).loc Cert.PwTwoDu.main_arg0)
      ∧ r.2.mem ((c.tc : Thread Cert.PwTwoDu.nD Cert.PwTwoDu.τ).loc Cert.PwTwoDu.main_arg1) = m ((c.tc : Thread Cert.PwTwoDu.nD Cert.PwTwoDu.τ).loc Cert.PwTwoDu.main_arg1))
      ∧ r.2.sem = fun _ => 0)

def quiescent_PwTwoDuIdeal [hPwTwoDuIdeal : Cert.PwTwoDuIdeal.Facts] : Prop :=
  ∀ (m : (ℓ : Loc Cert.PwTwoDuIdeal.nD Cert.PwTwoDuIdeal.τ Cert.PwTwoDuIdeal.sig) → Buf (Elt Ideal) ℓ) (g : Dev Cert.PwTwoDuIdeal.nD → PrngReg), Pre_PwTwoDuIdeal m →
    θ_run (Cert.PwTwoDuIdeal.defs (F := Ideal)) (onTc (τ := Cert.PwTwoDuIdeal.τ) (Cert.PwTwoDuIdeal.main (F := Ideal))) ⟨m, fun _ => 0, g⟩ (fun r => (∀ c : Dev Cert.PwTwoDuIdeal.nD,
      r.2.mem ((c.tc : Thread Cert.PwTwoDuIdeal.nD Cert.PwTwoDuIdeal.τ).loc Cert.PwTwoDuIdeal.main_arg0) = m ((c.tc : Thread Cert.PwTwoDuIdeal.nD Cert.PwTwoDuIdeal.τ).loc Cert.PwTwoDuIdeal.main_arg0)
      ∧ r.2.mem ((c.tc : Thread Cert.PwTwoDuIdeal.nD Cert.PwTwoDuIdeal.τ).loc Cert.PwTwoDuIdeal.main_arg1) = m ((c.tc : Thread Cert.PwTwoDuIdeal.nD Cert.PwTwoDuIdeal.τ).loc Cert.PwTwoDuIdeal.main_arg1))
      ∧ r.2.sem = fun _ => 0)

def quiescent_PwTwoDuRefIdeal [hPwTwoDuRefIdeal : Cert.PwTwoDuRefIdeal.Facts] : Prop :=
  ∀ (m : (ℓ : Loc Cert.PwTwoDuRefIdeal.nD Cert.PwTwoDuRefIdeal.τ Cert.PwTwoDuRefIdeal.sig) → Buf (Elt Ideal) ℓ) (g : Dev Cert.PwTwoDuRefIdeal.nD → PrngReg), Pre_PwTwoDuRefIdeal m →
    θ_run (Cert.PwTwoDuRefIdeal.defs (F := Ideal)) (onTc (τ := Cert.PwTwoDuRefIdeal.τ) (Cert.PwTwoDuRefIdeal.main (F := Ideal))) ⟨m, fun _ => 0, g⟩ (fun r => (∀ c : Dev Cert.PwTwoDuRefIdeal.nD,
      r.2.mem ((c.tc : Thread Cert.PwTwoDuRefIdeal.nD Cert.PwTwoDuRefIdeal.τ).loc Cert.PwTwoDuRefIdeal.main_arg0) = m ((c.tc : Thread Cert.PwTwoDuRefIdeal.nD Cert.PwTwoDuRefIdeal.τ).loc Cert.PwTwoDuRefIdeal.main_arg0)
      ∧ r.2.mem ((c.tc : Thread Cert.PwTwoDuRefIdeal.nD Cert.PwTwoDuRefIdeal.τ).loc Cert.PwTwoDuRefIdeal.main_arg1) = m ((c.tc : Thread Cert.PwTwoDuRefIdeal.nD Cert.PwTwoDuRefIdeal.τ).loc Cert.PwTwoDuRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_AttnOutDm [hAttnOutDm : Cert.AttnOutDm.Facts] : Prop :=
  ∀ (m : (ℓ : Loc Cert.AttnOutDm.nD Cert.AttnOutDm.τ Cert.AttnOutDm.sig) → Buf (Elt Bits) ℓ) (g : Dev Cert.AttnOutDm.nD → PrngReg), Pre_AttnOutDm m →
    θ_run (Cert.AttnOutDm.defs (F := Bits)) (onTc (τ := Cert.AttnOutDm.τ) (Cert.AttnOutDm.main (F := Bits))) ⟨m, fun _ => 0, g⟩ (fun r => (∀ c : Dev Cert.AttnOutDm.nD,
      r.2.mem ((c.tc : Thread Cert.AttnOutDm.nD Cert.AttnOutDm.τ).loc Cert.AttnOutDm.main_arg0) = m ((c.tc : Thread Cert.AttnOutDm.nD Cert.AttnOutDm.τ).loc Cert.AttnOutDm.main_arg0)
      ∧ r.2.mem ((c.tc : Thread Cert.AttnOutDm.nD Cert.AttnOutDm.τ).loc Cert.AttnOutDm.main_arg1) = m ((c.tc : Thread Cert.AttnOutDm.nD Cert.AttnOutDm.τ).loc Cert.AttnOutDm.main_arg1))
      ∧ r.2.sem = fun _ => 0)

def quiescent_AttnOutDmIdeal [hAttnOutDmIdeal : Cert.AttnOutDmIdeal.Facts] : Prop :=
  ∀ (m : (ℓ : Loc Cert.AttnOutDmIdeal.nD Cert.AttnOutDmIdeal.τ Cert.AttnOutDmIdeal.sig) → Buf (Elt Ideal) ℓ) (g : Dev Cert.AttnOutDmIdeal.nD → PrngReg), Pre_AttnOutDmIdeal m →
    θ_run (Cert.AttnOutDmIdeal.defs (F := Ideal)) (onTc (τ := Cert.AttnOutDmIdeal.τ) (Cert.AttnOutDmIdeal.main (F := Ideal))) ⟨m, fun _ => 0, g⟩ (fun r => (∀ c : Dev Cert.AttnOutDmIdeal.nD,
      r.2.mem ((c.tc : Thread Cert.AttnOutDmIdeal.nD Cert.AttnOutDmIdeal.τ).loc Cert.AttnOutDmIdeal.main_arg0) = m ((c.tc : Thread Cert.AttnOutDmIdeal.nD Cert.AttnOutDmIdeal.τ).loc Cert.AttnOutDmIdeal.main_arg0)
      ∧ r.2.mem ((c.tc : Thread Cert.AttnOutDmIdeal.nD Cert.AttnOutDmIdeal.τ).loc Cert.AttnOutDmIdeal.main_arg1) = m ((c.tc : Thread Cert.AttnOutDmIdeal.nD Cert.AttnOutDmIdeal.τ).loc Cert.AttnOutDmIdeal.main_arg1))
      ∧ r.2.sem = fun _ => 0)

def quiescent_AttnOutDmRefIdeal [hAttnOutDmRefIdeal : Cert.AttnOutDmRefIdeal.Facts] : Prop :=
  ∀ (m : (ℓ : Loc Cert.AttnOutDmRefIdeal.nD Cert.AttnOutDmRefIdeal.τ Cert.AttnOutDmRefIdeal.sig) → Buf (Elt Ideal) ℓ) (g : Dev Cert.AttnOutDmRefIdeal.nD → PrngReg), Pre_AttnOutDmRefIdeal m →
    θ_run (Cert.AttnOutDmRefIdeal.defs (F := Ideal)) (onTc (τ := Cert.AttnOutDmRefIdeal.τ) (Cert.AttnOutDmRefIdeal.main (F := Ideal))) ⟨m, fun _ => 0, g⟩ (fun r => (∀ c : Dev Cert.AttnOutDmRefIdeal.nD,
      r.2.mem ((c.tc : Thread Cert.AttnOutDmRefIdeal.nD Cert.AttnOutDmRefIdeal.τ).loc Cert.AttnOutDmRefIdeal.main_arg0) = m ((c.tc : Thread Cert.AttnOutDmRefIdeal.nD Cert.AttnOutDmRefIdeal.τ).loc Cert.AttnOutDmRefIdeal.main_arg0)
      ∧ r.2.mem ((c.tc : Thread Cert.AttnOutDmRefIdeal.nD Cert.AttnOutDmRefIdeal.τ).loc Cert.AttnOutDmRefIdeal.main_arg1) = m ((c.tc : Thread Cert.AttnOutDmRefIdeal.nD Cert.AttnOutDmRefIdeal.τ).loc Cert.AttnOutDmRefIdeal.main_arg1))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPwOne [hAdamPwOne : Cert.AdamPwOne.Facts] : Prop :=
  ∀ (m : (ℓ : Loc Cert.AdamPwOne.nD Cert.AdamPwOne.τ Cert.AdamPwOne.sig) → Buf (Elt Bits) ℓ) (g : Dev Cert.AdamPwOne.nD → PrngReg), Pre_AdamPwOne m →
    θ_run (Cert.AdamPwOne.defs (F := Bits)) (onTc (τ := Cert.AdamPwOne.τ) (Cert.AdamPwOne.main (F := Bits))) ⟨m, fun _ => 0, g⟩ (fun r => (∀ c : Dev Cert.AdamPwOne.nD,
      r.2.mem ((c.tc : Thread Cert.AdamPwOne.nD Cert.AdamPwOne.τ).loc Cert.AdamPwOne.main_arg0) = m ((c.tc : Thread Cert.AdamPwOne.nD Cert.AdamPwOne.τ).loc Cert.AdamPwOne.main_arg0)
      ∧ r.2.mem ((c.tc : Thread Cert.AdamPwOne.nD Cert.AdamPwOne.τ).loc Cert.AdamPwOne.main_arg1) = m ((c.tc : Thread Cert.AdamPwOne.nD Cert.AdamPwOne.τ).loc Cert.AdamPwOne.main_arg1)
      ∧ r.2.mem ((c.tc : Thread Cert.AdamPwOne.nD Cert.AdamPwOne.τ).loc Cert.AdamPwOne.main_arg2) = m ((c.tc : Thread Cert.AdamPwOne.nD Cert.AdamPwOne.τ).loc Cert.AdamPwOne.main_arg2)
      ∧ r.2.mem ((c.tc : Thread Cert.AdamPwOne.nD Cert.AdamPwOne.τ).loc Cert.AdamPwOne.main_arg3) = m ((c.tc : Thread Cert.AdamPwOne.nD Cert.AdamPwOne.τ).loc Cert.AdamPwOne.main_arg3))
      ∧ r.2.sem = fun _ => 0)

def quiescent_AdamPwOneIdeal [hAdamPwOneIdeal : Cert.AdamPwOneIdeal.Facts] : Prop :=
  ∀ (m : (ℓ : Loc Cert.AdamPwOneIdeal.nD Cert.AdamPwOneIdeal.τ Cert.AdamPwOneIdeal.sig) → Buf (Elt Ideal) ℓ) (g : Dev Cert.AdamPwOneIdeal.nD → PrngReg), Pre_AdamPwOneIdeal m →
    θ_run (Cert.AdamPwOneIdeal.defs (F := Ideal)) (onTc (τ := Cert.AdamPwOneIdeal.τ) (Cert.AdamPwOneIdeal.main (F := Ideal))) ⟨m, fun _ => 0, g⟩ (fun r => (∀ c : Dev Cert.AdamPwOneIdeal.nD,
      r.2.mem ((c.tc : Thread Cert.AdamPwOneIdeal.nD Cert.AdamPwOneIdeal.τ).loc Cert.AdamPwOneIdeal.main_arg0) = m ((c.tc : Thread Cert.AdamPwOneIdeal.nD Cert.AdamPwOneIdeal.τ).loc Cert.AdamPwOneIdeal.main_arg0)
      ∧ r.2.mem ((c.tc : Thread Cert.AdamPwOneIdeal.nD Cert.AdamPwOneIdeal.τ).loc Cert.AdamPwOneIdeal.main_arg1) = m ((c.tc : Thread Cert.AdamPwOneIdeal.nD Cert.AdamPwOneIdeal.τ).loc Cert.AdamPwOneIdeal.main_arg1)
      ∧ r.2.mem ((c.tc : Thread Cert.AdamPwOneIdeal.nD Cert.AdamPwOneIdeal.τ).loc Cert.AdamPwOneIdeal.main_arg2) = m ((c.tc : Thread Cert.AdamPwOneIdeal.nD Cert.AdamPwOneIdeal.τ).loc Cert.AdamPwOneIdeal.main_arg2)
      ∧ r.2.mem ((c.tc : Thread Cert.AdamPwOneIdeal.nD Cert.AdamPwOneIdeal.τ).loc Cert.AdamPwOneIdeal.main_arg3) = m ((c.tc : Thread Cert.AdamPwOneIdeal.nD Cert.AdamPwOneIdeal.τ).loc Cert.AdamPwOneIdeal.main_arg3))
      ∧ r.2.sem = fun _ => 0)

def quiescent_AdamPwOneRefIdeal [hAdamPwOneRefIdeal : Cert.AdamPwOneRefIdeal.Facts] : Prop :=
  ∀ (m : (ℓ : Loc Cert.AdamPwOneRefIdeal.nD Cert.AdamPwOneRefIdeal.τ Cert.AdamPwOneRefIdeal.sig) → Buf (Elt Ideal) ℓ) (g : Dev Cert.AdamPwOneRefIdeal.nD → PrngReg), Pre_AdamPwOneRefIdeal m →
    θ_run (Cert.AdamPwOneRefIdeal.defs (F := Ideal)) (onTc (τ := Cert.AdamPwOneRefIdeal.τ) (Cert.AdamPwOneRefIdeal.main (F := Ideal))) ⟨m, fun _ => 0, g⟩ (fun r => (∀ c : Dev Cert.AdamPwOneRefIdeal.nD,
      r.2.mem ((c.tc : Thread Cert.AdamPwOneRefIdeal.nD Cert.AdamPwOneRefIdeal.τ).loc Cert.AdamPwOneRefIdeal.main_arg0) = m ((c.tc : Thread Cert.AdamPwOneRefIdeal.nD Cert.AdamPwOneRefIdeal.τ).loc Cert.AdamPwOneRefIdeal.main_arg0)
      ∧ r.2.mem ((c.tc : Thread Cert.AdamPwOneRefIdeal.nD Cert.AdamPwOneRefIdeal.τ).loc Cert.AdamPwOneRefIdeal.main_arg1) = m ((c.tc : Thread Cert.AdamPwOneRefIdeal.nD Cert.AdamPwOneRefIdeal.τ).loc Cert.AdamPwOneRefIdeal.main_arg1)
      ∧ r.2.mem ((c.tc : Thread Cert.AdamPwOneRefIdeal.nD Cert.AdamPwOneRefIdeal.τ).loc Cert.AdamPwOneRefIdeal.main_arg2) = m ((c.tc : Thread Cert.AdamPwOneRefIdeal.nD Cert.AdamPwOneRefIdeal.τ).loc Cert.AdamPwOneRefIdeal.main_arg2)
      ∧ r.2.mem ((c.tc : Thread Cert.AdamPwOneRefIdeal.nD Cert.AdamPwOneRefIdeal.τ).loc Cert.AdamPwOneRefIdeal.main_arg3) = m ((c.tc : Thread Cert.AdamPwOneRefIdeal.nD Cert.AdamPwOneRefIdeal.τ).loc Cert.AdamPwOneRefIdeal.main_arg3))
      ∧ r.2.sem = fun _ => 0)

def quiescent_AdamPwTwo [hAdamPwTwo : Cert.AdamPwTwo.Facts] : Prop :=
  ∀ (m : (ℓ : Loc Cert.AdamPwTwo.nD Cert.AdamPwTwo.τ Cert.AdamPwTwo.sig) → Buf (Elt Bits) ℓ) (g : Dev Cert.AdamPwTwo.nD → PrngReg), Pre_AdamPwTwo m →
    θ_run (Cert.AdamPwTwo.defs (F := Bits)) (onTc (τ := Cert.AdamPwTwo.τ) (Cert.AdamPwTwo.main (F := Bits))) ⟨m, fun _ => 0, g⟩ (fun r => (∀ c : Dev Cert.AdamPwTwo.nD,
      r.2.mem ((c.tc : Thread Cert.AdamPwTwo.nD Cert.AdamPwTwo.τ).loc Cert.AdamPwTwo.main_arg0) = m ((c.tc : Thread Cert.AdamPwTwo.nD Cert.AdamPwTwo.τ).loc Cert.AdamPwTwo.main_arg0)
      ∧ r.2.mem ((c.tc : Thread Cert.AdamPwTwo.nD Cert.AdamPwTwo.τ).loc Cert.AdamPwTwo.main_arg1) = m ((c.tc : Thread Cert.AdamPwTwo.nD Cert.AdamPwTwo.τ).loc Cert.AdamPwTwo.main_arg1)
      ∧ r.2.mem ((c.tc : Thread Cert.AdamPwTwo.nD Cert.AdamPwTwo.τ).loc Cert.AdamPwTwo.main_arg2) = m ((c.tc : Thread Cert.AdamPwTwo.nD Cert.AdamPwTwo.τ).loc Cert.AdamPwTwo.main_arg2)
      ∧ r.2.mem ((c.tc : Thread Cert.AdamPwTwo.nD Cert.AdamPwTwo.τ).loc Cert.AdamPwTwo.main_arg3) = m ((c.tc : Thread Cert.AdamPwTwo.nD Cert.AdamPwTwo.τ).loc Cert.AdamPwTwo.main_arg3))
      ∧ r.2.sem = fun _ => 0)

def quiescent_AdamPwTwoIdeal [hAdamPwTwoIdeal : Cert.AdamPwTwoIdeal.Facts] : Prop :=
  ∀ (m : (ℓ : Loc Cert.AdamPwTwoIdeal.nD Cert.AdamPwTwoIdeal.τ Cert.AdamPwTwoIdeal.sig) → Buf (Elt Ideal) ℓ) (g : Dev Cert.AdamPwTwoIdeal.nD → PrngReg), Pre_AdamPwTwoIdeal m →
    θ_run (Cert.AdamPwTwoIdeal.defs (F := Ideal)) (onTc (τ := Cert.AdamPwTwoIdeal.τ) (Cert.AdamPwTwoIdeal.main (F := Ideal))) ⟨m, fun _ => 0, g⟩ (fun r => (∀ c : Dev Cert.AdamPwTwoIdeal.nD,
      r.2.mem ((c.tc : Thread Cert.AdamPwTwoIdeal.nD Cert.AdamPwTwoIdeal.τ).loc Cert.AdamPwTwoIdeal.main_arg0) = m ((c.tc : Thread Cert.AdamPwTwoIdeal.nD Cert.AdamPwTwoIdeal.τ).loc Cert.AdamPwTwoIdeal.main_arg0)
      ∧ r.2.mem ((c.tc : Thread Cert.AdamPwTwoIdeal.nD Cert.AdamPwTwoIdeal.τ).loc Cert.AdamPwTwoIdeal.main_arg1) = m ((c.tc : Thread Cert.AdamPwTwoIdeal.nD Cert.AdamPwTwoIdeal.τ).loc Cert.AdamPwTwoIdeal.main_arg1)
      ∧ r.2.mem ((c.tc : Thread Cert.AdamPwTwoIdeal.nD Cert.AdamPwTwoIdeal.τ).loc Cert.AdamPwTwoIdeal.main_arg2) = m ((c.tc : Thread Cert.AdamPwTwoIdeal.nD Cert.AdamPwTwoIdeal.τ).loc Cert.AdamPwTwoIdeal.main_arg2)
      ∧ r.2.mem ((c.tc : Thread Cert.AdamPwTwoIdeal.nD Cert.AdamPwTwoIdeal.τ).loc Cert.AdamPwTwoIdeal.main_arg3) = m ((c.tc : Thread Cert.AdamPwTwoIdeal.nD Cert.AdamPwTwoIdeal.τ).loc Cert.AdamPwTwoIdeal.main_arg3))
      ∧ r.2.sem = fun _ => 0)

def quiescent_AdamPwTwoRefIdeal [hAdamPwTwoRefIdeal : Cert.AdamPwTwoRefIdeal.Facts] : Prop :=
  ∀ (m : (ℓ : Loc Cert.AdamPwTwoRefIdeal.nD Cert.AdamPwTwoRefIdeal.τ Cert.AdamPwTwoRefIdeal.sig) → Buf (Elt Ideal) ℓ) (g : Dev Cert.AdamPwTwoRefIdeal.nD → PrngReg), Pre_AdamPwTwoRefIdeal m →
    θ_run (Cert.AdamPwTwoRefIdeal.defs (F := Ideal)) (onTc (τ := Cert.AdamPwTwoRefIdeal.τ) (Cert.AdamPwTwoRefIdeal.main (F := Ideal))) ⟨m, fun _ => 0, g⟩ (fun r => (∀ c : Dev Cert.AdamPwTwoRefIdeal.nD,
      r.2.mem ((c.tc : Thread Cert.AdamPwTwoRefIdeal.nD Cert.AdamPwTwoRefIdeal.τ).loc Cert.AdamPwTwoRefIdeal.main_arg0) = m ((c.tc : Thread Cert.AdamPwTwoRefIdeal.nD Cert.AdamPwTwoRefIdeal.τ).loc Cert.AdamPwTwoRefIdeal.main_arg0)
      ∧ r.2.mem ((c.tc : Thread Cert.AdamPwTwoRefIdeal.nD Cert.AdamPwTwoRefIdeal.τ).loc Cert.AdamPwTwoRefIdeal.main_arg1) = m ((c.tc : Thread Cert.AdamPwTwoRefIdeal.nD Cert.AdamPwTwoRefIdeal.τ).loc Cert.AdamPwTwoRefIdeal.main_arg1)
      ∧ r.2.mem ((c.tc : Thread Cert.AdamPwTwoRefIdeal.nD Cert.AdamPwTwoRefIdeal.τ).loc Cert.AdamPwTwoRefIdeal.main_arg2) = m ((c.tc : Thread Cert.AdamPwTwoRefIdeal.nD Cert.AdamPwTwoRefIdeal.τ).loc Cert.AdamPwTwoRefIdeal.main_arg2)
      ∧ r.2.mem ((c.tc : Thread Cert.AdamPwTwoRefIdeal.nD Cert.AdamPwTwoRefIdeal.τ).loc Cert.AdamPwTwoRefIdeal.main_arg3) = m ((c.tc : Thread Cert.AdamPwTwoRefIdeal.nD Cert.AdamPwTwoRefIdeal.τ).loc Cert.AdamPwTwoRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)) (v3 : (c : Dev Cert.KernelIdeal.nD) → Buf (Elt Ideal) ((c.tc : Thread Cert.KernelIdeal.nD Cert.KernelIdeal.τ).loc Cert.KernelIdeal.main_v93_3)) (v4 : (c : Dev Cert.KernelIdeal.nD) → Buf (Elt Ideal) ((c.tc : Thread Cert.KernelIdeal.nD Cert.KernelIdeal.τ).loc Cert.KernelIdeal.main_v93_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_v93_3) = v3 c
          ∧ r.2.mem ((c.tc : Thread Cert.KernelIdeal.nD Cert.KernelIdeal.τ).loc Cert.KernelIdeal.main_v93_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v131) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v5)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v5) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDh_UpDhIdeal : Prop :=
  True

def algebraic_UpDhIdeal_UpDhRefIdeal [hUpDhIdeal : Cert.UpDhIdeal.Facts] [hUpDhRefIdeal : Cert.UpDhRefIdeal.Facts] : Prop :=
  ∀ (m : (ℓ : Loc Cert.UpDhIdeal.nD Cert.UpDhIdeal.τ Cert.UpDhIdeal.sig) → Buf (Elt Ideal) ℓ) (g : Dev Cert.UpDhIdeal.nD → PrngReg)
    (m' : (ℓ : Loc Cert.UpDhRefIdeal.nD Cert.UpDhRefIdeal.τ Cert.UpDhRefIdeal.sig) → Buf (Elt Ideal) ℓ) (g' : Dev Cert.UpDhRefIdeal.nD → PrngReg), Pre_UpDhIdeal m →
    (∀ c : Dev Cert.UpDhIdeal.nD,
      m' ((c.tc : Thread Cert.UpDhRefIdeal.nD Cert.UpDhRefIdeal.τ).loc Cert.UpDhRefIdeal.main_arg0) = m ((c.tc : Thread Cert.UpDhIdeal.nD Cert.UpDhIdeal.τ).loc Cert.UpDhIdeal.main_arg0)
      ∧ m' ((c.tc : Thread Cert.UpDhRefIdeal.nD Cert.UpDhRefIdeal.τ).loc Cert.UpDhRefIdeal.main_arg1) = m ((c.tc : Thread Cert.UpDhIdeal.nD Cert.UpDhIdeal.τ).loc Cert.UpDhIdeal.main_arg1)) →
    ∃ (v0 : (c : Dev Cert.UpDhIdeal.nD) → Buf (Elt Ideal) ((c.tc : Thread Cert.UpDhIdeal.nD Cert.UpDhIdeal.τ).loc Cert.UpDhIdeal.main_v6)),
      θ_run (Cert.UpDhIdeal.defs (F := Ideal)) (onTc (τ := Cert.UpDhIdeal.τ) (Cert.UpDhIdeal.main (F := Ideal))) ⟨m, fun _ => 0, g⟩ (fun r => ∀ c : Dev Cert.UpDhIdeal.nD,
          r.2.mem ((c.tc : Thread Cert.UpDhIdeal.nD Cert.UpDhIdeal.τ).loc Cert.UpDhIdeal.main_v6) = v0 c
          ∧ r.2.mem ((c.tc : Thread Cert.UpDhIdeal.nD Cert.UpDhIdeal.τ).loc Cert.UpDhIdeal.main_arg0) = m ((c.tc : Thread Cert.UpDhIdeal.nD Cert.UpDhIdeal.τ).loc Cert.UpDhIdeal.main_arg0)
          ∧ r.2.mem ((c.tc : Thread Cert.UpDhIdeal.nD Cert.UpDhIdeal.τ).loc Cert.UpDhIdeal.main_arg1) = m ((c.tc : Thread Cert.UpDhIdeal.nD Cert.UpDhIdeal.τ).loc Cert.UpDhIdeal.main_arg1))
      ∧ θ_run (Cert.UpDhRefIdeal.defs (F := Ideal)) (onTc (τ := Cert.UpDhRefIdeal.τ) (Cert.UpDhRefIdeal.main (F := Ideal))) ⟨m', fun _ => 0, g'⟩ (fun r => ∀ c : Dev Cert.UpDhRefIdeal.nD,
          r.2.mem ((c.tc : Thread Cert.UpDhRefIdeal.nD Cert.UpDhRefIdeal.τ).loc Cert.UpDhRefIdeal.main_v4) = v0 c
          ∧ r.2.mem ((c.tc : Thread Cert.UpDhRefIdeal.nD Cert.UpDhRefIdeal.τ).loc Cert.UpDhRefIdeal.main_arg0) = m' ((c.tc : Thread Cert.UpDhRefIdeal.nD Cert.UpDhRefIdeal.τ).loc Cert.UpDhRefIdeal.main_arg0)
          ∧ r.2.mem ((c.tc : Thread Cert.UpDhRefIdeal.nD Cert.UpDhRefIdeal.τ).loc Cert.UpDhRefIdeal.main_arg1) = m' ((c.tc : Thread Cert.UpDhRefIdeal.nD Cert.UpDhRefIdeal.τ).loc Cert.UpDhRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v5)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v5) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v4)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v4) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v5) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v4)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v4) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v5) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_QkvDh_QkvDhIdeal : Prop :=
  True

def algebraic_QkvDhIdeal_QkvDhRefIdeal [hQkvDhIdeal : Cert.QkvDhIdeal.Facts] [hQkvDhRefIdeal : Cert.QkvDhRefIdeal.Facts] : Prop :=
  ∀ (m : (ℓ : Loc Cert.QkvDhIdeal.nD Cert.QkvDhIdeal.τ Cert.QkvDhIdeal.sig) → Buf (Elt Ideal) ℓ) (g : Dev Cert.QkvDhIdeal.nD → PrngReg)
    (m' : (ℓ : Loc Cert.QkvDhRefIdeal.nD Cert.QkvDhRefIdeal.τ Cert.QkvDhRefIdeal.sig) → Buf (Elt Ideal) ℓ) (g' : Dev Cert.QkvDhRefIdeal.nD → PrngReg), Pre_QkvDhIdeal m →
    (∀ c : Dev Cert.QkvDhIdeal.nD,
      m' ((c.tc : Thread Cert.QkvDhRefIdeal.nD Cert.QkvDhRefIdeal.τ).loc Cert.QkvDhRefIdeal.main_arg0) = m ((c.tc : Thread Cert.QkvDhIdeal.nD Cert.QkvDhIdeal.τ).loc Cert.QkvDhIdeal.main_arg0)
      ∧ m' ((c.tc : Thread Cert.QkvDhRefIdeal.nD Cert.QkvDhRefIdeal.τ).loc Cert.QkvDhRefIdeal.main_arg1) = m ((c.tc : Thread Cert.QkvDhIdeal.nD Cert.QkvDhIdeal.τ).loc Cert.QkvDhIdeal.main_arg1)) →
    ∃ (v0 : (c : Dev Cert.QkvDhIdeal.nD) → Buf (Elt Ideal) ((c.tc : Thread Cert.QkvDhIdeal.nD Cert.QkvDhIdeal.τ).loc Cert.QkvDhIdeal.main_v5)),
      θ_run (Cert.QkvDhIdeal.defs (F := Ideal)) (onTc (τ := Cert.QkvDhIdeal.τ) (Cert.QkvDhIdeal.main (F := Ideal))) ⟨m, fun _ => 0, g⟩ (fun r => ∀ c : Dev Cert.QkvDhIdeal.nD,
          r.2.mem ((c.tc : Thread Cert.QkvDhIdeal.nD Cert.QkvDhIdeal.τ).loc Cert.QkvDhIdeal.main_v5) = v0 c
          ∧ r.2.mem ((c.tc : Thread Cert.QkvDhIdeal.nD Cert.QkvDhIdeal.τ).loc Cert.QkvDhIdeal.main_arg0) = m ((c.tc : Thread Cert.QkvDhIdeal.nD Cert.QkvDhIdeal.τ).loc Cert.QkvDhIdeal.main_arg0)
          ∧ r.2.mem ((c.tc : Thread Cert.QkvDhIdeal.nD Cert.QkvDhIdeal.τ).loc Cert.QkvDhIdeal.main_arg1) = m ((c.tc : Thread Cert.QkvDhIdeal.nD Cert.QkvDhIdeal.τ).loc Cert.QkvDhIdeal.main_arg1))
      ∧ θ_run (Cert.QkvDhRefIdeal.defs (F := Ideal)) (onTc (τ := Cert.QkvDhRefIdeal.τ) (Cert.QkvDhRefIdeal.main (F := Ideal))) ⟨m', fun _ => 0, g'⟩ (fun r => ∀ c : Dev Cert.QkvDhRefIdeal.nD,
          r.2.mem ((c.tc : Thread Cert.QkvDhRefIdeal.nD Cert.QkvDhRefIdeal.τ).loc Cert.QkvDhRefIdeal.main_v3) = v0 c
          ∧ r.2.mem ((c.tc : Thread Cert.QkvDhRefIdeal.nD Cert.QkvDhRefIdeal.τ).loc Cert.QkvDhRefIdeal.main_arg0) = m' ((c.tc : Thread Cert.QkvDhRefIdeal.nD Cert.QkvDhRefIdeal.τ).loc Cert.QkvDhRefIdeal.main_arg0)
          ∧ r.2.mem ((c.tc : Thread Cert.QkvDhRefIdeal.nD Cert.QkvDhRefIdeal.τ).loc Cert.QkvDhRefIdeal.main_arg1) = m' ((c.tc : Thread Cert.QkvDhRefIdeal.nD Cert.QkvDhRefIdeal.τ).loc Cert.QkvDhRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_PwOne_PwOneIdeal : Prop :=
  True

def algebraic_PwOneIdeal_PwOneRefIdeal [hPwOneIdeal : Cert.PwOneIdeal.Facts] [hPwOneRefIdeal : Cert.PwOneRefIdeal.Facts] : Prop :=
  ∀ (m : (ℓ : Loc Cert.PwOneIdeal.nD Cert.PwOneIdeal.τ Cert.PwOneIdeal.sig) → Buf (Elt Ideal) ℓ) (g : Dev Cert.PwOneIdeal.nD → PrngReg)
    (m' : (ℓ : Loc Cert.PwOneRefIdeal.nD Cert.PwOneRefIdeal.τ Cert.PwOneRefIdeal.sig) → Buf (Elt Ideal) ℓ) (g' : Dev Cert.PwOneRefIdeal.nD → PrngReg), Pre_PwOneIdeal m →
    (∀ c : Dev Cert.PwOneIdeal.nD,
      m' ((c.tc : Thread Cert.PwOneRefIdeal.nD Cert.PwOneRefIdeal.τ).loc Cert.PwOneRefIdeal.main_arg0) = m ((c.tc : Thread Cert.PwOneIdeal.nD Cert.PwOneIdeal.τ).loc Cert.PwOneIdeal.main_arg0)
      ∧ m' ((c.tc : Thread Cert.PwOneRefIdeal.nD Cert.PwOneRefIdeal.τ).loc Cert.PwOneRefIdeal.main_arg1) = m ((c.tc : Thread Cert.PwOneIdeal.nD Cert.PwOneIdeal.τ).loc Cert.PwOneIdeal.main_arg1)
      ∧ m' ((c.tc : Thread Cert.PwOneRefIdeal.nD Cert.PwOneRefIdeal.τ).loc Cert.PwOneRefIdeal.main_arg2) = m ((c.tc : Thread Cert.PwOneIdeal.nD Cert.PwOneIdeal.τ).loc Cert.PwOneIdeal.main_arg2)) →
    ∃ (v0 : (c : Dev Cert.PwOneIdeal.nD) → Buf (Elt Ideal) ((c.tc : Thread Cert.PwOneIdeal.nD Cert.PwOneIdeal.τ).loc Cert.PwOneIdeal.main_v5)),
      θ_run (Cert.PwOneIdeal.defs (F := Ideal)) (onTc (τ := Cert.PwOneIdeal.τ) (Cert.PwOneIdeal.main (F := Ideal))) ⟨m, fun _ => 0, g⟩ (fun r => ∀ c : Dev Cert.PwOneIdeal.nD,
          r.2.mem ((c.tc : Thread Cert.PwOneIdeal.nD Cert.PwOneIdeal.τ).loc Cert.PwOneIdeal.main_v5) = v0 c
          ∧ r.2.mem ((c.tc : Thread Cert.PwOneIdeal.nD Cert.PwOneIdeal.τ).loc Cert.PwOneIdeal.main_arg0) = m ((c.tc : Thread Cert.PwOneIdeal.nD Cert.PwOneIdeal.τ).loc Cert.PwOneIdeal.main_arg0)
          ∧ r.2.mem ((c.tc : Thread Cert.PwOneIdeal.nD Cert.PwOneIdeal.τ).loc Cert.PwOneIdeal.main_arg1) = m ((c.tc : Thread Cert.PwOneIdeal.nD Cert.PwOneIdeal.τ).loc Cert.PwOneIdeal.main_arg1)
          ∧ r.2.mem ((c.tc : Thread Cert.PwOneIdeal.nD Cert.PwOneIdeal.τ).loc Cert.PwOneIdeal.main_arg2) = m ((c.tc : Thread Cert.PwOneIdeal.nD Cert.PwOneIdeal.τ).loc Cert.PwOneIdeal.main_arg2))
      ∧ θ_run (Cert.PwOneRefIdeal.defs (F := Ideal)) (onTc (τ := Cert.PwOneRefIdeal.τ) (Cert.PwOneRefIdeal.main (F := Ideal))) ⟨m', fun _ => 0, g'⟩ (fun r => ∀ c : Dev Cert.PwOneRefIdeal.nD,
          r.2.mem ((c.tc : Thread Cert.PwOneRefIdeal.nD Cert.PwOneRefIdeal.τ).loc Cert.PwOneRefIdeal.main_v6) = v0 c
          ∧ r.2.mem ((c.tc : Thread Cert.PwOneRefIdeal.nD Cert.PwOneRefIdeal.τ).loc Cert.PwOneRefIdeal.main_arg0) = m' ((c.tc : Thread Cert.PwOneRefIdeal.nD Cert.PwOneRefIdeal.τ).loc Cert.PwOneRefIdeal.main_arg0)
          ∧ r.2.mem ((c.tc : Thread Cert.PwOneRefIdeal.nD Cert.PwOneRefIdeal.τ).loc Cert.PwOneRefIdeal.main_arg1) = m' ((c.tc : Thread Cert.PwOneRefIdeal.nD Cert.PwOneRefIdeal.τ).loc Cert.PwOneRefIdeal.main_arg1)
          ∧ r.2.mem ((c.tc : Thread Cert.PwOneRefIdeal.nD Cert.PwOneRefIdeal.τ).loc Cert.PwOneRefIdeal.main_arg2) = m' ((c.tc : Thread Cert.PwOneRefIdeal.nD Cert.PwOneRefIdeal.τ).loc Cert.PwOneRefIdeal.main_arg2))

def preserves_PwOneDw_PwOneDwIdeal : Prop :=
  True

def algebraic_PwOneDwIdeal_PwOneDwRefIdeal [hPwOneDwIdeal : Cert.PwOneDwIdeal.Facts] [hPwOneDwRefIdeal : Cert.PwOneDwRefIdeal.Facts] : Prop :=
  ∀ (m : (ℓ : Loc Cert.PwOneDwIdeal.nD Cert.PwOneDwIdeal.τ Cert.PwOneDwIdeal.sig) → Buf (Elt Ideal) ℓ) (g : Dev Cert.PwOneDwIdeal.nD → PrngReg)
    (m' : (ℓ : Loc Cert.PwOneDwRefIdeal.nD Cert.PwOneDwRefIdeal.τ Cert.PwOneDwRefIdeal.sig) → Buf (Elt Ideal) ℓ) (g' : Dev Cert.PwOneDwRefIdeal.nD → PrngReg), Pre_PwOneDwIdeal m →
    (∀ c : Dev Cert.PwOneDwIdeal.nD,
      m' ((c.tc : Thread Cert.PwOneDwRefIdeal.nD Cert.PwOneDwRefIdeal.τ).loc Cert.PwOneDwRefIdeal.main_arg0) = m ((c.tc : Thread Cert.PwOneDwIdeal.nD Cert.PwOneDwIdeal.τ).loc Cert.PwOneDwIdeal.main_arg0)
      ∧ m' ((c.tc : Thread Cert.PwOneDwRefIdeal.nD Cert.PwOneDwRefIdeal.τ).loc Cert.PwOneDwRefIdeal.main_arg1) = m ((c.tc : Thread Cert.PwOneDwIdeal.nD Cert.PwOneDwIdeal.τ).loc Cert.PwOneDwIdeal.main_arg1)) →
    ∃ (v0 : (c : Dev Cert.PwOneDwIdeal.nD) → Buf (Elt Ideal) ((c.tc : Thread Cert.PwOneDwIdeal.nD Cert.PwOneDwIdeal.τ).loc Cert.PwOneDwIdeal.main_v4)),
      θ_run (Cert.PwOneDwIdeal.defs (F := Ideal)) (onTc (τ := Cert.PwOneDwIdeal.τ) (Cert.PwOneDwIdeal.main (F := Ideal))) ⟨m, fun _ => 0, g⟩ (fun r => ∀ c : Dev Cert.PwOneDwIdeal.nD,
          r.2.mem ((c.tc : Thread Cert.PwOneDwIdeal.nD Cert.PwOneDwIdeal.τ).loc Cert.PwOneDwIdeal.main_v4) = v0 c
          ∧ r.2.mem ((c.tc : Thread Cert.PwOneDwIdeal.nD Cert.PwOneDwIdeal.τ).loc Cert.PwOneDwIdeal.main_arg0) = m ((c.tc : Thread Cert.PwOneDwIdeal.nD Cert.PwOneDwIdeal.τ).loc Cert.PwOneDwIdeal.main_arg0)
          ∧ r.2.mem ((c.tc : Thread Cert.PwOneDwIdeal.nD Cert.PwOneDwIdeal.τ).loc Cert.PwOneDwIdeal.main_arg1) = m ((c.tc : Thread Cert.PwOneDwIdeal.nD Cert.PwOneDwIdeal.τ).loc Cert.PwOneDwIdeal.main_arg1))
      ∧ θ_run (Cert.PwOneDwRefIdeal.defs (F := Ideal)) (onTc (τ := Cert.PwOneDwRefIdeal.τ) (Cert.PwOneDwRefIdeal.main (F := Ideal))) ⟨m', fun _ => 0, g'⟩ (fun r => ∀ c : Dev Cert.PwOneDwRefIdeal.nD,
          r.2.mem ((c.tc : Thread Cert.PwOneDwRefIdeal.nD Cert.PwOneDwRefIdeal.τ).loc Cert.PwOneDwRefIdeal.main_v5) = v0 c
          ∧ r.2.mem ((c.tc : Thread Cert.PwOneDwRefIdeal.nD Cert.PwOneDwRefIdeal.τ).loc Cert.PwOneDwRefIdeal.main_arg0) = m' ((c.tc : Thread Cert.PwOneDwRefIdeal.nD Cert.PwOneDwRefIdeal.τ).loc Cert.PwOneDwRefIdeal.main_arg0)
          ∧ r.2.mem ((c.tc : Thread Cert.PwOneDwRefIdeal.nD Cert.PwOneDwRefIdeal.τ).loc Cert.PwOneDwRefIdeal.main_arg1) = m' ((c.tc : Thread Cert.PwOneDwRefIdeal.nD Cert.PwOneDwRefIdeal.τ).loc Cert.PwOneDwRefIdeal.main_arg1))

def preserves_PwOneDh_PwOneDhIdeal : Prop :=
  True

def algebraic_PwOneDhIdeal_PwOneDhRefIdeal [hPwOneDhIdeal : Cert.PwOneDhIdeal.Facts] [hPwOneDhRefIdeal : Cert.PwOneDhRefIdeal.Facts] : Prop :=
  ∀ (m : (ℓ : Loc Cert.PwOneDhIdeal.nD Cert.PwOneDhIdeal.τ Cert.PwOneDhIdeal.sig) → Buf (Elt Ideal) ℓ) (g : Dev Cert.PwOneDhIdeal.nD → PrngReg)
    (m' : (ℓ : Loc Cert.PwOneDhRefIdeal.nD Cert.PwOneDhRefIdeal.τ Cert.PwOneDhRefIdeal.sig) → Buf (Elt Ideal) ℓ) (g' : Dev Cert.PwOneDhRefIdeal.nD → PrngReg), Pre_PwOneDhIdeal m →
    (∀ c : Dev Cert.PwOneDhIdeal.nD,
      m' ((c.tc : Thread Cert.PwOneDhRefIdeal.nD Cert.PwOneDhRefIdeal.τ).loc Cert.PwOneDhRefIdeal.main_arg0) = m ((c.tc : Thread Cert.PwOneDhIdeal.nD Cert.PwOneDhIdeal.τ).loc Cert.PwOneDhIdeal.main_arg0)
      ∧ m' ((c.tc : Thread Cert.PwOneDhRefIdeal.nD Cert.PwOneDhRefIdeal.τ).loc Cert.PwOneDhRefIdeal.main_arg1) = m ((c.tc : Thread Cert.PwOneDhIdeal.nD Cert.PwOneDhIdeal.τ).loc Cert.PwOneDhIdeal.main_arg1)) →
    ∃ (v0 : (c : Dev Cert.PwOneDhIdeal.nD) → Buf (Elt Ideal) ((c.tc : Thread Cert.PwOneDhIdeal.nD Cert.PwOneDhIdeal.τ).loc Cert.PwOneDhIdeal.main_v5)),
      θ_run (Cert.PwOneDhIdeal.defs (F := Ideal)) (onTc (τ := Cert.PwOneDhIdeal.τ) (Cert.PwOneDhIdeal.main (F := Ideal))) ⟨m, fun _ => 0, g⟩ (fun r => ∀ c : Dev Cert.PwOneDhIdeal.nD,
          r.2.mem ((c.tc : Thread Cert.PwOneDhIdeal.nD Cert.PwOneDhIdeal.τ).loc Cert.PwOneDhIdeal.main_v5) = v0 c
          ∧ r.2.mem ((c.tc : Thread Cert.PwOneDhIdeal.nD Cert.PwOneDhIdeal.τ).loc Cert.PwOneDhIdeal.main_arg0) = m ((c.tc : Thread Cert.PwOneDhIdeal.nD Cert.PwOneDhIdeal.τ).loc Cert.PwOneDhIdeal.main_arg0)
          ∧ r.2.mem ((c.tc : Thread Cert.PwOneDhIdeal.nD Cert.PwOneDhIdeal.τ).loc Cert.PwOneDhIdeal.main_arg1) = m ((c.tc : Thread Cert.PwOneDhIdeal.nD Cert.PwOneDhIdeal.τ).loc Cert.PwOneDhIdeal.main_arg1))
      ∧ θ_run (Cert.PwOneDhRefIdeal.defs (F := Ideal)) (onTc (τ := Cert.PwOneDhRefIdeal.τ) (Cert.PwOneDhRefIdeal.main (F := Ideal))) ⟨m', fun _ => 0, g'⟩ (fun r => ∀ c : Dev Cert.PwOneDhRefIdeal.nD,
          r.2.mem ((c.tc : Thread Cert.PwOneDhRefIdeal.nD Cert.PwOneDhRefIdeal.τ).loc Cert.PwOneDhRefIdeal.main_v3) = v0 c
          ∧ r.2.mem ((c.tc : Thread Cert.PwOneDhRefIdeal.nD Cert.PwOneDhRefIdeal.τ).loc Cert.PwOneDhRefIdeal.main_arg0) = m' ((c.tc : Thread Cert.PwOneDhRefIdeal.nD Cert.PwOneDhRefIdeal.τ).loc Cert.PwOneDhRefIdeal.main_arg0)
          ∧ r.2.mem ((c.tc : Thread Cert.PwOneDhRefIdeal.nD Cert.PwOneDhRefIdeal.τ).loc Cert.PwOneDhRefIdeal.main_arg1) = m' ((c.tc : Thread Cert.PwOneDhRefIdeal.nD Cert.PwOneDhRefIdeal.τ).loc Cert.PwOneDhRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_UpZero_UpZeroIdeal : Prop :=
  True

def algebraic_UpZeroIdeal_UpZeroRefIdeal [hUpZeroIdeal : Cert.UpZeroIdeal.Facts] [hUpZeroRefIdeal : Cert.UpZeroRefIdeal.Facts] : Prop :=
  ∀ (m : (ℓ : Loc Cert.UpZeroIdeal.nD Cert.UpZeroIdeal.τ Cert.UpZeroIdeal.sig) → Buf (Elt Ideal) ℓ) (g : Dev Cert.UpZeroIdeal.nD → PrngReg)
    (m' : (ℓ : Loc Cert.UpZeroRefIdeal.nD Cert.UpZeroRefIdeal.τ Cert.UpZeroRefIdeal.sig) → Buf (Elt Ideal) ℓ) (g' : Dev Cert.UpZeroRefIdeal.nD → PrngReg), Pre_UpZeroIdeal m →
    (∀ c : Dev Cert.UpZeroIdeal.nD,
      m' ((c.tc : Thread Cert.UpZeroRefIdeal.nD Cert.UpZeroRefIdeal.τ).loc Cert.UpZeroRefIdeal.main_arg0) = m ((c.tc : Thread Cert.UpZeroIdeal.nD Cert.UpZeroIdeal.τ).loc Cert.UpZeroIdeal.main_arg0)
      ∧ m' ((c.tc : Thread Cert.UpZeroRefIdeal.nD Cert.UpZeroRefIdeal.τ).loc Cert.UpZeroRefIdeal.main_arg1) = m ((c.tc : Thread Cert.UpZeroIdeal.nD Cert.UpZeroIdeal.τ).loc Cert.UpZeroIdeal.main_arg1)) →
    ∃ (v0 : (c : Dev Cert.UpZeroIdeal.nD) → Buf (Elt Ideal) ((c.tc : Thread Cert.UpZeroIdeal.nD Cert.UpZeroIdeal.τ).loc Cert.UpZeroIdeal.main_v5)),
      θ_run (Cert.UpZeroIdeal.defs (F := Ideal)) (onTc (τ := Cert.UpZeroIdeal.τ) (Cert.UpZeroIdeal.main (F := Ideal))) ⟨m, fun _ => 0, g⟩ (fun r => ∀ c : Dev Cert.UpZeroIdeal.nD,
          r.2.mem ((c.tc : Thread Cert.UpZeroIdeal.nD Cert.UpZeroIdeal.τ).loc Cert.UpZeroIdeal.main_v5) = v0 c
          ∧ r.2.mem ((c.tc : Thread Cert.UpZeroIdeal.nD Cert.UpZeroIdeal.τ).loc Cert.UpZeroIdeal.main_arg0) = m ((c.tc : Thread Cert.UpZeroIdeal.nD Cert.UpZeroIdeal.τ).loc Cert.UpZeroIdeal.main_arg0)
          ∧ r.2.mem ((c.tc : Thread Cert.UpZeroIdeal.nD Cert.UpZeroIdeal.τ).loc Cert.UpZeroIdeal.main_arg1) = m ((c.tc : Thread Cert.UpZeroIdeal.nD Cert.UpZeroIdeal.τ).loc Cert.UpZeroIdeal.main_arg1))
      ∧ θ_run (Cert.UpZeroRefIdeal.defs (F := Ideal)) (onTc (τ := Cert.UpZeroRefIdeal.τ) (Cert.UpZeroRefIdeal.main (F := Ideal))) ⟨m', fun _ => 0, g'⟩ (fun r => ∀ c : Dev Cert.UpZeroRefIdeal.nD,
          r.2.mem ((c.tc : Thread Cert.UpZeroRefIdeal.nD Cert.UpZeroRefIdeal.τ).loc Cert.UpZeroRefIdeal.main_v5) = v0 c
          ∧ r.2.mem ((c.tc : Thread Cert.UpZeroRefIdeal.nD Cert.UpZeroRefIdeal.τ).loc Cert.UpZeroRefIdeal.main_arg0) = m' ((c.tc : Thread Cert.UpZeroRefIdeal.nD Cert.UpZeroRefIdeal.τ).loc Cert.UpZeroRefIdeal.main_arg0)
          ∧ r.2.mem ((c.tc : Thread Cert.UpZeroRefIdeal.nD Cert.UpZeroRefIdeal.τ).loc Cert.UpZeroRefIdeal.main_arg1) = m' ((c.tc : Thread Cert.UpZeroRefIdeal.nD Cert.UpZeroRefIdeal.τ).loc Cert.UpZeroRefIdeal.main_arg1))

def preserves_UpDhZero_UpDhZeroIdeal : Prop :=
  True

def algebraic_UpDhZeroIdeal_UpDhZeroRefIdeal [hUpDhZeroIdeal : Cert.UpDhZeroIdeal.Facts] [hUpDhZeroRefIdeal : Cert.UpDhZeroRefIdeal.Facts] : Prop :=
  ∀ (m : (ℓ : Loc Cert.UpDhZeroIdeal.nD Cert.UpDhZeroIdeal.τ Cert.UpDhZeroIdeal.sig) → Buf (Elt Ideal) ℓ) (g : Dev Cert.UpDhZeroIdeal.nD → PrngReg)
    (m' : (ℓ : Loc Cert.UpDhZeroRefIdeal.nD Cert.UpDhZeroRefIdeal.τ Cert.UpDhZeroRefIdeal.sig) → Buf (Elt Ideal) ℓ) (g' : Dev Cert.UpDhZeroRefIdeal.nD → PrngReg), Pre_UpDhZeroIdeal m →
    (∀ c : Dev Cert.UpDhZeroIdeal.nD,
      m' ((c.tc : Thread Cert.UpDhZeroRefIdeal.nD Cert.UpDhZeroRefIdeal.τ).loc Cert.UpDhZeroRefIdeal.main_arg0) = m ((c.tc : Thread Cert.UpDhZeroIdeal.nD Cert.UpDhZeroIdeal.τ).loc Cert.UpDhZeroIdeal.main_arg0)
      ∧ m' ((c.tc : Thread Cert.UpDhZeroRefIdeal.nD Cert.UpDhZeroRefIdeal.τ).loc Cert.UpDhZeroRefIdeal.main_arg1) = m ((c.tc : Thread Cert.UpDhZeroIdeal.nD Cert.UpDhZeroIdeal.τ).loc Cert.UpDhZeroIdeal.main_arg1)) →
    ∃ (v0 : (c : Dev Cert.UpDhZeroIdeal.nD) → Buf (Elt Ideal) ((c.tc : Thread Cert.UpDhZeroIdeal.nD Cert.UpDhZeroIdeal.τ).loc Cert.UpDhZeroIdeal.main_v6)),
      θ_run (Cert.UpDhZeroIdeal.defs (F := Ideal)) (onTc (τ := Cert.UpDhZeroIdeal.τ) (Cert.UpDhZeroIdeal.main (F := Ideal))) ⟨m, fun _ => 0, g⟩ (fun r => ∀ c : Dev Cert.UpDhZeroIdeal.nD,
          r.2.mem ((c.tc : Thread Cert.UpDhZeroIdeal.nD Cert.UpDhZeroIdeal.τ).loc Cert.UpDhZeroIdeal.main_v6) = v0 c
          ∧ r.2.mem ((c.tc : Thread Cert.UpDhZeroIdeal.nD Cert.UpDhZeroIdeal.τ).loc Cert.UpDhZeroIdeal.main_arg0) = m ((c.tc : Thread Cert.UpDhZeroIdeal.nD Cert.UpDhZeroIdeal.τ).loc Cert.UpDhZeroIdeal.main_arg0)
          ∧ r.2.mem ((c.tc : Thread Cert.UpDhZeroIdeal.nD Cert.UpDhZeroIdeal.τ).loc Cert.UpDhZeroIdeal.main_arg1) = m ((c.tc : Thread Cert.UpDhZeroIdeal.nD Cert.UpDhZeroIdeal.τ).loc Cert.UpDhZeroIdeal.main_arg1))
      ∧ θ_run (Cert.UpDhZeroRefIdeal.defs (F := Ideal)) (onTc (τ := Cert.UpDhZeroRefIdeal.τ) (Cert.UpDhZeroRefIdeal.main (F := Ideal))) ⟨m', fun _ => 0, g'⟩ (fun r => ∀ c : Dev Cert.UpDhZeroRefIdeal.nD,
          r.2.mem ((c.tc : Thread Cert.UpDhZeroRefIdeal.nD Cert.UpDhZeroRefIdeal.τ).loc Cert.UpDhZeroRefIdeal.main_v4) = v0 c
          ∧ r.2.mem ((c.tc : Thread Cert.UpDhZeroRefIdeal.nD Cert.UpDhZeroRefIdeal.τ).loc Cert.UpDhZeroRefIdeal.main_arg0) = m' ((c.tc : Thread Cert.UpDhZeroRefIdeal.nD Cert.UpDhZeroRefIdeal.τ).loc Cert.UpDhZeroRefIdeal.main_arg0)
          ∧ r.2.mem ((c.tc : Thread Cert.UpDhZeroRefIdeal.nD Cert.UpDhZeroRefIdeal.τ).loc Cert.UpDhZeroRefIdeal.main_arg1) = m' ((c.tc : Thread Cert.UpDhZeroRefIdeal.nD Cert.UpDhZeroRefIdeal.τ).loc Cert.UpDhZeroRefIdeal.main_arg1))

def preserves_PwTwo_PwTwoIdeal : Prop :=
  True

def algebraic_PwTwoIdeal_PwTwoRefIdeal [hPwTwoIdeal : Cert.PwTwoIdeal.Facts] [hPwTwoRefIdeal : Cert.PwTwoRefIdeal.Facts] : Prop :=
  ∀ (m : (ℓ : Loc Cert.PwTwoIdeal.nD Cert.PwTwoIdeal.τ Cert.PwTwoIdeal.sig) → Buf (Elt Ideal) ℓ) (g : Dev Cert.PwTwoIdeal.nD → PrngReg)
    (m' : (ℓ : Loc Cert.PwTwoRefIdeal.nD Cert.PwTwoRefIdeal.τ Cert.PwTwoRefIdeal.sig) → Buf (Elt Ideal) ℓ) (g' : Dev Cert.PwTwoRefIdeal.nD → PrngReg), Pre_PwTwoIdeal m →
    (∀ c : Dev Cert.PwTwoIdeal.nD,
      m' ((c.tc : Thread Cert.PwTwoRefIdeal.nD Cert.PwTwoRefIdeal.τ).loc Cert.PwTwoRefIdeal.main_arg0) = m ((c.tc : Thread Cert.PwTwoIdeal.nD Cert.PwTwoIdeal.τ).loc Cert.PwTwoIdeal.main_arg0)
      ∧ m' ((c.tc : Thread Cert.PwTwoRefIdeal.nD Cert.PwTwoRefIdeal.τ).loc Cert.PwTwoRefIdeal.main_arg1) = m ((c.tc : Thread Cert.PwTwoIdeal.nD Cert.PwTwoIdeal.τ).loc Cert.PwTwoIdeal.main_arg1)
      ∧ m' ((c.tc : Thread Cert.PwTwoRefIdeal.nD Cert.PwTwoRefIdeal.τ).loc Cert.PwTwoRefIdeal.main_arg2) = m ((c.tc : Thread Cert.PwTwoIdeal.nD Cert.PwTwoIdeal.τ).loc Cert.PwTwoIdeal.main_arg2)) →
    ∃ (v0 : (c : Dev Cert.PwTwoIdeal.nD) → Buf (Elt Ideal) ((c.tc : Thread Cert.PwTwoIdeal.nD Cert.PwTwoIdeal.τ).loc Cert.PwTwoIdeal.main_v4)),
      θ_run (Cert.PwTwoIdeal.defs (F := Ideal)) (onTc (τ := Cert.PwTwoIdeal.τ) (Cert.PwTwoIdeal.main (F := Ideal))) ⟨m, fun _ => 0, g⟩ (fun r => ∀ c : Dev Cert.PwTwoIdeal.nD,
          r.2.mem ((c.tc : Thread Cert.PwTwoIdeal.nD Cert.PwTwoIdeal.τ).loc Cert.PwTwoIdeal.main_v4) = v0 c
          ∧ r.2.mem ((c.tc : Thread Cert.PwTwoIdeal.nD Cert.PwTwoIdeal.τ).loc Cert.PwTwoIdeal.main_arg0) = m ((c.tc : Thread Cert.PwTwoIdeal.nD Cert.PwTwoIdeal.τ).loc Cert.PwTwoIdeal.main_arg0)
          ∧ r.2.mem ((c.tc : Thread Cert.PwTwoIdeal.nD Cert.PwTwoIdeal.τ).loc Cert.PwTwoIdeal.main_arg1) = m ((c.tc : Thread Cert.PwTwoIdeal.nD Cert.PwTwoIdeal.τ).loc Cert.PwTwoIdeal.main_arg1)
          ∧ r.2.mem ((c.tc : Thread Cert.PwTwoIdeal.nD Cert.PwTwoIdeal.τ).loc Cert.PwTwoIdeal.main_arg2) = m ((c.tc : Thread Cert.PwTwoIdeal.nD Cert.PwTwoIdeal.τ).loc Cert.PwTwoIdeal.main_arg2))
      ∧ θ_run (Cert.PwTwoRefIdeal.defs (F := Ideal)) (onTc (τ := Cert.PwTwoRefIdeal.τ) (Cert.PwTwoRefIdeal.main (F := Ideal))) ⟨m', fun _ => 0, g'⟩ (fun r => ∀ c : Dev Cert.PwTwoRefIdeal.nD,
          r.2.mem ((c.tc : Thread Cert.PwTwoRefIdeal.nD Cert.PwTwoRefIdeal.τ).loc Cert.PwTwoRefIdeal.main_v6) = v0 c
          ∧ r.2.mem ((c.tc : Thread Cert.PwTwoRefIdeal.nD Cert.PwTwoRefIdeal.τ).loc Cert.PwTwoRefIdeal.main_arg0) = m' ((c.tc : Thread Cert.PwTwoRefIdeal.nD Cert.PwTwoRefIdeal.τ).loc Cert.PwTwoRefIdeal.main_arg0)
          ∧ r.2.mem ((c.tc : Thread Cert.PwTwoRefIdeal.nD Cert.PwTwoRefIdeal.τ).loc Cert.PwTwoRefIdeal.main_arg1) = m' ((c.tc : Thread Cert.PwTwoRefIdeal.nD Cert.PwTwoRefIdeal.τ).loc Cert.PwTwoRefIdeal.main_arg1)
          ∧ r.2.mem ((c.tc : Thread Cert.PwTwoRefIdeal.nD Cert.PwTwoRefIdeal.τ).loc Cert.PwTwoRefIdeal.main_arg2) = m' ((c.tc : Thread Cert.PwTwoRefIdeal.nD Cert.PwTwoRefIdeal.τ).loc Cert.PwTwoRefIdeal.main_arg2))

def preserves_PwTwoDw_PwTwoDwIdeal : Prop :=
  True

def algebraic_PwTwoDwIdeal_PwTwoDwRefIdeal [hPwTwoDwIdeal : Cert.PwTwoDwIdeal.Facts] [hPwTwoDwRefIdeal : Cert.PwTwoDwRefIdeal.Facts] : Prop :=
  ∀ (m : (ℓ : Loc Cert.PwTwoDwIdeal.nD Cert.PwTwoDwIdeal.τ Cert.PwTwoDwIdeal.sig) → Buf (Elt Ideal) ℓ) (g : Dev Cert.PwTwoDwIdeal.nD → PrngReg)
    (m' : (ℓ : Loc Cert.PwTwoDwRefIdeal.nD Cert.PwTwoDwRefIdeal.τ Cert.PwTwoDwRefIdeal.sig) → Buf (Elt Ideal) ℓ) (g' : Dev Cert.PwTwoDwRefIdeal.nD → PrngReg), Pre_PwTwoDwIdeal m →
    (∀ c : Dev Cert.PwTwoDwIdeal.nD,
      m' ((c.tc : Thread Cert.PwTwoDwRefIdeal.nD Cert.PwTwoDwRefIdeal.τ).loc Cert.PwTwoDwRefIdeal.main_arg0) = m ((c.tc : Thread Cert.PwTwoDwIdeal.nD Cert.PwTwoDwIdeal.τ).loc Cert.PwTwoDwIdeal.main_arg0)
      ∧ m' ((c.tc : Thread Cert.PwTwoDwRefIdeal.nD Cert.PwTwoDwRefIdeal.τ).loc Cert.PwTwoDwRefIdeal.main_arg1) = m ((c.tc : Thread Cert.PwTwoDwIdeal.nD Cert.PwTwoDwIdeal.τ).loc Cert.PwTwoDwIdeal.main_arg1)) →
    ∃ (v0 : (c : Dev Cert.PwTwoDwIdeal.nD) → Buf (Elt Ideal) ((c.tc : Thread Cert.PwTwoDwIdeal.nD Cert.PwTwoDwIdeal.τ).loc Cert.PwTwoDwIdeal.main_v4)),
      θ_run (Cert.PwTwoDwIdeal.defs (F := Ideal)) (onTc (τ := Cert.PwTwoDwIdeal.τ) (Cert.PwTwoDwIdeal.main (F := Ideal))) ⟨m, fun _ => 0, g⟩ (fun r => ∀ c : Dev Cert.PwTwoDwIdeal.nD,
          r.2.mem ((c.tc : Thread Cert.PwTwoDwIdeal.nD Cert.PwTwoDwIdeal.τ).loc Cert.PwTwoDwIdeal.main_v4) = v0 c
          ∧ r.2.mem ((c.tc : Thread Cert.PwTwoDwIdeal.nD Cert.PwTwoDwIdeal.τ).loc Cert.PwTwoDwIdeal.main_arg0) = m ((c.tc : Thread Cert.PwTwoDwIdeal.nD Cert.PwTwoDwIdeal.τ).loc Cert.PwTwoDwIdeal.main_arg0)
          ∧ r.2.mem ((c.tc : Thread Cert.PwTwoDwIdeal.nD Cert.PwTwoDwIdeal.τ).loc Cert.PwTwoDwIdeal.main_arg1) = m ((c.tc : Thread Cert.PwTwoDwIdeal.nD Cert.PwTwoDwIdeal.τ).loc Cert.PwTwoDwIdeal.main_arg1))
      ∧ θ_run (Cert.PwTwoDwRefIdeal.defs (F := Ideal)) (onTc (τ := Cert.PwTwoDwRefIdeal.τ) (Cert.PwTwoDwRefIdeal.main (F := Ideal))) ⟨m', fun _ => 0, g'⟩ (fun r => ∀ c : Dev Cert.PwTwoDwRefIdeal.nD,
          r.2.mem ((c.tc : Thread Cert.PwTwoDwRefIdeal.nD Cert.PwTwoDwRefIdeal.τ).loc Cert.PwTwoDwRefIdeal.main_v4) = v0 c
          ∧ r.2.mem ((c.tc : Thread Cert.PwTwoDwRefIdeal.nD Cert.PwTwoDwRefIdeal.τ).loc Cert.PwTwoDwRefIdeal.main_arg0) = m' ((c.tc : Thread Cert.PwTwoDwRefIdeal.nD Cert.PwTwoDwRefIdeal.τ).loc Cert.PwTwoDwRefIdeal.main_arg0)
          ∧ r.2.mem ((c.tc : Thread Cert.PwTwoDwRefIdeal.nD Cert.PwTwoDwRefIdeal.τ).loc Cert.PwTwoDwRefIdeal.main_arg1) = m' ((c.tc : Thread Cert.PwTwoDwRefIdeal.nD Cert.PwTwoDwRefIdeal.τ).loc Cert.PwTwoDwRefIdeal.main_arg1))

def preserves_PwTwoDu_PwTwoDuIdeal : Prop :=
  True

def algebraic_PwTwoDuIdeal_PwTwoDuRefIdeal [hPwTwoDuIdeal : Cert.PwTwoDuIdeal.Facts] [hPwTwoDuRefIdeal : Cert.PwTwoDuRefIdeal.Facts] : Prop :=
  ∀ (m : (ℓ : Loc Cert.PwTwoDuIdeal.nD Cert.PwTwoDuIdeal.τ Cert.PwTwoDuIdeal.sig) → Buf (Elt Ideal) ℓ) (g : Dev Cert.PwTwoDuIdeal.nD → PrngReg)
    (m' : (ℓ : Loc Cert.PwTwoDuRefIdeal.nD Cert.PwTwoDuRefIdeal.τ Cert.PwTwoDuRefIdeal.sig) → Buf (Elt Ideal) ℓ) (g' : Dev Cert.PwTwoDuRefIdeal.nD → PrngReg), Pre_PwTwoDuIdeal m →
    (∀ c : Dev Cert.PwTwoDuIdeal.nD,
      m' ((c.tc : Thread Cert.PwTwoDuRefIdeal.nD Cert.PwTwoDuRefIdeal.τ).loc Cert.PwTwoDuRefIdeal.main_arg0) = m ((c.tc : Thread Cert.PwTwoDuIdeal.nD Cert.PwTwoDuIdeal.τ).loc Cert.PwTwoDuIdeal.main_arg0)
      ∧ m' ((c.tc : Thread Cert.PwTwoDuRefIdeal.nD Cert.PwTwoDuRefIdeal.τ).loc Cert.PwTwoDuRefIdeal.main_arg1) = m ((c.tc : Thread Cert.PwTwoDuIdeal.nD Cert.PwTwoDuIdeal.τ).loc Cert.PwTwoDuIdeal.main_arg1)) →
    ∃ (v0 : (c : Dev Cert.PwTwoDuIdeal.nD) → Buf (Elt Ideal) ((c.tc : Thread Cert.PwTwoDuIdeal.nD Cert.PwTwoDuIdeal.τ).loc Cert.PwTwoDuIdeal.main_v4)),
      θ_run (Cert.PwTwoDuIdeal.defs (F := Ideal)) (onTc (τ := Cert.PwTwoDuIdeal.τ) (Cert.PwTwoDuIdeal.main (F := Ideal))) ⟨m, fun _ => 0, g⟩ (fun r => ∀ c : Dev Cert.PwTwoDuIdeal.nD,
          r.2.mem ((c.tc : Thread Cert.PwTwoDuIdeal.nD Cert.PwTwoDuIdeal.τ).loc Cert.PwTwoDuIdeal.main_v4) = v0 c
          ∧ r.2.mem ((c.tc : Thread Cert.PwTwoDuIdeal.nD Cert.PwTwoDuIdeal.τ).loc Cert.PwTwoDuIdeal.main_arg0) = m ((c.tc : Thread Cert.PwTwoDuIdeal.nD Cert.PwTwoDuIdeal.τ).loc Cert.PwTwoDuIdeal.main_arg0)
          ∧ r.2.mem ((c.tc : Thread Cert.PwTwoDuIdeal.nD Cert.PwTwoDuIdeal.τ).loc Cert.PwTwoDuIdeal.main_arg1) = m ((c.tc : Thread Cert.PwTwoDuIdeal.nD Cert.PwTwoDuIdeal.τ).loc Cert.PwTwoDuIdeal.main_arg1))
      ∧ θ_run (Cert.PwTwoDuRefIdeal.defs (F := Ideal)) (onTc (τ := Cert.PwTwoDuRefIdeal.τ) (Cert.PwTwoDuRefIdeal.main (F := Ideal))) ⟨m', fun _ => 0, g'⟩ (fun r => ∀ c : Dev Cert.PwTwoDuRefIdeal.nD,
          r.2.mem ((c.tc : Thread Cert.PwTwoDuRefIdeal.nD Cert.PwTwoDuRefIdeal.τ).loc Cert.PwTwoDuRefIdeal.main_v4) = v0 c
          ∧ r.2.mem ((c.tc : Thread Cert.PwTwoDuRefIdeal.nD Cert.PwTwoDuRefIdeal.τ).loc Cert.PwTwoDuRefIdeal.main_arg0) = m' ((c.tc : Thread Cert.PwTwoDuRefIdeal.nD Cert.PwTwoDuRefIdeal.τ).loc Cert.PwTwoDuRefIdeal.main_arg0)
          ∧ r.2.mem ((c.tc : Thread Cert.PwTwoDuRefIdeal.nD Cert.PwTwoDuRefIdeal.τ).loc Cert.PwTwoDuRefIdeal.main_arg1) = m' ((c.tc : Thread Cert.PwTwoDuRefIdeal.nD Cert.PwTwoDuRefIdeal.τ).loc Cert.PwTwoDuRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v4)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v4) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v2) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v4)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v4) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v5) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_AttnOutDm_AttnOutDmIdeal : Prop :=
  True

def algebraic_AttnOutDmIdeal_AttnOutDmRefIdeal [hAttnOutDmIdeal : Cert.AttnOutDmIdeal.Facts] [hAttnOutDmRefIdeal : Cert.AttnOutDmRefIdeal.Facts] : Prop :=
  ∀ (m : (ℓ : Loc Cert.AttnOutDmIdeal.nD Cert.AttnOutDmIdeal.τ Cert.AttnOutDmIdeal.sig) → Buf (Elt Ideal) ℓ) (g : Dev Cert.AttnOutDmIdeal.nD → PrngReg)
    (m' : (ℓ : Loc Cert.AttnOutDmRefIdeal.nD Cert.AttnOutDmRefIdeal.τ Cert.AttnOutDmRefIdeal.sig) → Buf (Elt Ideal) ℓ) (g' : Dev Cert.AttnOutDmRefIdeal.nD → PrngReg), Pre_AttnOutDmIdeal m →
    (∀ c : Dev Cert.AttnOutDmIdeal.nD,
      m' ((c.tc : Thread Cert.AttnOutDmRefIdeal.nD Cert.AttnOutDmRefIdeal.τ).loc Cert.AttnOutDmRefIdeal.main_arg0) = m ((c.tc : Thread Cert.AttnOutDmIdeal.nD Cert.AttnOutDmIdeal.τ).loc Cert.AttnOutDmIdeal.main_arg0)
      ∧ m' ((c.tc : Thread Cert.AttnOutDmRefIdeal.nD Cert.AttnOutDmRefIdeal.τ).loc Cert.AttnOutDmRefIdeal.main_arg1) = m ((c.tc : Thread Cert.AttnOutDmIdeal.nD Cert.AttnOutDmIdeal.τ).loc Cert.AttnOutDmIdeal.main_arg1)) →
    ∃ (v0 : (c : Dev Cert.AttnOutDmIdeal.nD) → Buf (Elt Ideal) ((c.tc : Thread Cert.AttnOutDmIdeal.nD Cert.AttnOutDmIdeal.τ).loc Cert.AttnOutDmIdeal.main_v5)),
      θ_run (Cert.AttnOutDmIdeal.defs (F := Ideal)) (onTc (τ := Cert.AttnOutDmIdeal.τ) (Cert.AttnOutDmIdeal.main (F := Ideal))) ⟨m, fun _ => 0, g⟩ (fun r => ∀ c : Dev Cert.AttnOutDmIdeal.nD,
          r.2.mem ((c.tc : Thread Cert.AttnOutDmIdeal.nD Cert.AttnOutDmIdeal.τ).loc Cert.AttnOutDmIdeal.main_v5) = v0 c
          ∧ r.2.mem ((c.tc : Thread Cert.AttnOutDmIdeal.nD Cert.AttnOutDmIdeal.τ).loc Cert.AttnOutDmIdeal.main_arg0) = m ((c.tc : Thread Cert.AttnOutDmIdeal.nD Cert.AttnOutDmIdeal.τ).loc Cert.AttnOutDmIdeal.main_arg0)
          ∧ r.2.mem ((c.tc : Thread Cert.AttnOutDmIdeal.nD Cert.AttnOutDmIdeal.τ).loc Cert.AttnOutDmIdeal.main_arg1) = m ((c.tc : Thread Cert.AttnOutDmIdeal.nD Cert.AttnOutDmIdeal.τ).loc Cert.AttnOutDmIdeal.main_arg1))
      ∧ θ_run (Cert.AttnOutDmRefIdeal.defs (F := Ideal)) (onTc (τ := Cert.AttnOutDmRefIdeal.τ) (Cert.AttnOutDmRefIdeal.main (F := Ideal))) ⟨m', fun _ => 0, g'⟩ (fun r => ∀ c : Dev Cert.AttnOutDmRefIdeal.nD,
          r.2.mem ((c.tc : Thread Cert.AttnOutDmRefIdeal.nD Cert.AttnOutDmRefIdeal.τ).loc Cert.AttnOutDmRefIdeal.main_v3) = v0 c
          ∧ r.2.mem ((c.tc : Thread Cert.AttnOutDmRefIdeal.nD Cert.AttnOutDmRefIdeal.τ).loc Cert.AttnOutDmRefIdeal.main_arg0) = m' ((c.tc : Thread Cert.AttnOutDmRefIdeal.nD Cert.AttnOutDmRefIdeal.τ).loc Cert.AttnOutDmRefIdeal.main_arg0)
          ∧ r.2.mem ((c.tc : Thread Cert.AttnOutDmRefIdeal.nD Cert.AttnOutDmRefIdeal.τ).loc Cert.AttnOutDmRefIdeal.main_arg1) = m' ((c.tc : Thread Cert.AttnOutDmRefIdeal.nD Cert.AttnOutDmRefIdeal.τ).loc Cert.AttnOutDmRefIdeal.main_arg1))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v3_0)) (v1 : (c : Dev Cert.AdamQkvIdeal.nD) → Buf (Elt Ideal) ((c.tc : Thread Cert.AdamQkvIdeal.nD Cert.AdamQkvIdeal.τ).loc Cert.AdamQkvIdeal.main_v3_1)) (v2 : (c : Dev Cert.AdamQkvIdeal.nD) → Buf (Elt Ideal) ((c.tc : Thread Cert.AdamQkvIdeal.nD Cert.AdamQkvIdeal.τ).loc Cert.AdamQkvIdeal.main_v3_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v3_0) = v0 c
          ∧ r.2.mem ((c.tc : Thread Cert.AdamQkvIdeal.nD Cert.AdamQkvIdeal.τ).loc Cert.AdamQkvIdeal.main_v3_1) = v1 c
          ∧ r.2.mem ((c.tc : Thread Cert.AdamQkvIdeal.nD Cert.AdamQkvIdeal.τ).loc Cert.AdamQkvIdeal.main_v3_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v26) = v0 c
          ∧ r.2.mem ((c.tc : Thread Cert.AdamQkvRefIdeal.nD Cert.AdamQkvRefIdeal.τ).loc Cert.AdamQkvRefIdeal.main_v7) = v1 c
          ∧ r.2.mem ((c.tc : Thread Cert.AdamQkvRefIdeal.nD Cert.AdamQkvRefIdeal.τ).loc Cert.AdamQkvRefIdeal.main_v13) = v2 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v26) = v0 c
          ∧ r.2.mem ((c.tc : Thread Cert.AdamOutRefIdeal.nD Cert.AdamOutRefIdeal.τ).loc Cert.AdamOutRefIdeal.main_v7) = v1 c
          ∧ r.2.mem ((c.tc : Thread Cert.AdamOutRefIdeal.nD Cert.AdamOutRefIdeal.τ).loc Cert.AdamOutRefIdeal.main_v13) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPwOne_AdamPwOneIdeal : Prop :=
  True

def algebraic_AdamPwOneIdeal_AdamPwOneRefIdeal [hAdamPwOneIdeal : Cert.AdamPwOneIdeal.Facts] [hAdamPwOneRefIdeal : Cert.AdamPwOneRefIdeal.Facts] : Prop :=
  ∀ (m : (ℓ : Loc Cert.AdamPwOneIdeal.nD Cert.AdamPwOneIdeal.τ Cert.AdamPwOneIdeal.sig) → Buf (Elt Ideal) ℓ) (g : Dev Cert.AdamPwOneIdeal.nD → PrngReg)
    (m' : (ℓ : Loc Cert.AdamPwOneRefIdeal.nD Cert.AdamPwOneRefIdeal.τ Cert.AdamPwOneRefIdeal.sig) → Buf (Elt Ideal) ℓ) (g' : Dev Cert.AdamPwOneRefIdeal.nD → PrngReg), Pre_AdamPwOneIdeal m →
    (∀ c : Dev Cert.AdamPwOneIdeal.nD,
      m' ((c.tc : Thread Cert.AdamPwOneRefIdeal.nD Cert.AdamPwOneRefIdeal.τ).loc Cert.AdamPwOneRefIdeal.main_arg0) = m ((c.tc : Thread Cert.AdamPwOneIdeal.nD Cert.AdamPwOneIdeal.τ).loc Cert.AdamPwOneIdeal.main_arg0)
      ∧ m' ((c.tc : Thread Cert.AdamPwOneRefIdeal.nD Cert.AdamPwOneRefIdeal.τ).loc Cert.AdamPwOneRefIdeal.main_arg1) = m ((c.tc : Thread Cert.AdamPwOneIdeal.nD Cert.AdamPwOneIdeal.τ).loc Cert.AdamPwOneIdeal.main_arg1)
      ∧ m' ((c.tc : Thread Cert.AdamPwOneRefIdeal.nD Cert.AdamPwOneRefIdeal.τ).loc Cert.AdamPwOneRefIdeal.main_arg2) = m ((c.tc : Thread Cert.AdamPwOneIdeal.nD Cert.AdamPwOneIdeal.τ).loc Cert.AdamPwOneIdeal.main_arg2)
      ∧ m' ((c.tc : Thread Cert.AdamPwOneRefIdeal.nD Cert.AdamPwOneRefIdeal.τ).loc Cert.AdamPwOneRefIdeal.main_arg3) = m ((c.tc : Thread Cert.AdamPwOneIdeal.nD Cert.AdamPwOneIdeal.τ).loc Cert.AdamPwOneIdeal.main_arg3)) →
    ∃ (v0 : (c : Dev Cert.AdamPwOneIdeal.nD) → Buf (Elt Ideal) ((c.tc : Thread Cert.AdamPwOneIdeal.nD Cert.AdamPwOneIdeal.τ).loc Cert.AdamPwOneIdeal.main_v3_0)) (v1 : (c : Dev Cert.AdamPwOneIdeal.nD) → Buf (Elt Ideal) ((c.tc : Thread Cert.AdamPwOneIdeal.nD Cert.AdamPwOneIdeal.τ).loc Cert.AdamPwOneIdeal.main_v3_1)) (v2 : (c : Dev Cert.AdamPwOneIdeal.nD) → Buf (Elt Ideal) ((c.tc : Thread Cert.AdamPwOneIdeal.nD Cert.AdamPwOneIdeal.τ).loc Cert.AdamPwOneIdeal.main_v3_2)),
      θ_run (Cert.AdamPwOneIdeal.defs (F := Ideal)) (onTc (τ := Cert.AdamPwOneIdeal.τ) (Cert.AdamPwOneIdeal.main (F := Ideal))) ⟨m, fun _ => 0, g⟩ (fun r => ∀ c : Dev Cert.AdamPwOneIdeal.nD,
          r.2.mem ((c.tc : Thread Cert.AdamPwOneIdeal.nD Cert.AdamPwOneIdeal.τ).loc Cert.AdamPwOneIdeal.main_v3_0) = v0 c
          ∧ r.2.mem ((c.tc : Thread Cert.AdamPwOneIdeal.nD Cert.AdamPwOneIdeal.τ).loc Cert.AdamPwOneIdeal.main_v3_1) = v1 c
          ∧ r.2.mem ((c.tc : Thread Cert.AdamPwOneIdeal.nD Cert.AdamPwOneIdeal.τ).loc Cert.AdamPwOneIdeal.main_v3_2) = v2 c
          ∧ r.2.mem ((c.tc : Thread Cert.AdamPwOneIdeal.nD Cert.AdamPwOneIdeal.τ).loc Cert.AdamPwOneIdeal.main_arg0) = m ((c.tc : Thread Cert.AdamPwOneIdeal.nD Cert.AdamPwOneIdeal.τ).loc Cert.AdamPwOneIdeal.main_arg0)
          ∧ r.2.mem ((c.tc : Thread Cert.AdamPwOneIdeal.nD Cert.AdamPwOneIdeal.τ).loc Cert.AdamPwOneIdeal.main_arg1) = m ((c.tc : Thread Cert.AdamPwOneIdeal.nD Cert.AdamPwOneIdeal.τ).loc Cert.AdamPwOneIdeal.main_arg1)
          ∧ r.2.mem ((c.tc : Thread Cert.AdamPwOneIdeal.nD Cert.AdamPwOneIdeal.τ).loc Cert.AdamPwOneIdeal.main_arg2) = m ((c.tc : Thread Cert.AdamPwOneIdeal.nD Cert.AdamPwOneIdeal.τ).loc Cert.AdamPwOneIdeal.main_arg2)
          ∧ r.2.mem ((c.tc : Thread Cert.AdamPwOneIdeal.nD Cert.AdamPwOneIdeal.τ).loc Cert.AdamPwOneIdeal.main_arg3) = m ((c.tc : Thread Cert.AdamPwOneIdeal.nD Cert.AdamPwOneIdeal.τ).loc Cert.AdamPwOneIdeal.main_arg3))
      ∧ θ_run (Cert.AdamPwOneRefIdeal.defs (F := Ideal)) (onTc (τ := Cert.AdamPwOneRefIdeal.τ) (Cert.AdamPwOneRefIdeal.main (F := Ideal))) ⟨m', fun _ => 0, g'⟩ (fun r => ∀ c : Dev Cert.AdamPwOneRefIdeal.nD,
          r.2.mem ((c.tc : Thread Cert.AdamPwOneRefIdeal.nD Cert.AdamPwOneRefIdeal.τ).loc Cert.AdamPwOneRefIdeal.main_v26) = v0 c
          ∧ r.2.mem ((c.tc : Thread Cert.AdamPwOneRefIdeal.nD Cert.AdamPwOneRefIdeal.τ).loc Cert.AdamPwOneRefIdeal.main_v7) = v1 c
          ∧ r.2.mem ((c.tc : Thread Cert.AdamPwOneRefIdeal.nD Cert.AdamPwOneRefIdeal.τ).loc Cert.AdamPwOneRefIdeal.main_v13) = v2 c
          ∧ r.2.mem ((c.tc : Thread Cert.AdamPwOneRefIdeal.nD Cert.AdamPwOneRefIdeal.τ).loc Cert.AdamPwOneRefIdeal.main_arg0) = m' ((c.tc : Thread Cert.AdamPwOneRefIdeal.nD Cert.AdamPwOneRefIdeal.τ).loc Cert.AdamPwOneRefIdeal.main_arg0)
          ∧ r.2.mem ((c.tc : Thread Cert.AdamPwOneRefIdeal.nD Cert.AdamPwOneRefIdeal.τ).loc Cert.AdamPwOneRefIdeal.main_arg1) = m' ((c.tc : Thread Cert.AdamPwOneRefIdeal.nD Cert.AdamPwOneRefIdeal.τ).loc Cert.AdamPwOneRefIdeal.main_arg1)
          ∧ r.2.mem ((c.tc : Thread Cert.AdamPwOneRefIdeal.nD Cert.AdamPwOneRefIdeal.τ).loc Cert.AdamPwOneRefIdeal.main_arg2) = m' ((c.tc : Thread Cert.AdamPwOneRefIdeal.nD Cert.AdamPwOneRefIdeal.τ).loc Cert.AdamPwOneRefIdeal.main_arg2)
          ∧ r.2.mem ((c.tc : Thread Cert.AdamPwOneRefIdeal.nD Cert.AdamPwOneRefIdeal.τ).loc Cert.AdamPwOneRefIdeal.main_arg3) = m' ((c.tc : Thread Cert.AdamPwOneRefIdeal.nD Cert.AdamPwOneRefIdeal.τ).loc Cert.AdamPwOneRefIdeal.main_arg3))

def preserves_AdamPwTwo_AdamPwTwoIdeal : Prop :=
  True

def algebraic_AdamPwTwoIdeal_AdamPwTwoRefIdeal [hAdamPwTwoIdeal : Cert.AdamPwTwoIdeal.Facts] [hAdamPwTwoRefIdeal : Cert.AdamPwTwoRefIdeal.Facts] : Prop :=
  ∀ (m : (ℓ : Loc Cert.AdamPwTwoIdeal.nD Cert.AdamPwTwoIdeal.τ Cert.AdamPwTwoIdeal.sig) → Buf (Elt Ideal) ℓ) (g : Dev Cert.AdamPwTwoIdeal.nD → PrngReg)
    (m' : (ℓ : Loc Cert.AdamPwTwoRefIdeal.nD Cert.AdamPwTwoRefIdeal.τ Cert.AdamPwTwoRefIdeal.sig) → Buf (Elt Ideal) ℓ) (g' : Dev Cert.AdamPwTwoRefIdeal.nD → PrngReg), Pre_AdamPwTwoIdeal m →
    (∀ c : Dev Cert.AdamPwTwoIdeal.nD,
      m' ((c.tc : Thread Cert.AdamPwTwoRefIdeal.nD Cert.AdamPwTwoRefIdeal.τ).loc Cert.AdamPwTwoRefIdeal.main_arg0) = m ((c.tc : Thread Cert.AdamPwTwoIdeal.nD Cert.AdamPwTwoIdeal.τ).loc Cert.AdamPwTwoIdeal.main_arg0)
      ∧ m' ((c.tc : Thread Cert.AdamPwTwoRefIdeal.nD Cert.AdamPwTwoRefIdeal.τ).loc Cert.AdamPwTwoRefIdeal.main_arg1) = m ((c.tc : Thread Cert.AdamPwTwoIdeal.nD Cert.AdamPwTwoIdeal.τ).loc Cert.AdamPwTwoIdeal.main_arg1)
      ∧ m' ((c.tc : Thread Cert.AdamPwTwoRefIdeal.nD Cert.AdamPwTwoRefIdeal.τ).loc Cert.AdamPwTwoRefIdeal.main_arg2) = m ((c.tc : Thread Cert.AdamPwTwoIdeal.nD Cert.AdamPwTwoIdeal.τ).loc Cert.AdamPwTwoIdeal.main_arg2)
      ∧ m' ((c.tc : Thread Cert.AdamPwTwoRefIdeal.nD Cert.AdamPwTwoRefIdeal.τ).loc Cert.AdamPwTwoRefIdeal.main_arg3) = m ((c.tc : Thread Cert.AdamPwTwoIdeal.nD Cert.AdamPwTwoIdeal.τ).loc Cert.AdamPwTwoIdeal.main_arg3)) →
    ∃ (v0 : (c : Dev Cert.AdamPwTwoIdeal.nD) → Buf (Elt Ideal) ((c.tc : Thread Cert.AdamPwTwoIdeal.nD Cert.AdamPwTwoIdeal.τ).loc Cert.AdamPwTwoIdeal.main_v3_0)) (v1 : (c : Dev Cert.AdamPwTwoIdeal.nD) → Buf (Elt Ideal) ((c.tc : Thread Cert.AdamPwTwoIdeal.nD Cert.AdamPwTwoIdeal.τ).loc Cert.AdamPwTwoIdeal.main_v3_1)) (v2 : (c : Dev Cert.AdamPwTwoIdeal.nD) → Buf (Elt Ideal) ((c.tc : Thread Cert.AdamPwTwoIdeal.nD Cert.AdamPwTwoIdeal.τ).loc Cert.AdamPwTwoIdeal.main_v3_2)),
      θ_run (Cert.AdamPwTwoIdeal.defs (F := Ideal)) (onTc (τ := Cert.AdamPwTwoIdeal.τ) (Cert.AdamPwTwoIdeal.main (F := Ideal))) ⟨m, fun _ => 0, g⟩ (fun r => ∀ c : Dev Cert.AdamPwTwoIdeal.nD,
          r.2.mem ((c.tc : Thread Cert.AdamPwTwoIdeal.nD Cert.AdamPwTwoIdeal.τ).loc Cert.AdamPwTwoIdeal.main_v3_0) = v0 c
          ∧ r.2.mem ((c.tc : Thread Cert.AdamPwTwoIdeal.nD Cert.AdamPwTwoIdeal.τ).loc Cert.AdamPwTwoIdeal.main_v3_1) = v1 c
          ∧ r.2.mem ((c.tc : Thread Cert.AdamPwTwoIdeal.nD Cert.AdamPwTwoIdeal.τ).loc Cert.AdamPwTwoIdeal.main_v3_2) = v2 c
          ∧ r.2.mem ((c.tc : Thread Cert.AdamPwTwoIdeal.nD Cert.AdamPwTwoIdeal.τ).loc Cert.AdamPwTwoIdeal.main_arg0) = m ((c.tc : Thread Cert.AdamPwTwoIdeal.nD Cert.AdamPwTwoIdeal.τ).loc Cert.AdamPwTwoIdeal.main_arg0)
          ∧ r.2.mem ((c.tc : Thread Cert.AdamPwTwoIdeal.nD Cert.AdamPwTwoIdeal.τ).loc Cert.AdamPwTwoIdeal.main_arg1) = m ((c.tc : Thread Cert.AdamPwTwoIdeal.nD Cert.AdamPwTwoIdeal.τ).loc Cert.AdamPwTwoIdeal.main_arg1)
          ∧ r.2.mem ((c.tc : Thread Cert.AdamPwTwoIdeal.nD Cert.AdamPwTwoIdeal.τ).loc Cert.AdamPwTwoIdeal.main_arg2) = m ((c.tc : Thread Cert.AdamPwTwoIdeal.nD Cert.AdamPwTwoIdeal.τ).loc Cert.AdamPwTwoIdeal.main_arg2)
          ∧ r.2.mem ((c.tc : Thread Cert.AdamPwTwoIdeal.nD Cert.AdamPwTwoIdeal.τ).loc Cert.AdamPwTwoIdeal.main_arg3) = m ((c.tc : Thread Cert.AdamPwTwoIdeal.nD Cert.AdamPwTwoIdeal.τ).loc Cert.AdamPwTwoIdeal.main_arg3))
      ∧ θ_run (Cert.AdamPwTwoRefIdeal.defs (F := Ideal)) (onTc (τ := Cert.AdamPwTwoRefIdeal.τ) (Cert.AdamPwTwoRefIdeal.main (F := Ideal))) ⟨m', fun _ => 0, g'⟩ (fun r => ∀ c : Dev Cert.AdamPwTwoRefIdeal.nD,
          r.2.mem ((c.tc : Thread Cert.AdamPwTwoRefIdeal.nD Cert.AdamPwTwoRefIdeal.τ).loc Cert.AdamPwTwoRefIdeal.main_v26) = v0 c
          ∧ r.2.mem ((c.tc : Thread Cert.AdamPwTwoRefIdeal.nD Cert.AdamPwTwoRefIdeal.τ).loc Cert.AdamPwTwoRefIdeal.main_v7) = v1 c
          ∧ r.2.mem ((c.tc : Thread Cert.AdamPwTwoRefIdeal.nD Cert.AdamPwTwoRefIdeal.τ).loc Cert.AdamPwTwoRefIdeal.main_v13) = v2 c
          ∧ r.2.mem ((c.tc : Thread Cert.AdamPwTwoRefIdeal.nD Cert.AdamPwTwoRefIdeal.τ).loc Cert.AdamPwTwoRefIdeal.main_arg0) = m' ((c.tc : Thread Cert.AdamPwTwoRefIdeal.nD Cert.AdamPwTwoRefIdeal.τ).loc Cert.AdamPwTwoRefIdeal.main_arg0)
          ∧ r.2.mem ((c.tc : Thread Cert.AdamPwTwoRefIdeal.nD Cert.AdamPwTwoRefIdeal.τ).loc Cert.AdamPwTwoRefIdeal.main_arg1) = m' ((c.tc : Thread Cert.AdamPwTwoRefIdeal.nD Cert.AdamPwTwoRefIdeal.τ).loc Cert.AdamPwTwoRefIdeal.main_arg1)
          ∧ r.2.mem ((c.tc : Thread Cert.AdamPwTwoRefIdeal.nD Cert.AdamPwTwoRefIdeal.τ).loc Cert.AdamPwTwoRefIdeal.main_arg2) = m' ((c.tc : Thread Cert.AdamPwTwoRefIdeal.nD Cert.AdamPwTwoRefIdeal.τ).loc Cert.AdamPwTwoRefIdeal.main_arg2)
          ∧ r.2.mem ((c.tc : Thread Cert.AdamPwTwoRefIdeal.nD Cert.AdamPwTwoRefIdeal.τ).loc Cert.AdamPwTwoRefIdeal.main_arg3) = m' ((c.tc : Thread Cert.AdamPwTwoRefIdeal.nD Cert.AdamPwTwoRefIdeal.τ).loc Cert.AdamPwTwoRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v3_0)) (v1 : (c : Dev Cert.AdamUpIdeal.nD) → Buf (Elt Ideal) ((c.tc : Thread Cert.AdamUpIdeal.nD Cert.AdamUpIdeal.τ).loc Cert.AdamUpIdeal.main_v3_1)) (v2 : (c : Dev Cert.AdamUpIdeal.nD) → Buf (Elt Ideal) ((c.tc : Thread Cert.AdamUpIdeal.nD Cert.AdamUpIdeal.τ).loc Cert.AdamUpIdeal.main_v3_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v3_0) = v0 c
          ∧ r.2.mem ((c.tc : Thread Cert.AdamUpIdeal.nD Cert.AdamUpIdeal.τ).loc Cert.AdamUpIdeal.main_v3_1) = v1 c
          ∧ r.2.mem ((c.tc : Thread Cert.AdamUpIdeal.nD Cert.AdamUpIdeal.τ).loc Cert.AdamUpIdeal.main_v3_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v26) = v0 c
          ∧ r.2.mem ((c.tc : Thread Cert.AdamUpRefIdeal.nD Cert.AdamUpRefIdeal.τ).loc Cert.AdamUpRefIdeal.main_v7) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v26) = v0 c
          ∧ r.2.mem ((c.tc : Thread Cert.AdamDownRefIdeal.nD Cert.AdamDownRefIdeal.τ).loc Cert.AdamDownRefIdeal.main_v7) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDh : Cert.UpDh.Facts) (hUpDhIdeal : Cert.UpDhIdeal.Facts) (hUpDhRefIdeal : Cert.UpDhRefIdeal.Facts) (hDownDw : Cert.DownDw.Facts) (hDownDwIdeal : Cert.DownDwIdeal.Facts) (hDownDwRefIdeal : Cert.DownDwRefIdeal.Facts) (hDownDa : Cert.DownDa.Facts) (hDownDaIdeal : Cert.DownDaIdeal.Facts) (hDownDaRefIdeal : Cert.DownDaRefIdeal.Facts) (hQkvDw : Cert.QkvDw.Facts) (hQkvDwIdeal : Cert.QkvDwIdeal.Facts) (hQkvDwRefIdeal : Cert.QkvDwRefIdeal.Facts) (hQkvDh : Cert.QkvDh.Facts) (hQkvDhIdeal : Cert.QkvDhIdeal.Facts) (hQkvDhRefIdeal : Cert.QkvDhRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPwOne : Cert.PwOne.Facts) (hPwOneIdeal : Cert.PwOneIdeal.Facts) (hPwOneRefIdeal : Cert.PwOneRefIdeal.Facts) (hPwOneDw : Cert.PwOneDw.Facts) (hPwOneDwIdeal : Cert.PwOneDwIdeal.Facts) (hPwOneDwRefIdeal : Cert.PwOneDwRefIdeal.Facts) (hPwOneDh : Cert.PwOneDh.Facts) (hPwOneDhIdeal : Cert.PwOneDhIdeal.Facts) (hPwOneDhRefIdeal : Cert.PwOneDhRefIdeal.Facts) (hNormBwd : Cert.NormBwd.Facts) (hNormBwdIdeal : Cert.NormBwdIdeal.Facts) (hNormBwdRefIdeal : Cert.NormBwdRefIdeal.Facts) (hUpZero : Cert.UpZero.Facts) (hUpZeroIdeal : Cert.UpZeroIdeal.Facts) (hUpZeroRefIdeal : Cert.UpZeroRefIdeal.Facts) (hUpDhZero : Cert.UpDhZero.Facts) (hUpDhZeroIdeal : Cert.UpDhZeroIdeal.Facts) (hUpDhZeroRefIdeal : Cert.UpDhZeroRefIdeal.Facts) (hPwTwo : Cert.PwTwo.Facts) (hPwTwoIdeal : Cert.PwTwoIdeal.Facts) (hPwTwoRefIdeal : Cert.PwTwoRefIdeal.Facts) (hPwTwoDw : Cert.PwTwoDw.Facts) (hPwTwoDwIdeal : Cert.PwTwoDwIdeal.Facts) (hPwTwoDwRefIdeal : Cert.PwTwoDwRefIdeal.Facts) (hPwTwoDu : Cert.PwTwoDu.Facts) (hPwTwoDuIdeal : Cert.PwTwoDuIdeal.Facts) (hPwTwoDuRefIdeal : Cert.PwTwoDuRefIdeal.Facts) (hAttnOut : Cert.AttnOut.Facts) (hAttnOutIdeal : Cert.AttnOutIdeal.Facts) (hAttnOutRefIdeal : Cert.AttnOutRefIdeal.Facts) (hAttnOutDw : Cert.AttnOutDw.Facts) (hAttnOutDwIdeal : Cert.AttnOutDwIdeal.Facts) (hAttnOutDwRefIdeal : Cert.AttnOutDwRefIdeal.Facts) (hAttnOutDm : Cert.AttnOutDm.Facts) (hAttnOutDmIdeal : Cert.AttnOutDmIdeal.Facts) (hAttnOutDmRefIdeal : Cert.AttnOutDmRefIdeal.Facts) (hAdamQkv : Cert.AdamQkv.Facts) (hAdamQkvIdeal : Cert.AdamQkvIdeal.Facts) (hAdamQkvRefIdeal : Cert.AdamQkvRefIdeal.Facts) (hAdamOut : Cert.AdamOut.Facts) (hAdamOutIdeal : Cert.AdamOutIdeal.Facts) (hAdamOutRefIdeal : Cert.AdamOutRefIdeal.Facts) (hAdamPwOne : Cert.AdamPwOne.Facts) (hAdamPwOneIdeal : Cert.AdamPwOneIdeal.Facts) (hAdamPwOneRefIdeal : Cert.AdamPwOneRefIdeal.Facts) (hAdamPwTwo : Cert.AdamPwTwo.Facts) (hAdamPwTwoIdeal : Cert.AdamPwTwoIdeal.Facts) (hAdamPwTwoRefIdeal : Cert.AdamPwTwoRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDh (hUpDh := hUpDh)
    ∧ quiescent_UpDhIdeal (hUpDhIdeal := hUpDhIdeal)
    ∧ quiescent_UpDhRefIdeal (hUpDhRefIdeal := hUpDhRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDh (hQkvDh := hQkvDh)
    ∧ quiescent_QkvDhIdeal (hQkvDhIdeal := hQkvDhIdeal)
    ∧ quiescent_QkvDhRefIdeal (hQkvDhRefIdeal := hQkvDhRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_PwOne (hPwOne := hPwOne)
    ∧ quiescent_PwOneIdeal (hPwOneIdeal := hPwOneIdeal)
    ∧ quiescent_PwOneRefIdeal (hPwOneRefIdeal := hPwOneRefIdeal)
    ∧ quiescent_PwOneDw (hPwOneDw := hPwOneDw)
    ∧ quiescent_PwOneDwIdeal (hPwOneDwIdeal := hPwOneDwIdeal)
    ∧ quiescent_PwOneDwRefIdeal (hPwOneDwRefIdeal := hPwOneDwRefIdeal)
    ∧ quiescent_PwOneDh (hPwOneDh := hPwOneDh)
    ∧ quiescent_PwOneDhIdeal (hPwOneDhIdeal := hPwOneDhIdeal)
    ∧ quiescent_PwOneDhRefIdeal (hPwOneDhRefIdeal := hPwOneDhRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_UpZero (hUpZero := hUpZero)
    ∧ quiescent_UpZeroIdeal (hUpZeroIdeal := hUpZeroIdeal)
    ∧ quiescent_UpZeroRefIdeal (hUpZeroRefIdeal := hUpZeroRefIdeal)
    ∧ quiescent_UpDhZero (hUpDhZero := hUpDhZero)
    ∧ quiescent_UpDhZeroIdeal (hUpDhZeroIdeal := hUpDhZeroIdeal)
    ∧ quiescent_UpDhZeroRefIdeal (hUpDhZeroRefIdeal := hUpDhZeroRefIdeal)
    ∧ quiescent_PwTwo (hPwTwo := hPwTwo)
    ∧ quiescent_PwTwoIdeal (hPwTwoIdeal := hPwTwoIdeal)
    ∧ quiescent_PwTwoRefIdeal (hPwTwoRefIdeal := hPwTwoRefIdeal)
    ∧ quiescent_PwTwoDw (hPwTwoDw := hPwTwoDw)
    ∧ quiescent_PwTwoDwIdeal (hPwTwoDwIdeal := hPwTwoDwIdeal)
    ∧ quiescent_PwTwoDwRefIdeal (hPwTwoDwRefIdeal := hPwTwoDwRefIdeal)
    ∧ quiescent_PwTwoDu (hPwTwoDu := hPwTwoDu)
    ∧ quiescent_PwTwoDuIdeal (hPwTwoDuIdeal := hPwTwoDuIdeal)
    ∧ quiescent_PwTwoDuRefIdeal (hPwTwoDuRefIdeal := hPwTwoDuRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_AttnOutDm (hAttnOutDm := hAttnOutDm)
    ∧ quiescent_AttnOutDmIdeal (hAttnOutDmIdeal := hAttnOutDmIdeal)
    ∧ quiescent_AttnOutDmRefIdeal (hAttnOutDmRefIdeal := hAttnOutDmRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPwOne (hAdamPwOne := hAdamPwOne)
    ∧ quiescent_AdamPwOneIdeal (hAdamPwOneIdeal := hAdamPwOneIdeal)
    ∧ quiescent_AdamPwOneRefIdeal (hAdamPwOneRefIdeal := hAdamPwOneRefIdeal)
    ∧ quiescent_AdamPwTwo (hAdamPwTwo := hAdamPwTwo)
    ∧ quiescent_AdamPwTwoIdeal (hAdamPwTwoIdeal := hAdamPwTwoIdeal)
    ∧ quiescent_AdamPwTwoRefIdeal (hAdamPwTwoRefIdeal := hAdamPwTwoRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwRefIdeal (hUpDwIdeal := hUpDwIdeal) (hUpDwRefIdeal := hUpDwRefIdeal)
    ∧ preserves_UpDh_UpDhIdeal
    ∧ algebraic_UpDhIdeal_UpDhRefIdeal (hUpDhIdeal := hUpDhIdeal) (hUpDhRefIdeal := hUpDhRefIdeal)
    ∧ preserves_DownDw_DownDwIdeal
    ∧ algebraic_DownDwIdeal_DownDwRefIdeal (hDownDwIdeal := hDownDwIdeal) (hDownDwRefIdeal := hDownDwRefIdeal)
    ∧ preserves_DownDa_DownDaIdeal
    ∧ algebraic_DownDaIdeal_DownDaRefIdeal (hDownDaIdeal := hDownDaIdeal) (hDownDaRefIdeal := hDownDaRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDh_QkvDhIdeal
    ∧ algebraic_QkvDhIdeal_QkvDhRefIdeal (hQkvDhIdeal := hQkvDhIdeal) (hQkvDhRefIdeal := hQkvDhRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_PwOne_PwOneIdeal
    ∧ algebraic_PwOneIdeal_PwOneRefIdeal (hPwOneIdeal := hPwOneIdeal) (hPwOneRefIdeal := hPwOneRefIdeal)
    ∧ preserves_PwOneDw_PwOneDwIdeal
    ∧ algebraic_PwOneDwIdeal_PwOneDwRefIdeal (hPwOneDwIdeal := hPwOneDwIdeal) (hPwOneDwRefIdeal := hPwOneDwRefIdeal)
    ∧ preserves_PwOneDh_PwOneDhIdeal
    ∧ algebraic_PwOneDhIdeal_PwOneDhRefIdeal (hPwOneDhIdeal := hPwOneDhIdeal) (hPwOneDhRefIdeal := hPwOneDhRefIdeal)
    ∧ preserves_NormBwd_NormBwdIdeal
    ∧ algebraic_NormBwdIdeal_NormBwdRefIdeal (hNormBwdIdeal := hNormBwdIdeal) (hNormBwdRefIdeal := hNormBwdRefIdeal)
    ∧ preserves_UpZero_UpZeroIdeal
    ∧ algebraic_UpZeroIdeal_UpZeroRefIdeal (hUpZeroIdeal := hUpZeroIdeal) (hUpZeroRefIdeal := hUpZeroRefIdeal)
    ∧ preserves_UpDhZero_UpDhZeroIdeal
    ∧ algebraic_UpDhZeroIdeal_UpDhZeroRefIdeal (hUpDhZeroIdeal := hUpDhZeroIdeal) (hUpDhZeroRefIdeal := hUpDhZeroRefIdeal)
    ∧ preserves_PwTwo_PwTwoIdeal
    ∧ algebraic_PwTwoIdeal_PwTwoRefIdeal (hPwTwoIdeal := hPwTwoIdeal) (hPwTwoRefIdeal := hPwTwoRefIdeal)
    ∧ preserves_PwTwoDw_PwTwoDwIdeal
    ∧ algebraic_PwTwoDwIdeal_PwTwoDwRefIdeal (hPwTwoDwIdeal := hPwTwoDwIdeal) (hPwTwoDwRefIdeal := hPwTwoDwRefIdeal)
    ∧ preserves_PwTwoDu_PwTwoDuIdeal
    ∧ algebraic_PwTwoDuIdeal_PwTwoDuRefIdeal (hPwTwoDuIdeal := hPwTwoDuIdeal) (hPwTwoDuRefIdeal := hPwTwoDuRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_AttnOutDm_AttnOutDmIdeal
    ∧ algebraic_AttnOutDmIdeal_AttnOutDmRefIdeal (hAttnOutDmIdeal := hAttnOutDmIdeal) (hAttnOutDmRefIdeal := hAttnOutDmRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPwOne_AdamPwOneIdeal
    ∧ algebraic_AdamPwOneIdeal_AdamPwOneRefIdeal (hAdamPwOneIdeal := hAdamPwOneIdeal) (hAdamPwOneRefIdeal := hAdamPwOneRefIdeal)
    ∧ preserves_AdamPwTwo_AdamPwTwoIdeal
    ∧ algebraic_AdamPwTwoIdeal_AdamPwTwoRefIdeal (hAdamPwTwoIdeal := hAdamPwTwoIdeal) (hAdamPwTwoRefIdeal := hAdamPwTwoRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S1x8192x8x64 : Shape := ⟨4, ![1, 8192, 8, 64]⟩
abbrev S1x8192x8 : Shape := ⟨3, ![1, 8192, 8]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_

variable [Facts]

def fn_part1 {F : FTy → Type} [FloatOps F] (main_arg4 : FVec F S1x8192x8 .f32) (main_v13 : IVec S_ 1) (main_v16 : IVec S1x8192x8x64 1) : IVec S_ 1 :=
  let main_c_5 : IVec S_ 1 := constantI S_ 1 1#1
  let main_v17 : IVec S_ 1 := (fun x v => Host.reduce IntOp.andi x v reducesTo_S1x8192x8x64_S_d0_1_2_3 h_S_) main_v16 main_c_5
  let main_v18 : IVec S_ 1 := andi main_v13 main_v17
  let main_v19 : FVec F S1x8192x8 .f32 := Host.absf main_arg4
  let main_cst_6 : FVec F S_ .f32 := constant S_ .f32 0x7F800000#32
  let main_v20 : FVec F S1x8192x8 .f32 := broadcastInDim S1x8192x8 ![] bcast_S_S1x8192x8 main_cst_6
  let main_v21 : IVec S1x8192x8 1 := cmpf .olt main_v19 main_v20
  let main_c_7 : IVec S_ 1 := constantI S_ 1 1#1
  let main_v22 : IVec S_ 1 := (fun x v => Host.reduce IntOp.andi x v reducesTo_S1x8192x8_S_d0_1_2 h_S_) main_v21 main_c_7
  let main_v23 : IVec S_ 1 := andi main_v18 main_v22
  main_v23

def fn {F : FTy → Type} [FloatOps F] (main_arg0 : FVec F S1x8192x8x64 .f32) (main_arg1 : FVec F S1x8192x8x64 .f32) (main_arg2 : FVec F S1x8192x8x64 .f32) (main_arg3 : FVec F S1x8192x8x64 .f32) (main_arg4 : FVec F S1x8192x8 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x64 .f32 := Host.absf main_arg1
  let main_cst_0 : FVec F S_ .f32 := constant S_ .f32 0x7F800000#32
  let main_v5 : FVec F S1x8192x8x64 .f32 := broadcastInDim S1x8192x8x64 ![] bcast_S_S1x8192x8x64 main_cst_0
  let main_v6 : IVec S1x8192x8x64 1 := cmpf .olt main_v4 main_v5
  let main_c_1 : IVec S_ 1 := constantI S_ 1 1#1
  let main_v7 : IVec S_ 1 := (fun x v => Host.reduce IntOp.andi x v reducesTo_S1x8192x8x64_S_d0_1_2_3 h_S_) main_v6 main_c_1
  let main_v8 : IVec S_ 1 := andi main_v3 main_v7
  let main_v9 : FVec F S1x8192x8x64 .f32 := Host.absf main_arg2
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  let main_c_3 : IVec S_ 1 := constantI S_ 1 1#1
  let main_v12 : IVec S_ 1 := (fun x v => Host.reduce IntOp.andi x v reducesTo_S1x8192x8x64_S_d0_1_2_3 h_S_) main_v11 main_c_3
  let main_v13 : IVec S_ 1 := andi main_v8 main_v12
  let main_v14 : FVec F S1x8192x8x64 .f32 := Host.absf main_arg3
  let main_cst_4 : FVec F S_ .f32 := constant S_ .f32 0x7F800000#32
  let main_v15 : FVec F S1x8192x8x64 .f32 := broadcastInDim S1x8192x8x64 ![] bcast_S_S1x8192x8x64 main_cst_4
  let main_v16 : IVec S1x8192x8x64 1 := cmpf .olt main_v14 main_v15
  fn_part1 (F := F) main_arg4 main_v13 main_v16
-- ==== Kernel.lean ====
abbrev S1x8192x8x64 : Shape := ⟨4, ![1, 8192, 8, 64]⟩
abbrev S1x8192x8 : Shape := ⟨3, ![1, 8192, 8]⟩
abbrev S8192x512 : Shape := ⟨2, ![8192, 512]⟩
abbrev S8192x1536 : Shape := ⟨2, ![8192, 1536]⟩
abbrev S1x8192x1536 : Shape := ⟨3, ![1, 8192, 1536]⟩
abbrev S1x512x16x8x64 : Shape := ⟨5, ![1, 512, 16, 8, 64]⟩
abbrev S1x16x8x512x64 : Shape := ⟨5, ![1, 16, 8, 512, 64]⟩
abbrev S16x8x4x128x64 : Shape := ⟨5, ![16, 8, 4, 128, 64]⟩
abbrev S_ : Shape := ⟨0, ![]⟩
abbrev S16x8x5x128x64 : Shape := ⟨5, ![16, 8, 5, 128, 64]⟩
abbrev S16x8x4x256x64 : Shape := ⟨5, ![16, 8, 4, 256, 64]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x8x4x128 : Shape := ⟨4, ![16, 8, 4, 128]⟩
abbrev S16x8x4x128x1 : Shape := ⟨5, ![16, 8, 4, 128, 1]⟩
abbrev S1x8192x8x1 : Shape := ⟨4, ![1, 8192, 8, 1]⟩
abbrev S1x512x16x8x1 : Shape := ⟨5, ![1, 512, 16, 8, 1]⟩
abbrev S1x16x8x512x1 : Shape := ⟨5, ![1, 16, 8, 512, 1]⟩
abbrev S512x8192 : Shape := ⟨2, ![512, 8192]⟩
abbrev S1x512x24576 : Shape := ⟨3, ![1, 512, 24576]⟩
abbrev S1x128x512 : Shape := ⟨3, ![1, 128, 512]⟩
abbrev S128x512 : Shape := ⟨2, ![128, 512]⟩
abbrev S256x512 : Shape := ⟨2, ![256, 512]⟩
abbrev S1x128x64 : Shape := ⟨3, ![1, 128, 64]⟩
abbrev S128x64 : Shape := ⟨2, ![128, 64]⟩
abbrev S256x64 : Shape := ⟨2, ![256, 64]⟩

abbrev nBuf : Space → Nat
  | .hbm => 120
  | .vmem => 28
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x1536, .f32⟩
  | .hbm, ⟨9, _⟩ => ⟨S8192x1536, .bf16⟩
  | .hbm, ⟨10, _⟩ => ⟨S1x8192x1536, .bf16⟩
  | .hbm, ⟨11, _⟩ => ⟨S1x512x16x8x64, .f32⟩
  | .hbm, ⟨12, _⟩ => ⟨S1x16x8x512x64, .f32⟩
  | .hbm, ⟨13, _⟩ => ⟨S16x8x4x128x64, .f32⟩
  | .hbm, ⟨14, _⟩ => ⟨S1x512x16x8x64, .f32⟩
  | .hbm, ⟨15, _⟩ => ⟨S1x16x8x512x64, .f32⟩
  | .hbm, ⟨16, _⟩ => ⟨S16x8x4x128x64, .f32⟩
  | .hbm, ⟨17, _⟩ => ⟨S1x512x16x8x64, .f32⟩
  | .hbm, ⟨18, _⟩ => ⟨S1x16x8x512x64, .f32⟩
  | .hbm, ⟨19, _⟩ => ⟨S16x8x4x128x64, .f32⟩
  | .hbm, ⟨20, _⟩ => ⟨S_, .i32⟩
  | .hbm, ⟨21, _⟩ => ⟨S_, .f32⟩
  | .hbm, ⟨22, _⟩ => ⟨S16x8x5x128x64, .f32⟩
  | .hbm, ⟨23, _⟩ => ⟨S16x8x4x128x64, .f32⟩
  | .hbm, ⟨24, _⟩ => ⟨S16x8x4x256x64, .f32⟩
  | .hbm, ⟨25, _⟩ => ⟨S_, .i32⟩
  | .hbm, ⟨26, _⟩ => ⟨S_, .f32⟩
  | .hbm, ⟨27, _⟩ => ⟨S16x8x5x128x64, .f32⟩
  | .hbm, ⟨28, _⟩ => ⟨S16x8x4x128x64, .f32⟩
  | .hbm, ⟨29, _⟩ => ⟨S16x8x4x256x64, .f32⟩
  | .hbm, ⟨30, _⟩ => ⟨S16x8x4x128x256, .f32⟩
  | .hbm, ⟨31, _⟩ => ⟨S_, .f32⟩
  | .hbm, ⟨32, _⟩ => ⟨S16x8x4x128x256, .f32⟩
  | .hbm, ⟨33, _⟩ => ⟨S16x8x4x128x256, .f32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S256, .i32⟩
  | .hbm, ⟨40, _⟩ => ⟨S1x256, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S4, .i32⟩
  | .hbm, ⟨52, _⟩ => ⟨S4x1x1, .i32⟩
  | .hbm, ⟨53, _⟩ => ⟨S_, .i32⟩
  | .hbm, ⟨54, _⟩ => ⟨S4x1x1, .i32⟩
  | .hbm, ⟨55, _⟩ => ⟨S4x1x1, .i1⟩
  | .hbm, ⟨56, _⟩ => ⟨S1x1x256, .i32⟩
  | .hbm, ⟨57, _⟩ => ⟨S_, .i32⟩
  | .hbm, ⟨58, _⟩ => ⟨S1x1x256, .i32⟩
  | .hbm, ⟨59, _⟩ => ⟨S1x1x256, .i1⟩
  | .hbm, ⟨60, _⟩ => ⟨S4x1x256, .i1⟩
  | .hbm, ⟨61, _⟩ => ⟨S4x1x256, .i1⟩
  | .hbm, ⟨62, _⟩ => ⟨S4x1x256, .i1⟩
  | .hbm, ⟨63, _⟩ => ⟨S1x128x256, .i1⟩
  | .hbm, ⟨64, _⟩ => ⟨S4x128x256, .i1⟩
  | .hbm, ⟨65, _⟩ => ⟨S4x128x256, .i1⟩
  | .hbm, ⟨66, _⟩ => ⟨S4x128x256, .i1⟩
  | .hbm, ⟨67, _⟩ => ⟨S_, .f32⟩
  | .hbm, ⟨68, _⟩ => ⟨S_, .f32⟩
  | .hbm, ⟨69, _⟩ => ⟨S16x8x4x128x256, .i1⟩
  | .hbm, ⟨70, _⟩ => ⟨S16x8x4x128x256, .f32⟩
  | .hbm, ⟨71, _⟩ => ⟨S16x8x4x128x256, .f32⟩
  | .hbm, ⟨72, _⟩ => ⟨S_, .f32⟩
  | .hbm, ⟨73, _⟩ => ⟨S16x8x4x128, .f32⟩
  | .hbm, ⟨74, _⟩ => ⟨S16x8x4x128x1, .f32⟩
  | .hbm, ⟨75, _⟩ => ⟨S16x8x4x128x256, .f32⟩
  | .hbm, ⟨76, _⟩ => ⟨S16x8x4x128x256, .f32⟩
  | .hbm, ⟨77, _⟩ => ⟨S16x8x4x128x256, .f32⟩
  | .hbm, ⟨78, _⟩ => ⟨S_, .f32⟩
  | .hbm, ⟨79, _⟩ => ⟨S16x8x4x128, .f32⟩
  | .hbm, ⟨80, _⟩ => ⟨S16x8x4x128x64, .f32⟩
  | .hbm, ⟨81, _⟩ => ⟨S16x8x4x128x1, .f32⟩
  | .hbm, ⟨82, _⟩ => ⟨S16x8x4x128x64, .f32⟩
  | .hbm, ⟨83, _⟩ => ⟨S16x8x4x128x64, .f32⟩
  | .hbm, ⟨84, _⟩ => ⟨S16x8x4x128, .f32⟩
  | .hbm, ⟨85, _⟩ => ⟨S16x8x4x128, .f32⟩
  | .hbm, ⟨86, _⟩ => ⟨S16x8x4x128, .f32⟩
  | .hbm, ⟨87, _⟩ => ⟨S1x512x16x8x64, .f32⟩
  | .hbm, ⟨88, _⟩ => ⟨S1x16x8x512x64, .f32⟩
  | .hbm, ⟨89, _⟩ => ⟨S16x8x4x128x64, .f32⟩
  | .hbm, ⟨90, _⟩ => ⟨S1x8192x8x1, .f32⟩
  | .hbm, ⟨91, _⟩ => ⟨S1x512x16x8x1, .f32⟩
  | .hbm, ⟨92, _⟩ => ⟨S1x16x8x512x1, .f32⟩
  | .hbm, ⟨93, _⟩ => ⟨S16x8x4x128x1, .f32⟩
  | .hbm, ⟨94, _⟩ => ⟨S16x8x4x128x1, .f32⟩
  | .hbm, ⟨95, _⟩ => ⟨S16x8x4x128x64, .f32⟩
  | .hbm, ⟨96, _⟩ => ⟨S1x16x8x512x64, .f32⟩
  | .hbm, ⟨97, _⟩ => ⟨S1x512x16x8x64, .f32⟩
  | .hbm, ⟨98, _⟩ => ⟨S512x8192, .f32⟩
  | .hbm, ⟨99, _⟩ => ⟨S16x8x4x128x64, .f32⟩
  | .hbm, ⟨100, _⟩ => ⟨S_, .f32⟩
  | .hbm, ⟨101, _⟩ => ⟨S16x8x4x128, .f32⟩
  | .hbm, ⟨102, _⟩ => ⟨S16x8x4x128x1, .f32⟩
  | .hbm, ⟨103, _⟩ => ⟨S16x8x4x128x1, .f32⟩
  | .hbm, ⟨104, _⟩ => ⟨S16x8x4x128x64, .f32⟩
  | .hbm, ⟨105, _⟩ => ⟨S1x16x8x512x64, .f32⟩
  | .hbm, ⟨106, _⟩ => ⟨S1x512x16x8x64, .f32⟩
  | .hbm, ⟨107, _⟩ => ⟨S512x8192, .f32⟩
  | .hbm, ⟨108, _⟩ => ⟨S8192x512, .f32⟩
  | .hbm, ⟨109, _⟩ => ⟨S8192x512, .bf16⟩
  | .hbm, ⟨110, _⟩ => ⟨S8192x512, .f32⟩
  | .hbm, ⟨111, _⟩ => ⟨S8192x1536, .bf16⟩
  | .hbm, ⟨112, _⟩ => ⟨S1x512x24576, .bf16⟩
  | .hbm, ⟨113, _⟩ => ⟨S512x8192, .bf16⟩
  | .hbm, ⟨114, _⟩ => ⟨S512x8192, .f32⟩
  | .hbm, ⟨115, _⟩ => ⟨S512x8192, .bf16⟩
  | .hbm, ⟨116, _⟩ => ⟨S512x8192, .bf16⟩
  | .hbm, ⟨117, _⟩ => ⟨S512x8192, .bf16⟩
  | .hbm, ⟨118, _⟩ => ⟨S512x8192, .bf16⟩
  | .hbm, ⟨119, _⟩ => ⟨S512x8192, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S256x512, .bf16⟩
  | .local _ .vmem, ⟨27, _⟩ => ⟨S256x512, .bf16⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_9 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93_0 : Ref sig .tc := ⟨.hbm, 115, rfl⟩
abbrev main_v93_1 : Ref sig .tc := ⟨.hbm, 116, rfl⟩
abbrev main_v93_2 : Ref sig .tc := ⟨.hbm, 117, rfl⟩
abbrev main_v93_3 : Ref sig .tc := ⟨.hbm, 118, rfl⟩
abbrev main_v93_4 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  let c0_i32_1 : BitVec 32 := 0#32
  ![c0_i32_0.toNat, arg1.toNat, v1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  let c0_i32_0 : BitVec 32 := 0#32
  ![c0_i32.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli arg0 c3_i32
  let c1_i32_0 : BitVec 32 := 1#32
  let v3 : BitVec 32 := Scalar.addi v2 c1_i32_0
  let c0_i32_1 : BitVec 32 := 0#32
  let c0_i32_2 : BitVec 32 := 0#32
  ![c0_i32_1.toNat, v1.toNat, v3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  let c0_i32_0 : BitVec 32 := 0#32
  ![c0_i32.toNat, arg1.toNat, v1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli arg0 c3_i32
  let c2_i32 : BitVec 32 := 2#32
  let v3 : BitVec 32 := Scalar.addi v2 c2_i32
  let c0_i32_0 : BitVec 32 := 0#32
  let c0_i32_1 : BitVec 32 := 0#32
  ![c0_i32_0.toNat, v1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x8x64 : Shape := ⟨4, ![1, 8192, 8, 64]⟩
abbrev S1x8192x8 : Shape := ⟨3, ![1, 8192, 8]⟩
abbrev S1x512x16x8x64 : Shape := ⟨5, ![1, 512, 16, 8, 64]⟩
abbrev S1x16x8x512x64 : Shape := ⟨5, ![1, 16, 8, 512, 64]⟩
abbrev S16x8x4x128x64 : Shape := ⟨5, ![16, 8, 4, 128, 64]⟩
abbrev S1x8192x8x1 : Shape := ⟨4, ![1, 8192, 8, 1]⟩
abbrev S1x512x16x8x1 : Shape := ⟨5, ![1, 512, 16, 8, 1]⟩
abbrev S1x16x8x512x1 : Shape := ⟨5, ![1, 16, 8, 512, 1]⟩
abbrev S16x8x4x128x1 : Shape := ⟨5, ![16, 8, 4, 128, 1]⟩
abbrev S16x8x4x128 : Shape := ⟨4, ![16, 8, 4, 128]⟩
abbrev S_ : Shape := ⟨0, ![]⟩
abbrev S16x8x5x128x64 : Shape := ⟨5, ![16, 8, 5, 128, 64]⟩
abbrev S16x8x4x256x64 : Shape := ⟨5, ![16, 8, 4, 256, 64]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x8x4x64x256 : Shape := ⟨5, ![16, 8, 4, 64, 256]⟩
abbrev S512x8192 : Shape := ⟨2, ![512, 8192]⟩

abbrev nBuf : Space → Nat
  | .hbm => 164
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S1x512x16x8x64, .f32⟩
  | 6 => ⟨S1x16x8x512x64, .f32⟩
  | 7 => ⟨S16x8x4x128x64, .f32⟩
  | 8 => ⟨S1x512x16x8x64, .f32⟩
  | 9 => ⟨S1x16x8x512x64, .f32⟩
  | 10 => ⟨S16x8x4x128x64, .f32⟩
  | 11 => ⟨S1x512x16x8x64, .f32⟩
  | 12 => ⟨S1x16x8x512x64, .f32⟩
  | 13 => ⟨S16x8x4x128x64, .f32⟩
  | 14 => ⟨S1x512x16x8x64, .f32⟩
  | 15 => ⟨S1x16x8x512x64, .f32⟩
  | 16 => ⟨S16x8x4x128x64, .f32⟩
  | 17 => ⟨S1x8192x8x1, .f32⟩
  | 18 => ⟨S1x512x16x8x1, .f32⟩
  | 19 => ⟨S1x16x8x512x1, .f32⟩
  | 20 => ⟨S16x8x4x128x1, .f32⟩
  | 21 => ⟨S16x8x4x128, .f32⟩
  | 22 => ⟨S_, .i32⟩
  | 23 => ⟨S_, .f32⟩
  | 24 => ⟨S16x8x5x128x64, .f32⟩
  | 25 => ⟨S16x8x4x128x64, .f32⟩
  | 26 => ⟨S16x8x4x256x64, .f32⟩
  | 27 => ⟨S_, .i32⟩
  | 28 => ⟨S_, .f32⟩
  | 29 => ⟨S16x8x5x128x64, .f32⟩
  | 30 => ⟨S16x8x4x128x64, .f32⟩
  | 31 => ⟨S16x8x4x256x64, .f32⟩
  | 32 => ⟨S16x8x4x128x256, .f32⟩
  | 33 => ⟨S_, .f32⟩
  | 34 => ⟨S16x8x4x128x256, .f32⟩
  | 35 => ⟨S16x8x4x128x256, .f32⟩
  | 36 => ⟨S128, .i32⟩
  | 37 => ⟨S128x1, .i32⟩
  | 38 => ⟨S_, .i32⟩
  | 39 => ⟨S128x1, .i32⟩
  | 40 => ⟨S128x1, .i32⟩
  | 41 => ⟨S256, .i32⟩
  | 42 => ⟨S1x256, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S4, .i32⟩
  | 54 => ⟨S4x1x1, .i32⟩
  | 55 => ⟨S_, .i32⟩
  | 56 => ⟨S4x1x1, .i32⟩
  | 57 => ⟨S4x1x1, .i1⟩
  | 58 => ⟨S1x1x256, .i32⟩
  | 59 => ⟨S_, .i32⟩
  | 60 => ⟨S1x1x256, .i32⟩
  | 61 => ⟨S1x1x256, .i1⟩
  | 62 => ⟨S4x1x256, .i1⟩
  | 63 => ⟨S4x1x256, .i1⟩
  | 64 => ⟨S4x1x256, .i1⟩
  | 65 => ⟨S1x128x256, .i1⟩
  | 66 => ⟨S4x128x256, .i1⟩
  | 67 => ⟨S4x128x256, .i1⟩
  | 68 => ⟨S4x128x256, .i1⟩
  | 69 => ⟨S_, .f32⟩
  | 70 => ⟨S_, .f32⟩
  | 71 => ⟨S16x8x4x128x256, .i1⟩
  | 72 => ⟨S16x8x4x128x256, .f32⟩
  | 73 => ⟨S16x8x4x128x256, .f32⟩
  | 74 => ⟨S_, .f32⟩
  | 75 => ⟨S16x8x4x128x256, .f32⟩
  | 76 => ⟨S_, .f32⟩
  | 77 => ⟨S16x8x4x128, .f32⟩
  | 78 => ⟨S16x8x4x128x1, .f32⟩
  | 79 => ⟨S16x8x4x128x256, .f32⟩
  | 80 => ⟨S16x8x4x128x256, .i1⟩
  | 81 => ⟨S16x8x4x128x256, .f32⟩
  | 82 => ⟨S_, .f32⟩
  | 83 => ⟨S16x8x4x128, .f32⟩
  | 84 => ⟨S16x8x4x128x1, .f32⟩
  | 85 => ⟨S16x8x4x128x256, .f32⟩
  | 86 => ⟨S16x8x4x128x256, .f32⟩
  | 87 => ⟨S16x8x4x128x256, .f32⟩
  | 88 => ⟨S_, .f32⟩
  | 89 => ⟨S16x8x4x128, .f32⟩
  | 90 => ⟨S16x8x4x128x64, .f32⟩
  | 91 => ⟨S16x8x4x128x1, .f32⟩
  | 92 => ⟨S16x8x4x128x64, .f32⟩
  | 93 => ⟨S16x8x4x128x64, .f32⟩
  | 94 => ⟨S16x8x4x128x1, .f32⟩
  | 95 => ⟨S_, .f32⟩
  | 96 => ⟨S16x8x4x128x1, .f32⟩
  | 97 => ⟨S16x8x4x128x1, .f32⟩
  | 98 => ⟨S16x8x4x128, .f32⟩
  | 99 => ⟨S16x8x4x128, .f32⟩
  | 100 => ⟨S16x8x4x128, .f32⟩
  | 101 => ⟨S16x8x4x128, .f32⟩
  | 102 => ⟨S16x8x4x128x1, .f32⟩
  | 103 => ⟨S16x8x4x128x64, .f32⟩
  | 104 => ⟨S16x8x4x128x64, .f32⟩
  | 105 => ⟨S16x8x4x128x64, .f32⟩
  | 106 => ⟨S_, .f32⟩
  | 107 => ⟨S16x8x4x128, .f32⟩
  | 108 => ⟨S16x8x4x128x1, .f32⟩
  | 109 => ⟨S16x8x4x128x1, .f32⟩
  | 110 => ⟨S16x8x4x128x64, .f32⟩
  | 111 => ⟨S16x8x4x128x64, .f32⟩
  | 112 => ⟨S_, .f32⟩
  | 113 => ⟨S16x8x4x128, .f32⟩
  | 114 => ⟨S16x8x4x128, .f32⟩
  | 115 => ⟨S16x8x4x64x256, .f32⟩
  | 116 => ⟨S16x8x4x256x64, .f32⟩
  | 117 => ⟨S16x8x4x128x256, .f32⟩
  | 118 => ⟨S16x8x4x128x256, .f32⟩
  | 119 => ⟨S16x8x4x128x256, .f32⟩
  | 120 => ⟨S16x8x4x128x256, .f32⟩
  | 121 => ⟨S16x8x4x128x256, .f32⟩
  | 122 => ⟨S_, .f32⟩
  | 123 => ⟨S16x8x4x128, .f32⟩
  | 124 => ⟨S16x8x4x128x1, .f32⟩
  | 125 => ⟨S16x8x4x128x1, .f32⟩
  | 126 => ⟨S_, .f32⟩
  | 127 => ⟨S16x8x4x128, .f32⟩
  | _ => ⟨S1x8192x8x64, .f32⟩

abbrev hbmTy0_1 (i : Nat) : BufTy := match i % 128 with
  | 0 => ⟨S16x8x4x128, .f32⟩
  | 1 => ⟨S16x8x4x128x256, .f32⟩
  | 2 => ⟨S16x8x4x128x256, .f32⟩
  | 3 => ⟨S16x8x4x128x256, .f32⟩
  | 4 => ⟨S_, .f32⟩
  | 5 => ⟨S16x8x4x128x256, .f32⟩
  | 6 => ⟨S16x8x4x128x256, .f32⟩
  | 7 => ⟨S_, .f32⟩
  | 8 => ⟨S16x8x4x128x256, .f32⟩
  | 9 => ⟨S16x8x4x128x256, .f32⟩
  | 10 => ⟨S16x8x4x256x64, .f32⟩
  | 11 => ⟨S16x8x4x128x64, .f32⟩
  | 12 => ⟨S16x8x4x128x64, .f32⟩
  | 13 => ⟨S16x8x4x128x64, .f32⟩
  | 14 => ⟨S16x8x4x128x64, .f32⟩
  | 15 => ⟨S16x8x4x128x64, .f32⟩
  | 16 => ⟨S1x16x8x512x64, .f32⟩
  | 17 => ⟨S1x512x16x8x64, .f32⟩
  | 18 => ⟨S512x8192, .f32⟩
  | 19 => ⟨S512x8192, .bf16⟩
  | 20 => ⟨S1x16x8x512x64, .f32⟩
  | 21 => ⟨S1x512x16x8x64, .f32⟩
  | 22 => ⟨S512x8192, .f32⟩
  | 23 => ⟨S512x8192, .bf16⟩
  | 24 => ⟨S1x16x8x512x64, .f32⟩
  | 25 => ⟨S1x512x16x8x64, .f32⟩
  | 26 => ⟨S512x8192, .f32⟩
  | 27 => ⟨S512x8192, .bf16⟩
  | 28 => ⟨S1x16x8x512x64, .f32⟩
  | 29 => ⟨S1x512x16x8x64, .f32⟩
  | 30 => ⟨S512x8192, .f32⟩
  | 31 => ⟨S512x8192, .bf16⟩
  | 32 => ⟨S1x16x8x512x64, .f32⟩
  | 33 => ⟨S1x512x16x8x64, .f32⟩
  | 34 => ⟨S512x8192, .f32⟩
  | 35 => ⟨S512x8192, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_call1_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_call2_v0 : Ref sig .tc := ⟨.hbm, 70, rfl⟩
abbrev main_v54_1 : Ref sig .tc := ⟨.hbm, 71, rfl⟩
abbrev main_call2_v2 : Ref sig .tc := ⟨.hbm, 72, rfl⟩
abbrev main_v54_0 : Ref sig .tc := ⟨.hbm, 73, rfl⟩
abbrev main_call2_cst : Ref sig .tc := ⟨.hbm, 74, rfl⟩
abbrev main_v54_2 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_13 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_14 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call3_cst : Ref sig .tc := ⟨.hbm, 132, rfl⟩
abbrev main_call3_v0 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1x8192x1024 : Shape := ⟨3, ![1, 8192, 1024]⟩
abbrev S8192x4x1408 : Shape := ⟨3, ![8192, 4, 1408]⟩
abbrev S4x8192x1408 : Shape := ⟨3, ![4, 8192, 1408]⟩
abbrev S4x1024x1408 : Shape := ⟨3, ![4, 1024, 1408]⟩
abbrev S1x1024x1024 : Shape := ⟨3, ![1, 1024, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S1x8192x1024, .bf16⟩
  | .hbm, ⟨4, _⟩ => ⟨S8192x5632, .bf16⟩
  | .hbm, ⟨5, _⟩ => ⟨S8192x4x1408, .bf16⟩
  | .hbm, ⟨6, _⟩ => ⟨S4x8192x1408, .bf16⟩
  | .hbm, ⟨7, _⟩ => ⟨S4x1024x1408, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDh.lean ====
abbrev S8192x5632 : Shape := ⟨2, ![8192, 5632]⟩
abbrev S2x1024x5632 : Shape := ⟨3, ![2, 1024, 5632]⟩
abbrev S8192x4x1408 : Shape := ⟨3, ![8192, 4, 1408]⟩
abbrev S4x8192x1408 : Shape := ⟨3, ![4, 8192, 1408]⟩
abbrev S2x1024x4x1408 : Shape := ⟨4, ![2, 1024, 4, 1408]⟩
abbrev S4x2x1024x1408 : Shape := ⟨4, ![4, 2, 1024, 1408]⟩
abbrev S8192x1024 : Shape := ⟨2, ![8192, 1024]⟩
abbrev S4x512x1408 : Shape := ⟨3, ![4, 512, 1408]⟩
abbrev S4x1x1024x1408 : Shape := ⟨4, ![4, 1, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 9
  | .vmem => 5
  | .smem => 0
  | _ => 0

abbrev bufTy : (tb : Table) → Fin (tcTables nBuf tb) → BufTy
  | .hbm, ⟨0, _⟩ => ⟨S8192x5632, .f32⟩
  | .hbm, ⟨1, _⟩ => ⟨S2x1024x5632, .f32⟩
  | .hbm, ⟨2, _⟩ => ⟨S8192x5632, .bf16⟩
  | .hbm, ⟨3, _⟩ => ⟨S8192x4x1408, .bf16⟩
  | .hbm, ⟨4, _⟩ => ⟨S4x8192x1408, .bf16⟩
  | .hbm, ⟨5, _⟩ => ⟨S2x1024x5632, .bf16⟩
  | .hbm, ⟨6, _⟩ => ⟨S2x1024x4x1408, .bf16⟩
  | .hbm, ⟨7, _⟩ => ⟨S4x2x1024x1408, .bf16⟩
  | .hbm, ⟨8, _⟩ => ⟨S8192x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpDhRefIdeal.lean ====
abbrev S8192x5632 : Shape := ⟨2, ![8192, 5632]⟩
abbrev S2x1024x5632 : Shape := ⟨3, ![2, 1024, 5632]⟩
abbrev S_ : Shape := ⟨0, ![]⟩
abbrev S8192x1024 : Shape := ⟨2, ![8192, 1024]⟩
abbrev S1x1024x5632 : Shape := ⟨3, ![1, 1024, 5632]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2x1024x5632, .f32⟩
  | .hbm, ⟨2, _⟩ => ⟨S_, .f32⟩
  | .hbm, ⟨3, _⟩ => ⟨S8192x1024, .f32⟩
  | .hbm, ⟨4, _⟩ => ⟨S1x1024x5632, .f32⟩
  | .hbm, ⟨5, _⟩ => ⟨S1024x5632, .f32⟩
  | .hbm, ⟨6, _⟩ => ⟨S8192x5632, .f32⟩
  | .hbm, ⟨7, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S8192x2x1408 : Shape := ⟨3, ![8192, 2, 1408]⟩
abbrev S2x8192x1408 : Shape := ⟨3, ![2, 8192, 1408]⟩
abbrev S1x8192x1024 : Shape := ⟨3, ![1, 8192, 1024]⟩
abbrev S1x2816x1024 : Shape := ⟨3, ![1, 2816, 1024]⟩
abbrev S1x1024x1408 : Shape := ⟨3, ![1, 1024, 1408]⟩
abbrev S1x1024x1024 : Shape := ⟨3, ![1, 1024, 1024]⟩
abbrev S1x1408x1024 : Shape := ⟨3, ![1, 1408, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x2x1408, .bf16⟩
  | .hbm, ⟨4, _⟩ => ⟨S2x8192x1408, .bf16⟩
  | .hbm, ⟨5, _⟩ => ⟨S8192x1024, .bf16⟩
  | .hbm, ⟨6, _⟩ => ⟨S1x8192x1024, .bf16⟩
  | .hbm, ⟨7, _⟩ => ⟨S1x2816x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1408x1024, .f32⟩
  | .local _ .vmem, ⟨5, _⟩ => ⟨S1x1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDa.lean ====
abbrev S8192x1024 : Shape := ⟨2, ![8192, 1024]⟩
abbrev S2816x1024 : Shape := ⟨2, ![2816, 1024]⟩
abbrev S1x8192x1024 : Shape := ⟨3, ![1, 8192, 1024]⟩
abbrev S1x1x2816x1024 : Shape := ⟨4, ![1, 1, 2816, 1024]⟩
abbrev S2x8192x1408 : Shape := ⟨3, ![2, 8192, 1408]⟩
abbrev S1x1024x1024 : Shape := ⟨3, ![1, 1024, 1024]⟩
abbrev S1x1x1408x1024 : Shape := ⟨4, ![1, 1, 1408, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S1x8192x1024, .bf16⟩
  | .hbm, ⟨4, _⟩ => ⟨S2816x1024, .bf16⟩
  | .hbm, ⟨5, _⟩ => ⟨S1x1x2816x1024, .bf16⟩
  | .hbm, ⟨6, _⟩ => ⟨S2x8192x1408, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1x1024x1408, .bf16⟩
  | .local _ .vmem, ⟨5, _⟩ => ⟨S1x1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩
abbrev S8192x2x1408 : Shape := ⟨3, ![8192, 2, 1408]⟩
abbrev S2x8192x1408 : Shape := ⟨3, ![2, 8192, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2x1408, .f32⟩
  | .hbm, ⟨7, _⟩ => ⟨S2x8192x1408, .f32⟩
  | .hbm, ⟨8, _⟩ => ⟨S2x8192x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvDw.lean ====
abbrev S8192x1024 : Shape := ⟨2, ![8192, 1024]⟩
abbrev S8192x4608 : Shape := ⟨2, ![8192, 4608]⟩
abbrev S1x8192x1024 : Shape := ⟨3, ![1, 8192, 1024]⟩
abbrev S1x8192x4608 : Shape := ⟨3, ![1, 8192, 4608]⟩
abbrev S4x1024x1152 : Shape := ⟨3, ![4, 1024, 1152]⟩
abbrev S1x1024x1024 : Shape := ⟨3, ![1, 1024, 1024]⟩
abbrev S1x1024x1152 : Shape := ⟨3, ![1, 1024, 1152]⟩
abbrev S1024x1024 : Shape := ⟨2, ![1024, 1024]⟩
abbrev S1024x1152 : Shape := ⟨2, ![1024, 1152]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S8192x1024, .bf16⟩
  | .hbm, ⟨3, _⟩ => ⟨S1x8192x1024, .bf16⟩
  | .hbm, ⟨4, _⟩ => ⟨S8192x4608, .bf16⟩
  | .hbm, ⟨5, _⟩ => ⟨S1x8192x4608, .bf16⟩
  | .hbm, ⟨6, _⟩ => ⟨S4x1024x1152, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1x1024x1152, .f32⟩
  | .local _ .vmem, ⟨5, _⟩ => ⟨S1x1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S_, .f32⟩
  | .hbm, ⟨3, _⟩ => ⟨S1024x4608, .f32⟩
  | .hbm, ⟨4, _⟩ => ⟨S8192x4608, .f32⟩
  | .hbm, ⟨5, _⟩ => ⟨S4608x1024, .f32⟩
  | .hbm, ⟨6, _⟩ => ⟨S1024x4608, .f32⟩
  | .hbm, ⟨7, _⟩ => ⟨S1024x4x1152, .f32⟩
  | .hbm, ⟨8, _⟩ => ⟨S4x1024x1152, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvDh.lean ====
abbrev S8192x4608 : Shape := ⟨2, ![8192, 4608]⟩
abbrev S1x1024x4608 : Shape := ⟨3, ![1, 1024, 4608]⟩
abbrev S1x8192x4608 : Shape := ⟨3, ![1, 8192, 4608]⟩
abbrev S1x1024x4x1152 : Shape := ⟨4, ![1, 1024, 4, 1152]⟩
abbrev S4x1x1024x1152 : Shape := ⟨4, ![4, 1, 1024, 1152]⟩
abbrev S8192x1024 : Shape := ⟨2, ![8192, 1024]⟩
abbrev S1x512x4608 : Shape := ⟨3, ![1, 512, 4608]⟩
abbrev S512x1024 : Shape := ⟨2, ![512, 1024]⟩
abbrev S1x512x1152 : Shape := ⟨3, ![1, 512, 1152]⟩
abbrev S512x1152 : Shape := ⟨2, ![512, 1152]⟩
abbrev S1x1x1024x1152 : Shape := ⟨4, ![1, 1, 1024, 1152]⟩
abbrev S1024x1152 : Shape := ⟨2, ![1024, 1152]⟩

abbrev nBuf : Space → Nat
  | .hbm => 8
  | .vmem => 5
  | .smem => 0
  | _ => 0

abbrev bufTy : (tb : Table) → Fin (tcTables nBuf tb) → BufTy
  | .hbm, ⟨0, _⟩ => ⟨S8192x4608, .f32⟩
  | .hbm, ⟨1, _⟩ => ⟨S1x1024x4608, .f32⟩
  | .hbm, ⟨2, _⟩ => ⟨S8192x4608, .bf16⟩
  | .hbm, ⟨3, _⟩ => ⟨S1x8192x4608, .bf16⟩
  | .hbm, ⟨4, _⟩ => ⟨S1x1024x4608, .bf16⟩
  | .hbm, ⟨5, _⟩ => ⟨S1x1024x4x1152, .bf16⟩
  | .hbm, ⟨6, _⟩ => ⟨S4x1x1024x1152, .bf16⟩
  | .hbm, ⟨7, _⟩ => ⟨S8192x1024, .f32⟩
  | .local _ .vmem, ⟨0, _⟩ => ⟨S1x512x4608, .bf16⟩
  | .local _ .vmem, ⟨1, _⟩ => ⟨S1x512x4608, .bf16⟩
  | .local _ .vmem, ⟨2, _⟩ => ⟨S4x1x1024x1152, .bf16⟩
  | .local _ .vmem, ⟨3, _⟩ => ⟨S512x1024, .f32⟩
  | .local _ .vmem, ⟨4, _⟩ => ⟨S512x1024, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvDhRefIdeal.lean ====
abbrev S8192x4608 : Shape := ⟨2, ![8192, 4608]⟩
abbrev S1x1024x4608 : Shape := ⟨3, ![1, 1024, 4608]⟩
abbrev S_ : Shape := ⟨0, ![]⟩
abbrev S8192x1024 : Shape := ⟨2, ![8192, 1024]⟩
abbrev S1024x4608 : Shape := ⟨2, ![1024, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S1x1024x4608, .f32⟩
  | .hbm, ⟨2, _⟩ => ⟨S_, .f32⟩
  | .hbm, ⟨3, _⟩ => ⟨S8192x1024, .f32⟩
  | .hbm, ⟨4, _⟩ => ⟨S1024x4608, .f32⟩
  | .hbm, ⟨5, _⟩ => ⟨S8192x4608, .f32⟩
  | .hbm, ⟨6, _⟩ => ⟨S8192x1024, .f32⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S2x1024x5632 : Shape := ⟨3, ![2, 1024, 5632]⟩
abbrev S1x8192x1024 : Shape := ⟨3, ![1, 8192, 1024]⟩
abbrev S2x1024x4x1408 : Shape := ⟨4, ![2, 1024, 4, 1408]⟩
abbrev S4x2x1024x1408 : Shape := ⟨4, ![4, 2, 1024, 1408]⟩
abbrev S4x8192x1408 : Shape := ⟨3, ![4, 8192, 1408]⟩
abbrev S1x1024x1024 : Shape := ⟨3, ![1, 1024, 1024]⟩
abbrev S1x1x1024x1408 : Shape := ⟨4, ![1, 1, 1024, 1408]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x1024x5632, .f32⟩
  | .hbm, ⟨2, _⟩ => ⟨S8192x1024, .bf16⟩
  | .hbm, ⟨3, _⟩ => ⟨S1x8192x1024, .bf16⟩
  | .hbm, ⟨4, _⟩ => ⟨S2x1024x5632, .bf16⟩
  | .hbm, ⟨5, _⟩ => ⟨S2x1024x4x1408, .bf16⟩
  | .hbm, ⟨6, _⟩ => ⟨S4x2x1024x1408, .bf16⟩
  | .hbm, ⟨7, _⟩ => ⟨S4x8192x1408, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1024x1408, .bf16⟩
  | .local _ .vmem, ⟨5, _⟩ => ⟨S1x1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  let c0_i32_13 : BitVec 32 := 0#32
  ![v16.toNat, c1_i32_11.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩
abbrev S8192x4x1408 : Shape := ⟨3, ![8192, 4, 1408]⟩
abbrev S4x8192x1408 : Shape := ⟨3, ![4, 8192, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S8192x5632, .f32⟩
  | .hbm, ⟨5, _⟩ => ⟨S8192x4x1408, .f32⟩
  | .hbm, ⟨6, _⟩ => ⟨S4x8192x1408, .f32⟩
  | .hbm, ⟨7, _⟩ => ⟨S4x8192x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x2x1408 : Shape := ⟨3, ![8192, 2, 1408]⟩
abbrev S2x8192x1408 : Shape := ⟨3, ![2, 8192, 1408]⟩
abbrev S1x1x2816x1024 : Shape := ⟨4, ![1, 1, 2816, 1024]⟩
abbrev S1x8192x1024 : Shape := ⟨3, ![1, 8192, 1024]⟩
abbrev S2x1024x1408 : Shape := ⟨3, ![2, 1024, 1408]⟩
abbrev S1x1024x1024 : Shape := ⟨3, ![1, 1024, 1024]⟩
abbrev S1x1024x1408 : Shape := ⟨3, ![1, 1024, 1408]⟩
abbrev S1024x1408 : Shape := ⟨2, ![1024, 1408]⟩
abbrev S1x1x1408x1024 : Shape := ⟨4, ![1, 1, 1408, 1024]⟩
abbrev S1408x1024 : Shape := ⟨2, ![1408, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S8192x2x1408, .bf16⟩
  | .hbm, ⟨4, _⟩ => ⟨S2x8192x1408, .bf16⟩
  | .hbm, ⟨5, _⟩ => ⟨S2816x1024, .bf16⟩
  | .hbm, ⟨6, _⟩ => ⟨S1x1x2816x1024, .bf16⟩
  | .hbm, ⟨7, _⟩ => ⟨S1x8192x1024, .f32⟩
  | .local _ .vmem, ⟨0, _⟩ => ⟨S2x1024x1408, .bf16⟩
  | .local _ .vmem, ⟨1, _⟩ => ⟨S2x1024x1408, .bf16⟩
  | .local _ .vmem, ⟨2, _⟩ => ⟨S1x1x2816x1024, .bf16⟩
  | .local _ .vmem, ⟨3, _⟩ => ⟨S1x1024x1024, .f32⟩
  | .local _ .vmem, ⟨4, _⟩ => ⟨S1x1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x8192x1024 : Shape := ⟨3, ![1, 8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PwOne.lean ====
abbrev S8192x1024 : Shape := ⟨2, ![8192, 1024]⟩
abbrev S1x1024x2048 : Shape := ⟨3, ![1, 1024, 2048]⟩
abbrev S1x2048 : Shape := ⟨2, ![1, 2048]⟩
abbrev S1x8192x1024 : Shape := ⟨3, ![1, 8192, 1024]⟩
abbrev S1x1024x4x512 : Shape := ⟨4, ![1, 1024, 4, 512]⟩
abbrev S4x1x1024x512 : Shape := ⟨4, ![4, 1, 1024, 512]⟩
abbrev S1x8192x2048 : Shape := ⟨3, ![1, 8192, 2048]⟩
abbrev S1x1024x1024 : Shape := ⟨3, ![1, 1024, 1024]⟩
abbrev S1x1x1024x512 : Shape := ⟨4, ![1, 1, 1024, 512]⟩
abbrev S1x512 : Shape := ⟨2, ![1, 512]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .f32⟩
  | .hbm, ⟨2, _⟩ => ⟨S1x2048, .f32⟩
  | .hbm, ⟨3, _⟩ => ⟨S8192x1024, .bf16⟩
  | .hbm, ⟨4, _⟩ => ⟨S1x8192x1024, .bf16⟩
  | .hbm, ⟨5, _⟩ => ⟨S1x1024x2048, .bf16⟩
  | .hbm, ⟨6, _⟩ => ⟨S1x1024x4x512, .bf16⟩
  | .hbm, ⟨7, _⟩ => ⟨S4x1x1024x512, .bf16⟩
  | .hbm, ⟨8, _⟩ => ⟨S1x8192x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512, .f32⟩
  | .local _ .vmem, ⟨5, _⟩ => ⟨S1x512, .f32⟩
  | .local _ .vmem, ⟨6, _⟩ => ⟨S1x1024x512, .f32⟩
  | .local _ .vmem, ⟨7, _⟩ => ⟨S1x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PwOneRefIdeal.lean ====
abbrev S8192x1024 : Shape := ⟨2, ![8192, 1024]⟩
abbrev S1x1024x2048 : Shape := ⟨3, ![1, 1024, 2048]⟩
abbrev S1x2048 : Shape := ⟨2, ![1, 2048]⟩
abbrev S1024x2048 : Shape := ⟨2, ![1024, 2048]⟩
abbrev S8192x2048 : Shape := ⟨2, ![8192, 2048]⟩
abbrev S2048 : Shape := ⟨1, ![2048]⟩
abbrev S1x8192x2048 : Shape := ⟨3, ![1, 8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .f32⟩
  | .hbm, ⟨2, _⟩ => ⟨S1x2048, .f32⟩
  | .hbm, ⟨3, _⟩ => ⟨S1024x2048, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S1x8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PwOneDw.lean ====
abbrev S8192x1024 : Shape := ⟨2, ![8192, 1024]⟩
abbrev S8192x2048 : Shape := ⟨2, ![8192, 2048]⟩
abbrev S1x8192x1024 : Shape := ⟨3, ![1, 8192, 1024]⟩
abbrev S1x8192x2048 : Shape := ⟨3, ![1, 8192, 2048]⟩
abbrev S4x1024x512 : Shape := ⟨3, ![4, 1024, 512]⟩
abbrev S1x1024x1024 : Shape := ⟨3, ![1, 1024, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S1x8192x1024, .bf16⟩
  | .hbm, ⟨4, _⟩ => ⟨S8192x2048, .bf16⟩
  | .hbm, ⟨5, _⟩ => ⟨S1x8192x2048, .bf16⟩
  | .hbm, ⟨6, _⟩ => ⟨S4x1024x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .f32⟩
  | .local _ .vmem, ⟨5, _⟩ => ⟨S1x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwOneDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PwOneDh.lean ====
abbrev S8192x2048 : Shape := ⟨2, ![8192, 2048]⟩
abbrev S1x1024x2048 : Shape := ⟨3, ![1, 1024, 2048]⟩
abbrev S1x8192x2048 : Shape := ⟨3, ![1, 8192, 2048]⟩
abbrev S1x1024x4x512 : Shape := ⟨4, ![1, 1024, 4, 512]⟩
abbrev S4x1x1024x512 : Shape := ⟨4, ![4, 1, 1024, 512]⟩
abbrev S8192x1024 : Shape := ⟨2, ![8192, 1024]⟩
abbrev S1024x1024 : Shape := ⟨2, ![1024, 1024]⟩
abbrev S1x1024x512 : Shape := ⟨3, ![1, 1024, 512]⟩
abbrev S1024x512 : Shape := ⟨2, ![1024, 512]⟩
abbrev S1x1x1024x512 : Shape := ⟨4, ![1, 1, 1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x1024x2048, .f32⟩
  | .hbm, ⟨2, _⟩ => ⟨S8192x2048, .bf16⟩
  | .hbm, ⟨3, _⟩ => ⟨S1x8192x2048, .bf16⟩
  | .hbm, ⟨4, _⟩ => ⟨S1x1024x2048, .bf16⟩
  | .hbm, ⟨5, _⟩ => ⟨S1x1024x4x512, .bf16⟩
  | .hbm, ⟨6, _⟩ => ⟨S4x1x1024x512, .bf16⟩
  | .hbm, ⟨7, _⟩ => ⟨S8192x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S4x1x1024x512, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PwOneDhRefIdeal.lean ====
abbrev S8192x2048 : Shape := ⟨2, ![8192, 2048]⟩
abbrev S1x1024x2048 : Shape := ⟨3, ![1, 1024, 2048]⟩
abbrev S_ : Shape := ⟨0, ![]⟩
abbrev S8192x1024 : Shape := ⟨2, ![8192, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x1024x2048, .f32⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_15 : BitVec 32 := 0#32
  let v36 : BitVec 1 := Scalar.cmpi .ne v35 c0_i32_15
  v36

def k0_cond2 (i : grid0.Coords) : BitVec 1 :=
  let arg0 : BitVec 32 := BitVec.ofNat 32 (i 0).val
  let c0_i32_16 : BitVec 32 := 0#32
  let v37 : BitVec 1 := Scalar.cmpi .sgt arg0 c0_i32_16
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== UpZero.lean ====
abbrev S8192x1024 : Shape := ⟨2, ![8192, 1024]⟩
abbrev S2x1024x5632 : Shape := ⟨3, ![2, 1024, 5632]⟩
abbrev S1x8192x1024 : Shape := ⟨3, ![1, 8192, 1024]⟩
abbrev S2x1024x4x1408 : Shape := ⟨4, ![2, 1024, 4, 1408]⟩
abbrev S4x2x1024x1408 : Shape := ⟨4, ![4, 2, 1024, 1408]⟩
abbrev S4x8192x1408 : Shape := ⟨3, ![4, 8192, 1408]⟩
abbrev S1x1024x1024 : Shape := ⟨3, ![1, 1024, 1024]⟩
abbrev S1x1x1024x1408 : Shape := ⟨4, ![1, 1, 1024, 1408]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x1024x5632, .f32⟩
  | .hbm, ⟨2, _⟩ => ⟨S8192x1024, .bf16⟩
  | .hbm, ⟨3, _⟩ => ⟨S1x8192x1024, .bf16⟩
  | .hbm, ⟨4, _⟩ => ⟨S2x1024x5632, .bf16⟩
  | .hbm, ⟨5, _⟩ => ⟨S2x1024x4x1408, .bf16⟩
  | .hbm, ⟨6, _⟩ => ⟨S4x2x1024x1408, .bf16⟩
  | .hbm, ⟨7, _⟩ => ⟨S4x8192x1408, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1024x1408, .bf16⟩
  | .local _ .vmem, ⟨5, _⟩ => ⟨S1x1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpZeroRefIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩
abbrev S8192x4x1408 : Shape := ⟨3, ![8192, 4, 1408]⟩
abbrev S4x8192x1408 : Shape := ⟨3, ![4, 8192, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S8192x5632, .f32⟩
  | .hbm, ⟨5, _⟩ => ⟨S8192x4x1408, .f32⟩
  | .hbm, ⟨6, _⟩ => ⟨S4x8192x1408, .f32⟩
  | .hbm, ⟨7, _⟩ => ⟨S4x8192x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpDhZero.lean ====
abbrev S8192x5632 : Shape := ⟨2, ![8192, 5632]⟩
abbrev S2x1024x5632 : Shape := ⟨3, ![2, 1024, 5632]⟩
abbrev S8192x4x1408 : Shape := ⟨3, ![8192, 4, 1408]⟩
abbrev S4x8192x1408 : Shape := ⟨3, ![4, 8192, 1408]⟩
abbrev S2x1024x4x1408 : Shape := ⟨4, ![2, 1024, 4, 1408]⟩
abbrev S4x2x1024x1408 : Shape := ⟨4, ![4, 2, 1024, 1408]⟩
abbrev S8192x1024 : Shape := ⟨2, ![8192, 1024]⟩
abbrev S4x512x1408 : Shape := ⟨3, ![4, 512, 1408]⟩
abbrev S4x1x1024x1408 : Shape := ⟨4, ![4, 1, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 9
  | .vmem => 5
  | .smem => 0
  | _ => 0

abbrev bufTy : (tb : Table) → Fin (tcTables nBuf tb) → BufTy
  | .hbm, ⟨0, _⟩ => ⟨S8192x5632, .f32⟩
  | .hbm, ⟨1, _⟩ => ⟨S2x1024x5632, .f32⟩
  | .hbm, ⟨2, _⟩ => ⟨S8192x5632, .bf16⟩
  | .hbm, ⟨3, _⟩ => ⟨S8192x4x1408, .bf16⟩
  | .hbm, ⟨4, _⟩ => ⟨S4x8192x1408, .bf16⟩
  | .hbm, ⟨5, _⟩ => ⟨S2x1024x5632, .bf16⟩
  | .hbm, ⟨6, _⟩ => ⟨S2x1024x4x1408, .bf16⟩
  | .hbm, ⟨7, _⟩ => ⟨S4x2x1024x1408, .bf16⟩
  | .hbm, ⟨8, _⟩ => ⟨S8192x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpDhZeroRefIdeal.lean ====
abbrev S8192x5632 : Shape := ⟨2, ![8192, 5632]⟩
abbrev S2x1024x5632 : Shape := ⟨3, ![2, 1024, 5632]⟩
abbrev S_ : Shape := ⟨0, ![]⟩
abbrev S8192x1024 : Shape := ⟨2, ![8192, 1024]⟩
abbrev S1x1024x5632 : Shape := ⟨3, ![1, 1024, 5632]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2x1024x5632, .f32⟩
  | .hbm, ⟨2, _⟩ => ⟨S_, .f32⟩
  | .hbm, ⟨3, _⟩ => ⟨S8192x1024, .f32⟩
  | .hbm, ⟨4, _⟩ => ⟨S1x1024x5632, .f32⟩
  | .hbm, ⟨5, _⟩ => ⟨S1024x5632, .f32⟩
  | .hbm, ⟨6, _⟩ => ⟨S8192x5632, .f32⟩
  | .hbm, ⟨7, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PwTwo.lean ====
abbrev S8192x1024 : Shape := ⟨2, ![8192, 1024]⟩
abbrev S1x1024x1024 : Shape := ⟨3, ![1, 1024, 1024]⟩
abbrev S1x1024 : Shape := ⟨2, ![1, 1024]⟩
abbrev S1x8192x1024 : Shape := ⟨3, ![1, 8192, 1024]⟩
abbrev S1x1x1024x1024 : Shape := ⟨4, ![1, 1, 1024, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1x1024, .f32⟩
  | .hbm, ⟨3, _⟩ => ⟨S8192x1024, .bf16⟩
  | .hbm, ⟨4, _⟩ => ⟨S1x8192x1024, .bf16⟩
  | .hbm, ⟨5, _⟩ => ⟨S1x1024x1024, .bf16⟩
  | .hbm, ⟨6, _⟩ => ⟨S1x1x1024x1024, .bf16⟩
  | .hbm, ⟨7, _⟩ => ⟨S1x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PwTwoRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1x8192x1024 : Shape := ⟨3, ![1, 8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1x1024, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PwTwoDw.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x8192x1024, .bf16⟩
  | .hbm, ⟨4, _⟩ => ⟨S8192x1024, .bf16⟩
  | .hbm, ⟨5, _⟩ => ⟨S1x8192x1024, .bf16⟩
  | .hbm, ⟨6, _⟩ => ⟨S1x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PwTwoDwRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PwTwoDu.lean ====
abbrev S8192x1024 : Shape := ⟨2, ![8192, 1024]⟩
abbrev S1x1024x1024 : Shape := ⟨3, ![1, 1024, 1024]⟩
abbrev S1x8192x1024 : Shape := ⟨3, ![1, 8192, 1024]⟩
abbrev S1x1x1024x1024 : Shape := ⟨4, ![1, 1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .bf16⟩
  | .hbm, ⟨3, _⟩ => ⟨S1x8192x1024, .bf16⟩
  | .hbm, ⟨4, _⟩ => ⟨S1x1024x1024, .bf16⟩
  | .hbm, ⟨5, _⟩ => ⟨S1x1x1024x1024, .bf16⟩
  | .hbm, ⟨6, _⟩ => ⟨S1x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1024x1024, .f32⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwTwoDuRefIdeal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩
abbrev S1x8192x1024 : Shape := ⟨3, ![1, 8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOut.lean ====
abbrev S8192x512 : Shape := ⟨2, ![8192, 512]⟩
abbrev S1x512x1024 : Shape := ⟨3, ![1, 512, 1024]⟩
abbrev S1x8192x512 : Shape := ⟨3, ![1, 8192, 512]⟩
abbrev S1x1x512x1024 : Shape := ⟨4, ![1, 1, 512, 1024]⟩
abbrev S1x8192x1024 : Shape := ⟨3, ![1, 8192, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1x512x1024, .f32⟩
  | .hbm, ⟨2, _⟩ => ⟨S8192x512, .bf16⟩
  | .hbm, ⟨3, _⟩ => ⟨S1x8192x512, .bf16⟩
  | .hbm, ⟨4, _⟩ => ⟨S1x512x1024, .bf16⟩
  | .hbm, ⟨5, _⟩ => ⟨S1x1x512x1024, .bf16⟩
  | .hbm, ⟨6, _⟩ => ⟨S1x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x512x1024, .bf16⟩
  | .local _ .vmem, ⟨3, _⟩ => ⟨S1x1024x1024, .f32⟩
  | .local _ .vmem, ⟨4, _⟩ => ⟨S1x1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutRefIdeal.lean ====
abbrev S8192x512 : Shape := ⟨2, ![8192, 512]⟩
abbrev S1x512x1024 : Shape := ⟨3, ![1, 512, 1024]⟩
abbrev S512x1024 : Shape := ⟨2, ![512, 1024]⟩
abbrev S8192x1024 : Shape := ⟨2, ![8192, 1024]⟩
abbrev S1x8192x1024 : Shape := ⟨3, ![1, 8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x512x1024, .f32⟩
  | .hbm, ⟨2, _⟩ => ⟨S512x1024, .f32⟩
  | .hbm, ⟨3, _⟩ => ⟨S8192x1024, .f32⟩
  | .hbm, ⟨4, _⟩ => ⟨S1x8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnOutDw.lean ====
abbrev S8192x512 : Shape := ⟨2, ![8192, 512]⟩
abbrev S8192x1024 : Shape := ⟨2, ![8192, 1024]⟩
abbrev S1x8192x512 : Shape := ⟨3, ![1, 8192, 512]⟩
abbrev S1x8192x1024 : Shape := ⟨3, ![1, 8192, 1024]⟩
abbrev S4x512x256 : Shape := ⟨3, ![4, 512, 256]⟩
abbrev S1x1024x512 : Shape := ⟨3, ![1, 1024, 512]⟩
abbrev S1x1024x256 : Shape := ⟨3, ![1, 1024, 256]⟩
abbrev S1x512x256 : Shape := ⟨3, ![1, 512, 256]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S1x8192x512, .bf16⟩
  | .hbm, ⟨4, _⟩ => ⟨S8192x1024, .bf16⟩
  | .hbm, ⟨5, _⟩ => ⟨S1x8192x1024, .bf16⟩
  | .hbm, ⟨6, _⟩ => ⟨S4x512x256, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x512x256, .f32⟩
  | .local _ .vmem, ⟨5, _⟩ => ⟨S1x512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x4x256, .f32⟩
  | .hbm, ⟨8, _⟩ => ⟨S4x512x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutDm.lean ====
abbrev S8192x1024 : Shape := ⟨2, ![8192, 1024]⟩
abbrev S1x512x1024 : Shape := ⟨3, ![1, 512, 1024]⟩
abbrev S1x8192x1024 : Shape := ⟨3, ![1, 8192, 1024]⟩
abbrev S1x512x4x256 : Shape := ⟨4, ![1, 512, 4, 256]⟩
abbrev S4x1x512x256 : Shape := ⟨4, ![4, 1, 512, 256]⟩
abbrev S8192x512 : Shape := ⟨2, ![8192, 512]⟩
abbrev S1x1024x1024 : Shape := ⟨3, ![1, 1024, 1024]⟩
abbrev S1024x512 : Shape := ⟨2, ![1024, 512]⟩
abbrev S1x1024x256 : Shape := ⟨3, ![1, 1024, 256]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 8
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x512x1024, .f32⟩
  | .hbm, ⟨2, _⟩ => ⟨S8192x1024, .bf16⟩
  | .hbm, ⟨3, _⟩ => ⟨S1x8192x1024, .bf16⟩
  | .hbm, ⟨4, _⟩ => ⟨S1x512x1024, .bf16⟩
  | .hbm, ⟨5, _⟩ => ⟨S1x512x4x256, .bf16⟩
  | .hbm, ⟨6, _⟩ => ⟨S4x1x512x256, .bf16⟩
  | .hbm, ⟨7, _⟩ => ⟨S8192x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S4x1x512x256, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOutDmRefIdeal.lean ====
abbrev S8192x1024 : Shape := ⟨2, ![8192, 1024]⟩
abbrev S1x512x1024 : Shape := ⟨3, ![1, 512, 1024]⟩
abbrev S_ : Shape := ⟨0, ![]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x512x1024, .f32⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamQkv.lean ====
abbrev S1x1024x1152 : Shape := ⟨3, ![1, 1024, 1152]⟩
abbrev S1024x1152 : Shape := ⟨2, ![1024, 1152]⟩
abbrev S256x1152 : Shape := ⟨2, ![256, 1152]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1152, .f32⟩
  | .hbm, ⟨1, _⟩ => ⟨S1024x1152, .f32⟩
  | .hbm, ⟨2, _⟩ => ⟨S1x1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamQkvIdeal.lean ====
abbrev S1x1024x1152 : Shape := ⟨3, ![1, 1024, 1152]⟩
abbrev S1024x1152 : Shape := ⟨2, ![1024, 1152]⟩
abbrev S256x1152 : Shape := ⟨2, ![256, 1152]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1152, .f32⟩
  | .hbm, ⟨1, _⟩ => ⟨S1024x1152, .f32⟩
  | .hbm, ⟨2, _⟩ => ⟨S1x1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamQkvRefIdeal.lean ====
abbrev S1x1024x1152 : Shape := ⟨3, ![1, 1024, 1152]⟩
abbrev S1024x1152 : Shape := ⟨2, ![1024, 1152]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1152, .f32⟩
  | .hbm, ⟨1, _⟩ => ⟨S1024x1152, .f32⟩
  | .hbm, ⟨2, _⟩ => ⟨S1x1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S_, .f32⟩
  | .hbm, ⟨11, _⟩ => ⟨S1024x1152, .f32⟩
  | .hbm, ⟨12, _⟩ => ⟨S1024x1152, .f32⟩
  | .hbm, ⟨13, _⟩ => ⟨S1024x1152, .f32⟩
  | .hbm, ⟨14, _⟩ => ⟨S_, .f32⟩
  | .hbm, ⟨15, _⟩ => ⟨S1024x1152, .f32⟩
  | .hbm, ⟨16, _⟩ => ⟨S1024x1152, .f32⟩
  | .hbm, ⟨17, _⟩ => ⟨S1024x1152, .f32⟩
  | .hbm, ⟨18, _⟩ => ⟨S_, .f32⟩
  | .hbm, ⟨19, _⟩ => ⟨S1024x1152, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S_, .f32⟩
  | .hbm, ⟨26, _⟩ => ⟨S1024x1152, .f32⟩
  | .hbm, ⟨27, _⟩ => ⟨S1024x1152, .f32⟩
  | .hbm, ⟨28, _⟩ => ⟨S1024x1152, .f32⟩
  | .hbm, ⟨29, _⟩ => ⟨S_, .f32⟩
  | .hbm, ⟨30, _⟩ => ⟨S1024x1152, .f32⟩
  | .hbm, ⟨31, _⟩ => ⟨S1024x1152, .f32⟩
  | .hbm, ⟨32, _⟩ => ⟨S1024x1152, .f32⟩
  | .hbm, ⟨33, _⟩ => ⟨S_, .f32⟩
  | .hbm, ⟨34, _⟩ => ⟨S1024x1152, .f32⟩
  | .hbm, ⟨35, _⟩ => ⟨S1024x1152, .f32⟩
  | .hbm, ⟨36, _⟩ => ⟨S1024x1152, .f32⟩
  | .hbm, ⟨37, _⟩ => ⟨S_, .f32⟩
  | .hbm, ⟨38, _⟩ => ⟨S1024x1152, .f32⟩
  | .hbm, ⟨39, _⟩ => ⟨S1024x1152, .f32⟩
  | _, _ => ⟨S1x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S1x512x256 : Shape := ⟨3, ![1, 512, 256]⟩
abbrev S512x256 : Shape := ⟨2, ![512, 256]⟩

abbrev nBuf : Space → Nat
  | .hbm => 10
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamOutIdeal.lean ====
abbrev S1x512x256 : Shape := ⟨3, ![1, 512, 256]⟩
abbrev S512x256 : Shape := ⟨2, ![512, 256]⟩

abbrev nBuf : Space → Nat
  | .hbm => 10
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamOutRefIdeal.lean ====
abbrev S1x512x256 : Shape := ⟨3, ![1, 512, 256]⟩
abbrev S512x256 : Shape := ⟨2, ![512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPwOne.lean ====
abbrev S1x1024x512 : Shape := ⟨3, ![1, 1024, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamPwOneIdeal.lean ====
abbrev S1x1024x512 : Shape := ⟨3, ![1, 1024, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamPwOneRefIdeal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPwTwo.lean ====
abbrev S1x256x1024 : Shape := ⟨3, ![1, 256, 1024]⟩
abbrev S256x1024 : Shape := ⟨2, ![256, 1024]⟩

abbrev nBuf : Space → Nat
  | .hbm => 10
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamPwTwoIdeal.lean ====
abbrev S1x256x1024 : Shape := ⟨3, ![1, 256, 1024]⟩
abbrev S256x1024 : Shape := ⟨2, ![256, 1024]⟩

abbrev nBuf : Space → Nat
  | .hbm => 10
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamPwTwoRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 10
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2048x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 10
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2048x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpRefIdeal.lean ====
abbrev S2x1024x1408 : Shape := ⟨3, ![2, 1024, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2048x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S1408x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownRefIdeal.lean ====
abbrev S2x704x1024 : Shape := ⟨3, ![2, 704, 1024]⟩
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S1408x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Sums.lean ====
/- Sums of a product's parts: a grid that adds one block of rows after the other ends with the sum over all rows. -/
module

public import Mathlib.Data.EReal.Operations
public import Mathlib.Algebra.BigOperators.Fin

@[expose] public section

namespace Cert.Sums

/-- What restarts at the multiples of 8 and adds one part at every other point is, at a point that ends a run of 8,
the sum of the run's parts. -/
theorem of_steps {N : ℕ} {ι : Type*} (f : (n : ℕ) → n < N → ι → EReal) (M : (n : ℕ) → n < N → ι → EReal)
    (h0 : ∀ n h i, n % 8 = 0 → f n h i = M n h i)
    (hs : ∀ n (h : n + 1 < N) i, ¬(n + 1) % 8 = 0 → f (n + 1) h i = f n (Nat.lt_of_succ_lt h) i + M (n + 1) h i)
    (q : ℕ) (h : 8 * q + 7 < N) (i : ι) : f (8 * q + 7) h i = ∑ l : Fin 8, M (8 * q + l) (by omega) i := by
  rw [Fin.sum_univ_eight, hs (8 * q + 6) h i (by omega), hs (8 * q + 5) _ i (by omega), hs (8 * q + 4) _ i (by omega),
    hs (8 * q + 3) _ i (by omega), hs (8 * q + 2) _ i (by omega), hs (8 * q + 1) _ i (by omega), hs (8 * q) _ i (by omega),
    h0 (8 * q) _ i (by omega)]
  rfl

/-- What starts at the first point and adds one part at every later one is, at every point, the sum of the parts so far. -/
theorem of_start {N : ℕ} {ι : Type*} (f : (n : ℕ) → n < N → ι → EReal) (M : (n : ℕ) → n < N → ι → EReal)
    (h0 : ∀ h i, f 0 h i = M 0 h i)
    (hs : ∀ n (h : n + 1 < N) i, f (n + 1) h i = f n (Nat.lt_of_succ_lt h) i + M (n + 1) h i)
    (n : ℕ) (h : n < N) (i : ι) : f n h i = ∑ l : Fin (n + 1), M l (by omega) i := by
  induction n with
  | zero => rw [h0]; simp
  | succ n ih => rw [hs, ih]; exact (Fin.sum_univ_castSucc fun l : Fin (n + 2) => M l (by omega) i).symm

/-- A sum over a product of two ranges, the second the faster, is the sum over the whole range. -/
theorem blocks (a b n : ℕ) (hn : a * b = n) (g : Fin n → EReal) :
    ∑ l : Fin a, ∑ k : Fin b, g ⟨(l : ℕ) * b + k, by
      have := Nat.mul_le_mul_right b (Nat.succ_le_of_lt l.isLt); have := k.isLt; rw [Nat.succ_mul] at *; omega⟩ = ∑ s, g s := by
  subst hn
  rw [← Finset.sum_product', ← finProdFinEquiv.sum_comp]
  refine Finset.sum_congr rfl fun x _ => congrArg g (Fin.ext ?_)
  show (x.1 : ℕ) * b + x.2 = x.2 + b * x.1
  rw [Nat.mul_comm, Nat.add_comm]

/-- Both together: where the part of a run's point `l` is the sum over the rows `1024 * l + k`, the run ends with the sum
over all rows. -/
theorem of_run {N : ℕ} {ι : Type*} (f : (n : ℕ) → n < N → ι → EReal) (M : (n : ℕ) → n < N → ι → EReal)
    (h0 : ∀ n h i, n % 8 = 0 → f n h i = M n h i)
    (hs : ∀ n (h : n + 1 < N) i, ¬(n + 1) % 8 = 0 → f (n + 1) h i = f n (Nat.lt_of_succ_lt h) i + M (n + 1) h i)
    (q n : ℕ) (e : n = 8 * q + 7) (h : n < N) (i : ι) (g : Fin 8192 → EReal)
    (hM : ∀ (l : Fin 8) (hl : 8 * q + l < N), M (8 * q + l) hl i = ∑ k : Fin 1024, g ⟨(l : ℕ) * 1024 + k, by omega⟩) :
    f n h i = ∑ s, g s := by
  subst e
  exact (of_steps f M h0 hs q h i).trans ((Finset.sum_congr rfl fun l _ => hM l _).trans (blocks 8 1024 8192 rfl g))

end Cert.Sums
-- ==== Proof.UpDw.lean ====
/- The gradient of the weights of the feed-forward block's first product. -/
module

public import proofs.«01_k».proof.Proof.Sums
public import proofs.«01_k».proof.Proof.Gen.UpDwIdeal.Value
public import proofs.«01_k».proof.Proof.Gen.UpDwRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.UpDwIdeal.Val

open Cert.UpDwIdeal Cert.UpDwIdeal.Gen Idealize.ShloMosaic Idealize.ShloMosaic.TcCoe Idealize.SL.Sem

theorem idx : ∀ t : Fin cfg0.N, win0_0.index t = ![0, t.val % 8, 0] ∧ win0_1.index t = ![t.val / 8, t.val % 8, 0]
    ∧ win0_2.index t = ![t.val / 8, 0, 0] :=
  (by decide +kernel : ∀ t : Fin grid0.N, _)

theorem points (t : Fin cfg0.N) : t.val < 32 := t.isLt

/-- One point's part of the product. -/
theorem pay1_at (x : Vec Ideal S1x1024x1024 .bf16) (y : Vec Ideal S1x1024x1408 .bf16) (i : Fin 1024) (j : Fin 1408) :
    k0_pay1 (F := Ideal) x y (ix2 i j) = ∑ k : Fin 1024, x (ix3 0 k i) * y (ix3 0 k j) := by
  pointwise [k0_pay1]

theorem pay2_at (x : Vec Ideal S1x1024x1024 .bf16) (y : Vec Ideal S1x1024x1408 .bf16) (i : Fin 1024) (j : Fin 1408) :
    k0_pay2 (F := Ideal) x y (ix3 0 i j) = k0_pay1 (F := Ideal) x y (ix2 i j) := by
  pointwise [k0_pay2]

theorem pay3_at (x : Vec Ideal S1x1024x1024 .bf16) (y : Vec Ideal S1x1024x1408 .bf16) (a : Vec Ideal S1x1024x1408 .f32)
    (i : Fin 1024) (j : Fin 1408) :
    k0_pay3 (F := Ideal) x y a (ix3 0 i j) = a (ix3 0 i j) + k0_pay1 (F := Ideal) x y (ix2 i j) := by
  pointwise [k0_pay3]

variable (m : (ℓ : Loc nD τ sig) → Buf (Elt Ideal) ℓ) (c : Dev nD)

abbrev X0 : FVec Ideal S8192x1024 .f32 := m ((c : Thread nD τ).loc main_arg0)
abbrev X1 : FVec Ideal S8192x5632 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V4 : V m c main_v4 = transpose S4x8192x1408 [1, 0, 2] (shapeCast S8192x4x1408
    (truncf .bf16 (X1 m c) bitsLt_bf16_f32) shapeCasts_S8192x5632_S8192x4x1408) transposes_S8192x4x1408_S4x8192x1408_1_0_2 := by
  unfold V; simp only [List.flatten_cons, List.flatten_nil, List.append_nil, List.cons_append, List.nil_append]; after_reads_simp; rfl

theorem V1_at (s : Fin 8192) (i : Fin 1024) : V m c main_v1 (ix3 0 s i) = X0 m c (ix2 s i) := by
  rw [V1]; pointwise

theorem V4_at (p : Fin 4) (s : Fin 8192) (j : Fin 1408) : V m c main_v4 (ix3 p s j) = X1 m c (ix2 s ⟨(p : ℕ) * 1408 + j, by omega⟩) := by
  rw [V4]; pointwise

section Geometry
variable {m c} (t : Fin cfg0.N)
theorem geo0 (A : FVec Ideal S1x8192x1024 .bf16) (k : Fin 1024) (i : Fin 1024) :
    ((cfg0.win 0).blk t).view.read (Elt Ideal) A (ix3 0 k i) = A (ix3 0 ⟨t.val % 8 * 1024 + k, by omega⟩ i) := by
  have ht := points t
  blk_ext [idx t]
theorem geo1 (A : FVec Ideal S4x8192x1408 .bf16) (k : Fin 1024) (j : Fin 1408) :
    ((cfg0.win 1).blk t).view.read (Elt Ideal) A (ix3 0 k j) =
      A (ix3 ⟨t.val / 8, by have := points t; omega⟩ ⟨t.val % 8 * 1024 + k, by omega⟩ j) := by
  have ht := points t
  blk_ext [idx t]
end Geometry

theorem outs_A (t : Fin cfg0.N) (h0 : t.val % 8 = 0) :
    outsAt0 m c t.val t.isLt = k0_pay2 (F := Ideal) (iblk m c 0 t) (iblk m c 1 t) := by
  rw [outsAt0_A m c t h0 (by omega)]
  frame_out

theorem outs_B (t : Fin cfg0.N) (h0 : ¬t.val % 8 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 (by omega)]
  frame_out

/-- The result, one device's piece after the other. -/
def dw (p : Fin 4) (i : Fin 1024) (j : Fin 1408) : EReal :=
  ∑ s : Fin 8192, X0 m c (ix2 s i) * X1 m c (ix2 s ⟨(p : ℕ) * 1408 + j, by omega⟩)

/-- What a point adds. -/
theorem part_at (n : ℕ) (h : n < cfg0.N) (l : Fin 8) (q : Fin 4) (e : n = 8 * (q : ℕ) + l) (i : Fin 1024) (j : Fin 1408) :
    k0_pay1 (F := Ideal) (iblk m c 0 ⟨n, h⟩) (iblk m c 1 ⟨n, h⟩) (ix2 i j) = ∑ k : Fin 1024,
      X0 m c (ix2 ⟨(l : ℕ) * 1024 + k, by omega⟩ i) * X1 m c (ix2 ⟨(l : ℕ) * 1024 + k, by omega⟩ ⟨(q : ℕ) * 1408 + j, by omega⟩) := by
  have hl := l.isLt
  obtain rfl : l = ⟨n % 8, Nat.mod_lt _ (by decide)⟩ := Fin.ext (by dsimp only; omega)
  obtain rfl : q = ⟨n / 8, Nat.div_lt_of_lt_mul (show n < 8 * 4 from h)⟩ := Fin.ext (by dsimp only at e ⊢; omega)
  rw [pay1_at]
  exact Finset.sum_congr rfl fun k _ => congrArg₂ (· * ·)
    ((geo0 ⟨n, h⟩ (V m c main_v1) k i).trans (V1_at m c _ i)) ((geo1 ⟨n, h⟩ (V m c main_v4) k j).trans (V4_at m c _ _ j))

/-- What the last point of a run leaves. -/
theorem outs_at (q : Fin 4) (n : ℕ) (e : n = 8 * (q : ℕ) + 7) (h : n < cfg0.N) (i : Fin 1024) (j : Fin 1408) :
    outsAt0 m c n h (ix3 0 i j) = dw m c q i j :=
  Sums.of_run (N := cfg0.N) (fun n h (x : Fin 1024 × Fin 1408) => outsAt0 m c n h (ix3 0 x.1 x.2))
    (fun n h x => k0_pay1 (F := Ideal) (iblk m c 0 ⟨n, h⟩) (iblk m c 1 ⟨n, h⟩) (ix2 x.1 x.2))
    (fun n h x e => (congrFun (outs_A m c ⟨n, h⟩ e) _).trans (pay2_at _ _ _ _))
    (fun n h x e => (congrFun (outs_B m c ⟨n + 1, h⟩ e) _).trans (pay3_at _ _ _ _ _)) q n e h (i, j)
    (fun s => X0 m c (ix2 s i) * X1 m c (ix2 s ⟨(q : ℕ) * 1408 + j, by omega⟩))
    fun l hl => part_at m c _ hl l q rfl i j

theorem ref_at (x0 : FVec Ideal S8192x1024 .f32) (x1 : FVec Ideal S8192x5632 .f32) (p : Fin 4) (i : Fin 1024) (j : Fin 1408) :
    Cert.UpDwRefIdeal.Read.val_main_v5 (F := Ideal) x0 x1 (ix3 p i j) =
      ∑ s : Fin 8192, x0 (ix2 s i) * x1 (ix2 s ⟨(p : ℕ) * 1408 + j, by omega⟩) := by
  pointwise [Cert.UpDwRefIdeal.Read.val_main_v5, Cert.UpDwRefIdeal.Read.val_main_v4, Cert.UpDwRefIdeal.Read.val_main_v3,
    Cert.UpDwRefIdeal.Read.val_main_v2]
  exact Finset.sum_congr rfl fun s _ => mul_comm _ _

theorem ref_of {x : S4x1024x1408.Idx} {p : Fin 4} {i : Fin 1024} {j : Fin 1408} (e : x = ix3 p i j) :
    Cert.UpDwRefIdeal.Read.val_main_v5 (F := Ideal) (X0 m c) (X1 m c) x = dw m c p i j := by
  subst e
  exact ref_at _ _ p i j

theorem final : (dats m 0 c).arrAt 2 cfg0.N = Cert.UpDwRefIdeal.Read.val_main_v5 (F := Ideal) (X0 m c) (X1 m c) := by
  refine (dats m 0 c).arrAt_eq_of_covers 2 _ (by decide +kernel) fun t ht y => ?_
  have h7 := (flush0_2 t).mp ht
  blk_simp
  rw [after0_2]
  have hq : t.val / 8 < 4 := by have := points t; omega
  obtain ⟨i, j, rfl⟩ : ∃ (i : Fin 1024) (j : Fin 1408), y = (ix3 (0 : Fin 1) i j : S1x1024x1408.Idx) :=
    ⟨y 1, y 2, by funext a; fin_cases a; exacts [Subsingleton.elim (α := Fin 1) _ _, rfl, rfl]⟩
  have e : (win0_2.blk t).view.emb (ix3 (0 : Fin 1) i j) = (ix3 (⟨t.val / 8, hq⟩ : Fin 4) i j : S4x1024x1408.Idx) := by
    blk_ext [idx t]
  exact (outs_at m c ⟨t.val / 8, hq⟩ _ (by dsimp only; omega) _ i j).trans (ref_of m c e).symm

end Cert.UpDwIdeal.Val

namespace Cert.Proof

open Idealize.ShloMosaic Idealize.SL.Sem

theorem frame_UpDwRefIdeal : Cert.quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The gradient of the weights: the call's result is the reference's. -/
theorem alg_UpDw : Cert.algebraic_UpDwIdeal_UpDwRefIdeal (hUpDwIdeal := Cert.UpDwIdeal.Gen.facts)
    (hUpDwRefIdeal := Cert.UpDwRefIdeal.Gen.facts) := by
  intro m g m' g' _ same
  refine ⟨fun c => Cert.UpDwRefIdeal.Read.val_main_v5 (F := Ideal) (Cert.UpDwIdeal.Val.X0 m c) (Cert.UpDwIdeal.Val.X1 m c),
    (θ_run _ _ _).mono (fun r h c => ⟨(h c).1.trans (Cert.UpDwIdeal.Val.final m c), (h c).2⟩) (Cert.UpDwIdeal.Value.run_blocks m g),
    (θ_run _ _ _).mono (fun r h c => ⟨((h c).1.trans (Cert.UpDwRefIdeal.Read.val_main_v5_eq _ _)).trans
      (congrArg₂ (Cert.UpDwRefIdeal.Read.val_main_v5 (F := Ideal)) (same c).1 (same c).2), (h c).2⟩) (Cert.UpDwRefIdeal.Value.run m' g')⟩

end Cert.Proof
-- ==== Proof.UpDh.lean ====
/- The gradient of the feed-forward block's first product by its rows. -/
module

public import proofs.«01_k».proof.Proof.Sums
public import proofs.«01_k».proof.Proof.Gen.UpDhIdeal.Value
public import proofs.«01_k».proof.Proof.Gen.UpDhRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.UpDhIdeal.Val

open Cert.UpDhIdeal Cert.UpDhIdeal.Gen Idealize.ShloMosaic Idealize.ShloMosaic.TcCoe Idealize.SL.Sem

theorem idx : ∀ t : Fin cfg0.N, win0_0.index t = ![0, t.val, 0] ∧ win0_1.index t = ![0, 1, 0, 0] ∧ win0_2.index t = ![t.val, 0] :=
  (by decide +kernel : ∀ t : Fin grid0.N, _)

theorem points (t : Fin cfg0.N) : t.val < 16 := t.isLt

variable (m : (ℓ : Loc nD τ sig) → Buf (Elt Ideal) ℓ) (c : Dev nD)

abbrev X0 : FVec Ideal S8192x5632 .f32 := m ((c : Thread nD τ).loc main_arg0)
abbrev X1 : FVec Ideal S2x1024x5632 .f32 := m ((c : Thread nD τ).loc main_arg1)

theorem V2 : V m c main_v2 = transpose S4x8192x1408 [1, 0, 2] (shapeCast S8192x4x1408
    (truncf .bf16 (X0 m c) bitsLt_bf16_f32) shapeCasts_S8192x5632_S8192x4x1408) transposes_S8192x4x1408_S4x8192x1408_1_0_2 := by
  unfold V; simp only [List.flatten_cons, List.flatten_nil, List.append_nil, List.cons_append, List.nil_append]; after_reads_simp; rfl

theorem V5 : V m c main_v5 = transpose S4x2x1024x1408 [2, 0, 1, 3] (shapeCast S2x1024x4x1408
    (truncf .bf16 (X1 m c) bitsLt_bf16_f32) shapeCasts_S2x1024x5632_S2x1024x4x1408)
    transposes_S2x1024x4x1408_S4x2x1024x1408_2_0_1_3 := by
  unfold V; simp only [List.flatten_cons, List.flatten_nil, List.append_nil, List.cons_append, List.nil_append]; after_reads_simp; rfl

theorem V2_at (p : Fin 4) (s : Fin 8192) (k : Fin 1408) : V m c main_v2 (ix3 p s k) = X0 m c (ix2 s ⟨(p : ℕ) * 1408 + k, by omega⟩) := by
  rw [V2]; pointwise

theorem V5_at (p : Fin 4) (a : Fin 2) (j : Fin 1024) (k : Fin 1408) :
    V m c main_v5 (ix4 p a j k) = X1 m c (ix3 a j ⟨(p : ℕ) * 1408 + k, by omega⟩) := by
  rw [V5]; pointwise

section Geometry
variable {m c} (t : Fin cfg0.N)
theorem geo0 (A : FVec Ideal S4x8192x1408 .bf16) (p : Fin 4) (i : Fin 512) (k : Fin 1408) :
    ((cfg0.win 0).blk t).view.read (Elt Ideal) A (ix3 p i k) = A (ix3 p ⟨t.val * 512 + i, by have := points t; omega⟩ k) := by
  have ht := points t
  blk_ext [idx t]
theorem geo1 (A : FVec Ideal S4x2x1024x1408 .bf16) (p : Fin 4) (j : Fin 1024) (k : Fin 1408) :
    ((cfg0.win 1).blk t).view.read (Elt Ideal) A (ix4 p 0 j k) = A (ix4 p 1 j k) := by
  have ht := points t
  blk_ext [idx t]
end Geometry

/-- The four pieces' products, added one after the other. -/
theorem pay1_at (x : Vec Ideal S4x512x1408 .bf16) (y : Vec Ideal S4x1x1024x1408 .bf16) (i : Fin 512) (j : Fin 1024) :
    out0_2 (F := Ideal) x y (ix2 i j) = ∑ p : Fin 4, ∑ k : Fin 1408, x (ix3 p i k) * y (ix4 p 0 j k) := by
  have e : out0_2 (F := Ideal) x y = k0_pay1 (F := Ideal) (View.ld x r0_0) (View.ld y r0_1) (View.ld x r0_2) (View.ld y r0_3)
      (View.ld x r0_4) (View.ld y r0_5) (View.ld x r0_6) (View.ld y r0_7) := by
    frame_out
  refine (congrFun e _).trans ?_
  rw [Fin.sum_univ_four]
  pointwise [k0_pay1]

/-- What a point writes. -/
theorem out_at (t : Fin cfg0.N) (i : Fin 512) (j : Fin 1024) :
    out0_2 (F := Ideal) (iblk m c 0 t) (iblk m c 1 t) (ix2 i j) = ∑ k : Fin 5632,
      X0 m c (ix2 ⟨t.val * 512 + i, by have := points t; omega⟩ k) * X1 m c (ix3 1 j k) := by
  rw [pay1_at]
  refine Eq.trans ?_ (Sums.blocks 4 1408 5632 rfl _)
  exact Finset.sum_congr rfl fun p _ => Finset.sum_congr rfl fun k _ => congrArg₂ (· * ·)
    ((geo0 t (V m c main_v2) p i k).trans (V2_at m c p _ k)) ((geo1 t (V m c main_v5) p j k).trans (V5_at m c p 1 j k))

theorem ref_at (x0 : FVec Ideal S8192x5632 .f32) (x1 : FVec Ideal S2x1024x5632 .f32) (s : Fin 8192) (j : Fin 1024) :
    Cert.UpDhRefIdeal.Read.val_main_v4 (F := Ideal) x0 x1 (ix2 s j) = ∑ k : Fin 5632, x0 (ix2 s k) * x1 (ix3 1 j k) := by
  pointwise [Cert.UpDhRefIdeal.Read.val_main_v4, Cert.UpDhRefIdeal.Read.val_main_v2, Cert.UpDhRefIdeal.Read.val_main_v1]

theorem ref_of {x : S8192x1024.Idx} {s : Fin 8192} {j : Fin 1024} (e : x = ix2 s j) :
    Cert.UpDhRefIdeal.Read.val_main_v4 (F := Ideal) (X0 m c) (X1 m c) x = ∑ k : Fin 5632, X0 m c (ix2 s k) * X1 m c (ix3 1 j k) := by
  subst e
  exact ref_at _ _ s j

theorem final : (dats m 0 c).arrAt 2 cfg0.N = Cert.UpDhRefIdeal.Read.val_main_v4 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 512) (j : Fin 1024), y = (ix2 i j : S512x1024.Idx) :=
    ⟨y 0, y 1, by funext a; fin_cases a <;> rfl⟩
  have e : (win0_2.blk t).view.emb (ix2 i j) = (ix2 (⟨t.val * 512 + i, by omega⟩ : Fin 8192) j : S8192x1024.Idx) := by
    blk_ext [idx t]
  exact (out_at m c t i j).trans (ref_of m c e).symm

end Cert.UpDhIdeal.Val

namespace Cert.Proof

open Idealize.ShloMosaic Idealize.SL.Sem

theorem frame_UpDhRefIdeal : Cert.quiescent_UpDhRefIdeal (hUpDhRefIdeal := Cert.UpDhRefIdeal.Gen.facts) := fun m ρ _ =>
  (θ_run Cert.UpDhRefIdeal.defs _ _).mono (fun r h => ⟨fun c => (h c).2, sem_eq_zero_of_no_sems (by decide) r.2⟩)
    (Cert.UpDhRefIdeal.Value.run (F := Ideal) m ρ)

/-- The gradient of the first product's rows: the call's result is the reference's. -/
theorem alg_UpDh : Cert.algebraic_UpDhIdeal_UpDhRefIdeal (hUpDhIdeal := Cert.UpDhIdeal.Gen.facts)
    (hUpDhRefIdeal := Cert.UpDhRefIdeal.Gen.facts) := by
  intro m g m' g' _ same
  refine ⟨fun c => Cert.UpDhRefIdeal.Read.val_main_v4 (F := Ideal) (Cert.UpDhIdeal.Val.X0 m c) (Cert.UpDhIdeal.Val.X1 m c),
    (θ_run _ _ _).mono (fun r h c => ⟨(h c).1.trans (Cert.UpDhIdeal.Val.final m c), (h c).2⟩) (Cert.UpDhIdeal.Value.run_blocks m g),
    (θ_run _ _ _).mono (fun r h c => ⟨((h c).1.trans (Cert.UpDhRefIdeal.Read.val_main_v4_eq _ _)).trans
      (congrArg₂ (Cert.UpDhRefIdeal.Read.val_main_v4 (F := Ideal)) (same c).1 (same c).2), (h c).2⟩) (Cert.UpDhRefIdeal.Value.run m' g')⟩

end Cert.Proof
-- ==== Proof.DownDw.lean ====
/- The gradient of the weights of the feed-forward block's second product. -/
module

public import proofs.«01_k».proof.Proof.Sums
public import proofs.«01_k».proof.Proof.Gen.DownDwIdeal.Value
public import proofs.«01_k».proof.Proof.Gen.DownDwRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.DownDwIdeal.Val

open Cert.DownDwIdeal Cert.DownDwIdeal.Gen Idealize.ShloMosaic Idealize.ShloMosaic.TcCoe Idealize.SL.Sem

theorem idx : ∀ t : Fin cfg0.N, win0_0.index t = ![t.val / 8, t.val % 8, 0] ∧ win0_1.index t = ![0, t.val % 8, 0]
    ∧ win0_2.index t = ![0, t.val / 8, 0] :=
  (by decide +kernel : ∀ t : Fin grid0.N, _)

theorem points (t : Fin cfg0.N) : t.val < 16 := t.isLt

/-- One point's part of the product. -/
theorem pay1_at (x : Vec Ideal S1x1024x1408 .bf16) (y : Vec Ideal S1x1024x1024 .bf16) (i : Fin 1408) (j : Fin 1024) :
    k0_pay1 (F := Ideal) x y (ix2 i j) = ∑ k : Fin 1024, x (ix3 0 k i) * y (ix3 0 k j) := by
  pointwise [k0_pay1]

theorem pay2_at (x : Vec Ideal S1x1024x1408 .bf16) (y : Vec Ideal S1x1024x1024 .bf16) (i : Fin 1408) (j : Fin 1024) :
    k0_pay2 (F := Ideal) x y (ix3 0 i j) = k0_pay1 (F := Ideal) x y (ix2 i j) := by
  pointwise [k0_pay2]

theorem pay3_at (x : Vec Ideal S1x1024x1408 .bf16) (y : Vec Ideal S1x1024x1024 .bf16) (a : Vec Ideal S1x1408x1024 .f32)
    (i : Fin 1408) (j : Fin 1024) :
    k0_pay3 (F := Ideal) x y a (ix3 0 i j) = a (ix3 0 i j) + k0_pay1 (F := Ideal) x y (ix2 i j) := by
  pointwise [k0_pay3]

variable (m : (ℓ : Loc nD τ sig) → Buf (Elt Ideal) ℓ) (c : Dev nD)

abbrev X0 : FVec Ideal S8192x2816 .f32 := m ((c : Thread nD τ).loc main_arg0)
abbrev X1 : FVec Ideal S8192x1024 .f32 := m ((c : Thread nD τ).loc main_arg1)

theorem V2 : V m c main_v2 = transpose S2x8192x1408 [1, 0, 2] (shapeCast S8192x2x1408
    (truncf .bf16 (X0 m c) bitsLt_bf16_f32) shapeCasts_S8192x2816_S8192x2x1408) transposes_S8192x2x1408_S2x8192x1408_1_0_2 := by
  unfold V; simp only [List.flatten_cons, List.flatten_nil, List.append_nil, List.cons_append, List.nil_append]; after_reads_simp; rfl

theorem V4 : V m c main_v4 = broadcastInDim S1x8192x1024 ![1, 2] bcast_S8192x1024_S1x8192x1024_1_2
    (truncf .bf16 (X1 m c) bitsLt_bf16_f32) := by
  unfold V; simp only [List.flatten_cons, List.flatten_nil, List.append_nil, List.cons_append, List.nil_append]; after_reads_simp

theorem V2_at (p : Fin 2) (s : Fin 8192) (i : Fin 1408) : V m c main_v2 (ix3 p s i) = X0 m c (ix2 s ⟨(p : ℕ) * 1408 + i, by omega⟩) := by
  rw [V2]; pointwise

theorem V4_at (s : Fin 8192) (j : Fin 1024) : V m c main_v4 (ix3 0 s j) = X1 m c (ix2 s j) := by
  rw [V4]; pointwise

section Geometry
variable {m c} (t : Fin cfg0.N)
theorem geo0 (A : FVec Ideal S2x8192x1408 .bf16) (k : Fin 1024) (i : Fin 1408) :
    ((cfg0.win 0).blk t).view.read (Elt Ideal) A (ix3 0 k i) =
      A (ix3 ⟨t.val / 8, by have := points t; omega⟩ ⟨t.val % 8 * 1024 + k, by omega⟩ i) := by
  have ht := points t
  blk_ext [idx t]
theorem geo1 (A : FVec Ideal S1x8192x1024 .bf16) (k : Fin 1024) (j : Fin 1024) :
    ((cfg0.win 1).blk t).view.read (Elt Ideal) A (ix3 0 k j) = A (ix3 0 ⟨t.val % 8 * 1024 + k, by omega⟩ j) := by
  have ht := points t
  blk_ext [idx t]
end Geometry

theorem outs_A (t : Fin cfg0.N) (h0 : t.val % 8 = 0) :
    outsAt0 m c t.val t.isLt = k0_pay2 (F := Ideal) (iblk m c 0 t) (iblk m c 1 t) := by
  rw [outsAt0_A m c t h0 (by omega)]
  frame_out

theorem outs_B (t : Fin cfg0.N) (h0 : ¬t.val % 8 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 (by omega)]
  frame_out

/-- What a point adds: the points of the first half of the grid make the first half of the rows. -/
theorem part_at (n : ℕ) (h : n < cfg0.N) (l : Fin 8) (q : Fin 2) (e : n = 8 * (q : ℕ) + l) (i : Fin 1408) (j : Fin 1024) :
    k0_pay1 (F := Ideal) (iblk m c 0 ⟨n, h⟩) (iblk m c 1 ⟨n, h⟩) (ix2 i j) = ∑ k : Fin 1024,
      X0 m c (ix2 ⟨(l : ℕ) * 1024 + k, by omega⟩ ⟨(q : ℕ) * 1408 + i, by omega⟩) * X1 m c (ix2 ⟨(l : ℕ) * 1024 + k, by omega⟩ j) := by
  have hl := l.isLt
  obtain rfl : l = ⟨n % 8, Nat.mod_lt _ (by decide)⟩ := Fin.ext (by dsimp only; omega)
  obtain rfl : q = ⟨n / 8, Nat.div_lt_of_lt_mul (show n < 8 * 2 from h)⟩ := Fin.ext (by dsimp only at e ⊢; omega)
  rw [pay1_at]
  exact Finset.sum_congr rfl fun k _ => congrArg₂ (· * ·)
    ((geo0 ⟨n, h⟩ (V m c main_v2) k i).trans (V2_at m c _ _ i)) ((geo1 ⟨n, h⟩ (V m c main_v4) k j).trans (V4_at m c _ j))

/-- What the last point of a run leaves. -/
theorem outs_at (q : Fin 2) (n : ℕ) (e : n = 8 * (q : ℕ) + 7) (h : n < cfg0.N) (i : Fin 1408) (j : Fin 1024) :
    outsAt0 m c n h (ix3 0 i j) = ∑ s : Fin 8192, X0 m c (ix2 s ⟨(q : ℕ) * 1408 + i, by omega⟩) * X1 m c (ix2 s j) :=
  Sums.of_run (N := cfg0.N) (fun n h (x : Fin 1408 × Fin 1024) => outsAt0 m c n h (ix3 0 x.1 x.2))
    (fun n h x => k0_pay1 (F := Ideal) (iblk m c 0 ⟨n, h⟩) (iblk m c 1 ⟨n, h⟩) (ix2 x.1 x.2))
    (fun n h x e => (congrFun (outs_A m c ⟨n, h⟩ e) _).trans (pay2_at _ _ _ _))
    (fun n h x e => (congrFun (outs_B m c ⟨n + 1, h⟩ e) _).trans (pay3_at _ _ _ _ _)) q n e h (i, j)
    (fun s => X0 m c (ix2 s ⟨(q : ℕ) * 1408 + i, by omega⟩) * X1 m c (ix2 s j))
    fun l hl => part_at m c _ hl l q rfl i j

theorem ref_at (x0 : FVec Ideal S8192x2816 .f32) (x1 : FVec Ideal S8192x1024 .f32) (i : Fin 2816) (j : Fin 1024) :
    Cert.DownDwRefIdeal.Read.val_main_v4 (F := Ideal) x0 x1 (ix3 0 i j) = ∑ s : Fin 8192, x0 (ix2 s i) * x1 (ix2 s j) := by
  pointwise [Cert.DownDwRefIdeal.Read.val_main_v4, Cert.DownDwRefIdeal.Read.val_main_v3, Cert.DownDwRefIdeal.Read.val_main_v2]
  exact Finset.sum_congr rfl fun s _ => mul_comm _ _

theorem ref_of {x : S1x2816x1024.Idx} {i : Fin 2816} {j : Fin 1024} (e : x = ix3 0 i j) :
    Cert.DownDwRefIdeal.Read.val_main_v4 (F := Ideal) (X0 m c) (X1 m c) x = ∑ s : Fin 8192, X0 m c (ix2 s i) * X1 m c (ix2 s j) := by
  subst e
  exact ref_at _ _ i j

theorem final : (dats m 0 c).arrAt 2 cfg0.N = Cert.DownDwRefIdeal.Read.val_main_v4 (F := Ideal) (X0 m c) (X1 m c) := by
  refine (dats m 0 c).arrAt_eq_of_covers 2 _ (by decide +kernel) fun t ht y => ?_
  have h7 := (flush0_2 t).mp ht
  blk_simp
  rw [after0_2]
  have hq : t.val / 8 < 2 := by have := points t; omega
  obtain ⟨i, j, rfl⟩ : ∃ (i : Fin 1408) (j : Fin 1024), y = (ix3 (0 : Fin 1) i j : S1x1408x1024.Idx) :=
    ⟨y 1, y 2, by funext a; fin_cases a; exacts [Subsingleton.elim (α := Fin 1) _ _, rfl, rfl]⟩
  have e : (win0_2.blk t).view.emb (ix3 (0 : Fin 1) i j) =
      (ix3 (0 : Fin 1) (⟨t.val / 8 * 1408 + i, by omega⟩ : Fin 2816) j : S1x2816x1024.Idx) := by
    blk_ext [idx t]
  exact (outs_at m c ⟨t.val / 8, hq⟩ _ (by dsimp only; omega) _ i j).trans (ref_of m c e).symm

end Cert.DownDwIdeal.Val

namespace Cert.Proof

open Idealize.ShloMosaic Idealize.SL.Sem

theorem frame_DownDwRefIdeal : Cert.quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The gradient of the weights of the second product: the call's result is the reference's. -/
theorem alg_DownDw : Cert.algebraic_DownDwIdeal_DownDwRefIdeal (hDownDwIdeal := Cert.DownDwIdeal.Gen.facts)
    (hDownDwRefIdeal := Cert.DownDwRefIdeal.Gen.facts) := by
  intro m g m' g' _ same
  refine ⟨fun c => Cert.DownDwRefIdeal.Read.val_main_v4 (F := Ideal) (Cert.DownDwIdeal.Val.X0 m c) (Cert.DownDwIdeal.Val.X1 m c),
    (θ_run _ _ _).mono (fun r h c => ⟨(h c).1.trans (Cert.DownDwIdeal.Val.final m c), (h c).2⟩) (Cert.DownDwIdeal.Value.run_blocks m g),
    (θ_run _ _ _).mono (fun r h c => ⟨((h c).1.trans (Cert.DownDwRefIdeal.Read.val_main_v4_eq _ _)).trans
      (congrArg₂ (Cert.DownDwRefIdeal.Read.val_main_v4 (F := Ideal)) (same c).1 (same c).2), (h c).2⟩) (Cert.DownDwRefIdeal.Value.run m' g')⟩

end Cert.Proof
-- ==== Proof.DownDa.lean ====
/- The gradient of the feed-forward block's second product by its rows. -/
module

public import proofs.«01_k».proof.Proof.Sums
public import proofs.«01_k».proof.Proof.Gen.DownDaIdeal.Value
public import proofs.«01_k».proof.Proof.Gen.DownDaRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.DownDaIdeal.Val

open Cert.DownDaIdeal Cert.DownDaIdeal.Gen Idealize.ShloMosaic Idealize.ShloMosaic.TcCoe Idealize.SL.Sem

theorem idx : ∀ t : Fin cfg0.N, win0_0.index t = ![0, t.val % 8, 0] ∧ win0_1.index t = ![0, 0, t.val / 8, 0]
    ∧ win0_2.index t = ![t.val / 8, t.val % 8, 0] :=
  (by decide +kernel : ∀ t : Fin grid0.N, _)

theorem points (t : Fin cfg0.N) : t.val < 16 := t.isLt

/-- One block of the product. -/
theorem pay1_at (x : Vec Ideal S1x1024x1024 .bf16) (y : Vec Ideal S1x1x1408x1024 .bf16) (i : Fin 1024) (j : Fin 1408) :
    k0_pay1 (F := Ideal) x y (ix3 0 i j) = ∑ k : Fin 1024, x (ix3 0 i k) * y (ix4 0 0 j k) := by
  pointwise [k0_pay1]

variable (m : (ℓ : Loc nD τ sig) → Buf (Elt Ideal) ℓ) (c : Dev nD)

abbrev X0 : FVec Ideal S8192x1024 .f32 := m ((c : Thread nD τ).loc main_arg0)
abbrev X1 : FVec Ideal S2816x1024 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V3 : V m c main_v3 = broadcastInDim S1x1x2816x1024 ![2, 3] bcast_S2816x1024_S1x1x2816x1024_2_3
    (truncf .bf16 (X1 m c) bitsLt_bf16_f32) := by
  unfold V; simp only [List.flatten_cons, List.flatten_nil, List.append_nil, List.cons_append, List.nil_append]; after_reads_simp

theorem V1_at (s : Fin 8192) (k : Fin 1024) : V m c main_v1 (ix3 0 s k) = X0 m c (ix2 s k) := by
  rw [V1]; pointwise

theorem V3_at (j : Fin 2816) (k : Fin 1024) : V m c main_v3 (ix4 0 0 j k) = X1 m c (ix2 j k) := by
  rw [V3]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val % 8 * 1024 + i, by omega⟩ k) := by
  have ht := points t
  blk_ext [idx t]
theorem geo1 (A : FVec Ideal S1x1x2816x1024 .bf16) (j : Fin 1408) (k : Fin 1024) :
    ((cfg0.win 1).blk t).view.read (Elt Ideal) A (ix4 0 0 j k) =
      A (ix4 0 0 ⟨t.val / 8 * 1408 + j, by have := points t; omega⟩ k) := by
  have ht := points t
  blk_ext [idx t]
end Geometry

/-- What a point writes. -/
theorem out_at (t : Fin cfg0.N) (i : Fin 1024) (j : Fin 1408) :
    out0_2 (F := Ideal) (iblk m c 0 t) (iblk m c 1 t) (ix3 0 i j) = ∑ k : Fin 1024,
      X0 m c (ix2 ⟨t.val % 8 * 1024 + i, by omega⟩ k) * X1 m c (ix2 ⟨t.val / 8 * 1408 + j, by have := points t; omega⟩ k) := by
  have e : out0_2 (F := Ideal) (iblk m c 0 t) (iblk m c 1 t) = k0_pay1 (F := Ideal) (iblk m c 0 t) (iblk m c 1 t) := by
    frame_out
  refine (congrFun e _).trans ?_
  rw [pay1_at]
  exact Finset.sum_congr rfl fun k _ => congrArg₂ (· * ·)
    ((geo0 t (V m c main_v1) i k).trans (V1_at m c _ k)) ((geo1 t (V m c main_v3) j k).trans (V3_at m c _ k))

theorem ref_at (x0 : FVec Ideal S8192x1024 .f32) (x1 : FVec Ideal S2816x1024 .f32) (p : Fin 2) (s : Fin 8192) (j : Fin 1408) :
    Cert.DownDaRefIdeal.Read.val_main_v5 (F := Ideal) x0 x1 (ix3 p s j) =
      ∑ k : Fin 1024, x0 (ix2 s k) * x1 (ix2 ⟨(p : ℕ) * 1408 + j, by omega⟩ k) := by
  pointwise [Cert.DownDaRefIdeal.Read.val_main_v5, Cert.DownDaRefIdeal.Read.val_main_v4, Cert.DownDaRefIdeal.Read.val_main_v3,
    Cert.DownDaRefIdeal.Read.val_main_v2]

theorem ref_of {x : S2x8192x1408.Idx} {p : Fin 2} {s : Fin 8192} {j : Fin 1408} (e : x = ix3 p s j) :
    Cert.DownDaRefIdeal.Read.val_main_v5 (F := Ideal) (X0 m c) (X1 m c) x =
      ∑ k : Fin 1024, X0 m c (ix2 s k) * X1 m c (ix2 ⟨(p : ℕ) * 1408 + j, by omega⟩ k) := by
  subst e
  exact ref_at _ _ p s j

theorem final : (dats m 0 c).arrAt 2 cfg0.N = Cert.DownDaRefIdeal.Read.val_main_v5 (F := Ideal) (X0 m c) (X1 m c) := by
  refine (dats m 0 c).arrAt_eq_of_covers 2 _ (by decide +kernel) fun t ht y => ?_
  blk_simp
  rw [after0_2]
  have hq : t.val / 8 < 2 := by have := points t; omega
  obtain ⟨i, j, rfl⟩ : ∃ (i : Fin 1024) (j : Fin 1408), y = (ix3 (0 : Fin 1) i j : S1x1024x1408.Idx) :=
    ⟨y 1, y 2, by funext a; fin_cases a; exacts [Subsingleton.elim (α := Fin 1) _ _, rfl, rfl]⟩
  have e : (win0_2.blk t).view.emb (ix3 (0 : Fin 1) i j) =
      (ix3 (⟨t.val / 8, hq⟩ : Fin 2) (⟨t.val % 8 * 1024 + i, by omega⟩ : Fin 8192) j : S2x8192x1408.Idx) := by
    blk_ext [idx t]
  exact (out_at m c t i j).trans (ref_of m c e).symm

end Cert.DownDaIdeal.Val

namespace Cert.Proof

open Idealize.ShloMosaic Idealize.SL.Sem

theorem frame_DownDaRefIdeal : Cert.quiescent_DownDaRefIdeal (hDownDaRefIdeal := Cert.DownDaRefIdeal.Gen.facts) := fun m ρ _ =>
  (θ_run Cert.DownDaRefIdeal.defs _ _).mono (fun r h => ⟨fun c => (h c).2, sem_eq_zero_of_no_sems (by decide) r.2⟩)
    (Cert.DownDaRefIdeal.Value.run (F := Ideal) m ρ)

/-- The gradient of the second product's rows: the call's result is the reference's. -/
theorem alg_DownDa : Cert.algebraic_DownDaIdeal_DownDaRefIdeal (hDownDaIdeal := Cert.DownDaIdeal.Gen.facts)
    (hDownDaRefIdeal := Cert.DownDaRefIdeal.Gen.facts) := by
  intro m g m' g' _ same
  refine ⟨fun c => Cert.DownDaRefIdeal.Read.val_main_v5 (F := Ideal) (Cert.DownDaIdeal.Val.X0 m c) (Cert.DownDaIdeal.Val.X1 m c),
    (θ_run _ _ _).mono (fun r h c => ⟨(h c).1.trans (Cert.DownDaIdeal.Val.final m c), (h c).2⟩) (Cert.DownDaIdeal.Value.run_blocks m g),
    (θ_run _ _ _).mono (fun r h c => ⟨((h c).1.trans (Cert.DownDaRefIdeal.Read.val_main_v5_eq _ _)).trans
      (congrArg₂ (Cert.DownDaRefIdeal.Read.val_main_v5 (F := Ideal)) (same c).1 (same c).2), (h c).2⟩) (Cert.DownDaRefIdeal.Value.run m' g')⟩

end Cert.Proof
-- ==== Proof.QkvDw.lean ====
/- The gradient of the weights of the projection to q, k and v. -/
module

public import proofs.«01_k».proof.Proof.Sums
public import proofs.«01_k».proof.Proof.Gen.QkvDwIdeal.Value
public import proofs.«01_k».proof.Proof.Gen.QkvDwRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.QkvDwIdeal.Val

open Cert.QkvDwIdeal Cert.QkvDwIdeal.Gen Idealize.ShloMosaic Idealize.ShloMosaic.TcCoe Idealize.SL.Sem

theorem idx : ∀ t : Fin cfg0.N, win0_0.index t = ![0, t.val % 8, 0] ∧ win0_1.index t = ![0, t.val % 8, t.val / 8]
    ∧ win0_2.index t = ![t.val / 8, 0, 0] :=
  (by decide +kernel : ∀ t : Fin grid0.N, _)

theorem points (t : Fin cfg0.N) : t.val < 32 := t.isLt

/-- One point's part of the product. -/
theorem pay1_at (x : Vec Ideal S1x1024x1024 .bf16) (y : Vec Ideal S1x1024x1152 .bf16) (i : Fin 1024) (j : Fin 1152) :
    k0_pay1 (F := Ideal) x y (ix2 i j) = ∑ k : Fin 1024, x (ix3 0 k i) * y (ix3 0 k j) := by
  pointwise [k0_pay1]

theorem pay2_at (x : Vec Ideal S1x1024x1024 .bf16) (y : Vec Ideal S1x1024x1152 .bf16) (i : Fin 1024) (j : Fin 1152) :
    k0_pay2 (F := Ideal) x y (ix3 0 i j) = k0_pay1 (F := Ideal) x y (ix2 i j) := by
  pointwise [k0_pay2]

theorem pay3_at (x : Vec Ideal S1x1024x1024 .bf16) (y : Vec Ideal S1x1024x1152 .bf16) (a : Vec Ideal S1x1024x1152 .f32)
    (i : Fin 1024) (j : Fin 1152) :
    k0_pay3 (F := Ideal) x y a (ix3 0 i j) = a (ix3 0 i j) + k0_pay1 (F := Ideal) x y (ix2 i j) := by
  pointwise [k0_pay3]

variable (m : (ℓ : Loc nD τ sig) → Buf (Elt Ideal) ℓ) (c : Dev nD)

abbrev X0 : FVec Ideal S8192x1024 .f32 := m ((c : Thread nD τ).loc main_arg0)
abbrev X1 : FVec Ideal S8192x4608 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V3 : V m c main_v3 = broadcastInDim S1x8192x4608 ![1, 2] bcast_S8192x4608_S1x8192x4608_1_2
    (truncf .bf16 (X1 m c) bitsLt_bf16_f32) := by
  unfold V; simp only [List.flatten_cons, List.flatten_nil, List.append_nil, List.cons_append, List.nil_append]; after_reads_simp

theorem V1_at (s : Fin 8192) (i : Fin 1024) : V m c main_v1 (ix3 0 s i) = X0 m c (ix2 s i) := by
  rw [V1]; pointwise

theorem V3_at (s : Fin 8192) (j : Fin 4608) : V m c main_v3 (ix3 0 s j) = X1 m c (ix2 s j) := by
  rw [V3]; pointwise

section Geometry
variable {m c} (t : Fin cfg0.N)
theorem geo0 (A : FVec Ideal S1x8192x1024 .bf16) (k : Fin 1024) (i : Fin 1024) :
    ((cfg0.win 0).blk t).view.read (Elt Ideal) A (ix3 0 k i) = A (ix3 0 ⟨t.val % 8 * 1024 + k, by omega⟩ i) := by
  have ht := points t
  blk_ext [idx t]
theorem geo1 (A : FVec Ideal S1x8192x4608 .bf16) (k : Fin 1024) (j : Fin 1152) :
    ((cfg0.win 1).blk t).view.read (Elt Ideal) A (ix3 0 k j) =
      A (ix3 0 ⟨t.val % 8 * 1024 + k, by omega⟩ ⟨t.val / 8 * 1152 + j, by have := points t; omega⟩) := by
  have ht := points t
  blk_ext [idx t]
end Geometry

theorem outs_A (t : Fin cfg0.N) (h0 : t.val % 8 = 0) :
    outsAt0 m c t.val t.isLt = k0_pay2 (F := Ideal) (iblk m c 0 t) (iblk m c 1 t) := by
  rw [outsAt0_A m c t h0 (by omega)]
  frame_out

theorem outs_B (t : Fin cfg0.N) (h0 : ¬t.val % 8 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 (by omega)]
  frame_out

/-- What a point adds. -/
theorem part_at (n : ℕ) (h : n < cfg0.N) (l : Fin 8) (q : Fin 4) (e : n = 8 * (q : ℕ) + l) (i : Fin 1024) (j : Fin 1152) :
    k0_pay1 (F := Ideal) (iblk m c 0 ⟨n, h⟩) (iblk m c 1 ⟨n, h⟩) (ix2 i j) = ∑ k : Fin 1024,
      X0 m c (ix2 ⟨(l : ℕ) * 1024 + k, by omega⟩ i) * X1 m c (ix2 ⟨(l : ℕ) * 1024 + k, by omega⟩ ⟨(q : ℕ) * 1152 + j, by omega⟩) := by
  have hl := l.isLt
  obtain rfl : l = ⟨n % 8, Nat.mod_lt _ (by decide)⟩ := Fin.ext (by dsimp only; omega)
  obtain rfl : q = ⟨n / 8, Nat.div_lt_of_lt_mul (show n < 8 * 4 from h)⟩ := Fin.ext (by dsimp only at e ⊢; omega)
  rw [pay1_at]
  exact Finset.sum_congr rfl fun k _ => congrArg₂ (· * ·)
    ((geo0 ⟨n, h⟩ (V m c main_v1) k i).trans (V1_at m c _ i)) ((geo1 ⟨n, h⟩ (V m c main_v3) k j).trans (V3_at m c _ _))

/-- What the last point of a run leaves. -/
theorem outs_at (q : Fin 4) (n : ℕ) (e : n = 8 * (q : ℕ) + 7) (h : n < cfg0.N) (i : Fin 1024) (j : Fin 1152) :
    outsAt0 m c n h (ix3 0 i j) = ∑ s : Fin 8192, X0 m c (ix2 s i) * X1 m c (ix2 s ⟨(q : ℕ) * 1152 + j, by omega⟩) :=
  Sums.of_run (N := cfg0.N) (fun n h (x : Fin 1024 × Fin 1152) => outsAt0 m c n h (ix3 0 x.1 x.2))
    (fun n h x => k0_pay1 (F := Ideal) (iblk m c 0 ⟨n, h⟩) (iblk m c 1 ⟨n, h⟩) (ix2 x.1 x.2))
    (fun n h x e => (congrFun (outs_A m c ⟨n, h⟩ e) _).trans (pay2_at _ _ _ _))
    (fun n h x e => (congrFun (outs_B m c ⟨n + 1, h⟩ e) _).trans (pay3_at _ _ _ _ _)) q n e h (i, j)
    (fun s => X0 m c (ix2 s i) * X1 m c (ix2 s ⟨(q : ℕ) * 1152 + j, by omega⟩))
    fun l hl => part_at m c _ hl l q rfl i j

theorem ref_at (x0 : FVec Ideal S8192x1024 .f32) (x1 : FVec Ideal S8192x4608 .f32) (p : Fin 4) (i : Fin 1024) (j : Fin 1152) :
    Cert.QkvDwRefIdeal.Read.val_main_v5 (F := Ideal) x0 x1 (ix3 p i j) =
      ∑ s : Fin 8192, x0 (ix2 s i) * x1 (ix2 s ⟨(p : ℕ) * 1152 + j, by omega⟩) := by
  pointwise [Cert.QkvDwRefIdeal.Read.val_main_v5, Cert.QkvDwRefIdeal.Read.val_main_v4, Cert.QkvDwRefIdeal.Read.val_main_v3,
    Cert.QkvDwRefIdeal.Read.val_main_v2]
  exact Finset.sum_congr rfl fun s _ => mul_comm _ _

theorem ref_of {x : S4x1024x1152.Idx} {p : Fin 4} {i : Fin 1024} {j : Fin 1152} (e : x = ix3 p i j) :
    Cert.QkvDwRefIdeal.Read.val_main_v5 (F := Ideal) (X0 m c) (X1 m c) x =
      ∑ s : Fin 8192, X0 m c (ix2 s i) * X1 m c (ix2 s ⟨(p : ℕ) * 1152 + j, by omega⟩) := by
  subst e
  exact ref_at _ _ p i j

theorem final : (dats m 0 c).arrAt 2 cfg0.N = Cert.QkvDwRefIdeal.Read.val_main_v5 (F := Ideal) (X0 m c) (X1 m c) := by
  refine (dats m 0 c).arrAt_eq_of_covers 2 _ (by decide +kernel) fun t ht y => ?_
  have h7 := (flush0_2 t).mp ht
  blk_simp
  rw [after0_2]
  have hq : t.val / 8 < 4 := by have := points t; omega
  obtain ⟨i, j, rfl⟩ : ∃ (i : Fin 1024) (j : Fin 1152), y = (ix3 (0 : Fin 1) i j : S1x1024x1152.Idx) :=
    ⟨y 1, y 2, by funext a; fin_cases a; exacts [Subsingleton.elim (α := Fin 1) _ _, rfl, rfl]⟩
  have e : (win0_2.blk t).view.emb (ix3 (0 : Fin 1) i j) = (ix3 (⟨t.val / 8, hq⟩ : Fin 4) i j : S4x1024x1152.Idx) := by
    blk_ext [idx t]
  exact (outs_at m c ⟨t.val / 8, hq⟩ _ (by dsimp only; omega) _ i j).trans (ref_of m c e).symm

end Cert.QkvDwIdeal.Val

namespace Cert.Proof

open Idealize.ShloMosaic Idealize.SL.Sem

theorem frame_QkvDwRefIdeal : Cert.quiescent_QkvDwRefIdeal (hQkvDwRefIdeal := Cert.QkvDwRefIdeal.Gen.facts) := fun m ρ _ =>
  (θ_run Cert.QkvDwRefIdeal.defs _ _).mono (fun r h => ⟨fun c => (h c).2, sem_eq_zero_of_no_sems (by decide) r.2⟩)
    (Cert.QkvDwRefIdeal.Value.run (F := Ideal) m ρ)

/-- The gradient of the projection's weights: the call's result is the reference's. -/
theorem alg_QkvDw : Cert.algebraic_QkvDwIdeal_QkvDwRefIdeal (hQkvDwIdeal := Cert.QkvDwIdeal.Gen.facts)
    (hQkvDwRefIdeal := Cert.QkvDwRefIdeal.Gen.facts) := by
  intro m g m' g' _ same
  refine ⟨fun c => Cert.QkvDwRefIdeal.Read.val_main_v5 (F := Ideal) (Cert.QkvDwIdeal.Val.X0 m c) (Cert.QkvDwIdeal.Val.X1 m c),
    (θ_run _ _ _).mono (fun r h c => ⟨(h c).1.trans (Cert.QkvDwIdeal.Val.final m c), (h c).2⟩) (Cert.QkvDwIdeal.Value.run_blocks m g),
    (θ_run _ _ _).mono (fun r h c => ⟨((h c).1.trans (Cert.QkvDwRefIdeal.Read.val_main_v5_eq _ _)).trans
      (congrArg₂ (Cert.QkvDwRefIdeal.Read.val_main_v5 (F := Ideal)) (same c).1 (same c).2), (h c).2⟩) (Cert.QkvDwRefIdeal.Value.run m' g')⟩

end Cert.Proof
-- ==== Proof.QkvDh.lean ====
/- The gradient of the projection to q, k and v by its rows. -/
module

public import proofs.«01_k».proof.Proof.Sums
public import proofs.«01_k».proof.Proof.Gen.QkvDhIdeal.Value
public import proofs.«01_k».proof.Proof.Gen.QkvDhRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.QkvDhIdeal.Val

open Cert.QkvDhIdeal Cert.QkvDhIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![t.val, 0] :=
  (by decide +kernel : ∀ t : Fin grid0.N, _)

theorem points (t : Fin cfg0.N) : t.val < 16 := t.isLt

variable (m : (ℓ : Loc nD τ sig) → Buf (Elt Ideal) ℓ) (c : Dev nD)

abbrev X0 : FVec Ideal S8192x4608 .f32 := m ((c : Thread nD τ).loc main_arg0)
abbrev X1 : FVec Ideal S1x1024x4608 .f32 := m ((c : Thread nD τ).loc main_arg1)

theorem V1 : V m c main_v1 = broadcastInDim S1x8192x4608 ![1, 2] bcast_S8192x4608_S1x8192x4608_1_2
    (truncf .bf16 (X0 m c) bitsLt_bf16_f32) := by
  unfold V; simp only [List.flatten_cons, List.flatten_nil, List.append_nil, List.cons_append, List.nil_append]; after_reads_simp

theorem V4 : V m c main_v4 = transpose S4x1x1024x1152 [2, 0, 1, 3] (shapeCast S1x1024x4x1152
    (truncf .bf16 (X1 m c) bitsLt_bf16_f32) shapeCasts_S1x1024x4608_S1x1024x4x1152)
    transposes_S1x1024x4x1152_S4x1x1024x1152_2_0_1_3 := by
  unfold V; simp only [List.flatten_cons, List.flatten_nil, List.append_nil, List.cons_append, List.nil_append]; after_reads_simp; rfl

theorem V1_at (s : Fin 8192) (k : Fin 4608) : V m c main_v1 (ix3 0 s k) = X0 m c (ix2 s k) := by
  rw [V1]; pointwise

theorem V4_at (p : Fin 4) (j : Fin 1024) (k : Fin 1152) :
    V m c main_v4 (ix4 p 0 j k) = X1 m c (ix3 0 j ⟨(p : ℕ) * 1152 + k, by omega⟩) := by
  rw [V4]; pointwise

section Geometry
variable {m c} (t : Fin cfg0.N)
theorem geo0 (A : FVec Ideal S1x8192x4608 .bf16) (i : Fin 512) (k : Fin 4608) :
    ((cfg0.win 0).blk t).view.read (Elt Ideal) A (ix3 0 i k) = A (ix3 0 ⟨t.val * 512 + i, by have := points t; omega⟩ k) := by
  have ht := points t
  blk_ext [idx t]
theorem geo1 (A : FVec Ideal S4x1x1024x1152 .bf16) (p : Fin 4) (j : Fin 1024) (k : Fin 1152) :
    ((cfg0.win 1).blk t).view.read (Elt Ideal) A (ix4 p 0 j k) = A (ix4 p 0 j k) := by
  have ht := points t
  blk_ext [idx t]
end Geometry

/-- The four pieces' products, added one after the other. -/
theorem pay1_at (x : Vec Ideal S1x512x4608 .bf16) (y : Vec Ideal S4x1x1024x1152 .bf16) (i : Fin 512) (j : Fin 1024) :
    out0_2 (F := Ideal) x y (ix2 i j) =
      ∑ p : Fin 4, ∑ k : Fin 1152, x (ix3 0 i ⟨(p : ℕ) * 1152 + k, by omega⟩) * y (ix4 p 0 j k) := by
  have e : out0_2 (F := Ideal) x y = k0_pay1 (F := Ideal) (View.ld x r0_0) (View.ld y r0_1) (View.ld x r0_2) (View.ld y r0_3)
      (View.ld x r0_4) (View.ld y r0_5) (View.ld x r0_6) (View.ld y r0_7) := by
    frame_out
  refine (congrFun e _).trans ?_
  rw [Fin.sum_univ_four]
  pointwise [k0_pay1]

/-- What a point writes. -/
theorem out_at (t : Fin cfg0.N) (i : Fin 512) (j : Fin 1024) :
    out0_2 (F := Ideal) (iblk m c 0 t) (iblk m c 1 t) (ix2 i j) = ∑ k : Fin 4608,
      X0 m c (ix2 ⟨t.val * 512 + i, by have := points t; omega⟩ k) * X1 m c (ix3 0 j k) := by
  rw [pay1_at]
  refine Eq.trans ?_ (Sums.blocks 4 1152 4608 rfl _)
  exact Finset.sum_congr rfl fun p _ => Finset.sum_congr rfl fun k _ => congrArg₂ (· * ·)
    ((geo0 t (V m c main_v1) i _).trans (V1_at m c _ _)) ((geo1 t (V m c main_v4) p j k).trans (V4_at m c p j k))

theorem ref_at (x0 : FVec Ideal S8192x4608 .f32) (x1 : FVec Ideal S1x1024x4608 .f32) (s : Fin 8192) (j : Fin 1024) :
    Cert.QkvDhRefIdeal.Read.val_main_v3 (F := Ideal) x0 x1 (ix2 s j) = ∑ k : Fin 4608, x0 (ix2 s k) * x1 (ix3 0 j k) := by
  pointwise [Cert.QkvDhRefIdeal.Read.val_main_v3, Cert.QkvDhRefIdeal.Read.val_main_v1]

theorem ref_of {x : S8192x1024.Idx} {s : Fin 8192} {j : Fin 1024} (e : x = ix2 s j) :
    Cert.QkvDhRefIdeal.Read.val_main_v3 (F := Ideal) (X0 m c) (X1 m c) x = ∑ k : Fin 4608, X0 m c (ix2 s k) * X1 m c (ix3 0 j k) := by
  subst e
  exact ref_at _ _ s j

theorem final : (dats m 0 c).arrAt 2 cfg0.N = Cert.QkvDhRefIdeal.Read.val_main_v3 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 512) (j : Fin 1024), y = (ix2 i j : S512x1024.Idx) :=
    ⟨y 0, y 1, by funext a; fin_cases a <;> rfl⟩
  have e : (win0_2.blk t).view.emb (ix2 i j) = (ix2 (⟨t.val * 512 + i, by omega⟩ : Fin 8192) j : S8192x1024.Idx) := by
    blk_ext [idx t]
  exact (out_at m c t i j).trans (ref_of m c e).symm

end Cert.QkvDhIdeal.Val

namespace Cert.Proof

open Idealize.ShloMosaic Idealize.SL.Sem

theorem frame_QkvDhRefIdeal : Cert.quiescent_QkvDhRefIdeal (hQkvDhRefIdeal := Cert.QkvDhRefIdeal.Gen.facts) := fun m ρ _ =>
  (θ_run Cert.QkvDhRefIdeal.defs _ _).mono (fun r h => ⟨fun c => (h c).2, sem_eq_zero_of_no_sems (by decide) r.2⟩)
    (Cert.QkvDhRefIdeal.Value.run (F := Ideal) m ρ)

/-- The gradient of the projection's rows: the call's result is the reference's. -/
theorem alg_QkvDh : Cert.algebraic_QkvDhIdeal_QkvDhRefIdeal (hQkvDhIdeal := Cert.QkvDhIdeal.Gen.facts)
    (hQkvDhRefIdeal := Cert.QkvDhRefIdeal.Gen.facts) := by
  intro m g m' g' _ same
  refine ⟨fun c => Cert.QkvDhRefIdeal.Read.val_main_v3 (F := Ideal) (Cert.QkvDhIdeal.Val.X0 m c) (Cert.QkvDhIdeal.Val.X1 m c),
    (θ_run _ _ _).mono (fun r h c => ⟨(h c).1.trans (Cert.QkvDhIdeal.Val.final m c), (h c).2⟩) (Cert.QkvDhIdeal.Value.run_blocks m g),
    (θ_run _ _ _).mono (fun r h c => ⟨((h c).1.trans (Cert.QkvDhRefIdeal.Read.val_main_v3_eq _ _)).trans
      (congrArg₂ (Cert.QkvDhRefIdeal.Read.val_main_v3 (F := Ideal)) (same c).1 (same c).2), (h c).2⟩) (Cert.QkvDhRefIdeal.Value.run m' g')⟩

end Cert.Proof
-- ==== Proof.Up.lean ====
/- The feed-forward block's first product. -/
module

public import proofs.«01_k».proof.Proof.Sums
public import proofs.«01_k».proof.Proof.Gen.UpIdeal.Value
public import proofs.«01_k».proof.Proof.Gen.UpRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.UpIdeal.Val

open Cert.UpIdeal Cert.UpIdeal.Gen Idealize.ShloMosaic Idealize.ShloMosaic.TcCoe Idealize.SL.Sem

theorem idx : ∀ t : Fin cfg0.N, win0_0.index t = ![0, t.val % 8, 0] ∧ win0_1.index t = ![t.val / 8, 1, 0, 0]
    ∧ win0_2.index t = ![t.val / 8, t.val % 8, 0] :=
  (by decide +kernel : ∀ t : Fin grid0.N, _)

theorem points (t : Fin cfg0.N) : t.val < 32 := t.isLt

/-- One block of the product. -/
theorem pay1_at (x : Vec Ideal S1x1024x1024 .bf16) (y : Vec Ideal S1x1x1024x1408 .bf16) (i : Fin 1024) (j : Fin 1408) :
    k0_pay1 (F := Ideal) x y (ix3 0 i j) = ∑ k : Fin 1024, x (ix3 0 i k) * y (ix4 0 0 k j) := by
  pointwise [k0_pay1]

variable (m : (ℓ : Loc nD τ sig) → Buf (Elt Ideal) ℓ) (c : Dev nD)

abbrev X0 : FVec Ideal S8192x1024 .f32 := m ((c : Thread nD τ).loc main_arg0)
abbrev X1 : FVec Ideal S2x1024x5632 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V4 : V m c main_v4 = transpose S4x2x1024x1408 [2, 0, 1, 3] (shapeCast S2x1024x4x1408
    (truncf .bf16 (X1 m c) bitsLt_bf16_f32) shapeCasts_S2x1024x5632_S2x1024x4x1408)
    transposes_S2x1024x4x1408_S4x2x1024x1408_2_0_1_3 := by
  unfold V; simp only [List.flatten_cons, List.flatten_nil, List.append_nil, List.cons_append, List.nil_append]; after_reads_simp; rfl

theorem V1_at (s : Fin 8192) (k : Fin 1024) : V m c main_v1 (ix3 0 s k) = X0 m c (ix2 s k) := by
  rw [V1]; pointwise

theorem V4_at (p : Fin 4) (a : Fin 2) (k : Fin 1024) (j : Fin 1408) :
    V m c main_v4 (ix4 p a k j) = X1 m c (ix3 a k ⟨(p : ℕ) * 1408 + j, by omega⟩) := by
  rw [V4]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val % 8 * 1024 + i, by omega⟩ k) := by
  have ht := points t
  blk_ext [idx t]
theorem geo1 (A : FVec Ideal S4x2x1024x1408 .bf16) (k : Fin 1024) (j : Fin 1408) :
    ((cfg0.win 1).blk t).view.read (Elt Ideal) A (ix4 0 0 k j) = A (ix4 ⟨t.val / 8, by have := points t; omega⟩ 1 k j) := by
  have ht := points t
  blk_ext [idx t]
end Geometry

/-- What a point writes. -/
theorem out_at (t : Fin cfg0.N) (i : Fin 1024) (j : Fin 1408) :
    out0_2 (F := Ideal) (iblk m c 0 t) (iblk m c 1 t) (ix3 0 i j) = ∑ k : Fin 1024,
      X0 m c (ix2 ⟨t.val % 8 * 1024 + i, by omega⟩ k) * X1 m c (ix3 1 k ⟨t.val / 8 * 1408 + j, by have := points t; omega⟩) := by
  have e : out0_2 (F := Ideal) (iblk m c 0 t) (iblk m c 1 t) = k0_pay1 (F := Ideal) (iblk m c 0 t) (iblk m c 1 t) := by
    frame_out
  refine (congrFun e _).trans ?_
  rw [pay1_at]
  exact Finset.sum_congr rfl fun k _ => congrArg₂ (· * ·)
    ((geo0 t (V m c main_v1) i k).trans (V1_at m c _ k)) ((geo1 t (V m c main_v4) k j).trans (V4_at m c _ 1 k j))

theorem ref_at (x0 : FVec Ideal S8192x1024 .f32) (x1 : FVec Ideal S2x1024x5632 .f32) (p : Fin 4) (s : Fin 8192) (j : Fin 1408) :
    Cert.UpRefIdeal.Read.val_main_v5 (F := Ideal) x0 x1 (ix3 p s j) =
      ∑ k : Fin 1024, x0 (ix2 s k) * x1 (ix3 1 k ⟨(p : ℕ) * 1408 + j, by omega⟩) := by
  pointwise [Cert.UpRefIdeal.Read.val_main_v5, Cert.UpRefIdeal.Read.val_main_v4, Cert.UpRefIdeal.Read.val_main_v3,
    Cert.UpRefIdeal.Read.val_main_v2, Cert.UpRefIdeal.Read.val_main_v1, Cert.UpRefIdeal.Read.val_main_v0]

theorem ref_of {x : S4x8192x1408.Idx} {p : Fin 4} {s : Fin 8192} {j : Fin 1408} (e : x = ix3 p s j) :
    Cert.UpRefIdeal.Read.val_main_v5 (F := Ideal) (X0 m c) (X1 m c) x =
      ∑ k : Fin 1024, X0 m c (ix2 s k) * X1 m c (ix3 1 k ⟨(p : ℕ) * 1408 + j, by omega⟩) := by
  subst e
  exact ref_at _ _ p s j

theorem final : (dats m 0 c).arrAt 2 cfg0.N = Cert.UpRefIdeal.Read.val_main_v5 (F := Ideal) (X0 m c) (X1 m c) := by
  refine (dats m 0 c).arrAt_eq_of_covers 2 _ (by decide +kernel) fun t ht y => ?_
  blk_simp
  rw [after0_2]
  have hq : t.val / 8 < 4 := by have := points t; omega
  obtain ⟨i, j, rfl⟩ : ∃ (i : Fin 1024) (j : Fin 1408), y = (ix3 (0 : Fin 1) i j : S1x1024x1408.Idx) :=
    ⟨y 1, y 2, by funext a; fin_cases a; exacts [Subsingleton.elim (α := Fin 1) _ _, rfl, rfl]⟩
  have e : (win0_2.blk t).view.emb (ix3 (0 : Fin 1) i j) =
      (ix3 (⟨t.val / 8, hq⟩ : Fin 4) (⟨t.val % 8 * 1024 + i, by omega⟩ : Fin 8192) j : S4x8192x1408.Idx) := by
    blk_ext [idx t]
  exact (out_at m c t i j).trans (ref_of m c e).symm

end Cert.UpIdeal.Val

namespace Cert.Proof

open Idealize.ShloMosaic Idealize.SL.Sem

theorem frame_UpRefIdeal : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run (F := Ideal) m ρ)

/-- The first product: the call's result is the reference's. -/
theorem alg_Up : Cert.algebraic_UpIdeal_UpRefIdeal (hUpIdeal := Cert.UpIdeal.Gen.facts)
    (hUpRefIdeal := Cert.UpRefIdeal.Gen.facts) := by
  intro m g m' g' _ same
  refine ⟨fun c => Cert.UpRefIdeal.Read.val_main_v5 (F := Ideal) (Cert.UpIdeal.Val.X0 m c) (Cert.UpIdeal.Val.X1 m c),
    (θ_run _ _ _).mono (fun r h c => ⟨(h c).1.trans (Cert.UpIdeal.Val.final m c), (h c).2⟩) (Cert.UpIdeal.Value.run_blocks m g),
    (θ_run _ _ _).mono (fun r h c => ⟨((h c).1.trans (Cert.UpRefIdeal.Read.val_main_v5_eq _ _)).trans
      (congrArg₂ (Cert.UpRefIdeal.Read.val_main_v5 (F := Ideal)) (same c).1 (same c).2), (h c).2⟩) (Cert.UpRefIdeal.Value.run m' g')⟩

end Cert.Proof
-- ==== Proof.Down.lean ====
/- The feed-forward block's second product. -/
module

public import proofs.«01_k».proof.Proof.Sums
public import proofs.«01_k».proof.Proof.Gen.DownIdeal.Value
public import proofs.«01_k».proof.Proof.Gen.DownRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.DownIdeal.Val

open Cert.DownIdeal Cert.DownIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![0, t.val, 0] :=
  (by decide +kernel : ∀ t : Fin grid0.N, _)

theorem points (t : Fin cfg0.N) : t.val < 8 := t.isLt

variable (m : (ℓ : Loc nD τ sig) → Buf (Elt Ideal) ℓ) (c : Dev nD)

abbrev X0 : FVec Ideal S8192x2816 .f32 := m ((c : Thread nD τ).loc main_arg0)
abbrev X1 : FVec Ideal S2816x1024 .f32 := m ((c : Thread nD τ).loc main_arg1)

theorem V2 : V m c main_v2 = transpose S2x8192x1408 [1, 0, 2] (shapeCast S8192x2x1408
    (truncf .bf16 (X0 m c) bitsLt_bf16_f32) shapeCasts_S8192x2816_S8192x2x1408) transposes_S8192x2x1408_S2x8192x1408_1_0_2 := by
  unfold V; simp only [List.flatten_cons, List.flatten_nil, List.append_nil, List.cons_append, List.nil_append]; after_reads_simp; rfl

theorem V4 : V m c main_v4 = broadcastInDim S1x1x2816x1024 ![2, 3] bcast_S2816x1024_S1x1x2816x1024_2_3
    (truncf .bf16 (X1 m c) bitsLt_bf16_f32) := by
  unfold V; simp only [List.flatten_cons, List.flatten_nil, List.append_nil, List.cons_append, List.nil_append]; after_reads_simp

theorem V2_at (p : Fin 2) (s : Fin 8192) (k : Fin 1408) : V m c main_v2 (ix3 p s k) = X0 m c (ix2 s ⟨(p : ℕ) * 1408 + k, by omega⟩) := by
  rw [V2]; pointwise

theorem V4_at (k : Fin 2816) (j : Fin 1024) : V m c main_v4 (ix4 0 0 k j) = X1 m c (ix2 k j) := by
  rw [V4]; pointwise

section Geometry
variable {m c} (t : Fin cfg0.N)
theorem geo0 (A : FVec Ideal S2x8192x1408 .bf16) (p : Fin 2) (i : Fin 1024) (k : Fin 1408) :
    ((cfg0.win 0).blk t).view.read (Elt Ideal) A (ix3 p i k) = A (ix3 p ⟨t.val * 1024 + i, by have := points t; omega⟩ k) := by
  have ht := points t
  blk_ext [idx t]
theorem geo1 (A : FVec Ideal S1x1x2816x1024 .bf16) (k : Fin 2816) (j : Fin 1024) :
    ((cfg0.win 1).blk t).view.read (Elt Ideal) A (ix4 0 0 k j) = A (ix4 0 0 k j) := by
  have ht := points t
  blk_ext [idx t]
end Geometry

/-- The two halves' products, added. -/
theorem pay1_at (x : Vec Ideal S2x1024x1408 .bf16) (y : Vec Ideal S1x1x2816x1024 .bf16) (i : Fin 1024) (j : Fin 1024) :
    out0_2 (F := Ideal) x y (ix3 0 i j) =
      ∑ p : Fin 2, ∑ k : Fin 1408, x (ix3 p i k) * y (ix4 0 0 ⟨(p : ℕ) * 1408 + k, by omega⟩ j) := by
  have e : out0_2 (F := Ideal) x y = k0_pay1 (F := Ideal) (View.ld x r0_0) (View.ld y r0_1) (View.ld x r0_2) (View.ld y r0_3) := by
    frame_out
  refine (congrFun e _).trans ?_
  rw [Fin.sum_univ_two]
  pointwise [k0_pay1]

/-- What a point writes. -/
theorem out_at (t : Fin cfg0.N) (i : Fin 1024) (j : Fin 1024) :
    out0_2 (F := Ideal) (iblk m c 0 t) (iblk m c 1 t) (ix3 0 i j) = ∑ k : Fin 2816,
      X0 m c (ix2 ⟨t.val * 1024 + i, by have := points t; omega⟩ k) * X1 m c (ix2 k j) := by
  rw [pay1_at]
  refine Eq.trans ?_ (Sums.blocks 2 1408 2816 rfl _)
  exact Finset.sum_congr rfl fun p _ => Finset.sum_congr rfl fun k _ => congrArg₂ (· * ·)
    ((geo0 t (V m c main_v2) p i k).trans (V2_at m c p _ k)) ((geo1 t (V m c main_v4) _ j).trans (V4_at m c _ j))

theorem ref_at (x0 : FVec Ideal S8192x2816 .f32) (x1 : FVec Ideal S2816x1024 .f32) (s : Fin 8192) (j : Fin 1024) :
    Cert.DownRefIdeal.Read.val_main_v1 (F := Ideal) x0 x1 (ix3 0 s j) = ∑ k : Fin 2816, x0 (ix2 s k) * x1 (ix2 k j) := by
  pointwise [Cert.DownRefIdeal.Read.val_main_v1, Cert.DownRefIdeal.Read.val_main_v0]

theorem ref_of {x : S1x8192x1024.Idx} {s : Fin 8192} {j : Fin 1024} (e : x = ix3 0 s j) :
    Cert.DownRefIdeal.Read.val_main_v1 (F := Ideal) (X0 m c) (X1 m c) x = ∑ k : Fin 2816, X0 m c (ix2 s k) * X1 m c (ix2 k j) := by
  subst e
  exact ref_at _ _ s j

theorem final : (dats m 0 c).arrAt 2 cfg0.N = Cert.DownRefIdeal.Read.val_main_v1 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 1024) (j : Fin 1024), y = (ix3 (0 : Fin 1) i j : S1x1024x1024.Idx) :=
    ⟨y 1, y 2, by funext a; fin_cases a; exacts [Subsingleton.elim (α := Fin 1) _ _, rfl, rfl]⟩
  have e : (win0_2.blk t).view.emb (ix3 (0 : Fin 1) i j) =
      (ix3 (0 : Fin 1) (⟨t.val * 1024 + i, by omega⟩ : Fin 8192) j : S1x8192x1024.Idx) := by
    blk_ext [idx t]
  exact (out_at m c t i j).trans (ref_of m c e).symm

end Cert.DownIdeal.Val

namespace Cert.Proof

open Idealize.ShloMosaic Idealize.SL.Sem

theorem frame_DownRefIdeal : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

/-- The second product: the call's result is the reference's. -/
theorem alg_Down : Cert.algebraic_DownIdeal_DownRefIdeal (hDownIdeal := Cert.DownIdeal.Gen.facts)
    (hDownRefIdeal := Cert.DownRefIdeal.Gen.facts) := by
  intro m g m' g' _ same
  refine ⟨fun c => Cert.DownRefIdeal.Read.val_main_v1 (F := Ideal) (Cert.DownIdeal.Val.X0 m c) (Cert.DownIdeal.Val.X1 m c),
    (θ_run _ _ _).mono (fun r h c => ⟨(h c).1.trans (Cert.DownIdeal.Val.final m c), (h c).2⟩) (Cert.DownIdeal.Value.run_blocks m g),
    (θ_run _ _ _).mono (fun r h c => ⟨((h c).1.trans (Cert.DownRefIdeal.Read.val_main_v1_eq _ _)).trans
      (congrArg₂ (Cert.DownRefIdeal.Read.val_main_v1 (F := Ideal)) (same c).1 (same c).2), (h c).2⟩) (Cert.DownRefIdeal.Value.run m' g')⟩

end Cert.Proof
-- ==== Proof.PwOne.lean ====
/- The first product of the convolution module, with its bias. -/
module

public import proofs.«01_k».proof.Proof.Sums
public import proofs.«01_k».proof.Proof.Gen.PwOneIdeal.Value
public import proofs.«01_k».proof.Proof.Gen.PwOneRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.PwOneIdeal.Val

open Cert.PwOneIdeal Cert.PwOneIdeal.Gen Idealize.ShloMosaic Idealize.ShloMosaic.TcCoe Idealize.SL.Sem

theorem idx : ∀ t : Fin cfg0.N, win0_0.index t = ![0, t.val % 8, 0] ∧ win0_1.index t = ![t.val / 8, 0, 0, 0]
    ∧ win0_2.index t = ![0, t.val / 8] ∧ win0_3.index t = ![0, t.val % 8, t.val / 8] :=
  (by decide +kernel : ∀ t : Fin grid0.N, _)

theorem points (t : Fin cfg0.N) : t.val < 32 := t.isLt

/-- One block of the product, the bias added. -/
theorem pay1_at (x : Vec Ideal S1x1024x1024 .bf16) (y : Vec Ideal S1x1x1024x512 .bf16) (b : Vec Ideal S1x512 .f32) (i : Fin 1024)
    (j : Fin 512) :
    k0_pay1 (F := Ideal) x y b (ix3 0 i j) = (∑ k : Fin 1024, x (ix3 0 i k) * y (ix4 0 0 k j)) + b (ix2 0 j) := by
  pointwise [k0_pay1]

variable (m : (ℓ : Loc nD τ sig) → Buf (Elt Ideal) ℓ) (c : Dev nD)

abbrev X0 : FVec Ideal S8192x1024 .f32 := m ((c : Thread nD τ).loc main_arg0)
abbrev X1 : FVec Ideal S1x1024x2048 .f32 := m ((c : Thread nD τ).loc main_arg1)
abbrev X2 : FVec Ideal S1x2048 .f32 := m ((c : Thread nD τ).loc main_arg2)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V4 : V m c main_v4 = transpose S4x1x1024x512 [2, 0, 1, 3] (shapeCast S1x1024x4x512
    (truncf .bf16 (X1 m c) bitsLt_bf16_f32) shapeCasts_S1x1024x2048_S1x1024x4x512)
    transposes_S1x1024x4x512_S4x1x1024x512_2_0_1_3 := by
  unfold V; simp only [List.flatten_cons, List.flatten_nil, List.append_nil, List.cons_append, List.nil_append]; after_reads_simp; rfl

theorem V1_at (s : Fin 8192) (k : Fin 1024) : V m c main_v1 (ix3 0 s k) = X0 m c (ix2 s k) := by
  rw [V1]; pointwise

theorem V4_at (p : Fin 4) (k : Fin 1024) (j : Fin 512) :
    V m c main_v4 (ix4 p 0 k j) = X1 m c (ix3 0 k ⟨(p : ℕ) * 512 + j, by omega⟩) := by
  rw [V4]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val % 8 * 1024 + i, by omega⟩ k) := by
  have ht := points t
  blk_ext [idx t]
theorem geo1 (A : FVec Ideal S4x1x1024x512 .bf16) (k : Fin 1024) (j : Fin 512) :
    ((cfg0.win 1).blk t).view.read (Elt Ideal) A (ix4 0 0 k j) = A (ix4 ⟨t.val / 8, by have := points t; omega⟩ 0 k j) := by
  have ht := points t
  blk_ext [idx t]
theorem geo2 (A : FVec Ideal S1x2048 .f32) (j : Fin 512) :
    ((cfg0.win 2).blk t).view.read (Elt Ideal) A (ix2 0 j) = A (ix2 0 ⟨t.val / 8 * 512 + j, by have := points t; omega⟩) := by
  have ht := points t
  blk_ext [idx t]
end Geometry

/-- What a point writes. -/
theorem out_at (t : Fin cfg0.N) (i : Fin 1024) (j : Fin 512) :
    out0_3 (F := Ideal) (iblk m c 0 t) (iblk m c 1 t) (iblk m c 2 t) (ix3 0 i j) = (∑ k : Fin 1024,
      X0 m c (ix2 ⟨t.val % 8 * 1024 + i, by omega⟩ k) * X1 m c (ix3 0 k ⟨t.val / 8 * 512 + j, by have := points t; omega⟩))
      + X2 m c (ix2 0 ⟨t.val / 8 * 512 + j, by have := points t; omega⟩) := by
  have e : out0_3 (F := Ideal) (iblk m c 0 t) (iblk m c 1 t) (iblk m c 2 t) =
      k0_pay1 (F := Ideal) (iblk m c 0 t) (iblk m c 1 t) (iblk m c 2 t) := by
    frame_out
  refine (congrFun e _).trans ?_
  rw [pay1_at]
  refine congrArg₂ (· + ·) (Finset.sum_congr rfl fun k _ => congrArg₂ (· * ·)
    ((geo0 t (V m c main_v1) i k).trans (V1_at m c _ k)) ((geo1 t (V m c main_v4) k j).trans (V4_at m c _ k j))) ?_
  exact (geo2 t (V m c main_arg2) j).trans (congrFun (V_main_arg2 m c) _)

theorem ref_at (x0 : FVec Ideal S8192x1024 .f32) (x1 : FVec Ideal S1x1024x2048 .f32) (x2 : FVec Ideal S1x2048 .f32) (s : Fin 8192)
    (j : Fin 2048) : Cert.PwOneRefIdeal.Read.val_main_v6 (F := Ideal) x0 x1 x2 (ix3 0 s j) =
      (∑ k : Fin 1024, x0 (ix2 s k) * x1 (ix3 0 k j)) + x2 (ix2 0 j) := by
  pointwise [Cert.PwOneRefIdeal.Read.val_main_v6, Cert.PwOneRefIdeal.Read.val_main_v5, Cert.PwOneRefIdeal.Read.val_main_v4,
    Cert.PwOneRefIdeal.Read.val_main_v3, Cert.PwOneRefIdeal.Read.val_main_v2, Cert.PwOneRefIdeal.Read.val_main_v1,
    Cert.PwOneRefIdeal.Read.val_main_v0]

theorem ref_of {x : S1x8192x2048.Idx} {s : Fin 8192} {j : Fin 2048} (e : x = ix3 0 s j) :
    Cert.PwOneRefIdeal.Read.val_main_v6 (F := Ideal) (X0 m c) (X1 m c) (X2 m c) x =
      (∑ k : Fin 1024, X0 m c (ix2 s k) * X1 m c (ix3 0 k j)) + X2 m c (ix2 0 j) := by
  subst e
  exact ref_at _ _ _ s j

theorem final : (dats m 0 c).arrAt 3 cfg0.N = Cert.PwOneRefIdeal.Read.val_main_v6 (F := Ideal) (X0 m c) (X1 m c) (X2 m c) := by
  refine (dats m 0 c).arrAt_eq_of_covers 3 _ (by decide +kernel) fun t ht y => ?_
  blk_simp
  rw [after0_3]
  have hq := points t
  obtain ⟨i, j, rfl⟩ : ∃ (i : Fin 1024) (j : Fin 512), y = (ix3 (0 : Fin 1) i j : S1x1024x512.Idx) :=
    ⟨y 1, y 2, by funext a; fin_cases a; exacts [Subsingleton.elim (α := Fin 1) _ _, rfl, rfl]⟩
  have e : (win0_3.blk t).view.emb (ix3 (0 : Fin 1) i j) =
      (ix3 (0 : Fin 1) (⟨t.val % 8 * 1024 + i, by omega⟩ : Fin 8192) (⟨t.val / 8 * 512 + j, by omega⟩ : Fin 2048) : S1x8192x2048.Idx) := by
    blk_ext [idx t]
  exact (out_at m c t i j).trans (ref_of m c e).symm

end Cert.PwOneIdeal.Val

namespace Cert.Proof

open Idealize.ShloMosaic Idealize.SL.Sem

theorem frame_PwOneRefIdeal : Cert.quiescent_PwOneRefIdeal (hPwOneRefIdeal := Cert.PwOneRefIdeal.Gen.facts) := fun m ρ _ =>
  (θ_run Cert.PwOneRefIdeal.defs _ _).mono (fun r h => ⟨fun c => (h c).2, sem_eq_zero_of_no_sems (by decide) r.2⟩)
    (Cert.PwOneRefIdeal.Value.run (F := Ideal) m ρ)

/-- The product with its bias: the call's result is the reference's. -/
theorem alg_PwOne : Cert.algebraic_PwOneIdeal_PwOneRefIdeal (hPwOneIdeal := Cert.PwOneIdeal.Gen.facts)
    (hPwOneRefIdeal := Cert.PwOneRefIdeal.Gen.facts) := by
  intro m g m' g' _ same
  refine ⟨fun c => Cert.PwOneRefIdeal.Read.val_main_v6 (F := Ideal) (Cert.PwOneIdeal.Val.X0 m c) (Cert.PwOneIdeal.Val.X1 m c)
      (Cert.PwOneIdeal.Val.X2 m c),
    (θ_run _ _ _).mono (fun r h c => ⟨(h c).1.trans (Cert.PwOneIdeal.Val.final m c), (h c).2⟩) (Cert.PwOneIdeal.Value.run_blocks m g),
    (θ_run _ _ _).mono (fun r h c => ⟨((h c).1.trans (Cert.PwOneRefIdeal.Read.val_main_v6_eq _ _ _)).trans
      (congr (congrArg₂ (Cert.PwOneRefIdeal.Read.val_main_v6 (F := Ideal)) (same c).1 (same c).2.1) (same c).2.2), (h c).2⟩)
      (Cert.PwOneRefIdeal.Value.run m' g')⟩

end Cert.Proof
-- ==== Proof.PwOneDw.lean ====
/- The gradient of the weights of the convolution module's first product. -/
module

public import proofs.«01_k».proof.Proof.Sums
public import proofs.«01_k».proof.Proof.Gen.PwOneDwIdeal.Value
public import proofs.«01_k».proof.Proof.Gen.PwOneDwRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.PwOneDwIdeal.Val

open Cert.PwOneDwIdeal Cert.PwOneDwIdeal.Gen Idealize.ShloMosaic Idealize.ShloMosaic.TcCoe Idealize.SL.Sem

theorem idx : ∀ t : Fin cfg0.N, win0_0.index t = ![0, t.val % 8, 0] ∧ win0_1.index t = ![0, t.val % 8, t.val / 8]
    ∧ win0_2.index t = ![t.val / 8, 0, 0] :=
  (by decide +kernel : ∀ t : Fin grid0.N, _)

theorem points (t : Fin cfg0.N) : t.val < 32 := t.isLt

/-- One point's part of the product. -/
theorem pay1_at (x : Vec Ideal S1x1024x1024 .bf16) (y : Vec Ideal S1x1024x512 .bf16) (i : Fin 1024) (j : Fin 512) :
    k0_pay1 (F := Ideal) x y (ix2 i j) = ∑ k : Fin 1024, x (ix3 0 k i) * y (ix3 0 k j) := by
  pointwise [k0_pay1]

theorem pay2_at (x : Vec Ideal S1x1024x1024 .bf16) (y : Vec Ideal S1x1024x512 .bf16) (i : Fin 1024) (j : Fin 512) :
    k0_pay2 (F := Ideal) x y (ix3 0 i j) = k0_pay1 (F := Ideal) x y (ix2 i j) := by
  pointwise [k0_pay2]

theorem pay3_at (x : Vec Ideal S1x1024x1024 .bf16) (y : Vec Ideal S1x1024x512 .bf16) (a : Vec Ideal S1x1024x512 .f32)
    (i : Fin 1024) (j : Fin 512) :
    k0_pay3 (F := Ideal) x y a (ix3 0 i j) = a (ix3 0 i j) + k0_pay1 (F := Ideal) x y (ix2 i j) := by
  pointwise [k0_pay3]

variable (m : (ℓ : Loc nD τ sig) → Buf (Elt Ideal) ℓ) (c : Dev nD)

abbrev X0 : FVec Ideal S8192x1024 .f32 := m ((c : Thread nD τ).loc main_arg0)
abbrev X1 : FVec Ideal S8192x2048 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V3 : V m c main_v3 = broadcastInDim S1x8192x2048 ![1, 2] bcast_S8192x2048_S1x8192x2048_1_2
    (truncf .bf16 (X1 m c) bitsLt_bf16_f32) := by
  unfold V; simp only [List.flatten_cons, List.flatten_nil, List.append_nil, List.cons_append, List.nil_append]; after_reads_simp

theorem V1_at (s : Fin 8192) (i : Fin 1024) : V m c main_v1 (ix3 0 s i) = X0 m c (ix2 s i) := by
  rw [V1]; pointwise

theorem V3_at (s : Fin 8192) (j : Fin 2048) : V m c main_v3 (ix3 0 s j) = X1 m c (ix2 s j) := by
  rw [V3]; pointwise

section Geometry
variable {m c} (t : Fin cfg0.N)
theorem geo0 (A : FVec Ideal S1x8192x1024 .bf16) (k : Fin 1024) (i : Fin 1024) :
    ((cfg0.win 0).blk t).view.read (Elt Ideal) A (ix3 0 k i) = A (ix3 0 ⟨t.val % 8 * 1024 + k, by omega⟩ i) := by
  have ht := points t
  blk_ext [idx t]
theorem geo1 (A : FVec Ideal S1x8192x2048 .bf16) (k : Fin 1024) (j : Fin 512) :
    ((cfg0.win 1).blk t).view.read (Elt Ideal) A (ix3 0 k j) =
      A (ix3 0 ⟨t.val % 8 * 1024 + k, by omega⟩ ⟨t.val / 8 * 512 + j, by have := points t; omega⟩) := by
  have ht := points t
  blk_ext [idx t]
end Geometry

theorem outs_A (t : Fin cfg0.N) (h0 : t.val % 8 = 0) :
    outsAt0 m c t.val t.isLt = k0_pay2 (F := Ideal) (iblk m c 0 t) (iblk m c 1 t) := by
  rw [outsAt0_A m c t h0 (by omega)]
  frame_out

theorem outs_B (t : Fin cfg0.N) (h0 : ¬t.val % 8 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 (by omega)]
  frame_out

/-- What a point adds. -/
theorem part_at (n : ℕ) (h : n < cfg0.N) (l : Fin 8) (q : Fin 4) (e : n = 8 * (q : ℕ) + l) (i : Fin 1024) (j : Fin 512) :
    k0_pay1 (F := Ideal) (iblk m c 0 ⟨n, h⟩) (iblk m c 1 ⟨n, h⟩) (ix2 i j) = ∑ k : Fin 1024,
      X0 m c (ix2 ⟨(l : ℕ) * 1024 + k, by omega⟩ i) * X1 m c (ix2 ⟨(l : ℕ) * 1024 + k, by omega⟩ ⟨(q : ℕ) * 512 + j, by omega⟩) := by
  have hl := l.isLt
  obtain rfl : l = ⟨n % 8, Nat.mod_lt _ (by decide)⟩ := Fin.ext (by dsimp only; omega)
  obtain rfl : q = ⟨n / 8, Nat.div_lt_of_lt_mul (show n < 8 * 4 from h)⟩ := Fin.ext (by dsimp only at e ⊢; omega)
  rw [pay1_at]
  exact Finset.sum_congr rfl fun k _ => congrArg₂ (· * ·)
    ((geo0 ⟨n, h⟩ (V m c main_v1) k i).trans (V1_at m c _ i)) ((geo1 ⟨n, h⟩ (V m c main_v3) k j).trans (V3_at m c _ _))

/-- What the last point of a run leaves. -/
theorem outs_at (q : Fin 4) (n : ℕ) (e : n = 8 * (q : ℕ) + 7) (h : n < cfg0.N) (i : Fin 1024) (j : Fin 512) :
    outsAt0 m c n h (ix3 0 i j) = ∑ s : Fin 8192, X0 m c (ix2 s i) * X1 m c (ix2 s ⟨(q : ℕ) * 512 + j, by omega⟩) :=
  Sums.of_run (N := cfg0.N) (fun n h (x : Fin 1024 × Fin 512) => outsAt0 m c n h (ix3 0 x.1 x.2))
    (fun n h x => k0_pay1 (F := Ideal) (iblk m c 0 ⟨n, h⟩) (iblk m c 1 ⟨n, h⟩) (ix2 x.1 x.2))
    (fun n h x e => (congrFun (outs_A m c ⟨n, h⟩ e) _).trans (pay2_at _ _ _ _))
    (fun n h x e => (congrFun (outs_B m c ⟨n + 1, h⟩ e) _).trans (pay3_at _ _ _ _ _)) q n e h (i, j)
    (fun s => X0 m c (ix2 s i) * X1 m c (ix2 s ⟨(q : ℕ) * 512 + j, by omega⟩))
    fun l hl => part_at m c _ hl l q rfl i j

theorem ref_at (x0 : FVec Ideal S8192x1024 .f32) (x1 : FVec Ideal S8192x2048 .f32) (p : Fin 4) (i : Fin 1024) (j : Fin 512) :
    Cert.PwOneDwRefIdeal.Read.val_main_v5 (F := Ideal) x0 x1 (ix3 p i j) =
      ∑ s : Fin 8192, x0 (ix2 s i) * x1 (ix2 s ⟨(p : ℕ) * 512 + j, by omega⟩) := by
  pointwise [Cert.PwOneDwRefIdeal.Read.val_main_v5, Cert.PwOneDwRefIdeal.Read.val_main_v4, Cert.PwOneDwRefIdeal.Read.val_main_v3,
    Cert.PwOneDwRefIdeal.Read.val_main_v2]
  exact Finset.sum_congr rfl fun s _ => mul_comm _ _

theorem ref_of {x : S4x1024x512.Idx} {p : Fin 4} {i : Fin 1024} {j : Fin 512} (e : x = ix3 p i j) :
    Cert.PwOneDwRefIdeal.Read.val_main_v5 (F := Ideal) (X0 m c) (X1 m c) x =
      ∑ s : Fin 8192, X0 m c (ix2 s i) * X1 m c (ix2 s ⟨(p : ℕ) * 512 + j, by omega⟩) := by
  subst e
  exact ref_at _ _ p i j

theorem final : (dats m 0 c).arrAt 2 cfg0.N = Cert.PwOneDwRefIdeal.Read.val_main_v5 (F := Ideal) (X0 m c) (X1 m c) := by
  refine (dats m 0 c).arrAt_eq_of_covers 2 _ (by decide +kernel) fun t ht y => ?_
  have h7 := (flush0_2 t).mp ht
  blk_simp
  rw [after0_2]
  have hq : t.val / 8 < 4 := by have := points t; omega
  obtain ⟨i, j, rfl⟩ : ∃ (i : Fin 1024) (j : Fin 512), y = (ix3 (0 : Fin 1) i j : S1x1024x512.Idx) :=
    ⟨y 1, y 2, by funext a; fin_cases a; exacts [Subsingleton.elim (α := Fin 1) _ _, rfl, rfl]⟩
  have e : (win0_2.blk t).view.emb (ix3 (0 : Fin 1) i j) = (ix3 (⟨t.val / 8, hq⟩ : Fin 4) i j : S4x1024x512.Idx) := by
    blk_ext [idx t]
  exact (outs_at m c ⟨t.val / 8, hq⟩ _ (by dsimp only; omega) _ i j).trans (ref_of m c e).symm

end Cert.PwOneDwIdeal.Val

namespace Cert.Proof

open Idealize.ShloMosaic Idealize.SL.Sem

theorem frame_PwOneDwRefIdeal : Cert.quiescent_PwOneDwRefIdeal (hPwOneDwRefIdeal := Cert.PwOneDwRefIdeal.Gen.facts) := fun m ρ _ =>
  (θ_run Cert.PwOneDwRefIdeal.defs _ _).mono (fun r h => ⟨fun c => (h c).2, sem_eq_zero_of_no_sems (by decide) r.2⟩)
    (Cert.PwOneDwRefIdeal.Value.run (F := Ideal) m ρ)

/-- The gradient of the product's weights: the call's result is the reference's. -/
theorem alg_PwOneDw : Cert.algebraic_PwOneDwIdeal_PwOneDwRefIdeal (hPwOneDwIdeal := Cert.PwOneDwIdeal.Gen.facts)
    (hPwOneDwRefIdeal := Cert.PwOneDwRefIdeal.Gen.facts) := by
  intro m g m' g' _ same
  refine ⟨fun c => Cert.PwOneDwRefIdeal.Read.val_main_v5 (F := Ideal) (Cert.PwOneDwIdeal.Val.X0 m c) (Cert.PwOneDwIdeal.Val.X1 m c),
    (θ_run _ _ _).mono (fun r h c => ⟨(h c).1.trans (Cert.PwOneDwIdeal.Val.final m c), (h c).2⟩) (Cert.PwOneDwIdeal.Value.run_blocks m g),
    (θ_run _ _ _).mono (fun r h c => ⟨((h c).1.trans (Cert.PwOneDwRefIdeal.Read.val_main_v5_eq _ _)).trans
      (congrArg₂ (Cert.PwOneDwRefIdeal.Read.val_main_v5 (F := Ideal)) (same c).1 (same c).2), (h c).2⟩) (Cert.PwOneDwRefIdeal.Value.run m' g')⟩

end Cert.Proof
-- ==== Proof.PwOneDh.lean ====
/- The gradient of the convolution module's first product by its rows. -/
module

public import proofs.«01_k».proof.Proof.Sums
public import proofs.«01_k».proof.Proof.Gen.PwOneDhIdeal.Value
public import proofs.«01_k».proof.Proof.Gen.PwOneDhRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.PwOneDhIdeal.Val

open Cert.PwOneDhIdeal Cert.PwOneDhIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![t.val, 0] :=
  (by decide +kernel : ∀ t : Fin grid0.N, _)

theorem points (t : Fin cfg0.N) : t.val < 8 := t.isLt

variable (m : (ℓ : Loc nD τ sig) → Buf (Elt Ideal) ℓ) (c : Dev nD)

abbrev X0 : FVec Ideal S8192x2048 .f32 := m ((c : Thread nD τ).loc main_arg0)
abbrev X1 : FVec Ideal S1x1024x2048 .f32 := m ((c : Thread nD τ).loc main_arg1)

theorem V1 : V m c main_v1 = broadcastInDim S1x8192x2048 ![1, 2] bcast_S8192x2048_S1x8192x2048_1_2
    (truncf .bf16 (X0 m c) bitsLt_bf16_f32) := by
  unfold V; simp only [List.flatten_cons, List.flatten_nil, List.append_nil, List.cons_append, List.nil_append]; after_reads_simp

theorem V4 : V m c main_v4 = transpose S4x1x1024x512 [2, 0, 1, 3] (shapeCast S1x1024x4x512
    (truncf .bf16 (X1 m c) bitsLt_bf16_f32) shapeCasts_S1x1024x2048_S1x1024x4x512)
    transposes_S1x1024x4x512_S4x1x1024x512_2_0_1_3 := by
  unfold V; simp only [List.flatten_cons, List.flatten_nil, List.append_nil, List.cons_append, List.nil_append]; after_reads_simp; rfl

theorem V1_at (s : Fin 8192) (k : Fin 2048) : V m c main_v1 (ix3 0 s k) = X0 m c (ix2 s k) := by
  rw [V1]; pointwise

theorem V4_at (p : Fin 4) (j : Fin 1024) (k : Fin 512) :
    V m c main_v4 (ix4 p 0 j k) = X1 m c (ix3 0 j ⟨(p : ℕ) * 512 + k, by omega⟩) := by
  rw [V4]; pointwise

section Geometry
variable {m c} (t : Fin cfg0.N)
theorem geo0 (A : FVec Ideal S1x8192x2048 .bf16) (i : Fin 1024) (k : Fin 2048) :
    ((cfg0.win 0).blk t).view.read (Elt Ideal) A (ix3 0 i k) = A (ix3 0 ⟨t.val * 1024 + i, by have := points t; omega⟩ k) := by
  have ht := points t
  blk_ext [idx t]
theorem geo1 (A : FVec Ideal S4x1x1024x512 .bf16) (p : Fin 4) (j : Fin 1024) (k : Fin 512) :
    ((cfg0.win 1).blk t).view.read (Elt Ideal) A (ix4 p 0 j k) = A (ix4 p 0 j k) := by
  have ht := points t
  blk_ext [idx t]
end Geometry

/-- The four pieces' products, added one after the other. -/
theorem pay1_at (x : Vec Ideal S1x1024x2048 .bf16) (y : Vec Ideal S4x1x1024x512 .bf16) (i : Fin 1024) (j : Fin 1024) :
    out0_2 (F := Ideal) x y (ix2 i j) =
      ∑ p : Fin 4, ∑ k : Fin 512, x (ix3 0 i ⟨(p : ℕ) * 512 + k, by omega⟩) * y (ix4 p 0 j k) := by
  have e : out0_2 (F := Ideal) x y = k0_pay1 (F := Ideal) (View.ld x r0_0) (View.ld y r0_1) (View.ld x r0_2) (View.ld y r0_3)
      (View.ld x r0_4) (View.ld y r0_5) (View.ld x r0_6) (View.ld y r0_7) := by
    frame_out
  refine (congrFun e _).trans ?_
  rw [Fin.sum_univ_four]
  pointwise [k0_pay1]

/-- What a point writes. -/
theorem out_at (t : Fin cfg0.N) (i : Fin 1024) (j : Fin 1024) :
    out0_2 (F := Ideal) (iblk m c 0 t) (iblk m c 1 t) (ix2 i j) = ∑ k : Fin 2048,
      X0 m c (ix2 ⟨t.val * 1024 + i, by have := points t; omega⟩ k) * X1 m c (ix3 0 j k) := by
  rw [pay1_at]
  refine Eq.trans ?_ (Sums.blocks 4 512 2048 rfl _)
  exact Finset.sum_congr rfl fun p _ => Finset.sum_congr rfl fun k _ => congrArg₂ (· * ·)
    ((geo0 t (V m c main_v1) i _).trans (V1_at m c _ _)) ((geo1 t (V m c main_v4) p j k).trans (V4_at m c p j k))

theorem ref_at (x0 : FVec Ideal S8192x2048 .f32) (x1 : FVec Ideal S1x1024x2048 .f32) (s : Fin 8192) (j : Fin 1024) :
    Cert.PwOneDhRefIdeal.Read.val_main_v3 (F := Ideal) x0 x1 (ix2 s j) = ∑ k : Fin 2048, x0 (ix2 s k) * x1 (ix3 0 j k) := by
  pointwise [Cert.PwOneDhRefIdeal.Read.val_main_v3, Cert.PwOneDhRefIdeal.Read.val_main_v1]

theorem ref_of {x : S8192x1024.Idx} {s : Fin 8192} {j : Fin 1024} (e : x = ix2 s j) :
    Cert.PwOneDhRefIdeal.Read.val_main_v3 (F := Ideal) (X0 m c) (X1 m c) x = ∑ k : Fin 2048, X0 m c (ix2 s k) * X1 m c (ix3 0 j k) := by
  subst e
  exact ref_at _ _ s j

theorem final : (dats m 0 c).arrAt 2 cfg0.N = Cert.PwOneDhRefIdeal.Read.val_main_v3 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 1024) (j : Fin 1024), y = (ix2 i j : S1024x1024.Idx) :=
    ⟨y 0, y 1, by funext a; fin_cases a <;> rfl⟩
  have e : (win0_2.blk t).view.emb (ix2 i j) = (ix2 (⟨t.val * 1024 + i, by omega⟩ : Fin 8192) j : S8192x1024.Idx) := by
    blk_ext [idx t]
  exact (out_at m c t i j).trans (ref_of m c e).symm

end Cert.PwOneDhIdeal.Val

namespace Cert.Proof

open Idealize.ShloMosaic Idealize.SL.Sem

theorem frame_PwOneDhRefIdeal : Cert.quiescent_PwOneDhRefIdeal (hPwOneDhRefIdeal := Cert.PwOneDhRefIdeal.Gen.facts) := fun m ρ _ =>
  (θ_run Cert.PwOneDhRefIdeal.defs _ _).mono (fun r h => ⟨fun c => (h c).2, sem_eq_zero_of_no_sems (by decide) r.2⟩)
    (Cert.PwOneDhRefIdeal.Value.run (F := Ideal) m ρ)

/-- The gradient of the product's rows: the call's result is the reference's. -/
theorem alg_PwOneDh : Cert.algebraic_PwOneDhIdeal_PwOneDhRefIdeal (hPwOneDhIdeal := Cert.PwOneDhIdeal.Gen.facts)
    (hPwOneDhRefIdeal := Cert.PwOneDhRefIdeal.Gen.facts) := by
  intro m g m' g' _ same
  refine ⟨fun c => Cert.PwOneDhRefIdeal.Read.val_main_v3 (F := Ideal) (Cert.PwOneDhIdeal.Val.X0 m c) (Cert.PwOneDhIdeal.Val.X1 m c),
    (θ_run _ _ _).mono (fun r h c => ⟨(h c).1.trans (Cert.PwOneDhIdeal.Val.final m c), (h c).2⟩) (Cert.PwOneDhIdeal.Value.run_blocks m g),
    (θ_run _ _ _).mono (fun r h c => ⟨((h c).1.trans (Cert.PwOneDhRefIdeal.Read.val_main_v3_eq _ _)).trans
      (congrArg₂ (Cert.PwOneDhRefIdeal.Read.val_main_v3 (F := Ideal)) (same c).1 (same c).2), (h c).2⟩) (Cert.PwOneDhRefIdeal.Value.run m' g')⟩

end Cert.Proof
-- ==== Proof.Norm.lean ====
/- The gradient of one row of the norm, on the extended reals: the form the call computes and the form of the plain
derivative are the same number, whatever the row holds. -/
module

public import Idealize.ShloMosaic.PureOps.Ideal
public import Mathlib.Data.EReal.Operations
public import Mathlib.Data.EReal.Inv
public import Mathlib.Algebra.BigOperators.Fin

@[expose] public section

noncomputable section

namespace Cert.Norm

open Idealize.ShloMosaic

theorem n1024 : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem eps : ∃ e : ℝ, 0 < e ∧ Ideal.ofBits .f32 0x358637BD#32 = (e : EReal) := by
  refine ⟨_, ?_, by simp [Ideal.ofBits, Ideal.ieee, -EReal.coe_mul]; rfl⟩
  positivity

/-- The mean of the squares of a row, with the small constant. -/
def ms (x : Fin 1024 → EReal) : EReal :=
  Ideal.div (∑ k, x k * x k) (Ideal.ofBits .f32 0x44800000#32) + Ideal.ofBits .f32 0x358637BD#32

/-- What the row is multiplied by. -/
def rho (x : Fin 1024 → EReal) : EReal := Ideal.rsqrt (ms x)

/-- The gradient in the form the call computes. -/
def dx (x g d : Fin 1024 → EReal) (r : EReal) (j : Fin 1024) : EReal :=
  rho x * (d j * g j - x j * rho x *
    Ideal.div (∑ k, d k * g k * (x k * rho x)) (Ideal.ofBits .f32 0x44800000#32)) + r

/-- The part of the gradient that goes through the mean of the squares, in the form of the plain derivative. -/
def thru (x g d : Fin 1024 → EReal) : EReal :=
  Ideal.div ((∑ k, x k * (d k * g k)) * (Ideal.ofBits .f32 0xBF000000#32 * Ideal.div (rho x) (ms x)))
    (Ideal.ofBits .f32 0x44800000#32)

theorem mul_sum {n : ℕ} (r : ℝ) (hr : 0 ≤ r) (f : Fin n → EReal) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.2 hr) (EReal.coe_ne_top r)]

/-- Either the mean of the squares is infinite, or it is a positive real number. -/
theorem ms_cases (x : Fin 1024 → EReal) : ms x = ⊤ ∨ ∃ t : ℝ, 0 < t ∧ ms x = (t : EReal) := by
  obtain ⟨e, he, h⟩ := eps
  have hs : 0 ≤ ∑ k, x k * x k := Finset.sum_nonneg fun k _ => by
    rcases le_total 0 (x k) with h | h
    · exact mul_nonneg h h
    · rw [← neg_mul_neg]; exact mul_nonneg (EReal.neg_nonneg.2 h) (EReal.neg_nonneg.2 h)
  rw [ms, n1024, h, Ideal.div_coe (by norm_num)]
  generalize (∑ k, x k * x k) = s at hs ⊢
  induction s with
  | bot => exact absurd hs (by simp)
  | top =>
    left
    rw [EReal.top_mul_coe_of_pos (by norm_num), EReal.top_add_coe]
  | coe s =>
    have hs' : 0 ≤ s := EReal.coe_nonneg.1 hs
    exact .inr ⟨s * (1 / 1024) + e, by positivity, by push_cast; rfl⟩

theorem dx_eq (x g d : Fin 1024 → EReal) (r : EReal) (j : Fin 1024) :
    dx x g d r j = r + d j * g j * rho x + x j * thru x g d + thru x g d * x j := by
  rcases ms_cases x with h | ⟨t, ht, h⟩
  · have hr : rho x = 0 := by rw [rho, h, Ideal.rsqrt_top]
    simp [dx, thru, hr, h, n1024, Ideal.div_coe, Ideal.div]
  · obtain ⟨q, hq0, hqq, hq⟩ : ∃ q : ℝ, 0 < q ∧ q * q = 1 / t ∧ rho x = (q : EReal) :=
      ⟨(√t)⁻¹, inv_pos.2 (Real.sqrt_pos.2 ht), by rw [← mul_inv, Real.mul_self_sqrt ht.le, one_div], by
        rw [rho, h, Ideal.rsqrt_coe, if_neg ht.not_gt, if_neg ht.ne']⟩
    have e : ∑ k, d k * g k * (x k * (q : EReal)) = (∑ k, x k * (d k * g k)) * (q : EReal) := by
      rw [← mul_sum q hq0.le]
      exact Finset.sum_congr rfl fun k _ => by rw [← mul_assoc, mul_comm (d k * g k)]
    rw [dx, thru, h, hq, n1024, minus_half, e, Ideal.div_coe (by norm_num), Ideal.div_coe (by norm_num), Ideal.div_coe ht.ne', ← hqq]
    generalize (∑ k, x k * (d k * g k)) = S
    obtain ⟨w, hw0, hw⟩ : ∃ w : ℝ, 0 ≤ w ∧ w = 1 / 2 * (q * (q * q)) * (1 / 1024) := ⟨_, by positivity, rfl⟩
    have e1 : (q : EReal) * -(x j * q * (S * q * ((1 / 1024 : ℝ) : EReal))) = -((w + w : ℝ) * (x j * S)) := by
      have : (w + w : ℝ) = q * q * q * (1 / 1024) := by rw [hw]; ring
      rw [this, mul_neg]
      simp only [EReal.coe_mul]
      exact congrArg _ (by ac_rfl)
    have e2 : x j * (S * (((-(1 / 2) : ℝ) : EReal) * ((q : EReal) * ((q * q : ℝ) : EReal))) * ((1 / 1024 : ℝ) : EReal)) =
        -((w : EReal) * (x j * S)) := by
      rw [hw, EReal.coe_neg, EReal.neg_mul, mul_neg, EReal.neg_mul, mul_neg]
      simp only [EReal.coe_mul]
      exact congrArg _ (by ac_rfl)
    rw [mul_comm _ (x j), e2, sub_eq_add_neg, EReal.left_distrib_of_nonneg_of_ne_top (EReal.coe_nonneg.2 hq0.le) (EReal.coe_ne_top q),
      e1, EReal.coe_add, EReal.right_distrib_of_nonneg (EReal.coe_nonneg.2 hw0) (EReal.coe_nonneg.2 hw0), mul_comm (q : EReal)]
    generalize (w : EReal) * (x j * S) = Q
    have e3 : -(Q + Q) = -Q + -Q := by
      induction Q with
      | bot => simp
      | top => simp
      | coe q => norm_cast; ring_nf
    rw [e3]
    ac_rfl

end Cert.Norm
-- ==== Proof.NormBwd.lean ====
/- The gradient of the first norm: the step's gradient of x, and the sums over the rows. -/
module

public import proofs.«01_k».proof.Proof.Sums
public import proofs.«01_k».proof.Proof.Norm
public import proofs.«01_k».proof.Proof.Gen.NormBwdIdeal.Value
public import proofs.«01_k».proof.Proof.Gen.NormBwdRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.NormBwdIdeal.Val

open Cert.NormBwdIdeal Cert.NormBwdIdeal.Gen Idealize.ShloMosaic Idealize.ShloMosaic.TcCoe Idealize.SL.Sem

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

theorem points (t : Fin cfg0.N) : t.val < 16 := t.isLt

theorem pay3_at (x : Vec Ideal S512x1024 .f32) (i : Fin 512) :
    k0_pay3 (F := Ideal) x (ix2 i 0) = Norm.rho fun k => x (ix2 i k) := by
  pointwise [k0_pay3, Norm.rho, Norm.ms]

theorem pay4_at (x : Vec Ideal S512x1024 .f32) (i : Fin 512) (j : Fin 1024) :
    k0_pay4 (F := Ideal) x (ix2 i j) = x (ix2 i j) * Norm.rho fun k => x (ix2 i k) := by
  rw [← pay3_at]
  pointwise [k0_pay4]

/-- The rows a point writes. -/
theorem pay5_at (x d : Vec Ideal S512x1024 .f32) (g : Vec Ideal S1x1024 .f32) (r : Vec Ideal S512x1024 .f32) (i : Fin 512) (j : Fin 1024) :
    k0_pay5 (F := Ideal) x d g r (ix2 i j) =
      Norm.dx (fun k => x (ix2 i k)) (fun k => g (ix2 0 k)) (fun k => d (ix2 i k)) (r (ix2 i j)) j := by
  rw [Norm.dx]
  have e (k : Fin 1024) : x (ix2 i k) * Norm.rho (fun k => x (ix2 i k)) = k0_pay4 (F := Ideal) x (ix2 i k) := (pay4_at x i k).symm
  rw [← pay3_at] at *
  simp only [e]
  pointwise [k0_pay5]

/-- The part of the gains' gradient that a point adds. -/
theorem pay6_at (x d : Vec Ideal S512x1024 .f32) (j : Fin 1024) :
    k0_pay6 (F := Ideal) x d (ix2 0 j) = ∑ i : Fin 512, d (ix2 i j) * (x (ix2 i j) * Norm.rho fun k => x (ix2 i k)) := by
  refine Eq.trans ?_ (Finset.sum_congr rfl fun i _ => congrArg (d (ix2 i j) * ·) (pay4_at x i j))
  pointwise [k0_pay6]

theorem pay7_at (x d : Vec Ideal S512x1024 .f32) (g : Vec Ideal S1x1024 .f32) (r : Vec Ideal S512x1024 .f32) (j : Fin 1024) :
    k0_pay7 (F := Ideal) x d g r (ix2 0 j) = ∑ i : Fin 512, k0_pay5 (F := Ideal) x d g r (ix2 i j) := by
  pointwise [k0_pay7]

theorem pay1_at (a : Vec Ideal S1x1024 .f32) (p : FVec Ideal S1x1024 .f32) (j : Fin 1024) :
    k0_pay1 (F := Ideal) p a (ix2 0 j) = a (ix2 0 j) + p (ix2 0 j) := by
  pointwise [k0_pay1]

theorem pay2_at (a : Vec Ideal S1x1024 .f32) (p : FVec Ideal S1x1024 .f32) (j : Fin 1024) :
    k0_pay2 (F := Ideal) p a (ix2 0 j) = a (ix2 0 j) + p (ix2 0 j) := by
  pointwise [k0_pay2]

variable (m : (ℓ : Loc nD τ sig) → Buf (Elt Ideal) ℓ) (c : Dev nD)

abbrev X0 : FVec Ideal S8192x1024 .f32 := m ((c : Thread nD τ).loc main_arg0)
abbrev X1 : FVec Ideal S1024 .f32 := m ((c : Thread nD τ).loc main_arg1)
abbrev X2 : FVec Ideal S8192x1024 .f32 := m ((c : Thread nD τ).loc main_arg2)
abbrev X3 : FVec Ideal S8192x1024 .f32 := m ((c : Thread nD τ).loc main_arg3)

theorem V0 : V m c main_v0 = broadcastInDim S1x1024 ![1] bcast_S1024_S1x1024_1 (X1 m c) := by
  unfold V; simp only [List.flatten_cons, List.flatten_nil, List.append_nil, List.cons_append, List.nil_append]; after_reads_simp

theorem V0_at (j : Fin 1024) : V m c main_v0 (ix2 0 j) = X1 m c (ix1 j) := by
  rw [V0]; pointwise

section Geometry
variable {m c} (t : Fin cfg0.N)
theorem geo0 (A : FVec Ideal S8192x1024 .f32) (i : Fin 512) (k : Fin 1024) :
    ((cfg0.win 0).blk t).view.read (Elt Ideal) A (ix2 i k) = A (ix2 ⟨t.val * 512 + i, by have := points t; omega⟩ k) := by
  have ht := points t
  blk_ext [idx t]
theorem geo1 (A : FVec Ideal S1x1024 .f32) (k : Fin 1024) :
    ((cfg0.win 1).blk t).view.read (Elt Ideal) A (ix2 0 k) = A (ix2 0 k) := by
  have ht := points t
  blk_ext [idx t]
theorem geo2 (A : FVec Ideal S8192x1024 .f32) (i : Fin 512) (k : Fin 1024) :
    ((cfg0.win 2).blk t).view.read (Elt Ideal) A (ix2 i k) = A (ix2 ⟨t.val * 512 + i, by have := points t; omega⟩ k) := by
  have ht := points t
  blk_ext [idx t]
theorem geo3 (A : FVec Ideal S8192x1024 .f32) (i : Fin 512) (k : Fin 1024) :
    ((cfg0.win 3).blk t).view.read (Elt Ideal) A (ix2 i k) = A (ix2 ⟨t.val * 512 + i, by have := points t; omega⟩ k) := by
  have ht := points t
  blk_ext [idx t]
end Geometry

/-- The step's gradient of x, entry by entry. -/
def gx (s : Fin 8192) (j : Fin 1024) : EReal :=
  Norm.dx (fun k => X0 m c (ix2 s k)) (fun k => X1 m c (ix1 k)) (fun k => X2 m c (ix2 s k)) (X3 m c (ix2 s j)) j

/-- One row's part of the gains' gradient. -/
def gg (s : Fin 8192) (j : Fin 1024) : EReal := X2 m c (ix2 s j) * (X0 m c (ix2 s j) * Norm.rho fun k => X0 m c (ix2 s k))

/-- The blocks of the four arguments at a point. -/
theorem blk0_at (t : Fin cfg0.N) (i : Fin 512) (k : Fin 1024) :
    (iblk m c 0 t : Vec Ideal S512x1024 .f32) (ix2 i k) = X0 m c (ix2 ⟨t.val * 512 + i, by have := points t; omega⟩ k) :=
  (geo0 t (V m c main_arg0) i k).trans (congrFun (V_main_arg0 m c) _)
theorem blk1_at (t : Fin cfg0.N) (k : Fin 1024) : (iblk m c 1 t : Vec Ideal S1x1024 .f32) (ix2 0 k) = X1 m c (ix1 k) :=
  (geo1 t (V m c main_v0) k).trans (V0_at m c k)
theorem blk2_at (t : Fin cfg0.N) (i : Fin 512) (k : Fin 1024) :
    (iblk m c 2 t : Vec Ideal S512x1024 .f32) (ix2 i k) = X2 m c (ix2 ⟨t.val * 512 + i, by have := points t; omega⟩ k) :=
  (geo2 t (V m c main_arg2) i k).trans (congrFun (V_main_arg2 m c) _)
theorem blk3_at (t : Fin cfg0.N) (i : Fin 512) (k : Fin 1024) :
    (iblk m c 3 t : Vec Ideal S512x1024 .f32) (ix2 i k) = X3 m c (ix2 ⟨t.val * 512 + i, by have := points t; omega⟩ k) :=
  (geo3 t (V m c main_arg3) i k).trans (congrFun (V_main_arg3 m c) _)

theorem rows_at (t : Fin cfg0.N) (i : Fin 512) (j : Fin 1024) :
    k0_pay5 (F := Ideal) (iblk m c 0 t) (iblk m c 2 t) (iblk m c 1 t) (iblk m c 3 t) (ix2 i j) =
      gx m c ⟨t.val * 512 + i, by have := points t; omega⟩ j := by
  rw [pay5_at, gx]
  simp only [blk0_at, blk1_at, blk2_at, blk3_at]

theorem gains_at (t : Fin cfg0.N) (j : Fin 1024) :
    k0_pay6 (F := Ideal) (iblk m c 0 t) (iblk m c 2 t) (ix2 0 j) =
      ∑ i : Fin 512, gg m c ⟨t.val * 512 + i, by have := points t; omega⟩ j := by
  rw [pay6_at]
  simp only [blk0_at, blk2_at]
  rfl

theorem cols_at (t : Fin cfg0.N) (j : Fin 1024) :
    k0_pay7 (F := Ideal) (iblk m c 0 t) (iblk m c 2 t) (iblk m c 1 t) (iblk m c 3 t) (ix2 0 j) =
      ∑ i : Fin 512, gx m c ⟨t.val * 512 + i, by have := points t; omega⟩ j := by
  rw [pay7_at]
  simp only [rows_at]

/-- What the first point leaves in the three results' blocks. -/
theorem outs_A (t : Fin cfg0.N) (h0 : t.val % 16 = 0) :
    outsAt0 m c t.val t.isLt = (k0_pay5 (F := Ideal) (iblk m c 0 t) (iblk m c 2 t) (iblk m c 1 t) (iblk m c 3 t),
      k0_pay6 (F := Ideal) (iblk m c 0 t) (iblk m c 2 t),
      k0_pay7 (F := Ideal) (iblk m c 0 t) (iblk m c 2 t) (iblk m c 1 t) (iblk m c 3 t)) := by
  have ht := points t
  rw [outsAt0_A m c t h0 (by omega)]
  refine Prod.ext ?_ (Prod.ext ?_ ?_) <;> frame_out

/-- What a later point leaves there, over what the point before left. -/
theorem outs_B (t : Fin cfg0.N) (h0 : ¬t.val % 16 = 0) :
    outsAt0 m c t.val t.isLt = (k0_pay5 (F := Ideal) (iblk m c 0 t) (iblk m c 2 t) (iblk m c 1 t) (iblk m c 3 t),
      k0_pay1 (F := Ideal) (k0_pay6 (F := Ideal) (iblk m c 0 t) (iblk m c 2 t))
        (outsAt0 m c (t.val - 1) (Nat.lt_of_le_of_lt (Nat.sub_le _ _) t.isLt)).2.1,
      k0_pay2 (F := Ideal) (k0_pay7 (F := Ideal) (iblk m c 0 t) (iblk m c 2 t) (iblk m c 1 t) (iblk m c 3 t))
        (outsAt0 m c (t.val - 1) (Nat.lt_of_le_of_lt (Nat.sub_le _ _) t.isLt)).2.2) := by
  have ht := points t
  rw [outsAt0_B m c t h0 (by omega)]
  refine Prod.ext ?_ (Prod.ext ?_ ?_) <;> frame_out

/-- What the last point leaves of the gains' gradient. -/
theorem gains (n : ℕ) (h : n < cfg0.N) (e : n = 15) (j : Fin 1024) :
    (outsAt0 m c n h).2.1 (ix2 0 j) = ∑ s : Fin 8192, gg m c s j := by
  subst e
  exact (Sums.of_start (N := cfg0.N) (fun n h (x : Fin 1024) => (outsAt0 m c n h).2.1 (ix2 0 x))
    (fun n h x => k0_pay6 (F := Ideal) (iblk m c 0 ⟨n, h⟩) (iblk m c 2 ⟨n, h⟩) (ix2 0 x))
    (fun h x => by rw [outs_A m c ⟨0, h⟩ rfl])
    (fun n h x => by
      have hn : n + 1 < 16 := h
      rw [outs_B m c ⟨n + 1, h⟩ (by dsimp only; omega)]
      exact pay1_at _ _ _) 15 h j).trans
    ((Finset.sum_congr rfl fun l _ => gains_at m c _ j).trans (Sums.blocks 16 512 8192 rfl fun s => gg m c s j))

/-- What it leaves of the sums of the columns of x's gradient. -/
theorem cols (n : ℕ) (h : n < cfg0.N) (e : n = 15) (j : Fin 1024) :
    (outsAt0 m c n h).2.2 (ix2 0 j) = ∑ s : Fin 8192, gx m c s j := by
  subst e
  exact (Sums.of_start (N := cfg0.N) (fun n h (x : Fin 1024) => (outsAt0 m c n h).2.2 (ix2 0 x))
    (fun n h x => k0_pay7 (F := Ideal) (iblk m c 0 ⟨n, h⟩) (iblk m c 2 ⟨n, h⟩) (iblk m c 1 ⟨n, h⟩) (iblk m c 3 ⟨n, h⟩) (ix2 0 x))
    (fun h x => by rw [outs_A m c ⟨0, h⟩ rfl])
    (fun n h x => by
      have hn : n + 1 < 16 := h
      rw [outs_B m c ⟨n + 1, h⟩ (by dsimp only; omega)]
      exact pay2_at _ _ _) 15 h j).trans
    ((Finset.sum_congr rfl fun l _ => cols_at m c _ j).trans (Sums.blocks 16 512 8192 rfl fun s => gx m c s j))

section Reference
open Cert.NormBwdRefIdeal.Read

variable (x : FVec Ideal S8192x1024 .f32) (g : FVec Ideal S1024 .f32) (d r : FVec Ideal S8192x1024 .f32)

theorem ms_at (s : Fin 8192) : val_main_v6 (F := Ideal) x (ix2 s 0) = Norm.ms fun k => x (ix2 s k) := by
  pointwise [val_main_v6, val_main_v5, val_main_v4, val_main_v3, val_main_v2, val_main_v1, val_main_v0, val_main_cst, val_main_cst_0,
    val_main_cst_1, Norm.ms]

theorem rho_at (s : Fin 8192) : val_main_v7 (F := Ideal) x (ix2 s 0) = Norm.rho fun k => x (ix2 s k) := by
  rw [Norm.rho, ← ms_at]
  pointwise [val_main_v7]

/-- What passes through the mean of the squares. -/
theorem thru_at (s : Fin 8192) (j : Fin 1024) : val_main_v32 (F := Ideal) x g d (ix2 s j) =
    Norm.thru (fun k => x (ix2 s k)) (fun k => g (ix1 k)) fun k => d (ix2 s k) := by
  rw [Norm.thru, ← rho_at, ← ms_at]
  pointwise [val_main_v32, val_main_v31, val_main_v30, val_main_v29, val_main_v28, val_main_v24, val_main_v23, val_main_v22, val_main_v20,
    val_main_v19, val_main_v13, val_main_v10, val_main_v9, val_main_v8, val_main_cst_2, val_main_cst_5, val_main_cst_6, val_main_cst_7]
  exact Fin.sum_univ_one _

theorem dx_at (s : Fin 8192) (j : Fin 1024) : val_main_v36 (F := Ideal) x g d r (ix2 s j) =
    Norm.dx (fun k => x (ix2 s k)) (fun k => g (ix1 k)) (fun k => d (ix2 s k)) (r (ix2 s j)) j := by
  rw [Norm.dx_eq, ← thru_at x g d s j, ← rho_at]
  pointwise [val_main_v36, val_main_v35, val_main_v34, val_main_v33, val_main_v27, val_main_v26, val_main_v25, val_main_v20, val_main_v19,
    val_main_v13]

theorem dg_at (j : Fin 1024) : val_main_v37 (F := Ideal) x d (ix2 0 j) =
    ∑ s : Fin 8192, d (ix2 s j) * (x (ix2 s j) * Norm.rho fun k => x (ix2 s k)) := by
  simp only [← rho_at]
  pointwise [val_main_v37, val_main_v21, val_main_v18, val_main_v17, val_main_v16, val_main_v12, val_main_v11, val_main_cst_3,
    val_main_cst_4]
  exact (Fin.sum_univ_one _).trans (Finset.sum_congr rfl fun s _ => mul_comm _ _)

theorem sum_at (j : Fin 1024) : val_main_v39 (F := Ideal) x g d r (ix2 0 j) = ∑ s : Fin 8192, val_main_v36 (F := Ideal) x g d r (ix2 s j) := by
  pointwise [val_main_v39, val_main_v38, val_main_cst_8]

end Reference

/-- The reference's three results of the call's arguments. -/
abbrev R4 := Cert.NormBwdRefIdeal.Read.val_main_v36 (F := Ideal) (X0 m c) (X1 m c) (X2 m c) (X3 m c)
abbrev R5 := Cert.NormBwdRefIdeal.Read.val_main_v37 (F := Ideal) (X0 m c) (X2 m c)
abbrev R6 := Cert.NormBwdRefIdeal.Read.val_main_v39 (F := Ideal) (X0 m c) (X1 m c) (X2 m c) (X3 m c)

theorem R4_of {y : S8192x1024.Idx} {s : Fin 8192} {j : Fin 1024} (e : y = ix2 s j) : R4 m c y = gx m c s j := by
  subst e
  exact dx_at _ _ _ _ s j
theorem R5_of {y : S1x1024.Idx} {j : Fin 1024} (e : y = ix2 0 j) : R5 m c y = ∑ s : Fin 8192, gg m c s j := by
  subst e
  exact dg_at _ _ j
theorem R6_of {y : S1x1024.Idx} {j : Fin 1024} (e : y = ix2 0 j) : R6 m c y = ∑ s : Fin 8192, gx m c s j := by
  subst e
  exact (sum_at _ _ _ _ j).trans (Finset.sum_congr rfl fun s _ => dx_at _ _ _ _ s j)

theorem outs_1 (t : Fin cfg0.N) : (outsAt0 m c t.val t.isLt).1 =
    k0_pay5 (F := Ideal) (iblk m c 0 t) (iblk m c 2 t) (iblk m c 1 t) (iblk m c 3 t) := by
  by_cases h0 : t.val % 16 = 0
  · rw [outs_A m c t h0]
  · rw [outs_B m c t h0]

theorem final4 : (dats m 0 c).arrAt 4 cfg0.N = R4 m c := by
  refine (dats m 0 c).arrAt_eq_of_covers 4 _ (by decide +kernel) fun t ht y => ?_
  blk_simp
  rw [after0_4]
  have hp := points t
  obtain ⟨i, j, rfl⟩ : ∃ (i : Fin 512) (j : Fin 1024), y = (ix2 i j : S512x1024.Idx) := ⟨y 0, y 1, by funext a; fin_cases a <;> rfl⟩
  have e : (win0_4.blk t).view.emb (ix2 i j) = (ix2 ⟨t.val * 512 + i, by omega⟩ j : S8192x1024.Idx) := by
    blk_ext [idx t]
  exact (congrFun (outs_1 m c t) _).trans ((rows_at m c t i j).trans (R4_of m c e).symm)

theorem final5 : (dats m 0 c).arrAt 5 cfg0.N = R5 m c := by
  refine (dats m 0 c).arrAt_eq_of_covers 5 _ (by decide +kernel) fun t ht y => ?_
  have h15 := (flush0_5 t).mp ht
  blk_simp
  rw [after0_5]
  have hp := points t
  obtain ⟨j, rfl⟩ : ∃ j : Fin 1024, y = (ix2 (0 : Fin 1) j : S1x1024.Idx) :=
    ⟨y 1, by funext a; fin_cases a; exacts [Subsingleton.elim (α := Fin 1) _ _, rfl]⟩
  have e : (win0_5.blk t).view.emb (ix2 (0 : Fin 1) j) = (ix2 (0 : Fin 1) j : S1x1024.Idx) := by
    blk_ext [idx t]
  exact (gains m c _ _ (by omega) j).trans (R5_of m c e).symm

theorem final6 : (dats m 0 c).arrAt 6 cfg0.N = R6 m c := by
  refine (dats m 0 c).arrAt_eq_of_covers 6 _ (by decide +kernel) fun t ht y => ?_
  have h15 := (flush0_6 t).mp ht
  blk_simp
  rw [after0_6]
  have hp := points t
  obtain ⟨j, rfl⟩ : ∃ j : Fin 1024, y = (ix2 (0 : Fin 1) j : S1x1024.Idx) :=
    ⟨y 1, by funext a; fin_cases a; exacts [Subsingleton.elim (α := Fin 1) _ _, rfl]⟩
  have e : (win0_6.blk t).view.emb (ix2 (0 : Fin 1) j) = (ix2 (0 : Fin 1) j : S1x1024.Idx) := by
    blk_ext [idx t]
  exact (cols m c _ _ (by omega) j).trans (R6_of m c e).symm

end Cert.NormBwdIdeal.Val

namespace Cert.Proof

open Idealize.ShloMosaic Idealize.SL.Sem

theorem frame_NormBwdRefIdeal : Cert.quiescent_NormBwdRefIdeal (hNormBwdRefIdeal := Cert.NormBwdRefIdeal.Gen.facts) := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

/-- The gradient of the norm: the call's three results are the reference's. -/
theorem alg_NormBwd : Cert.algebraic_NormBwdIdeal_NormBwdRefIdeal (hNormBwdIdeal := Cert.NormBwdIdeal.Gen.facts)
    (hNormBwdRefIdeal := Cert.NormBwdRefIdeal.Gen.facts) := by
  intro m g m' g' _ same
  refine ⟨fun c => Cert.NormBwdIdeal.Val.R4 m c, fun c => Cert.NormBwdIdeal.Val.R5 m c, fun c => Cert.NormBwdIdeal.Val.R6 m c,
    (θ_run _ _ _).mono (fun r h c => ⟨(h c).1.trans (Cert.NormBwdIdeal.Val.final4 m c), (h c).2.1.trans (Cert.NormBwdIdeal.Val.final5 m c),
      (h c).2.2.1.trans (Cert.NormBwdIdeal.Val.final6 m c), (h c).2.2.2⟩) (Cert.NormBwdIdeal.Value.run_blocks m g),
    (θ_run _ _ _).mono (fun r h c => ?_) (Cert.NormBwdRefIdeal.Value.run m' g')⟩
  obtain ⟨e0, e1, e2, e3⟩ := same c
  refine ⟨((h c).1.trans (Cert.NormBwdRefIdeal.Read.val_main_v36_eq _ _ _ _)).trans ?_,
    ((h c).2.1.trans (Cert.NormBwdRefIdeal.Read.val_main_v37_eq _ _)).trans ?_,
    ((h c).2.2.1.trans (Cert.NormBwdRefIdeal.Read.val_main_v39_eq _ _)).trans ?_, (h c).2.2.2⟩
  · rw [e0, e1, e2, e3]
  · rw [e0, e2]
  · rw [e0, e1, e2, e3]

end Cert.Proof
-- ==== Proof.UpZero.lean ====
/- The first feed-forward block's first product: the second's with its part of the weight in place of the other. -/
module

public import proofs.«01_k».proof.Proof.Up
public import proofs.«01_k».proof.Proof.Gen.UpZeroIdeal.Value
public import proofs.«01_k».proof.Proof.Gen.UpZeroRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.UpZeroIdeal.Val

open Cert.UpZeroIdeal Cert.UpZeroIdeal.Gen Idealize.ShloMosaic Idealize.ShloMosaic.TcCoe Idealize.SL.Sem

theorem idx : ∀ t : Fin cfg0.N, win0_0.index t = ![0, t.val % 8, 0] ∧ win0_1.index t = ![t.val / 8, 0, 0, 0]
    ∧ win0_2.index t = ![t.val / 8, t.val % 8, 0] :=
  (by decide +kernel : ∀ t : Fin grid0.N, _)

theorem points (t : Fin cfg0.N) : t.val < 32 := t.isLt

/-- One block of the product. -/
theorem pay1_at (x : Vec Ideal S1x1024x1024 .bf16) (y : Vec Ideal S1x1x1024x1408 .bf16) (i : Fin 1024) (j : Fin 1408) :
    k0_pay1 (F := Ideal) x y (ix3 0 i j) = ∑ k : Fin 1024, x (ix3 0 i k) * y (ix4 0 0 k j) := by
  exact Cert.UpIdeal.Val.pay1_at x y i j

variable (m : (ℓ : Loc nD τ sig) → Buf (Elt Ideal) ℓ) (c : Dev nD)

abbrev X0 : FVec Ideal S8192x1024 .f32 := m ((c : Thread nD τ).loc main_arg0)
abbrev X1 : FVec Ideal S2x1024x5632 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V4 : V m c main_v4 = transpose S4x2x1024x1408 [2, 0, 1, 3] (shapeCast S2x1024x4x1408
    (truncf .bf16 (X1 m c) bitsLt_bf16_f32) shapeCasts_S2x1024x5632_S2x1024x4x1408)
    transposes_S2x1024x4x1408_S4x2x1024x1408_2_0_1_3 := by
  unfold V; simp only [List.flatten_cons, List.flatten_nil, List.append_nil, List.cons_append, List.nil_append]; after_reads_simp; rfl

theorem V1_at (s : Fin 8192) (k : Fin 1024) : V m c main_v1 (ix3 0 s k) = X0 m c (ix2 s k) := by
  rw [V1]; pointwise

theorem V4_at (p : Fin 4) (a : Fin 2) (k : Fin 1024) (j : Fin 1408) :
    V m c main_v4 (ix4 p a k j) = X1 m c (ix3 a k ⟨(p : ℕ) * 1408 + j, by omega⟩) := by
  rw [V4]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val % 8 * 1024 + i, by omega⟩ k) := by
  have ht := points t
  blk_ext [idx t]
theorem geo1 (A : FVec Ideal S4x2x1024x1408 .bf16) (k : Fin 1024) (j : Fin 1408) :
    ((cfg0.win 1).blk t).view.read (Elt Ideal) A (ix4 0 0 k j) = A (ix4 ⟨t.val / 8, by have := points t; omega⟩ 0 k j) := by
  have ht := points t
  blk_ext [idx t]
end Geometry

/-- What a point writes. -/
theorem out_at (t : Fin cfg0.N) (i : Fin 1024) (j : Fin 1408) :
    out0_2 (F := Ideal) (iblk m c 0 t) (iblk m c 1 t) (ix3 0 i j) = ∑ k : Fin 1024,
      X0 m c (ix2 ⟨t.val % 8 * 1024 + i, by omega⟩ k) * X1 m c (ix3 0 k ⟨t.val / 8 * 1408 + j, by have := points t; omega⟩) := by
  have e : out0_2 (F := Ideal) (iblk m c 0 t) (iblk m c 1 t) = k0_pay1 (F := Ideal) (iblk m c 0 t) (iblk m c 1 t) := by
    frame_out
  refine (congrFun e _).trans ?_
  rw [pay1_at]
  exact Finset.sum_congr rfl fun k _ => congrArg₂ (· * ·)
    ((geo0 t (V m c main_v1) i k).trans (V1_at m c _ k)) ((geo1 t (V m c main_v4) k j).trans (V4_at m c _ 0 k j))

theorem ref_at (x0 : FVec Ideal S8192x1024 .f32) (x1 : FVec Ideal S2x1024x5632 .f32) (p : Fin 4) (s : Fin 8192) (j : Fin 1408) :
    Cert.UpZeroRefIdeal.Read.val_main_v5 (F := Ideal) x0 x1 (ix3 p s j) =
      ∑ k : Fin 1024, x0 (ix2 s k) * x1 (ix3 0 k ⟨(p : ℕ) * 1408 + j, by omega⟩) := by
  pointwise [Cert.UpZeroRefIdeal.Read.val_main_v5, Cert.UpZeroRefIdeal.Read.val_main_v4, Cert.UpZeroRefIdeal.Read.val_main_v3,
    Cert.UpZeroRefIdeal.Read.val_main_v2, Cert.UpZeroRefIdeal.Read.val_main_v1, Cert.UpZeroRefIdeal.Read.val_main_v0]

theorem ref_of {x : S4x8192x1408.Idx} {p : Fin 4} {s : Fin 8192} {j : Fin 1408} (e : x = ix3 p s j) :
    Cert.UpZeroRefIdeal.Read.val_main_v5 (F := Ideal) (X0 m c) (X1 m c) x =
      ∑ k : Fin 1024, X0 m c (ix2 s k) * X1 m c (ix3 0 k ⟨(p : ℕ) * 1408 + j, by omega⟩) := by
  subst e
  exact ref_at _ _ p s j

theorem final : (dats m 0 c).arrAt 2 cfg0.N = Cert.UpZeroRefIdeal.Read.val_main_v5 (F := Ideal) (X0 m c) (X1 m c) := by
  refine (dats m 0 c).arrAt_eq_of_covers 2 _ (by decide +kernel) fun t ht y => ?_
  blk_simp
  rw [after0_2]
  have hq : t.val / 8 < 4 := by have := points t; omega
  obtain ⟨i, j, rfl⟩ : ∃ (i : Fin 1024) (j : Fin 1408), y = (ix3 (0 : Fin 1) i j : S1x1024x1408.Idx) :=
    ⟨y 1, y 2, by funext a; fin_cases a; exacts [Subsingleton.elim (α := Fin 1) _ _, rfl, rfl]⟩
  have e : (win0_2.blk t).view.emb (ix3 (0 : Fin 1) i j) =
      (ix3 (⟨t.val / 8, hq⟩ : Fin 4) (⟨t.val % 8 * 1024 + i, by omega⟩ : Fin 8192) j : S4x8192x1408.Idx) := by
    blk_ext [idx t]
  exact (out_at m c t i j).trans (ref_of m c e).symm

end Cert.UpZeroIdeal.Val

namespace Cert.Proof

open Idealize.ShloMosaic Idealize.SL.Sem

theorem frame_UpZeroRefIdeal : Cert.quiescent_UpZeroRefIdeal (hUpZeroRefIdeal := Cert.UpZeroRefIdeal.Gen.facts) := fun m ρ _ =>
  (θ_run Cert.UpZeroRefIdeal.defs _ _).mono (fun r h => ⟨fun c => (h c).2, sem_eq_zero_of_no_sems (by decide) r.2⟩)
    (Cert.UpZeroRefIdeal.Value.run (F := Ideal) m ρ)

/-- The first feed-forward block's first product: the call's result is the reference's. -/
theorem alg_UpZero : Cert.algebraic_UpZeroIdeal_UpZeroRefIdeal (hUpZeroIdeal := Cert.UpZeroIdeal.Gen.facts)
    (hUpZeroRefIdeal := Cert.UpZeroRefIdeal.Gen.facts) := by
  intro m g m' g' _ same
  refine ⟨fun c => Cert.UpZeroRefIdeal.Read.val_main_v5 (F := Ideal) (Cert.UpZeroIdeal.Val.X0 m c) (Cert.UpZeroIdeal.Val.X1 m c),
    (θ_run _ _ _).mono (fun r h c => ⟨(h c).1.trans (Cert.UpZeroIdeal.Val.final m c), (h c).2⟩) (Cert.UpZeroIdeal.Value.run_blocks m g),
    (θ_run _ _ _).mono (fun r h c => ⟨((h c).1.trans (Cert.UpZeroRefIdeal.Read.val_main_v5_eq _ _)).trans
      (congrArg₂ (Cert.UpZeroRefIdeal.Read.val_main_v5 (F := Ideal)) (same c).1 (same c).2), (h c).2⟩) (Cert.UpZeroRefIdeal.Value.run m' g')⟩

end Cert.Proof
-- ==== Proof.UpDhZero.lean ====
/- The gradient of the first feed-forward block's first product by its rows: the second's with its part of the weight. -/
module

public import proofs.«01_k».proof.Proof.UpDh
public import proofs.«01_k».proof.Proof.Gen.UpDhZeroIdeal.Value
public import proofs.«01_k».proof.Proof.Gen.UpDhZeroRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.UpDhZeroIdeal.Val

open Cert.UpDhZeroIdeal Cert.UpDhZeroIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![t.val, 0] :=
  (by decide +kernel : ∀ t : Fin grid0.N, _)

theorem points (t : Fin cfg0.N) : t.val < 16 := t.isLt

variable (m : (ℓ : Loc nD τ sig) → Buf (Elt Ideal) ℓ) (c : Dev nD)

abbrev X0 : FVec Ideal S8192x5632 .f32 := m ((c : Thread nD τ).loc main_arg0)
abbrev X1 : FVec Ideal S2x1024x5632 .f32 := m ((c : Thread nD τ).loc main_arg1)

theorem V2 : V m c main_v2 = transpose S4x8192x1408 [1, 0, 2] (shapeCast S8192x4x1408
    (truncf .bf16 (X0 m c) bitsLt_bf16_f32) shapeCasts_S8192x5632_S8192x4x1408) transposes_S8192x4x1408_S4x8192x1408_1_0_2 := by
  unfold V; simp only [List.flatten_cons, List.flatten_nil, List.append_nil, List.cons_append, List.nil_append]; after_reads_simp; rfl

theorem V5 : V m c main_v5 = transpose S4x2x1024x1408 [2, 0, 1, 3] (shapeCast S2x1024x4x1408
    (truncf .bf16 (X1 m c) bitsLt_bf16_f32) shapeCasts_S2x1024x5632_S2x1024x4x1408)
    transposes_S2x1024x4x1408_S4x2x1024x1408_2_0_1_3 := by
  unfold V; simp only [List.flatten_cons, List.flatten_nil, List.append_nil, List.cons_append, List.nil_append]; after_reads_simp; rfl

theorem V2_at (p : Fin 4) (s : Fin 8192) (k : Fin 1408) : V m c main_v2 (ix3 p s k) = X0 m c (ix2 s ⟨(p : ℕ) * 1408 + k, by omega⟩) := by
  rw [V2]; pointwise

theorem V5_at (p : Fin 4) (a : Fin 2) (j : Fin 1024) (k : Fin 1408) :
    V m c main_v5 (ix4 p a j k) = X1 m c (ix3 a j ⟨(p : ℕ) * 1408 + k, by omega⟩) := by
  rw [V5]; pointwise

section Geometry
variable {m c} (t : Fin cfg0.N)
theorem geo0 (A : FVec Ideal S4x8192x1408 .bf16) (p : Fin 4) (i : Fin 512) (k : Fin 1408) :
    ((cfg0.win 0).blk t).view.read (Elt Ideal) A (ix3 p i k) = A (ix3 p ⟨t.val * 512 + i, by have := points t; omega⟩ k) := by
  have ht := points t
  blk_ext [idx t]
theorem geo1 (A : FVec Ideal S4x2x1024x1408 .bf16) (p : Fin 4) (j : Fin 1024) (k : Fin 1408) :
    ((cfg0.win 1).blk t).view.read (Elt Ideal) A (ix4 p 0 j k) = A (ix4 p 0 j k) := by
  have ht := points t
  blk_ext [idx t]
end Geometry

/-- The four pieces' products, added one after the other. -/
theorem pay1_at (x : Vec Ideal S4x512x1408 .bf16) (y : Vec Ideal S4x1x1024x1408 .bf16) (i : Fin 512) (j : Fin 1024) :
    out0_2 (F := Ideal) x y (ix2 i j) = ∑ p : Fin 4, ∑ k : Fin 1408, x (ix3 p i k) * y (ix4 p 0 j k) := by
  exact Cert.UpDhIdeal.Val.pay1_at x y i j

/-- What a point writes. -/
theorem out_at (t : Fin cfg0.N) (i : Fin 512) (j : Fin 1024) :
    out0_2 (F := Ideal) (iblk m c 0 t) (iblk m c 1 t) (ix2 i j) = ∑ k : Fin 5632,
      X0 m c (ix2 ⟨t.val * 512 + i, by have := points t; omega⟩ k) * X1 m c (ix3 0 j k) := by
  rw [pay1_at]
  refine Eq.trans ?_ (Sums.blocks 4 1408 5632 rfl _)
  exact Finset.sum_congr rfl fun p _ => Finset.sum_congr rfl fun k _ => congrArg₂ (· * ·)
    ((geo0 t (V m c main_v2) p i k).trans (V2_at m c p _ k)) ((geo1 t (V m c main_v5) p j k).trans (V5_at m c p 0 j k))

theorem ref_at (x0 : FVec Ideal S8192x5632 .f32) (x1 : FVec Ideal S2x1024x5632 .f32) (s : Fin 8192) (j : Fin 1024) :
    Cert.UpDhZeroRefIdeal.Read.val_main_v4 (F := Ideal) x0 x1 (ix2 s j) = ∑ k : Fin 5632, x0 (ix2 s k) * x1 (ix3 0 j k) := by
  pointwise [Cert.UpDhZeroRefIdeal.Read.val_main_v4, Cert.UpDhZeroRefIdeal.Read.val_main_v2, Cert.UpDhZeroRefIdeal.Read.val_main_v1]

theorem ref_of {x : S8192x1024.Idx} {s : Fin 8192} {j : Fin 1024} (e : x = ix2 s j) :
    Cert.UpDhZeroRefIdeal.Read.val_main_v4 (F := Ideal) (X0 m c) (X1 m c) x = ∑ k : Fin 5632, X0 m c (ix2 s k) * X1 m c (ix3 0 j k) := by
  subst e
  exact ref_at _ _ s j

theorem final : (dats m 0 c).arrAt 2 cfg0.N = Cert.UpDhZeroRefIdeal.Read.val_main_v4 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 512) (j : Fin 1024), y = (ix2 i j : S512x1024.Idx) :=
    ⟨y 0, y 1, by funext a; fin_cases a <;> rfl⟩
  have e : (win0_2.blk t).view.emb (ix2 i j) = (ix2 (⟨t.val * 512 + i, by omega⟩ : Fin 8192) j : S8192x1024.Idx) := by
    blk_ext [idx t]
  exact (out_at m c t i j).trans (ref_of m c e).symm

end Cert.UpDhZeroIdeal.Val

namespace Cert.Proof

open Idealize.ShloMosaic Idealize.SL.Sem

theorem frame_UpDhZeroRefIdeal : Cert.quiescent_UpDhZeroRefIdeal (hUpDhZeroRefIdeal := Cert.UpDhZeroRefIdeal.Gen.facts) := fun m ρ _ =>
  (θ_run Cert.UpDhZeroRefIdeal.defs _ _).mono (fun r h => ⟨fun c => (h c).2, sem_eq_zero_of_no_sems (by decide) r.2⟩)
    (Cert.UpDhZeroRefIdeal.Value.run (F := Ideal) m ρ)

/-- The gradient of the first feed-forward block's first product's rows: the call's result is the reference's. -/
theorem alg_UpDhZero : Cert.algebraic_UpDhZeroIdeal_UpDhZeroRefIdeal (hUpDhZeroIdeal := Cert.UpDhZeroIdeal.Gen.facts)
    (hUpDhZeroRefIdeal := Cert.UpDhZeroRefIdeal.Gen.facts) := by
  intro m g m' g' _ same
  refine ⟨fun c => Cert.UpDhZeroRefIdeal.Read.val_main_v4 (F := Ideal) (Cert.UpDhZeroIdeal.Val.X0 m c) (Cert.UpDhZeroIdeal.Val.X1 m c),
    (θ_run _ _ _).mono (fun r h c => ⟨(h c).1.trans (Cert.UpDhZeroIdeal.Val.final m c), (h c).2⟩) (Cert.UpDhZeroIdeal.Value.run_blocks m g),
    (θ_run _ _ _).mono (fun r h c => ⟨((h c).1.trans (Cert.UpDhZeroRefIdeal.Read.val_main_v4_eq _ _)).trans
      (congrArg₂ (Cert.UpDhZeroRefIdeal.Read.val_main_v4 (F := Ideal)) (same c).1 (same c).2), (h c).2⟩) (Cert.UpDhZeroRefIdeal.Value.run m' g')⟩

end Cert.Proof
-- ==== Proof.PwTwo.lean ====
/- The second product of the convolution module, with its bias. -/
module

public import proofs.«01_k».proof.Proof.Sums
public import proofs.«01_k».proof.Proof.Gen.PwTwoIdeal.Value
public import proofs.«01_k».proof.Proof.Gen.PwTwoRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.PwTwoIdeal.Val

open Cert.PwTwoIdeal Cert.PwTwoIdeal.Gen Idealize.ShloMosaic Idealize.ShloMosaic.TcCoe Idealize.SL.Sem

theorem idx : ∀ t : Fin cfg0.N, win0_0.index t = ![0, t.val, 0] ∧ win0_1.index t = ![0, 0, 0, 0]
    ∧ win0_2.index t = ![0, 0] ∧ win0_3.index t = ![0, t.val, 0] :=
  (by decide +kernel : ∀ t : Fin grid0.N, _)

theorem points (t : Fin cfg0.N) : t.val < 8 := t.isLt

/-- One block of the product, the bias added. -/
theorem pay1_at (x : Vec Ideal S1x1024x1024 .bf16) (y : Vec Ideal S1x1x1024x1024 .bf16) (b : Vec Ideal S1x1024 .f32) (i : Fin 1024)
    (j : Fin 1024) :
    k0_pay1 (F := Ideal) x y b (ix3 0 i j) = (∑ k : Fin 1024, x (ix3 0 i k) * y (ix4 0 0 k j)) + b (ix2 0 j) := by
  pointwise [k0_pay1]

variable (m : (ℓ : Loc nD τ sig) → Buf (Elt Ideal) ℓ) (c : Dev nD)

abbrev X0 : FVec Ideal S8192x1024 .f32 := m ((c : Thread nD τ).loc main_arg0)
abbrev X1 : FVec Ideal S1x1024x1024 .f32 := m ((c : Thread nD τ).loc main_arg1)
abbrev X2 : FVec Ideal S1x1024 .f32 := m ((c : Thread nD τ).loc main_arg2)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V3 : V m c main_v3 = broadcastInDim S1x1x1024x1024 ![1, 2, 3] bcast_S1x1024x1024_S1x1x1024x1024_1_2_3
    (truncf .bf16 (X1 m c) bitsLt_bf16_f32) := by
  unfold V; simp only [List.flatten_cons, List.flatten_nil, List.append_nil, List.cons_append, List.nil_append]; after_reads_simp

theorem V1_at (s : Fin 8192) (k : Fin 1024) : V m c main_v1 (ix3 0 s k) = X0 m c (ix2 s k) := by
  rw [V1]; pointwise

theorem V3_at (k : Fin 1024) (j : Fin 1024) : V m c main_v3 (ix4 0 0 k j) = X1 m c (ix3 0 k j) := by
  rw [V3]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val * 1024 + i, by have := points t; omega⟩ k) := by
  have ht := points t
  blk_ext [idx t]
theorem geo1 (A : FVec Ideal S1x1x1024x1024 .bf16) (k : Fin 1024) (j : Fin 1024) :
    ((cfg0.win 1).blk t).view.read (Elt Ideal) A (ix4 0 0 k j) = A (ix4 0 0 k j) := by
  have ht := points t
  blk_ext [idx t]
theorem geo2 (A : FVec Ideal S1x1024 .f32) (j : Fin 1024) :
    ((cfg0.win 2).blk t).view.read (Elt Ideal) A (ix2 0 j) = A (ix2 0 j) := by
  have ht := points t
  blk_ext [idx t]
end Geometry

/-- What a point writes. -/
theorem out_at (t : Fin cfg0.N) (i : Fin 1024) (j : Fin 1024) :
    out0_3 (F := Ideal) (iblk m c 0 t) (iblk m c 1 t) (iblk m c 2 t) (ix3 0 i j) = (∑ k : Fin 1024,
      X0 m c (ix2 ⟨t.val * 1024 + i, by have := points t; omega⟩ k) * X1 m c (ix3 0 k j))
      + X2 m c (ix2 0 j) := by
  have e : out0_3 (F := Ideal) (iblk m c 0 t) (iblk m c 1 t) (iblk m c 2 t) =
      k0_pay1 (F := Ideal) (iblk m c 0 t) (iblk m c 1 t) (iblk m c 2 t) := by
    frame_out
  refine (congrFun e _).trans ?_
  rw [pay1_at]
  refine congrArg₂ (· + ·) (Finset.sum_congr rfl fun k _ => congrArg₂ (· * ·)
    ((geo0 t (V m c main_v1) i k).trans (V1_at m c _ k)) ((geo1 t (V m c main_v3) k j).trans (V3_at m c k j))) ?_
  exact (geo2 t (V m c main_arg2) j).trans (congrFun (V_main_arg2 m c) _)

theorem ref_at (x0 : FVec Ideal S8192x1024 .f32) (x1 : FVec Ideal S1x1024x1024 .f32) (x2 : FVec Ideal S1x1024 .f32) (s : Fin 8192)
    (j : Fin 1024) : Cert.PwTwoRefIdeal.Read.val_main_v6 (F := Ideal) x0 x1 x2 (ix3 0 s j) =
      (∑ k : Fin 1024, x0 (ix2 s k) * x1 (ix3 0 k j)) + x2 (ix2 0 j) := by
  pointwise [Cert.PwTwoRefIdeal.Read.val_main_v6, Cert.PwTwoRefIdeal.Read.val_main_v5, Cert.PwTwoRefIdeal.Read.val_main_v4,
    Cert.PwTwoRefIdeal.Read.val_main_v3, Cert.PwTwoRefIdeal.Read.val_main_v2, Cert.PwTwoRefIdeal.Read.val_main_v1,
    Cert.PwTwoRefIdeal.Read.val_main_v0]

theorem ref_of {x : S1x8192x1024.Idx} {s : Fin 8192} {j : Fin 1024} (e : x = ix3 0 s j) :
    Cert.PwTwoRefIdeal.Read.val_main_v6 (F := Ideal) (X0 m c) (X1 m c) (X2 m c) x =
      (∑ k : Fin 1024, X0 m c (ix2 s k) * X1 m c (ix3 0 k j)) + X2 m c (ix2 0 j) := by
  subst e
  exact ref_at _ _ _ s j

theorem final : (dats m 0 c).arrAt 3 cfg0.N = Cert.PwTwoRefIdeal.Read.val_main_v6 (F := Ideal) (X0 m c) (X1 m c) (X2 m c) := by
  refine (dats m 0 c).arrAt_eq_of_covers 3 _ (by decide +kernel) fun t ht y => ?_
  blk_simp
  rw [after0_3]
  have hq := points t
  obtain ⟨i, j, rfl⟩ : ∃ (i : Fin 1024) (j : Fin 1024), y = (ix3 (0 : Fin 1) i j : S1x1024x1024.Idx) :=
    ⟨y 1, y 2, by funext a; fin_cases a; exacts [Subsingleton.elim (α := Fin 1) _ _, rfl, rfl]⟩
  have e : (win0_3.blk t).view.emb (ix3 (0 : Fin 1) i j) =
      (ix3 (0 : Fin 1) (⟨t.val * 1024 + i, by have := points t; omega⟩ : Fin 8192) j : S1x8192x1024.Idx) := by
    blk_ext [idx t]
  exact (out_at m c t i j).trans (ref_of m c e).symm

end Cert.PwTwoIdeal.Val

namespace Cert.Proof

open Idealize.ShloMosaic Idealize.SL.Sem

theorem frame_PwTwoRefIdeal : Cert.quiescent_PwTwoRefIdeal (hPwTwoRefIdeal := Cert.PwTwoRefIdeal.Gen.facts) := fun m ρ _ =>
  (θ_run Cert.PwTwoRefIdeal.defs _ _).mono (fun r h => ⟨fun c => (h c).2, sem_eq_zero_of_no_sems (by decide) r.2⟩)
    (Cert.PwTwoRefIdeal.Value.run (F := Ideal) m ρ)

/-- The second product with its bias: the call's result is the reference's. -/
theorem alg_PwTwo : Cert.algebraic_PwTwoIdeal_PwTwoRefIdeal (hPwTwoIdeal := Cert.PwTwoIdeal.Gen.facts)
    (hPwTwoRefIdeal := Cert.PwTwoRefIdeal.Gen.facts) := by
  intro m g m' g' _ same
  refine ⟨fun c => Cert.PwTwoRefIdeal.Read.val_main_v6 (F := Ideal) (Cert.PwTwoIdeal.Val.X0 m c) (Cert.PwTwoIdeal.Val.X1 m c)
      (Cert.PwTwoIdeal.Val.X2 m c),
    (θ_run _ _ _).mono (fun r h c => ⟨(h c).1.trans (Cert.PwTwoIdeal.Val.final m c), (h c).2⟩) (Cert.PwTwoIdeal.Value.run_blocks m g),
    (θ_run _ _ _).mono (fun r h c => ⟨((h c).1.trans (Cert.PwTwoRefIdeal.Read.val_main_v6_eq _ _ _)).trans
      (congr (congrArg₂ (Cert.PwTwoRefIdeal.Read.val_main_v6 (F := Ideal)) (same c).1 (same c).2.1) (same c).2.2), (h c).2⟩)
      (Cert.PwTwoRefIdeal.Value.run m' g')⟩

end Cert.Proof
-- ==== Proof.PwTwoDw.lean ====
/- The gradient of the weights of the convolution module's second product. -/
module

public import proofs.«01_k».proof.Proof.Sums
public import proofs.«01_k».proof.Proof.Gen.PwTwoDwIdeal.Value
public import proofs.«01_k».proof.Proof.Gen.PwTwoDwRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.PwTwoDwIdeal.Val

open Cert.PwTwoDwIdeal Cert.PwTwoDwIdeal.Gen Idealize.ShloMosaic Idealize.ShloMosaic.TcCoe Idealize.SL.Sem

theorem idx : ∀ t : Fin cfg0.N, win0_0.index t = ![0, t.val % 8, 0] ∧ win0_1.index t = ![0, t.val % 8, 0]
    ∧ win0_2.index t = ![0, 0, 0] :=
  (by decide +kernel : ∀ t : Fin grid0.N, _)

theorem points (t : Fin cfg0.N) : t.val < 8 := t.isLt

/-- One point's part of the product. -/
theorem pay1_at (x : Vec Ideal S1x1024x1024 .bf16) (y : Vec Ideal S1x1024x1024 .bf16) (i : Fin 1024) (j : Fin 1024) :
    k0_pay1 (F := Ideal) x y (ix2 i j) = ∑ k : Fin 1024, x (ix3 0 k i) * y (ix3 0 k j) := by
  pointwise [k0_pay1]

theorem pay2_at (x : Vec Ideal S1x1024x1024 .bf16) (y : Vec Ideal S1x1024x1024 .bf16) (i : Fin 1024) (j : Fin 1024) :
    k0_pay2 (F := Ideal) x y (ix3 0 i j) = k0_pay1 (F := Ideal) x y (ix2 i j) := by
  pointwise [k0_pay2]

theorem pay3_at (x : Vec Ideal S1x1024x1024 .bf16) (y : Vec Ideal S1x1024x1024 .bf16) (a : Vec Ideal S1x1024x1024 .f32)
    (i : Fin 1024) (j : Fin 1024) :
    k0_pay3 (F := Ideal) x y a (ix3 0 i j) = a (ix3 0 i j) + k0_pay1 (F := Ideal) x y (ix2 i j) := by
  pointwise [k0_pay3]

variable (m : (ℓ : Loc nD τ sig) → Buf (Elt Ideal) ℓ) (c : Dev nD)

abbrev X0 : FVec Ideal S8192x1024 .f32 := m ((c : Thread nD τ).loc main_arg0)
abbrev X1 : FVec Ideal S8192x1024 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V3 : V m c main_v3 = broadcastInDim S1x8192x1024 ![1, 2] bcast_S8192x1024_S1x8192x1024_1_2
    (truncf .bf16 (X1 m c) bitsLt_bf16_f32) := by
  unfold V; simp only [List.flatten_cons, List.flatten_nil, List.append_nil, List.cons_append, List.nil_append]; after_reads_simp

theorem V1_at (s : Fin 8192) (i : Fin 1024) : V m c main_v1 (ix3 0 s i) = X0 m c (ix2 s i) := by
  rw [V1]; pointwise

theorem V3_at (s : Fin 8192) (j : Fin 1024) : V m c main_v3 (ix3 0 s j) = X1 m c (ix2 s j) := by
  rw [V3]; pointwise

section Geometry
variable {m c} (t : Fin cfg0.N)
theorem geo0 (A : FVec Ideal S1x8192x1024 .bf16) (k : Fin 1024) (i : Fin 1024) :
    ((cfg0.win 0).blk t).view.read (Elt Ideal) A (ix3 0 k i) = A (ix3 0 ⟨t.val % 8 * 1024 + k, by omega⟩ i) := by
  have ht := points t
  blk_ext [idx t]
theorem geo1 (A : FVec Ideal S1x8192x1024 .bf16) (k : Fin 1024) (j : Fin 1024) :
    ((cfg0.win 1).blk t).view.read (Elt Ideal) A (ix3 0 k j) =
      A (ix3 0 ⟨t.val % 8 * 1024 + k, by omega⟩ j) := by
  have ht := points t
  blk_ext [idx t]
end Geometry

theorem outs_A (t : Fin cfg0.N) (h0 : t.val % 8 = 0) :
    outsAt0 m c t.val t.isLt = k0_pay2 (F := Ideal) (iblk m c 0 t) (iblk m c 1 t) := by
  rw [outsAt0_A m c t h0 (by have := points t; omega)]
  frame_out

theorem outs_B (t : Fin cfg0.N) (h0 : ¬t.val % 8 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 (by have := points t; omega)]
  frame_out

/-- What a point adds. -/
theorem part_at (n : ℕ) (h : n < cfg0.N) (l : Fin 8) (e : n = 8 * 0 + l) (i : Fin 1024) (j : Fin 1024) :
    k0_pay1 (F := Ideal) (iblk m c 0 ⟨n, h⟩) (iblk m c 1 ⟨n, h⟩) (ix2 i j) = ∑ k : Fin 1024,
      X0 m c (ix2 ⟨(l : ℕ) * 1024 + k, by omega⟩ i) * X1 m c (ix2 ⟨(l : ℕ) * 1024 + k, by omega⟩ j) := by
  have hl := l.isLt
  obtain rfl : l = ⟨n % 8, Nat.mod_lt _ (by decide)⟩ := Fin.ext (by dsimp only; omega)
  rw [pay1_at]
  exact Finset.sum_congr rfl fun k _ => congrArg₂ (· * ·)
    ((geo0 ⟨n, h⟩ (V m c main_v1) k i).trans (V1_at m c _ i)) ((geo1 ⟨n, h⟩ (V m c main_v3) k j).trans (V3_at m c _ _))

/-- What the last point leaves. -/
theorem outs_at (n : ℕ) (e : n = 8 * 0 + 7) (h : n < cfg0.N) (i : Fin 1024) (j : Fin 1024) :
    outsAt0 m c n h (ix3 0 i j) = ∑ s : Fin 8192, X0 m c (ix2 s i) * X1 m c (ix2 s j) :=
  Sums.of_run (N := cfg0.N) (fun n h (x : Fin 1024 × Fin 1024) => outsAt0 m c n h (ix3 0 x.1 x.2))
    (fun n h x => k0_pay1 (F := Ideal) (iblk m c 0 ⟨n, h⟩) (iblk m c 1 ⟨n, h⟩) (ix2 x.1 x.2))
    (fun n h x e => (congrFun (outs_A m c ⟨n, h⟩ e) _).trans (pay2_at _ _ _ _))
    (fun n h x e => (congrFun (outs_B m c ⟨n + 1, h⟩ e) _).trans (pay3_at _ _ _ _ _)) 0 n e h (i, j)
    (fun s => X0 m c (ix2 s i) * X1 m c (ix2 s j)) fun l hl => part_at m c _ hl l rfl i j

theorem ref_at (x0 : FVec Ideal S8192x1024 .f32) (x1 : FVec Ideal S8192x1024 .f32) (i : Fin 1024) (j : Fin 1024) :
    Cert.PwTwoDwRefIdeal.Read.val_main_v4 (F := Ideal) x0 x1 (ix3 0 i j) = ∑ s : Fin 8192, x0 (ix2 s i) * x1 (ix2 s j) := by
  pointwise [Cert.PwTwoDwRefIdeal.Read.val_main_v4, Cert.PwTwoDwRefIdeal.Read.val_main_v3, Cert.PwTwoDwRefIdeal.Read.val_main_v2]
  exact Finset.sum_congr rfl fun s _ => mul_comm _ _

theorem ref_of {x : S1x1024x1024.Idx} {i : Fin 1024} {j : Fin 1024} (e : x = ix3 0 i j) :
    Cert.PwTwoDwRefIdeal.Read.val_main_v4 (F := Ideal) (X0 m c) (X1 m c) x =
      ∑ s : Fin 8192, X0 m c (ix2 s i) * X1 m c (ix2 s j) := by
  subst e
  exact ref_at _ _ i j

theorem final : (dats m 0 c).arrAt 2 cfg0.N = Cert.PwTwoDwRefIdeal.Read.val_main_v4 (F := Ideal) (X0 m c) (X1 m c) := by
  refine (dats m 0 c).arrAt_eq_of_covers 2 _ (by decide +kernel) fun t ht y => ?_
  have h7 := (flush0_2 t).mp ht
  have hq := points t
  blk_simp
  rw [after0_2]
  obtain ⟨i, j, rfl⟩ : ∃ (i : Fin 1024) (j : Fin 1024), y = (ix3 (0 : Fin 1) i j : S1x1024x1024.Idx) :=
    ⟨y 1, y 2, by funext a; fin_cases a; exacts [Subsingleton.elim (α := Fin 1) _ _, rfl, rfl]⟩
  have e : (win0_2.blk t).view.emb (ix3 (0 : Fin 1) i j) = (ix3 (0 : Fin 1) i j : S1x1024x1024.Idx) := by
    blk_ext [idx t]
  exact (outs_at m c _ (by omega) _ i j).trans (ref_of m c e).symm

end Cert.PwTwoDwIdeal.Val

namespace Cert.Proof

open Idealize.ShloMosaic Idealize.SL.Sem

theorem frame_PwTwoDwRefIdeal : Cert.quiescent_PwTwoDwRefIdeal (hPwTwoDwRefIdeal := Cert.PwTwoDwRefIdeal.Gen.facts) := fun m ρ _ =>
  (θ_run Cert.PwTwoDwRefIdeal.defs _ _).mono (fun r h => ⟨fun c => (h c).2, sem_eq_zero_of_no_sems (by decide) r.2⟩)
    (Cert.PwTwoDwRefIdeal.Value.run (F := Ideal) m ρ)

/-- The gradient of the second product's weights: the call's result is the reference's. -/
theorem alg_PwTwoDw : Cert.algebraic_PwTwoDwIdeal_PwTwoDwRefIdeal (hPwTwoDwIdeal := Cert.PwTwoDwIdeal.Gen.facts)
    (hPwTwoDwRefIdeal := Cert.PwTwoDwRefIdeal.Gen.facts) := by
  intro m g m' g' _ same
  refine ⟨fun c => Cert.PwTwoDwRefIdeal.Read.val_main_v4 (F := Ideal) (Cert.PwTwoDwIdeal.Val.X0 m c) (Cert.PwTwoDwIdeal.Val.X1 m c),
    (θ_run _ _ _).mono (fun r h c => ⟨(h c).1.trans (Cert.PwTwoDwIdeal.Val.final m c), (h c).2⟩) (Cert.PwTwoDwIdeal.Value.run_blocks m g),
    (θ_run _ _ _).mono (fun r h c => ⟨((h c).1.trans (Cert.PwTwoDwRefIdeal.Read.val_main_v4_eq _ _)).trans
      (congrArg₂ (Cert.PwTwoDwRefIdeal.Read.val_main_v4 (F := Ideal)) (same c).1 (same c).2), (h c).2⟩) (Cert.PwTwoDwRefIdeal.Value.run m' g')⟩

end Cert.Proof
-- ==== Proof.PwTwoDu.lean ====
/- The gradient of the convolution module's second product by its rows. -/
module

public import proofs.«01_k».proof.Proof.Sums
public import proofs.«01_k».proof.Proof.Gen.PwTwoDuIdeal.Value
public import proofs.«01_k».proof.Proof.Gen.PwTwoDuRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.PwTwoDuIdeal.Val

open Cert.PwTwoDuIdeal Cert.PwTwoDuIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![0, t.val, 0] :=
  (by decide +kernel : ∀ t : Fin grid0.N, _)

theorem points (t : Fin cfg0.N) : t.val < 8 := t.isLt

/-- One block of the product. -/
theorem pay1_at (x : Vec Ideal S1x1024x1024 .bf16) (y : Vec Ideal S1x1x1024x1024 .bf16) (i : Fin 1024) (j : Fin 1024) :
    k0_pay1 (F := Ideal) x y (ix3 0 i j) = ∑ k : Fin 1024, x (ix3 0 i k) * y (ix4 0 0 j k) := by
  pointwise [k0_pay1]

variable (m : (ℓ : Loc nD τ sig) → Buf (Elt Ideal) ℓ) (c : Dev nD)

abbrev X0 : FVec Ideal S8192x1024 .f32 := m ((c : Thread nD τ).loc main_arg0)
abbrev X1 : FVec Ideal S1x1024x1024 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V3 : V m c main_v3 = broadcastInDim S1x1x1024x1024 ![1, 2, 3] bcast_S1x1024x1024_S1x1x1024x1024_1_2_3
    (truncf .bf16 (X1 m c) bitsLt_bf16_f32) := by
  unfold V; simp only [List.flatten_cons, List.flatten_nil, List.append_nil, List.cons_append, List.nil_append]; after_reads_simp

theorem V1_at (s : Fin 8192) (k : Fin 1024) : V m c main_v1 (ix3 0 s k) = X0 m c (ix2 s k) := by
  rw [V1]; pointwise

theorem V3_at (j : Fin 1024) (k : Fin 1024) : V m c main_v3 (ix4 0 0 j k) = X1 m c (ix3 0 j k) := by
  rw [V3]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val * 1024 + i, by have := points t; omega⟩ k) := by
  have ht := points t
  blk_ext [idx t]
theorem geo1 (A : FVec Ideal S1x1x1024x1024 .bf16) (j : Fin 1024) (k : Fin 1024) :
    ((cfg0.win 1).blk t).view.read (Elt Ideal) A (ix4 0 0 j k) =
      A (ix4 0 0 j k) := by
  have ht := points t
  blk_ext [idx t]
end Geometry

/-- What a point writes. -/
theorem out_at (t : Fin cfg0.N) (i : Fin 1024) (j : Fin 1024) :
    out0_2 (F := Ideal) (iblk m c 0 t) (iblk m c 1 t) (ix3 0 i j) = ∑ k : Fin 1024,
      X0 m c (ix2 ⟨t.val * 1024 + i, by have := points t; omega⟩ k) * X1 m c (ix3 0 j k) := by
  have e : out0_2 (F := Ideal) (iblk m c 0 t) (iblk m c 1 t) = k0_pay1 (F := Ideal) (iblk m c 0 t) (iblk m c 1 t) := by
    frame_out
  refine (congrFun e _).trans ?_
  rw [pay1_at]
  exact Finset.sum_congr rfl fun k _ => congrArg₂ (· * ·)
    ((geo0 t (V m c main_v1) i k).trans (V1_at m c _ k)) ((geo1 t (V m c main_v3) j k).trans (V3_at m c _ k))

theorem ref_at (x0 : FVec Ideal S8192x1024 .f32) (x1 : FVec Ideal S1x1024x1024 .f32) (s : Fin 8192) (j : Fin 1024) :
    Cert.PwTwoDuRefIdeal.Read.val_main_v4 (F := Ideal) x0 x1 (ix3 0 s j) = ∑ k : Fin 1024, x0 (ix2 s k) * x1 (ix3 0 j k) := by
  pointwise [Cert.PwTwoDuRefIdeal.Read.val_main_v4, Cert.PwTwoDuRefIdeal.Read.val_main_v3, Cert.PwTwoDuRefIdeal.Read.val_main_v1]

theorem ref_of {x : S1x8192x1024.Idx} {s : Fin 8192} {j : Fin 1024} (e : x = ix3 0 s j) :
    Cert.PwTwoDuRefIdeal.Read.val_main_v4 (F := Ideal) (X0 m c) (X1 m c) x = ∑ k : Fin 1024, X0 m c (ix2 s k) * X1 m c (ix3 0 j k) := by
  subst e
  exact ref_at _ _ s j

theorem final : (dats m 0 c).arrAt 2 cfg0.N = Cert.PwTwoDuRefIdeal.Read.val_main_v4 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 1024) (j : Fin 1024), y = (ix3 (0 : Fin 1) i j : S1x1024x1024.Idx) :=
    ⟨y 1, y 2, by funext a; fin_cases a; exacts [Subsingleton.elim (α := Fin 1) _ _, rfl, rfl]⟩
  have e : (win0_2.blk t).view.emb (ix3 (0 : Fin 1) i j) =
      (ix3 (0 : Fin 1) (⟨t.val * 1024 + i, by omega⟩ : Fin 8192) j : S1x8192x1024.Idx) := by
    blk_ext [idx t]
  exact (out_at m c t i j).trans (ref_of m c e).symm

end Cert.PwTwoDuIdeal.Val

namespace Cert.Proof

open Idealize.ShloMosaic Idealize.SL.Sem

theorem frame_PwTwoDuRefIdeal : Cert.quiescent_PwTwoDuRefIdeal (hPwTwoDuRefIdeal := Cert.PwTwoDuRefIdeal.Gen.facts) := fun m ρ _ =>
  (θ_run Cert.PwTwoDuRefIdeal.defs _ _).mono (fun r h => ⟨fun c => (h c).2, sem_eq_zero_of_no_sems (by decide) r.2⟩)
    (Cert.PwTwoDuRefIdeal.Value.run (F := Ideal) m ρ)

/-- The gradient of the second product's rows: the call's result is the reference's. -/
theorem alg_PwTwoDu : Cert.algebraic_PwTwoDuIdeal_PwTwoDuRefIdeal (hPwTwoDuIdeal := Cert.PwTwoDuIdeal.Gen.facts)
    (hPwTwoDuRefIdeal := Cert.PwTwoDuRefIdeal.Gen.facts) := by
  intro m g m' g' _ same
  refine ⟨fun c => Cert.PwTwoDuRefIdeal.Read.val_main_v4 (F := Ideal) (Cert.PwTwoDuIdeal.Val.X0 m c) (Cert.PwTwoDuIdeal.Val.X1 m c),
    (θ_run _ _ _).mono (fun r h c => ⟨(h c).1.trans (Cert.PwTwoDuIdeal.Val.final m c), (h c).2⟩) (Cert.PwTwoDuIdeal.Value.run_blocks m g),
    (θ_run _ _ _).mono (fun r h c => ⟨((h c).1.trans (Cert.PwTwoDuRefIdeal.Read.val_main_v4_eq _ _)).trans
      (congrArg₂ (Cert.PwTwoDuRefIdeal.Read.val_main_v4 (F := Ideal)) (same c).1 (same c).2), (h c).2⟩) (Cert.PwTwoDuRefIdeal.Value.run m' g')⟩

end Cert.Proof
-- ==== Proof.AttnOut.lean ====
/- The product after the attention. -/
module

public import proofs.«01_k».proof.Proof.Sums
public import proofs.«01_k».proof.Proof.Gen.AttnOutIdeal.Value
public import proofs.«01_k».proof.Proof.Gen.AttnOutRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AttnOutIdeal.Val

open Cert.AttnOutIdeal Cert.AttnOutIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![0, t.val, 0] :=
  (by decide +kernel : ∀ t : Fin grid0.N, _)

theorem points (t : Fin cfg0.N) : t.val < 8 := t.isLt

/-- One block of the product. -/
theorem pay1_at (x : Vec Ideal S1x1024x512 .bf16) (y : Vec Ideal S1x1x512x1024 .bf16) (i : Fin 1024) (j : Fin 1024) :
    k0_pay1 (F := Ideal) x y (ix3 0 i j) = ∑ k : Fin 512, x (ix3 0 i k) * y (ix4 0 0 k j) := by
  pointwise [k0_pay1]

variable (m : (ℓ : Loc nD τ sig) → Buf (Elt Ideal) ℓ) (c : Dev nD)

abbrev X0 : FVec Ideal S8192x512 .f32 := m ((c : Thread nD τ).loc main_arg0)
abbrev X1 : FVec Ideal S1x512x1024 .f32 := m ((c : Thread nD τ).loc main_arg1)

theorem V1 : V m c main_v1 = broadcastInDim S1x8192x512 ![1, 2] bcast_S8192x512_S1x8192x512_1_2
    (truncf .bf16 (X0 m c) bitsLt_bf16_f32) := by
  unfold V; simp only [List.flatten_cons, List.flatten_nil, List.append_nil, List.cons_append, List.nil_append]; after_reads_simp

theorem V3 : V m c main_v3 = broadcastInDim S1x1x512x1024 ![1, 2, 3] bcast_S1x512x1024_S1x1x512x1024_1_2_3
    (truncf .bf16 (X1 m c) bitsLt_bf16_f32) := by
  unfold V; simp only [List.flatten_cons, List.flatten_nil, List.append_nil, List.cons_append, List.nil_append]; after_reads_simp

theorem V1_at (s : Fin 8192) (k : Fin 512) : V m c main_v1 (ix3 0 s k) = X0 m c (ix2 s k) := by
  rw [V1]; pointwise

theorem V3_at (k : Fin 512) (j : Fin 1024) : V m c main_v3 (ix4 0 0 k j) = X1 m c (ix3 0 k j) := by
  rw [V3]; pointwise

section Geometry
variable {m c} (t : Fin cfg0.N)
theorem geo0 (A : FVec Ideal S1x8192x512 .bf16) (i : Fin 1024) (k : Fin 512) :
    ((cfg0.win 0).blk t).view.read (Elt Ideal) A (ix3 0 i k) = A (ix3 0 ⟨t.val * 1024 + i, by have := points t; omega⟩ k) := by
  have ht := points t
  blk_ext [idx t]
theorem geo1 (A : FVec Ideal S1x1x512x1024 .bf16) (k : Fin 512) (j : Fin 1024) :
    ((cfg0.win 1).blk t).view.read (Elt Ideal) A (ix4 0 0 k j) = A (ix4 0 0 k j) := by
  have ht := points t
  blk_ext [idx t]
end Geometry

/-- What a point writes. -/
theorem out_at (t : Fin cfg0.N) (i : Fin 1024) (j : Fin 1024) :
    out0_2 (F := Ideal) (iblk m c 0 t) (iblk m c 1 t) (ix3 0 i j) = ∑ k : Fin 512,
      X0 m c (ix2 ⟨t.val * 1024 + i, by have := points t; omega⟩ k) * X1 m c (ix3 0 k j) := by
  have e : out0_2 (F := Ideal) (iblk m c 0 t) (iblk m c 1 t) = k0_pay1 (F := Ideal) (iblk m c 0 t) (iblk m c 1 t) := by
    frame_out
  refine (congrFun e _).trans ?_
  rw [pay1_at]
  exact Finset.sum_congr rfl fun k _ => congrArg₂ (· * ·)
    ((geo0 t (V m c main_v1) i k).trans (V1_at m c _ k)) ((geo1 t (V m c main_v3) k j).trans (V3_at m c k j))

theorem ref_at (x0 : FVec Ideal S8192x512 .f32) (x1 : FVec Ideal S1x512x1024 .f32) (s : Fin 8192) (j : Fin 1024) :
    Cert.AttnOutRefIdeal.Read.val_main_v2 (F := Ideal) x0 x1 (ix3 0 s j) = ∑ k : Fin 512, x0 (ix2 s k) * x1 (ix3 0 k j) := by
  pointwise [Cert.AttnOutRefIdeal.Read.val_main_v2, Cert.AttnOutRefIdeal.Read.val_main_v1, Cert.AttnOutRefIdeal.Read.val_main_v0]

theorem ref_of {x : S1x8192x1024.Idx} {s : Fin 8192} {j : Fin 1024} (e : x = ix3 0 s j) :
    Cert.AttnOutRefIdeal.Read.val_main_v2 (F := Ideal) (X0 m c) (X1 m c) x = ∑ k : Fin 512, X0 m c (ix2 s k) * X1 m c (ix3 0 k j) := by
  subst e
  exact ref_at _ _ s j

theorem final : (dats m 0 c).arrAt 2 cfg0.N = Cert.AttnOutRefIdeal.Read.val_main_v2 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 1024) (j : Fin 1024), y = (ix3 (0 : Fin 1) i j : S1x1024x1024.Idx) :=
    ⟨y 1, y 2, by funext a; fin_cases a; exacts [Subsingleton.elim (α := Fin 1) _ _, rfl, rfl]⟩
  have e : (win0_2.blk t).view.emb (ix3 (0 : Fin 1) i j) =
      (ix3 (0 : Fin 1) (⟨t.val * 1024 + i, by omega⟩ : Fin 8192) j : S1x8192x1024.Idx) := by
    blk_ext [idx t]
  exact (out_at m c t i j).trans (ref_of m c e).symm

end Cert.AttnOutIdeal.Val

namespace Cert.Proof

open Idealize.ShloMosaic Idealize.SL.Sem

theorem frame_AttnOutRefIdeal : Cert.quiescent_AttnOutRefIdeal (hAttnOutRefIdeal := Cert.AttnOutRefIdeal.Gen.facts) := fun m ρ _ =>
  (θ_run Cert.AttnOutRefIdeal.defs _ _).mono (fun r h => ⟨fun c => (h c).2, sem_eq_zero_of_no_sems (by decide) r.2⟩)
    (Cert.AttnOutRefIdeal.Value.run (F := Ideal) m ρ)

/-- The product after the attention: the call's result is the reference's. -/
theorem alg_AttnOut : Cert.algebraic_AttnOutIdeal_AttnOutRefIdeal (hAttnOutIdeal := Cert.AttnOutIdeal.Gen.facts)
    (hAttnOutRefIdeal := Cert.AttnOutRefIdeal.Gen.facts) := by
  intro m g m' g' _ same
  refine ⟨fun c => Cert.AttnOutRefIdeal.Read.val_main_v2 (F := Ideal) (Cert.AttnOutIdeal.Val.X0 m c) (Cert.AttnOutIdeal.Val.X1 m c),
    (θ_run _ _ _).mono (fun r h c => ⟨(h c).1.trans (Cert.AttnOutIdeal.Val.final m c), (h c).2⟩) (Cert.AttnOutIdeal.Value.run_blocks m g),
    (θ_run _ _ _).mono (fun r h c => ⟨((h c).1.trans (Cert.AttnOutRefIdeal.Read.val_main_v2_eq _ _)).trans
      (congrArg₂ (Cert.AttnOutRefIdeal.Read.val_main_v2 (F := Ideal)) (same c).1 (same c).2), (h c).2⟩) (Cert.AttnOutRefIdeal.Value.run m' g')⟩

end Cert.Proof
-- ==== Proof.AttnOutDw.lean ====
/- The gradient of the weights of the product after the attention. -/
module

public import proofs.«01_k».proof.Proof.Sums
public import proofs.«01_k».proof.Proof.Gen.AttnOutDwIdeal.Value
public import proofs.«01_k».proof.Proof.Gen.AttnOutDwRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AttnOutDwIdeal.Val

open Cert.AttnOutDwIdeal Cert.AttnOutDwIdeal.Gen Idealize.ShloMosaic Idealize.ShloMosaic.TcCoe Idealize.SL.Sem

theorem idx : ∀ t : Fin cfg0.N, win0_0.index t = ![0, t.val % 8, 0] ∧ win0_1.index t = ![0, t.val % 8, t.val / 8]
    ∧ win0_2.index t = ![t.val / 8, 0, 0] :=
  (by decide +kernel : ∀ t : Fin grid0.N, _)

theorem points (t : Fin cfg0.N) : t.val < 32 := t.isLt

/-- One point's part of the product. -/
theorem pay1_at (x : Vec Ideal S1x1024x512 .bf16) (y : Vec Ideal S1x1024x256 .bf16) (i : Fin 512) (j : Fin 256) :
    k0_pay1 (F := Ideal) x y (ix2 i j) = ∑ k : Fin 1024, x (ix3 0 k i) * y (ix3 0 k j) := by
  pointwise [k0_pay1]

theorem pay2_at (x : Vec Ideal S1x1024x512 .bf16) (y : Vec Ideal S1x1024x256 .bf16) (i : Fin 512) (j : Fin 256) :
    k0_pay2 (F := Ideal) x y (ix3 0 i j) = k0_pay1 (F := Ideal) x y (ix2 i j) := by
  pointwise [k0_pay2]

theorem pay3_at (x : Vec Ideal S1x1024x512 .bf16) (y : Vec Ideal S1x1024x256 .bf16) (a : Vec Ideal S1x512x256 .f32)
    (i : Fin 512) (j : Fin 256) :
    k0_pay3 (F := Ideal) x y a (ix3 0 i j) = a (ix3 0 i j) + k0_pay1 (F := Ideal) x y (ix2 i j) := by
  pointwise [k0_pay3]

variable (m : (ℓ : Loc nD τ sig) → Buf (Elt Ideal) ℓ) (c : Dev nD)

abbrev X0 : FVec Ideal S8192x512 .f32 := m ((c : Thread nD τ).loc main_arg0)
abbrev X1 : FVec Ideal S8192x1024 .f32 := m ((c : Thread nD τ).loc main_arg1)

theorem V1 : V m c main_v1 = broadcastInDim S1x8192x512 ![1, 2] bcast_S8192x512_S1x8192x512_1_2
    (truncf .bf16 (X0 m c) bitsLt_bf16_f32) := by
  unfold V; simp only [List.flatten_cons, List.flatten_nil, List.append_nil, List.cons_append, List.nil_append]; after_reads_simp

theorem V3 : V m c main_v3 = broadcastInDim S1x8192x1024 ![1, 2] bcast_S8192x1024_S1x8192x1024_1_2
    (truncf .bf16 (X1 m c) bitsLt_bf16_f32) := by
  unfold V; simp only [List.flatten_cons, List.flatten_nil, List.append_nil, List.cons_append, List.nil_append]; after_reads_simp

theorem V1_at (s : Fin 8192) (i : Fin 512) : V m c main_v1 (ix3 0 s i) = X0 m c (ix2 s i) := by
  rw [V1]; pointwise

theorem V3_at (s : Fin 8192) (j : Fin 1024) : V m c main_v3 (ix3 0 s j) = X1 m c (ix2 s j) := by
  rw [V3]; pointwise

section Geometry
variable {m c} (t : Fin cfg0.N)
theorem geo0 (A : FVec Ideal S1x8192x512 .bf16) (k : Fin 1024) (i : Fin 512) :
    ((cfg0.win 0).blk t).view.read (Elt Ideal) A (ix3 0 k i) = A (ix3 0 ⟨t.val % 8 * 1024 + k, by omega⟩ i) := by
  have ht := points t
  blk_ext [idx t]
theorem geo1 (A : FVec Ideal S1x8192x1024 .bf16) (k : Fin 1024) (j : Fin 256) :
    ((cfg0.win 1).blk t).view.read (Elt Ideal) A (ix3 0 k j) =
      A (ix3 0 ⟨t.val % 8 * 1024 + k, by omega⟩ ⟨t.val / 8 * 256 + j, by have := points t; omega⟩) := by
  have ht := points t
  blk_ext [idx t]
end Geometry

theorem outs_A (t : Fin cfg0.N) (h0 : t.val % 8 = 0) :
    outsAt0 m c t.val t.isLt = k0_pay2 (F := Ideal) (iblk m c 0 t) (iblk m c 1 t) := by
  rw [outsAt0_A m c t h0 (by omega)]
  frame_out

theorem outs_B (t : Fin cfg0.N) (h0 : ¬t.val % 8 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 (by omega)]
  frame_out

/-- What a point adds. -/
theorem part_at (n : ℕ) (h : n < cfg0.N) (l : Fin 8) (q : Fin 4) (e : n = 8 * (q : ℕ) + l) (i : Fin 512) (j : Fin 256) :
    k0_pay1 (F := Ideal) (iblk m c 0 ⟨n, h⟩) (iblk m c 1 ⟨n, h⟩) (ix2 i j) = ∑ k : Fin 1024,
      X0 m c (ix2 ⟨(l : ℕ) * 1024 + k, by omega⟩ i) * X1 m c (ix2 ⟨(l : ℕ) * 1024 + k, by omega⟩ ⟨(q : ℕ) * 256 + j, by omega⟩) := by
  have hl := l.isLt
  obtain rfl : l = ⟨n % 8, Nat.mod_lt _ (by decide)⟩ := Fin.ext (by dsimp only; omega)
  obtain rfl : q = ⟨n / 8, Nat.div_lt_of_lt_mul (show n < 8 * 4 from h)⟩ := Fin.ext (by dsimp only at e ⊢; omega)
  rw [pay1_at]
  exact Finset.sum_congr rfl fun k _ => congrArg₂ (· * ·)
    ((geo0 ⟨n, h⟩ (V m c main_v1) k i).trans (V1_at m c _ i)) ((geo1 ⟨n, h⟩ (V m c main_v3) k j).trans (V3_at m c _ _))

/-- What the last point of a run leaves. -/
theorem outs_at (q : Fin 4) (n : ℕ) (e : n = 8 * (q : ℕ) + 7) (h : n < cfg0.N) (i : Fin 512) (j : Fin 256) :
    outsAt0 m c n h (ix3 0 i j) = ∑ s : Fin 8192, X0 m c (ix2 s i) * X1 m c (ix2 s ⟨(q : ℕ) * 256 + j, by omega⟩) :=
  Sums.of_run (N := cfg0.N) (fun n h (x : Fin 512 × Fin 256) => outsAt0 m c n h (ix3 0 x.1 x.2))
    (fun n h x => k0_pay1 (F := Ideal) (iblk m c 0 ⟨n, h⟩) (iblk m c 1 ⟨n, h⟩) (ix2 x.1 x.2))
    (fun n h x e => (congrFun (outs_A m c ⟨n, h⟩ e) _).trans (pay2_at _ _ _ _))
    (fun n h x e => (congrFun (outs_B m c ⟨n + 1, h⟩ e) _).trans (pay3_at _ _ _ _ _)) q n e h (i, j)
    (fun s => X0 m c (ix2 s i) * X1 m c (ix2 s ⟨(q : ℕ) * 256 + j, by omega⟩))
    fun l hl => part_at m c _ hl l q rfl i j

theorem ref_at (x0 : FVec Ideal S8192x512 .f32) (x1 : FVec Ideal S8192x1024 .f32) (p : Fin 4) (i : Fin 512) (j : Fin 256) :
    Cert.AttnOutDwRefIdeal.Read.val_main_v5 (F := Ideal) x0 x1 (ix3 p i j) =
      ∑ s : Fin 8192, x0 (ix2 s i) * x1 (ix2 s ⟨(p : ℕ) * 256 + j, by omega⟩) := by
  pointwise [Cert.AttnOutDwRefIdeal.Read.val_main_v5, Cert.AttnOutDwRefIdeal.Read.val_main_v4, Cert.AttnOutDwRefIdeal.Read.val_main_v3,
    Cert.AttnOutDwRefIdeal.Read.val_main_v2]
  exact Finset.sum_congr rfl fun s _ => mul_comm _ _

theorem ref_of {x : S4x512x256.Idx} {p : Fin 4} {i : Fin 512} {j : Fin 256} (e : x = ix3 p i j) :
    Cert.AttnOutDwRefIdeal.Read.val_main_v5 (F := Ideal) (X0 m c) (X1 m c) x =
      ∑ s : Fin 8192, X0 m c (ix2 s i) * X1 m c (ix2 s ⟨(p : ℕ) * 256 + j, by omega⟩) := by
  subst e
  exact ref_at _ _ p i j

theorem final : (dats m 0 c).arrAt 2 cfg0.N = Cert.AttnOutDwRefIdeal.Read.val_main_v5 (F := Ideal) (X0 m c) (X1 m c) := by
  refine (dats m 0 c).arrAt_eq_of_covers 2 _ (by decide +kernel) fun t ht y => ?_
  have h7 := (flush0_2 t).mp ht
  blk_simp
  rw [after0_2]
  have hq : t.val / 8 < 4 := by have := points t; omega
  obtain ⟨i, j, rfl⟩ : ∃ (i : Fin 512) (j : Fin 256), y = (ix3 (0 : Fin 1) i j : S1x512x256.Idx) :=
    ⟨y 1, y 2, by funext a; fin_cases a; exacts [Subsingleton.elim (α := Fin 1) _ _, rfl, rfl]⟩
  have e : (win0_2.blk t).view.emb (ix3 (0 : Fin 1) i j) = (ix3 (⟨t.val / 8, hq⟩ : Fin 4) i j : S4x512x256.Idx) := by
    blk_ext [idx t]
  exact (outs_at m c ⟨t.val / 8, hq⟩ _ (by dsimp only; omega) _ i j).trans (ref_of m c e).symm

end Cert.AttnOutDwIdeal.Val

namespace Cert.Proof

open Idealize.ShloMosaic Idealize.SL.Sem

theorem frame_AttnOutDwRefIdeal : Cert.quiescent_AttnOutDwRefIdeal (hAttnOutDwRefIdeal := Cert.AttnOutDwRefIdeal.Gen.facts) := fun m ρ _ =>
  (θ_run Cert.AttnOutDwRefIdeal.defs _ _).mono (fun r h => ⟨fun c => (h c).2, sem_eq_zero_of_no_sems (by decide) r.2⟩)
    (Cert.AttnOutDwRefIdeal.Value.run (F := Ideal) m ρ)

/-- The gradient of the product's weights: the call's result is the reference's. -/
theorem alg_AttnOutDw : Cert.algebraic_AttnOutDwIdeal_AttnOutDwRefIdeal (hAttnOutDwIdeal := Cert.AttnOutDwIdeal.Gen.facts)
    (hAttnOutDwRefIdeal := Cert.AttnOutDwRefIdeal.Gen.facts) := by
  intro m g m' g' _ same
  refine ⟨fun c => Cert.AttnOutDwRefIdeal.Read.val_main_v5 (F := Ideal) (Cert.AttnOutDwIdeal.Val.X0 m c) (Cert.AttnOutDwIdeal.Val.X1 m c),
    (θ_run _ _ _).mono (fun r h c => ⟨(h c).1.trans (Cert.AttnOutDwIdeal.Val.final m c), (h c).2⟩) (Cert.AttnOutDwIdeal.Value.run_blocks m g),
    (θ_run _ _ _).mono (fun r h c => ⟨((h c).1.trans (Cert.AttnOutDwRefIdeal.Read.val_main_v5_eq _ _)).trans
      (congrArg₂ (Cert.AttnOutDwRefIdeal.Read.val_main_v5 (F := Ideal)) (same c).1 (same c).2), (h c).2⟩) (Cert.AttnOutDwRefIdeal.Value.run m' g')⟩

end Cert.Proof
-- ==== Proof.AttnOutDm.lean ====
/- The gradient of the product after the attention by its rows. -/
module

public import proofs.«01_k».proof.Proof.Sums
public import proofs.«01_k».proof.Proof.Gen.AttnOutDmIdeal.Value
public import proofs.«01_k».proof.Proof.Gen.AttnOutDmRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AttnOutDmIdeal.Val

open Cert.AttnOutDmIdeal Cert.AttnOutDmIdeal.Gen Idealize.ShloMosaic Idealize.ShloMosaic.TcCoe Idealize.SL.Sem

theorem idx : ∀ t : Fin cfg0.N, win0_0.index t = ![0, t.val, 0] ∧ win0_1.index t = ![0, 0, 0, 0] ∧ win0_2.index t = ![t.val, 0] :=
  (by decide +kernel : ∀ t : Fin grid0.N, _)

theorem points (t : Fin cfg0.N) : t.val < 8 := t.isLt

variable (m : (ℓ : Loc nD τ sig) → Buf (Elt Ideal) ℓ) (c : Dev nD)

abbrev X0 : FVec Ideal S8192x1024 .f32 := m ((c : Thread nD τ).loc main_arg0)
abbrev X1 : FVec Ideal S1x512x1024 .f32 := m ((c : Thread nD τ).loc main_arg1)

theorem V1 : V m c main_v1 = broadcastInDim S1x8192x1024 ![1, 2] bcast_S8192x1024_S1x8192x1024_1_2
    (truncf .bf16 (X0 m c) bitsLt_bf16_f32) := by
  unfold V; simp only [List.flatten_cons, List.flatten_nil, List.append_nil, List.cons_append, List.nil_append]; after_reads_simp

theorem V4 : V m c main_v4 = transpose S4x1x512x256 [2, 0, 1, 3] (shapeCast S1x512x4x256
    (truncf .bf16 (X1 m c) bitsLt_bf16_f32) shapeCasts_S1x512x1024_S1x512x4x256)
    transposes_S1x512x4x256_S4x1x512x256_2_0_1_3 := by
  unfold V; simp only [List.flatten_cons, List.flatten_nil, List.append_nil, List.cons_append, List.nil_append]; after_reads_simp; rfl

theorem V1_at (s : Fin 8192) (k : Fin 1024) : V m c main_v1 (ix3 0 s k) = X0 m c (ix2 s k) := by
  rw [V1]; pointwise

theorem V4_at (p : Fin 4) (j : Fin 512) (k : Fin 256) :
    V m c main_v4 (ix4 p 0 j k) = X1 m c (ix3 0 j ⟨(p : ℕ) * 256 + k, by omega⟩) := by
  rw [V4]; pointwise

section Geometry
variable {m c} (t : Fin cfg0.N)
theorem geo0 (A : FVec Ideal S1x8192x1024 .bf16) (i : Fin 1024) (k : Fin 1024) :
    ((cfg0.win 0).blk t).view.read (Elt Ideal) A (ix3 0 i k) = A (ix3 0 ⟨t.val * 1024 + i, by have := points t; omega⟩ k) := by
  have ht := points t
  blk_ext [idx t]
theorem geo1 (A : FVec Ideal S4x1x512x256 .bf16) (p : Fin 4) (j : Fin 512) (k : Fin 256) :
    ((cfg0.win 1).blk t).view.read (Elt Ideal) A (ix4 p 0 j k) = A (ix4 p 0 j k) := by
  have ht := points t
  blk_ext [idx t]
end Geometry

/-- The four pieces' products, added one after the other. -/
theorem pay1_at (x : Vec Ideal S1x1024x1024 .bf16) (y : Vec Ideal S4x1x512x256 .bf16) (i : Fin 1024) (j : Fin 512) :
    out0_2 (F := Ideal) x y (ix2 i j) =
      ∑ p : Fin 4, ∑ k : Fin 256, x (ix3 0 i ⟨(p : ℕ) * 256 + k, by omega⟩) * y (ix4 p 0 j k) := by
  have e : out0_2 (F := Ideal) x y = k0_pay1 (F := Ideal) (View.ld x r0_0) (View.ld y r0_1) (View.ld x r0_2) (View.ld y r0_3)
      (View.ld x r0_4) (View.ld y r0_5) (View.ld x r0_6) (View.ld y r0_7) := by
    frame_out
  refine (congrFun e _).trans ?_
  rw [Fin.sum_univ_four]
  pointwise [k0_pay1]

/-- What a point writes. -/
theorem out_at (t : Fin cfg0.N) (i : Fin 1024) (j : Fin 512) :
    out0_2 (F := Ideal) (iblk m c 0 t) (iblk m c 1 t) (ix2 i j) = ∑ k : Fin 1024,
      X0 m c (ix2 ⟨t.val * 1024 + i, by have := points t; omega⟩ k) * X1 m c (ix3 0 j k) := by
  rw [pay1_at]
  refine Eq.trans ?_ (Sums.blocks 4 256 1024 rfl _)
  exact Finset.sum_congr rfl fun p _ => Finset.sum_congr rfl fun k _ => congrArg₂ (· * ·)
    ((geo0 t (V m c main_v1) i _).trans (V1_at m c _ _)) ((geo1 t (V m c main_v4) p j k).trans (V4_at m c p j k))

theorem ref_at (x0 : FVec Ideal S8192x1024 .f32) (x1 : FVec Ideal S1x512x1024 .f32) (s : Fin 8192) (j : Fin 512) :
    Cert.AttnOutDmRefIdeal.Read.val_main_v3 (F := Ideal) x0 x1 (ix2 s j) = ∑ k : Fin 1024, x0 (ix2 s k) * x1 (ix3 0 j k) := by
  pointwise [Cert.AttnOutDmRefIdeal.Read.val_main_v3, Cert.AttnOutDmRefIdeal.Read.val_main_v1]

theorem ref_of {x : S8192x512.Idx} {s : Fin 8192} {j : Fin 512} (e : x = ix2 s j) :
    Cert.AttnOutDmRefIdeal.Read.val_main_v3 (F := Ideal) (X0 m c) (X1 m c) x = ∑ k : Fin 1024, X0 m c (ix2 s k) * X1 m c (ix3 0 j k) := by
  subst e
  exact ref_at _ _ s j

theorem final : (dats m 0 c).arrAt 2 cfg0.N = Cert.AttnOutDmRefIdeal.Read.val_main_v3 (F := Ideal) (X0 m c) (X1 m c) := by
  refine (dats m 0 c).arrAt_eq_of_covers 2 _ (by decide +kernel) fun t ht y => ?_
  blk_simp
  rw [after0_2]
  have hq := points t
  obtain ⟨i, j, rfl⟩ : ∃ (i : Fin 1024) (j : Fin 512), y = (ix2 i j : S1024x512.Idx) :=
    ⟨y 0, y 1, by funext a; fin_cases a <;> rfl⟩
  have e : (win0_2.blk t).view.emb (ix2 i j) = (ix2 (⟨t.val * 1024 + i, by omega⟩ : Fin 8192) j : S8192x512.Idx) := by
    blk_ext [idx t]
  exact (out_at m c t i j).trans (ref_of m c e).symm

end Cert.AttnOutDmIdeal.Val

namespace Cert.Proof

open Idealize.ShloMosaic Idealize.SL.Sem

theorem frame_AttnOutDmRefIdeal : Cert.quiescent_AttnOutDmRefIdeal (hAttnOutDmRefIdeal := Cert.AttnOutDmRefIdeal.Gen.facts) := fun m ρ _ =>
  (θ_run Cert.AttnOutDmRefIdeal.defs _ _).mono (fun r h => ⟨fun c => (h c).2, sem_eq_zero_of_no_sems (by decide) r.2⟩)
    (Cert.AttnOutDmRefIdeal.Value.run (F := Ideal) m ρ)

/-- The gradient of the product's rows: the call's result is the reference's. -/
theorem alg_AttnOutDm : Cert.algebraic_AttnOutDmIdeal_AttnOutDmRefIdeal (hAttnOutDmIdeal := Cert.AttnOutDmIdeal.Gen.facts)
    (hAttnOutDmRefIdeal := Cert.AttnOutDmRefIdeal.Gen.facts) := by
  intro m g m' g' _ same
  refine ⟨fun c => Cert.AttnOutDmRefIdeal.Read.val_main_v3 (F := Ideal) (Cert.AttnOutDmIdeal.Val.X0 m c) (Cert.AttnOutDmIdeal.Val.X1 m c),
    (θ_run _ _ _).mono (fun r h c => ⟨(h c).1.trans (Cert.AttnOutDmIdeal.Val.final m c), (h c).2⟩) (Cert.AttnOutDmIdeal.Value.run_blocks m g),
    (θ_run _ _ _).mono (fun r h c => ⟨((h c).1.trans (Cert.AttnOutDmRefIdeal.Read.val_main_v3_eq _ _)).trans
      (congrArg₂ (Cert.AttnOutDmRefIdeal.Read.val_main_v3 (F := Ideal)) (same c).1 (same c).2), (h c).2⟩) (Cert.AttnOutDmRefIdeal.Value.run m' g')⟩

end Cert.Proof
-- ==== Proof.Adam.lean ====
/- One step of the optimiser, entry by entry: what a block of the call computes is what the reference computes on the whole
array, whatever the shapes of the two. The numbers are the two decays and what they leave of one, what the biases of the
two moments are divided by, the small number under the fraction, the weight's decay, and the rate with its sign. -/
module

public import Idealize.ShloMosaic.Lib.Pipeline.Value
public import Idealize.ShloMosaic.Lib.Pipeline.ValueKit
public import Idealize.ShloMosaic.Lib.Pointwise
public import Idealize.ShloMosaic.Lib.StableHlo.RunRead

@[expose] public section

noncomputable section

namespace Cert.Adam

open Idealize.ShloMosaic

variable {B S : Shape} (hB : B.ShapeCasts B) (hS : (⟨0, ![]⟩ : Shape).BroadcastsInDim S (![] : Fin 0 → Fin S.rank))

/-- A number in every entry of the whole array. -/
abbrev num (b : BitVec 32) : FVec Ideal S .f32 := broadcastInDim S ![] hS (constant ⟨0, ![]⟩ .f32 b)

/-- The block's new first moment. -/
abbrev blockM (g a : FVec Ideal B .f32) : FVec Ideal B .f32 :=
  addf (mulf (broadcast B (Scalar.ofBits .f32 0x3F666666#32)) (shapeCast B a hB)) (mulf (broadcast B (Scalar.ofBits .f32 0x3DCCCCCD#32)) g)

/-- The block's new second moment. -/
abbrev blockV (g b : FVec Ideal B .f32) : FVec Ideal B .f32 :=
  addf (mulf (broadcast B (Scalar.ofBits .f32 0x3F7FBE77#32)) (shapeCast B b hB))
    (mulf (broadcast B (Scalar.ofBits .f32 0x3A83126F#32)) (mulf g g))

/-- The block's update. -/
abbrev blockD (g a b w : FVec Ideal B .f32) : FVec Ideal B .f32 :=
  mulf (broadcast B (Scalar.ofBits .f32 0xBA83126F#32)) (addf
    (divf (divf (blockM hB g a) (broadcast B (Scalar.ofBits .f32 0x3F26BD02#32)))
      (addf (sqrt (divf (blockV hB g b) (broadcast B (Scalar.ofBits .f32 0x3C231ACC#32)))) (broadcast B (Scalar.ofBits .f32 0x322BCC77#32))))
    (mulf (broadcast B (Scalar.ofBits .f32 0x3C23D70A#32)) (shapeCast B w hB)))

/-- The reference's new first moment. -/
abbrev newM (g a : FVec Ideal S .f32) : FVec Ideal S .f32 := addf (mulf (num hS 0x3F666666#32) a) (mulf (num hS 0x3DCCCCCD#32) g)

/-- The reference's new second moment. -/
abbrev newV (g b : FVec Ideal S .f32) : FVec Ideal S .f32 := addf (mulf (num hS 0x3F7FBE77#32) b) (mulf (num hS 0x3A83126F#32) (mulf g g))

/-- The reference's update. -/
abbrev delta (w g a b : FVec Ideal S .f32) : FVec Ideal S .f32 :=
  mulf (num hS 0xBA83126F#32) (addf
    (Host.divf (Host.divf (newM hS g a) (num hS 0x3F26BD02#32))
      (addf (Host.sqrt (Host.divf (newV hS g b) (num hS 0x3C231ACC#32))) (num hS 0x322BCC77#32)))
    (mulf (num hS 0x3C23D70A#32) w))

variable {hB hS} {y : B.Idx} {x : S.Idx} {g a b w : FVec Ideal B .f32} {g' a' b' w' : FVec Ideal S .f32}

theorem self_at (v : FVec Ideal B .f32) : shapeCast B v hB y = v y := shapeCast_apply _ _ y y rfl

theorem newM_at (hg : g y = g' x) (ha : a y = a' x) : blockM hB g a y = newM hS g' a' x := by
  show Ideal.ofBits .f32 0x3F666666#32 * shapeCast B a hB y + Ideal.ofBits .f32 0x3DCCCCCD#32 * g y = _
  rw [self_at, hg, ha]
  rfl

theorem newV_at (hg : g y = g' x) (hb : b y = b' x) : blockV hB g b y = newV hS g' b' x := by
  show Ideal.ofBits .f32 0x3F7FBE77#32 * shapeCast B b hB y + Ideal.ofBits .f32 0x3A83126F#32 * (g y * g y) = _
  rw [self_at, hg, hb]
  rfl

theorem delta_at (hg : g y = g' x) (ha : a y = a' x) (hb : b y = b' x) (hw : w y = w' x) :
    blockD hB g a b w y = delta hS w' g' a' b' x := by
  show Ideal.ofBits .f32 0xBA83126F#32 * (Ideal.div (Ideal.div (blockM hB g a y) (Ideal.ofBits .f32 0x3F26BD02#32))
    (Ideal.sqrt (Ideal.div (blockV hB g b y) (Ideal.ofBits .f32 0x3C231ACC#32)) + Ideal.ofBits .f32 0x322BCC77#32)
      + Ideal.ofBits .f32 0x3C23D70A#32 * shapeCast B w hB y) = _
  rw [self_at, newM_at (hS := hS) hg ha, newV_at (hS := hS) hg hb, hw]
  rfl

end Cert.Adam
-- ==== Proof.AdamQkv.lean ====
/- The optimiser of the projection to queries, keys and values. -/
module

public import proofs.«01_k».proof.Proof.Adam
public import proofs.«01_k».proof.Proof.Gen.AdamQkvIdeal.Value
public import proofs.«01_k».proof.Proof.Gen.AdamQkvRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AdamQkvIdeal.Val

open Cert.AdamQkvIdeal Cert.AdamQkvIdeal.Gen Idealize.ShloMosaic Idealize.ShloMosaic.TcCoe Idealize.SL.Sem

variable (m : (ℓ : Loc nD τ sig) → Buf (Elt Ideal) ℓ) (c : Dev nD)

abbrev X0 : FVec Ideal S1x1024x1152 .f32 := m ((c : Thread nD τ).loc main_arg0)
abbrev X1 : FVec Ideal S1024x1152 .f32 := m ((c : Thread nD τ).loc main_arg1)
abbrev X2 : FVec Ideal S1x1024x1152 .f32 := m ((c : Thread nD τ).loc main_arg2)
abbrev X3 : FVec Ideal S1x1024x1152 .f32 := m ((c : Thread nD τ).loc main_arg3)

theorem V0 : V m c main_v0 = Cert.AdamQkvRefIdeal.Read.val_main_v0 (F := Ideal) (X0 m c) := by
  unfold V; after_reads_simp; rfl

theorem V1 : V m c main_v1 = Cert.AdamQkvRefIdeal.Read.val_main_v1 (F := Ideal) (X2 m c) := by
  unfold V; after_reads_simp; rfl

theorem V2 : V m c main_v2 = Cert.AdamQkvRefIdeal.Read.val_main_v2 (F := Ideal) (X3 m c) := by
  unfold V; after_reads_simp; rfl

section Blocks
variable {m c} (t : Fin cfg0.N) (y : S256x1152.Idx)
theorem in0 : (iblk m c 0 t : FVec Ideal S256x1152 .f32) y =
    Cert.AdamQkvRefIdeal.Read.val_main_v0 (F := Ideal) (X0 m c) ((win0_4.blk t).view.emb y) :=
  Eq.trans (b := V m c main_v0 ((win0_4.blk t).view.emb y)) rfl (congrFun (V0 m c) _)
theorem in1 : (iblk m c 1 t : FVec Ideal S256x1152 .f32) y = X1 m c ((win0_4.blk t).view.emb y) :=
  Eq.trans (b := V m c main_arg1 ((win0_4.blk t).view.emb y)) rfl (congrFun (V_main_arg1 m c) _)
theorem in2 : (iblk m c 2 t : FVec Ideal S256x1152 .f32) y =
    Cert.AdamQkvRefIdeal.Read.val_main_v1 (F := Ideal) (X2 m c) ((win0_4.blk t).view.emb y) :=
  Eq.trans (b := V m c main_v1 ((win0_4.blk t).view.emb y)) rfl (congrFun (V1 m c) _)
theorem in3 : (iblk m c 3 t : FVec Ideal S256x1152 .f32) y =
    Cert.AdamQkvRefIdeal.Read.val_main_v2 (F := Ideal) (X3 m c) ((win0_4.blk t).view.emb y) :=
  Eq.trans (b := V m c main_v2 ((win0_4.blk t).view.emb y)) rfl (congrFun (V2 m c) _)
end Blocks

/-- The updates. -/
theorem final4 : (dats m 0 c).arrAt 4 cfg0.N =
    Cert.AdamQkvRefIdeal.Read.val_main_v26 (F := Ideal) (X0 m c) (X1 m c) (X2 m c) (X3 m c) := by
  refine (dats m 0 c).arrAt_eq_of_covers 4 _ (by decide +kernel) fun t ht y => ?_
  blk_simp
  rw [after0_4]
  have e : out0_4 (F := Ideal) (iblk m c 0 t) (iblk m c 1 t) (iblk m c 2 t) (iblk m c 3 t) =
      k0_pay3 (F := Ideal) (iblk m c 1 t) (iblk m c 2 t) (iblk m c 3 t) (iblk m c 0 t) := by
    frame_out
  exact (congrFun e _).trans (Adam.delta_at (in1 t y) (in2 t y) (in3 t y) (in0 t y))

/-- The new first moments. -/
theorem final5 : (dats m 0 c).arrAt 5 cfg0.N = Cert.AdamQkvRefIdeal.Read.val_main_v7 (F := Ideal) (X1 m c) (X2 m c) := by
  refine (dats m 0 c).arrAt_eq_of_covers 5 _ (by decide +kernel) fun t ht y => ?_
  blk_simp
  rw [after0_5]
  have e : out0_5 (F := Ideal) (iblk m c 0 t) (iblk m c 1 t) (iblk m c 2 t) (iblk m c 3 t) =
      k0_pay1 (F := Ideal) (iblk m c 1 t) (iblk m c 2 t) := by
    frame_out
  exact (congrFun e _).trans (Adam.newM_at (in1 t y) (in2 t y))

/-- The new second moments. -/
theorem final6 : (dats m 0 c).arrAt 6 cfg0.N = Cert.AdamQkvRefIdeal.Read.val_main_v13 (F := Ideal) (X1 m c) (X3 m c) := by
  refine (dats m 0 c).arrAt_eq_of_covers 6 _ (by decide +kernel) fun t ht y => ?_
  blk_simp
  rw [after0_6]
  have e : out0_6 (F := Ideal) (iblk m c 0 t) (iblk m c 1 t) (iblk m c 2 t) (iblk m c 3 t) =
      k0_pay2 (F := Ideal) (iblk m c 1 t) (iblk m c 3 t) := by
    frame_out
  exact (congrFun e _).trans (Adam.newV_at (in1 t y) (in3 t y))

end Cert.AdamQkvIdeal.Val

namespace Cert.Proof

open Idealize.ShloMosaic Idealize.SL.Sem

theorem frame_AdamQkvRefIdeal : Cert.quiescent_AdamQkvRefIdeal (hAdamQkvRefIdeal := Cert.AdamQkvRefIdeal.Gen.facts) := fun m ρ _ =>
  (θ_run Cert.AdamQkvRefIdeal.defs _ _).mono (fun r h => ⟨fun c => (h c).2.2.2, sem_eq_zero_of_no_sems (by decide) r.2⟩)
    (Cert.AdamQkvRefIdeal.Value.run (F := Ideal) m ρ)

/-- The optimiser of the projection to queries, keys and values: the call's results are the reference's. -/
theorem alg_AdamQkv : Cert.algebraic_AdamQkvIdeal_AdamQkvRefIdeal (hAdamQkvIdeal := Cert.AdamQkvIdeal.Gen.facts)
    (hAdamQkvRefIdeal := Cert.AdamQkvRefIdeal.Gen.facts) := by
  intro m g m' g' _ same
  refine ⟨fun c => Cert.AdamQkvRefIdeal.Read.val_main_v26 (F := Ideal) (Cert.AdamQkvIdeal.Val.X0 m c) (Cert.AdamQkvIdeal.Val.X1 m c)
      (Cert.AdamQkvIdeal.Val.X2 m c) (Cert.AdamQkvIdeal.Val.X3 m c),
    fun c => Cert.AdamQkvRefIdeal.Read.val_main_v7 (F := Ideal) (Cert.AdamQkvIdeal.Val.X1 m c) (Cert.AdamQkvIdeal.Val.X2 m c),
    fun c => Cert.AdamQkvRefIdeal.Read.val_main_v13 (F := Ideal) (Cert.AdamQkvIdeal.Val.X1 m c) (Cert.AdamQkvIdeal.Val.X3 m c),
    (θ_run _ _ _).mono (fun r h c => ⟨(h c).1.trans (Cert.AdamQkvIdeal.Val.final4 m c), (h c).2.1.trans (Cert.AdamQkvIdeal.Val.final5 m c),
      (h c).2.2.1.trans (Cert.AdamQkvIdeal.Val.final6 m c), (h c).2.2.2⟩) (Cert.AdamQkvIdeal.Value.run_blocks m g),
    (θ_run _ _ _).mono (fun r h c => ?_) (Cert.AdamQkvRefIdeal.Value.run m' g')⟩
  obtain ⟨e0, e1, e2, e3⟩ := same c
  refine ⟨((h c).1.trans (Cert.AdamQkvRefIdeal.Read.val_main_v26_eq _ _ _ _)).trans ?_,
    ((h c).2.1.trans (Cert.AdamQkvRefIdeal.Read.val_main_v7_eq _ _)).trans ?_,
    ((h c).2.2.1.trans (Cert.AdamQkvRefIdeal.Read.val_main_v13_eq _ _)).trans ?_, (h c).2.2.2⟩
  · rw [e0, e1, e2, e3]
  · rw [e1, e2]
  · rw [e1, e3]

end Cert.Proof
-- ==== Proof.AdamOut.lean ====
/- The optimiser of the product after the attention. -/
module

public import proofs.«01_k».proof.Proof.Adam
public import proofs.«01_k».proof.Proof.Gen.AdamOutIdeal.Value
public import proofs.«01_k».proof.Proof.Gen.AdamOutRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AdamOutIdeal.Val

open Cert.AdamOutIdeal Cert.AdamOutIdeal.Gen Idealize.ShloMosaic Idealize.ShloMosaic.TcCoe Idealize.SL.Sem

variable (m : (ℓ : Loc nD τ sig) → Buf (Elt Ideal) ℓ) (c : Dev nD)

abbrev X0 : FVec Ideal S1x512x256 .f32 := m ((c : Thread nD τ).loc main_arg0)
abbrev X1 : FVec Ideal S512x256 .f32 := m ((c : Thread nD τ).loc main_arg1)
abbrev X2 : FVec Ideal S1x512x256 .f32 := m ((c : Thread nD τ).loc main_arg2)
abbrev X3 : FVec Ideal S1x512x256 .f32 := m ((c : Thread nD τ).loc main_arg3)

theorem V0 : V m c main_v0 = Cert.AdamOutRefIdeal.Read.val_main_v0 (F := Ideal) (X0 m c) := by
  unfold V; after_reads_simp; rfl

theorem V1 : V m c main_v1 = Cert.AdamOutRefIdeal.Read.val_main_v1 (F := Ideal) (X2 m c) := by
  unfold V; after_reads_simp; rfl

theorem V2 : V m c main_v2 = Cert.AdamOutRefIdeal.Read.val_main_v2 (F := Ideal) (X3 m c) := by
  unfold V; after_reads_simp; rfl

section Blocks
variable {m c} (t : Fin cfg0.N) (y : S512x256.Idx)
theorem in0 : (iblk m c 0 t : FVec Ideal S512x256 .f32) y =
    Cert.AdamOutRefIdeal.Read.val_main_v0 (F := Ideal) (X0 m c) ((win0_4.blk t).view.emb y) :=
  Eq.trans (b := V m c main_v0 ((win0_4.blk t).view.emb y)) rfl (congrFun (V0 m c) _)
theorem in1 : (iblk m c 1 t : FVec Ideal S512x256 .f32) y = X1 m c ((win0_4.blk t).view.emb y) :=
  Eq.trans (b := V m c main_arg1 ((win0_4.blk t).view.emb y)) rfl (congrFun (V_main_arg1 m c) _)
theorem in2 : (iblk m c 2 t : FVec Ideal S512x256 .f32) y =
    Cert.AdamOutRefIdeal.Read.val_main_v1 (F := Ideal) (X2 m c) ((win0_4.blk t).view.emb y) :=
  Eq.trans (b := V m c main_v1 ((win0_4.blk t).view.emb y)) rfl (congrFun (V1 m c) _)
theorem in3 : (iblk m c 3 t : FVec Ideal S512x256 .f32) y =
    Cert.AdamOutRefIdeal.Read.val_main_v2 (F := Ideal) (X3 m c) ((win0_4.blk t).view.emb y) :=
  Eq.trans (b := V m c main_v2 ((win0_4.blk t).view.emb y)) rfl (congrFun (V2 m c) _)
end Blocks

/-- The updates. -/
theorem final4 : (dats m 0 c).arrAt 4 cfg0.N =
    Cert.AdamOutRefIdeal.Read.val_main_v26 (F := Ideal) (X0 m c) (X1 m c) (X2 m c) (X3 m c) := by
  refine (dats m 0 c).arrAt_eq_of_covers 4 _ (by decide +kernel) fun t ht y => ?_
  blk_simp
  rw [after0_4]
  have e : out0_4 (F := Ideal) (iblk m c 0 t) (iblk m c 1 t) (iblk m c 2 t) (iblk m c 3 t) =
      k0_pay3 (F := Ideal) (iblk m c 1 t) (iblk m c 2 t) (iblk m c 3 t) (iblk m c 0 t) := by
    frame_out
  exact (congrFun e _).trans (Adam.delta_at (in1 t y) (in2 t y) (in3 t y) (in0 t y))

/-- The new first moments. -/
theorem final5 : (dats m 0 c).arrAt 5 cfg0.N = Cert.AdamOutRefIdeal.Read.val_main_v7 (F := Ideal) (X1 m c) (X2 m c) := by
  refine (dats m 0 c).arrAt_eq_of_covers 5 _ (by decide +kernel) fun t ht y => ?_
  blk_simp
  rw [after0_5]
  have e : out0_5 (F := Ideal) (iblk m c 0 t) (iblk m c 1 t) (iblk m c 2 t) (iblk m c 3 t) =
      k0_pay1 (F := Ideal) (iblk m c 1 t) (iblk m c 2 t) := by
    frame_out
  exact (congrFun e _).trans (Adam.newM_at (in1 t y) (in2 t y))

/-- The new second moments. -/
theorem final6 : (dats m 0 c).arrAt 6 cfg0.N = Cert.AdamOutRefIdeal.Read.val_main_v13 (F := Ideal) (X1 m c) (X3 m c) := by
  refine (dats m 0 c).arrAt_eq_of_covers 6 _ (by decide +kernel) fun t ht y => ?_
  blk_simp
  rw [after0_6]
  have e : out0_6 (F := Ideal) (iblk m c 0 t) (iblk m c 1 t) (iblk m c 2 t) (iblk m c 3 t) =
      k0_pay2 (F := Ideal) (iblk m c 1 t) (iblk m c 3 t) := by
    frame_out
  exact (congrFun e _).trans (Adam.newV_at (in1 t y) (in3 t y))

end Cert.AdamOutIdeal.Val

namespace Cert.Proof

open Idealize.ShloMosaic Idealize.SL.Sem

theorem frame_AdamOutRefIdeal : Cert.quiescent_AdamOutRefIdeal (hAdamOutRefIdeal := Cert.AdamOutRefIdeal.Gen.facts) := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The optimiser of the product after the attention: the call's results are the reference's. -/
theorem alg_AdamOut : Cert.algebraic_AdamOutIdeal_AdamOutRefIdeal (hAdamOutIdeal := Cert.AdamOutIdeal.Gen.facts)
    (hAdamOutRefIdeal := Cert.AdamOutRefIdeal.Gen.facts) := by
  intro m g m' g' _ same
  refine ⟨fun c => Cert.AdamOutRefIdeal.Read.val_main_v26 (F := Ideal) (Cert.AdamOutIdeal.Val.X0 m c) (Cert.AdamOutIdeal.Val.X1 m c)
      (Cert.AdamOutIdeal.Val.X2 m c) (Cert.AdamOutIdeal.Val.X3 m c),
    fun c => Cert.AdamOutRefIdeal.Read.val_main_v7 (F := Ideal) (Cert.AdamOutIdeal.Val.X1 m c) (Cert.AdamOutIdeal.Val.X2 m c),
    fun c => Cert.AdamOutRefIdeal.Read.val_main_v13 (F := Ideal) (Cert.AdamOutIdeal.Val.X1 m c) (Cert.AdamOutIdeal.Val.X3 m c),
    (θ_run _ _ _).mono (fun r h c => ⟨(h c).1.trans (Cert.AdamOutIdeal.Val.final4 m c), (h c).2.1.trans (Cert.AdamOutIdeal.Val.final5 m c),
      (h c).2.2.1.trans (Cert.AdamOutIdeal.Val.final6 m c), (h c).2.2.2⟩) (Cert.AdamOutIdeal.Value.run_blocks m g),
    (θ_run _ _ _).mono (fun r h c => ?_) (Cert.AdamOutRefIdeal.Value.run m' g')⟩
  obtain ⟨e0, e1, e2, e3⟩ := same c
  refine ⟨((h c).1.trans (Cert.AdamOutRefIdeal.Read.val_main_v26_eq _ _ _ _)).trans ?_,
    ((h c).2.1.trans (Cert.AdamOutRefIdeal.Read.val_main_v7_eq _ _)).trans ?_,
    ((h c).2.2.1.trans (Cert.AdamOutRefIdeal.Read.val_main_v13_eq _ _)).trans ?_, (h c).2.2.2⟩
  · rw [e0, e1, e2, e3]
  · rw [e1, e2]
  · rw [e1, e3]

end Cert.Proof
-- ==== Proof.AdamPwOne.lean ====
/- The optimiser of the convolution module's first product. -/
module

public import proofs.«01_k».proof.Proof.Adam
public import proofs.«01_k».proof.Proof.Gen.AdamPwOneIdeal.Value
public import proofs.«01_k».proof.Proof.Gen.AdamPwOneRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AdamPwOneIdeal.Val

open Cert.AdamPwOneIdeal Cert.AdamPwOneIdeal.Gen Idealize.ShloMosaic Idealize.ShloMosaic.TcCoe Idealize.SL.Sem

variable (m : (ℓ : Loc nD τ sig) → Buf (Elt Ideal) ℓ) (c : Dev nD)

abbrev X0 : FVec Ideal S1x1024x512 .f32 := m ((c : Thread nD τ).loc main_arg0)
abbrev X1 : FVec Ideal S1024x512 .f32 := m ((c : Thread nD τ).loc main_arg1)
abbrev X2 : FVec Ideal S1x1024x512 .f32 := m ((c : Thread nD τ).loc main_arg2)
abbrev X3 : FVec Ideal S1x1024x512 .f32 := m ((c : Thread nD τ).loc main_arg3)

theorem V0 : V m c main_v0 = Cert.AdamPwOneRefIdeal.Read.val_main_v0 (F := Ideal) (X0 m c) := by
  unfold V; after_reads_simp; rfl

theorem V1 : V m c main_v1 = Cert.AdamPwOneRefIdeal.Read.val_main_v1 (F := Ideal) (X2 m c) := by
  unfold V; after_reads_simp; rfl

theorem V2 : V m c main_v2 = Cert.AdamPwOneRefIdeal.Read.val_main_v2 (F := Ideal) (X3 m c) := by
  unfold V; after_reads_simp; rfl

section Blocks
variable {m c} (t : Fin cfg0.N) (y : S1024x512.Idx)
theorem in0 : (iblk m c 0 t : FVec Ideal S1024x512 .f32) y =
    Cert.AdamPwOneRefIdeal.Read.val_main_v0 (F := Ideal) (X0 m c) ((win0_4.blk t).view.emb y) :=
  Eq.trans (b := V m c main_v0 ((win0_4.blk t).view.emb y)) rfl (congrFun (V0 m c) _)
theorem in1 : (iblk m c 1 t : FVec Ideal S1024x512 .f32) y = X1 m c ((win0_4.blk t).view.emb y) :=
  Eq.trans (b := V m c main_arg1 ((win0_4.blk t).view.emb y)) rfl (congrFun (V_main_arg1 m c) _)
theorem in2 : (iblk m c 2 t : FVec Ideal S1024x512 .f32) y =
    Cert.AdamPwOneRefIdeal.Read.val_main_v1 (F := Ideal) (X2 m c) ((win0_4.blk t).view.emb y) :=
  Eq.trans (b := V m c main_v1 ((win0_4.blk t).view.emb y)) rfl (congrFun (V1 m c) _)
theorem in3 : (iblk m c 3 t : FVec Ideal S1024x512 .f32) y =
    Cert.AdamPwOneRefIdeal.Read.val_main_v2 (F := Ideal) (X3 m c) ((win0_4.blk t).view.emb y) :=
  Eq.trans (b := V m c main_v2 ((win0_4.blk t).view.emb y)) rfl (congrFun (V2 m c) _)
end Blocks

/-- The updates. -/
theorem final4 : (dats m 0 c).arrAt 4 cfg0.N =
    Cert.AdamPwOneRefIdeal.Read.val_main_v26 (F := Ideal) (X0 m c) (X1 m c) (X2 m c) (X3 m c) := by
  refine (dats m 0 c).arrAt_eq_of_covers 4 _ (by decide +kernel) fun t ht y => ?_
  blk_simp
  rw [after0_4]
  have e : out0_4 (F := Ideal) (iblk m c 0 t) (iblk m c 1 t) (iblk m c 2 t) (iblk m c 3 t) =
      k0_pay3 (F := Ideal) (iblk m c 1 t) (iblk m c 2 t) (iblk m c 3 t) (iblk m c 0 t) := by
    frame_out
  exact (congrFun e _).trans (Adam.delta_at (in1 t y) (in2 t y) (in3 t y) (in0 t y))

/-- The new first moments. -/
theorem final5 : (dats m 0 c).arrAt 5 cfg0.N = Cert.AdamPwOneRefIdeal.Read.val_main_v7 (F := Ideal) (X1 m c) (X2 m c) := by
  refine (dats m 0 c).arrAt_eq_of_covers 5 _ (by decide +kernel) fun t ht y => ?_
  blk_simp
  rw [after0_5]
  have e : out0_5 (F := Ideal) (iblk m c 0 t) (iblk m c 1 t) (iblk m c 2 t) (iblk m c 3 t) =
      k0_pay1 (F := Ideal) (iblk m c 1 t) (iblk m c 2 t) := by
    frame_out
  exact (congrFun e _).trans (Adam.newM_at (in1 t y) (in2 t y))

/-- The new second moments. -/
theorem final6 : (dats m 0 c).arrAt 6 cfg0.N = Cert.AdamPwOneRefIdeal.Read.val_main_v13 (F := Ideal) (X1 m c) (X3 m c) := by
  refine (dats m 0 c).arrAt_eq_of_covers 6 _ (by decide +kernel) fun t ht y => ?_
  blk_simp
  rw [after0_6]
  have e : out0_6 (F := Ideal) (iblk m c 0 t) (iblk m c 1 t) (iblk m c 2 t) (iblk m c 3 t) =
      k0_pay2 (F := Ideal) (iblk m c 1 t) (iblk m c 3 t) := by
    frame_out
  exact (congrFun e _).trans (Adam.newV_at (in1 t y) (in3 t y))

end Cert.AdamPwOneIdeal.Val

namespace Cert.Proof

open Idealize.ShloMosaic Idealize.SL.Sem

theorem frame_AdamPwOneRefIdeal : Cert.quiescent_AdamPwOneRefIdeal (hAdamPwOneRefIdeal := Cert.AdamPwOneRefIdeal.Gen.facts) := fun m ρ _ =>
  (θ_run Cert.AdamPwOneRefIdeal.defs _ _).mono (fun r h => ⟨fun c => (h c).2.2.2, sem_eq_zero_of_no_sems (by decide) r.2⟩)
    (Cert.AdamPwOneRefIdeal.Value.run (F := Ideal) m ρ)

/-- The optimiser of the convolution module's first product: the call's results are the reference's. -/
theorem alg_AdamPwOne : Cert.algebraic_AdamPwOneIdeal_AdamPwOneRefIdeal (hAdamPwOneIdeal := Cert.AdamPwOneIdeal.Gen.facts)
    (hAdamPwOneRefIdeal := Cert.AdamPwOneRefIdeal.Gen.facts) := by
  intro m g m' g' _ same
  refine ⟨fun c => Cert.AdamPwOneRefIdeal.Read.val_main_v26 (F := Ideal) (Cert.AdamPwOneIdeal.Val.X0 m c) (Cert.AdamPwOneIdeal.Val.X1 m c)
      (Cert.AdamPwOneIdeal.Val.X2 m c) (Cert.AdamPwOneIdeal.Val.X3 m c),
    fun c => Cert.AdamPwOneRefIdeal.Read.val_main_v7 (F := Ideal) (Cert.AdamPwOneIdeal.Val.X1 m c) (Cert.AdamPwOneIdeal.Val.X2 m c),
    fun c => Cert.AdamPwOneRefIdeal.Read.val_main_v13 (F := Ideal) (Cert.AdamPwOneIdeal.Val.X1 m c) (Cert.AdamPwOneIdeal.Val.X3 m c),
    (θ_run _ _ _).mono (fun r h c => ⟨(h c).1.trans (Cert.AdamPwOneIdeal.Val.final4 m c), (h c).2.1.trans (Cert.AdamPwOneIdeal.Val.final5 m c),
      (h c).2.2.1.trans (Cert.AdamPwOneIdeal.Val.final6 m c), (h c).2.2.2⟩) (Cert.AdamPwOneIdeal.Value.run_blocks m g),
    (θ_run _ _ _).mono (fun r h c => ?_) (Cert.AdamPwOneRefIdeal.Value.run m' g')⟩
  obtain ⟨e0, e1, e2, e3⟩ := same c
  refine ⟨((h c).1.trans (Cert.AdamPwOneRefIdeal.Read.val_main_v26_eq _ _ _ _)).trans ?_,
    ((h c).2.1.trans (Cert.AdamPwOneRefIdeal.Read.val_main_v7_eq _ _)).trans ?_,
    ((h c).2.2.1.trans (Cert.AdamPwOneRefIdeal.Read.val_main_v13_eq _ _)).trans ?_, (h c).2.2.2⟩
  · rw [e0, e1, e2, e3]
  · rw [e1, e2]
  · rw [e1, e3]

end Cert.Proof
-- ==== Proof.AdamPwTwo.lean ====
/- The optimiser of the convolution module's second product. -/
module

public import proofs.«01_k».proof.Proof.Adam
public import proofs.«01_k».proof.Proof.Gen.AdamPwTwoIdeal.Value
public import proofs.«01_k».proof.Proof.Gen.AdamPwTwoRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AdamPwTwoIdeal.Val

open Cert.AdamPwTwoIdeal Cert.AdamPwTwoIdeal.Gen Idealize.ShloMosaic Idealize.ShloMosaic.TcCoe Idealize.SL.Sem

variable (m : (ℓ : Loc nD τ sig) → Buf (Elt Ideal) ℓ) (c : Dev nD)

abbrev X0 : FVec Ideal S1x256x1024 .f32 := m ((c : Thread nD τ).loc main_arg0)
abbrev X1 : FVec Ideal S256x1024 .f32 := m ((c : Thread nD τ).loc main_arg1)
abbrev X2 : FVec Ideal S1x256x1024 .f32 := m ((c : Thread nD τ).loc main_arg2)
abbrev X3 : FVec Ideal S1x256x1024 .f32 := m ((c : Thread nD τ).loc main_arg3)

theorem V0 : V m c main_v0 = Cert.AdamPwTwoRefIdeal.Read.val_main_v0 (F := Ideal) (X0 m c) := by
  unfold V; after_reads_simp; rfl

theorem V1 : V m c main_v1 = Cert.AdamPwTwoRefIdeal.Read.val_main_v1 (F := Ideal) (X2 m c) := by
  unfold V; after_reads_simp; rfl

theorem V2 : V m c main_v2 = Cert.AdamPwTwoRefIdeal.Read.val_main_v2 (F := Ideal) (X3 m c) := by
  unfold V; after_reads_simp; rfl

section Blocks
variable {m c} (t : Fin cfg0.N) (y : S256x1024.Idx)
theorem in0 : (iblk m c 0 t : FVec Ideal S256x1024 .f32) y =
    Cert.AdamPwTwoRefIdeal.Read.val_main_v0 (F := Ideal) (X0 m c) ((win0_4.blk t).view.emb y) :=
  Eq.trans (b := V m c main_v0 ((win0_4.blk t).view.emb y)) rfl (congrFun (V0 m c) _)
theorem in1 : (iblk m c 1 t : FVec Ideal S256x1024 .f32) y = X1 m c ((win0_4.blk t).view.emb y) :=
  Eq.trans (b := V m c main_arg1 ((win0_4.blk t).view.emb y)) rfl (congrFun (V_main_arg1 m c) _)
theorem in2 : (iblk m c 2 t : FVec Ideal S256x1024 .f32) y =
    Cert.AdamPwTwoRefIdeal.Read.val_main_v1 (F := Ideal) (X2 m c) ((win0_4.blk t).view.emb y) :=
  Eq.trans (b := V m c main_v1 ((win0_4.blk t).view.emb y)) rfl (congrFun (V1 m c) _)
theorem in3 : (iblk m c 3 t : FVec Ideal S256x1024 .f32) y =
    Cert.AdamPwTwoRefIdeal.Read.val_main_v2 (F := Ideal) (X3 m c) ((win0_4.blk t).view.emb y) :=
  Eq.trans (b := V m c main_v2 ((win0_4.blk t).view.emb y)) rfl (congrFun (V2 m c) _)
end Blocks

/-- The updates. -/
theorem final4 : (dats m 0 c).arrAt 4 cfg0.N =
    Cert.AdamPwTwoRefIdeal.Read.val_main_v26 (F := Ideal) (X0 m c) (X1 m c) (X2 m c) (X3 m c) := by
  refine (dats m 0 c).arrAt_eq_of_covers 4 _ (by decide +kernel) fun t ht y => ?_
  blk_simp
  rw [after0_4]
  have e : out0_4 (F := Ideal) (iblk m c 0 t) (iblk m c 1 t) (iblk m c 2 t) (iblk m c 3 t) =
      k0_pay3 (F := Ideal) (iblk m c 1 t) (iblk m c 2 t) (iblk m c 3 t) (iblk m c 0 t) := by
    frame_out
  exact (congrFun e _).trans (Adam.delta_at (in1 t y) (in2 t y) (in3 t y) (in0 t y))

/-- The new first moments. -/
theorem final5 : (dats m 0 c).arrAt 5 cfg0.N = Cert.AdamPwTwoRefIdeal.Read.val_main_v7 (F := Ideal) (X1 m c) (X2 m c) := by
  refine (dats m 0 c).arrAt_eq_of_covers 5 _ (by decide +kernel) fun t ht y => ?_
  blk_simp
  rw [after0_5]
  have e : out0_5 (F := Ideal) (iblk m c 0 t) (iblk m c 1 t) (iblk m c 2 t) (iblk m c 3 t) =
      k0_pay1 (F := Ideal) (iblk m c 1 t) (iblk m c 2 t) := by
    frame_out
  exact (congrFun e _).trans (Adam.newM_at (in1 t y) (in2 t y))

/-- The new second moments. -/
theorem final6 : (dats m 0 c).arrAt 6 cfg0.N = Cert.AdamPwTwoRefIdeal.Read.val_main_v13 (F := Ideal) (X1 m c) (X3 m c) := by
  refine (dats m 0 c).arrAt_eq_of_covers 6 _ (by decide +kernel) fun t ht y => ?_
  blk_simp
  rw [after0_6]
  have e : out0_6 (F := Ideal) (iblk m c 0 t) (iblk m c 1 t) (iblk m c 2 t) (iblk m c 3 t) =
      k0_pay2 (F := Ideal) (iblk m c 1 t) (iblk m c 3 t) := by
    frame_out
  exact (congrFun e _).trans (Adam.newV_at (in1 t y) (in3 t y))

end Cert.AdamPwTwoIdeal.Val

namespace Cert.Proof

open Idealize.ShloMosaic Idealize.SL.Sem

theorem frame_AdamPwTwoRefIdeal : Cert.quiescent_AdamPwTwoRefIdeal (hAdamPwTwoRefIdeal := Cert.AdamPwTwoRefIdeal.Gen.facts) := fun m ρ _ =>
  (θ_run Cert.AdamPwTwoRefIdeal.defs _ _).mono (fun r h => ⟨fun c => (h c).2.2.2, sem_eq_zero_of_no_sems (by decide) r.2⟩)
    (Cert.AdamPwTwoRefIdeal.Value.run (F := Ideal) m ρ)

/-- The optimiser of the convolution module's second product: the call's results are the reference's. -/
theorem alg_AdamPwTwo : Cert.algebraic_AdamPwTwoIdeal_AdamPwTwoRefIdeal (hAdamPwTwoIdeal := Cert.AdamPwTwoIdeal.Gen.facts)
    (hAdamPwTwoRefIdeal := Cert.AdamPwTwoRefIdeal.Gen.facts) := by
  intro m g m' g' _ same
  refine ⟨fun c => Cert.AdamPwTwoRefIdeal.Read.val_main_v26 (F := Ideal) (Cert.AdamPwTwoIdeal.Val.X0 m c) (Cert.AdamPwTwoIdeal.Val.X1 m c)
      (Cert.AdamPwTwoIdeal.Val.X2 m c) (Cert.AdamPwTwoIdeal.Val.X3 m c),
    fun c => Cert.AdamPwTwoRefIdeal.Read.val_main_v7 (F := Ideal) (Cert.AdamPwTwoIdeal.Val.X1 m c) (Cert.AdamPwTwoIdeal.Val.X2 m c),
    fun c => Cert.AdamPwTwoRefIdeal.Read.val_main_v13 (F := Ideal) (Cert.AdamPwTwoIdeal.Val.X1 m c) (Cert.AdamPwTwoIdeal.Val.X3 m c),
    (θ_run _ _ _).mono (fun r h c => ⟨(h c).1.trans (Cert.AdamPwTwoIdeal.Val.final4 m c), (h c).2.1.trans (Cert.AdamPwTwoIdeal.Val.final5 m c),
      (h c).2.2.1.trans (Cert.AdamPwTwoIdeal.Val.final6 m c), (h c).2.2.2⟩) (Cert.AdamPwTwoIdeal.Value.run_blocks m g),
    (θ_run _ _ _).mono (fun r h c => ?_) (Cert.AdamPwTwoRefIdeal.Value.run m' g')⟩
  obtain ⟨e0, e1, e2, e3⟩ := same c
  refine ⟨((h c).1.trans (Cert.AdamPwTwoRefIdeal.Read.val_main_v26_eq _ _ _ _)).trans ?_,
    ((h c).2.1.trans (Cert.AdamPwTwoRefIdeal.Read.val_main_v7_eq _ _)).trans ?_,
    ((h c).2.2.1.trans (Cert.AdamPwTwoRefIdeal.Read.val_main_v13_eq _ _)).trans ?_, (h c).2.2.2⟩
  · rw [e0, e1, e2, e3]
  · rw [e1, e2]
  · rw [e1, e3]

end Cert.Proof
-- ==== Proof.AdamUp.lean ====
/- The optimiser of the feed-forward blocks' first products. -/
module

public import proofs.«01_k».proof.Proof.Adam
public import proofs.«01_k».proof.Proof.Gen.AdamUpIdeal.Value
public import proofs.«01_k».proof.Proof.Gen.AdamUpRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AdamUpIdeal.Val

open Cert.AdamUpIdeal Cert.AdamUpIdeal.Gen Idealize.ShloMosaic Idealize.ShloMosaic.TcCoe Idealize.SL.Sem

variable (m : (ℓ : Loc nD τ sig) → Buf (Elt Ideal) ℓ) (c : Dev nD)

abbrev X0 : FVec Ideal S2x1024x1408 .f32 := m ((c : Thread nD τ).loc main_arg0)
abbrev X1 : FVec Ideal S2048x1408 .f32 := m ((c : Thread nD τ).loc main_arg1)
abbrev X2 : FVec Ideal S2x1024x1408 .f32 := m ((c : Thread nD τ).loc main_arg2)
abbrev X3 : FVec Ideal S2x1024x1408 .f32 := m ((c : Thread nD τ).loc main_arg3)

theorem V0 : V m c main_v0 = Cert.AdamUpRefIdeal.Read.val_main_v0 (F := Ideal) (X0 m c) := by
  unfold V; after_reads_simp; rfl

theorem V1 : V m c main_v1 = Cert.AdamUpRefIdeal.Read.val_main_v1 (F := Ideal) (X2 m c) := by
  unfold V; after_reads_simp; rfl

theorem V2 : V m c main_v2 = Cert.AdamUpRefIdeal.Read.val_main_v2 (F := Ideal) (X3 m c) := by
  unfold V; after_reads_simp; rfl

section Blocks
variable {m c} (t : Fin cfg0.N) (y : S256x1408.Idx)
theorem in0 : (iblk m c 0 t : FVec Ideal S256x1408 .f32) y =
    Cert.AdamUpRefIdeal.Read.val_main_v0 (F := Ideal) (X0 m c) ((win0_4.blk t).view.emb y) :=
  Eq.trans (b := V m c main_v0 ((win0_4.blk t).view.emb y)) rfl (congrFun (V0 m c) _)
theorem in1 : (iblk m c 1 t : FVec Ideal S256x1408 .f32) y = X1 m c ((win0_4.blk t).view.emb y) :=
  Eq.trans (b := V m c main_arg1 ((win0_4.blk t).view.emb y)) rfl (congrFun (V_main_arg1 m c) _)
theorem in2 : (iblk m c 2 t : FVec Ideal S256x1408 .f32) y =
    Cert.AdamUpRefIdeal.Read.val_main_v1 (F := Ideal) (X2 m c) ((win0_4.blk t).view.emb y) :=
  Eq.trans (b := V m c main_v1 ((win0_4.blk t).view.emb y)) rfl (congrFun (V1 m c) _)
theorem in3 : (iblk m c 3 t : FVec Ideal S256x1408 .f32) y =
    Cert.AdamUpRefIdeal.Read.val_main_v2 (F := Ideal) (X3 m c) ((win0_4.blk t).view.emb y) :=
  Eq.trans (b := V m c main_v2 ((win0_4.blk t).view.emb y)) rfl (congrFun (V2 m c) _)
end Blocks

/-- The updates. -/
theorem final4 : (dats m 0 c).arrAt 4 cfg0.N =
    Cert.AdamUpRefIdeal.Read.val_main_v26 (F := Ideal) (X0 m c) (X1 m c) (X2 m c) (X3 m c) := by
  refine (dats m 0 c).arrAt_eq_of_covers 4 _ (by decide +kernel) fun t ht y => ?_
  blk_simp
  rw [after0_4]
  have e : out0_4 (F := Ideal) (iblk m c 0 t) (iblk m c 1 t) (iblk m c 2 t) (iblk m c 3 t) =
      k0_pay3 (F := Ideal) (iblk m c 1 t) (iblk m c 2 t) (iblk m c 3 t) (iblk m c 0 t) := by
    frame_out
  exact (congrFun e _).trans (Adam.delta_at (in1 t y) (in2 t y) (in3 t y) (in0 t y))

/-- The new first moments. -/
theorem final5 : (dats m 0 c).arrAt 5 cfg0.N = Cert.AdamUpRefIdeal.Read.val_main_v7 (F := Ideal) (X1 m c) (X2 m c) := by
  refine (dats m 0 c).arrAt_eq_of_covers 5 _ (by decide +kernel) fun t ht y => ?_
  blk_simp
  rw [after0_5]
  have e : out0_5 (F := Ideal) (iblk m c 0 t) (iblk m c 1 t) (iblk m c 2 t) (iblk m c 3 t) =
      k0_pay1 (F := Ideal) (iblk m c 1 t) (iblk m c 2 t) := by
    frame_out
  exact (congrFun e _).trans (Adam.newM_at (in1 t y) (in2 t y))

/-- The new second moments. -/
theorem final6 : (dats m 0 c).arrAt 6 cfg0.N = Cert.AdamUpRefIdeal.Read.val_main_v13 (F := Ideal) (X1 m c) (X3 m c) := by
  refine (dats m 0 c).arrAt_eq_of_covers 6 _ (by decide +kernel) fun t ht y => ?_
  blk_simp
  rw [after0_6]
  have e : out0_6 (F := Ideal) (iblk m c 0 t) (iblk m c 1 t) (iblk m c 2 t) (iblk m c 3 t) =
      k0_pay2 (F := Ideal) (iblk m c 1 t) (iblk m c 3 t) := by
    frame_out
  exact (congrFun e _).trans (Adam.newV_at (in1 t y) (in3 t y))

end Cert.AdamUpIdeal.Val

namespace Cert.Proof

open Idealize.ShloMosaic Idealize.SL.Sem

theorem frame_AdamUpRefIdeal : Cert.quiescent_AdamUpRefIdeal (hAdamUpRefIdeal := Cert.AdamUpRefIdeal.Gen.facts) := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

/-- The optimiser of the feed-forward blocks' first products: the call's results are the reference's. -/
theorem alg_AdamUp : Cert.algebraic_AdamUpIdeal_AdamUpRefIdeal (hAdamUpIdeal := Cert.AdamUpIdeal.Gen.facts)
    (hAdamUpRefIdeal := Cert.AdamUpRefIdeal.Gen.facts) := by
  intro m g m' g' _ same
  refine ⟨fun c => Cert.AdamUpRefIdeal.Read.val_main_v26 (F := Ideal) (Cert.AdamUpIdeal.Val.X0 m c) (Cert.AdamUpIdeal.Val.X1 m c)
      (Cert.AdamUpIdeal.Val.X2 m c) (Cert.AdamUpIdeal.Val.X3 m c),
    fun c => Cert.AdamUpRefIdeal.Read.val_main_v7 (F := Ideal) (Cert.AdamUpIdeal.Val.X1 m c) (Cert.AdamUpIdeal.Val.X2 m c),
    fun c => Cert.AdamUpRefIdeal.Read.val_main_v13 (F := Ideal) (Cert.AdamUpIdeal.Val.X1 m c) (Cert.AdamUpIdeal.Val.X3 m c),
    (θ_run _ _ _).mono (fun r h c => ⟨(h c).1.trans (Cert.AdamUpIdeal.Val.final4 m c), (h c).2.1.trans (Cert.AdamUpIdeal.Val.final5 m c),
      (h c).2.2.1.trans (Cert.AdamUpIdeal.Val.final6 m c), (h c).2.2.2⟩) (Cert.AdamUpIdeal.Value.run_blocks m g),
    (θ_run _ _ _).mono (fun r h c => ?_) (Cert.AdamUpRefIdeal.Value.run m' g')⟩
  obtain ⟨e0, e1, e2, e3⟩ := same c
  refine ⟨((h c).1.trans (Cert.AdamUpRefIdeal.Read.val_main_v26_eq _ _ _ _)).trans ?_,
    ((h c).2.1.trans (Cert.AdamUpRefIdeal.Read.val_main_v7_eq _ _)).trans ?_,
    ((h c).2.2.1.trans (Cert.AdamUpRefIdeal.Read.val_main_v13_eq _ _)).trans ?_, (h c).2.2.2⟩
  · rw [e0, e1, e2, e3]
  · rw [e1, e2]
  · rw [e1, e3]

end Cert.Proof
-- ==== Proof.AdamDown.lean ====
/- The optimiser of the feed-forward blocks' second products. -/
module

public import proofs.«01_k».proof.Proof.Adam
public import proofs.«01_k».proof.Proof.Gen.AdamDownIdeal.Value
public import proofs.«01_k».proof.Proof.Gen.AdamDownRefIdeal.Read
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Adequacy
public import proofs.«01_k».proof.Defs

@[expose] public section

set_option maxRecDepth 16384

noncomputable section

namespace Cert.AdamDownIdeal.Val

open Cert.AdamDownIdeal Cert.AdamDownIdeal.Gen Idealize.ShloMosaic Idealize.ShloMosaic.TcCoe Idealize.SL.Sem

variable (m : (ℓ : Loc nD τ sig) → Buf (Elt Ideal) ℓ) (c : Dev nD)

abbrev X0 : FVec Ideal S2x704x1024 .f32 := m ((c : Thread nD τ).loc main_arg0)
abbrev X1 : FVec Ideal S1408x1024 .f32 := m ((c : Thread nD τ).loc main_arg1)
abbrev X2 : FVec Ideal S2x704x1024 .f32 := m ((c : Thread nD τ).loc main_arg2)
abbrev X3 : FVec Ideal S2x704x1024 .f32 := m ((c : Thread nD τ).loc main_arg3)

theorem V0 : V m c main_v0 = Cert.AdamDownRefIdeal.Read.val_main_v0 (F := Ideal) (X0 m c) := by
  unfold V; after_reads_simp; rfl

theorem V1 : V m c main_v1 = Cert.AdamDownRefIdeal.Read.val_main_v1 (F := Ideal) (X2 m c) := by
  unfold V; after_reads_simp; rfl

theorem V2 : V m c main_v2 = Cert.AdamDownRefIdeal.Read.val_main_v2 (F := Ideal) (X3 m c) := by
  unfold V; after_reads_simp; rfl

section Blocks
variable {m c} (t : Fin cfg0.N) (y : S352x1024.Idx)
theorem in0 : (iblk m c 0 t : FVec Ideal S352x1024 .f32) y =
    Cert.AdamDownRefIdeal.Read.val_main_v0 (F := Ideal) (X0 m c) ((win0_4.blk t).view.emb y) :=
  Eq.trans (b := V m c main_v0 ((win0_4.blk t).view.emb y)) rfl (congrFun (V0 m c) _)
theorem in1 : (iblk m c 1 t : FVec Ideal S352x1024 .f32) y = X1 m c ((win0_4.blk t).view.emb y) :=
  Eq.trans (b := V m c main_arg1 ((win0_4.blk t).view.emb y)) rfl (congrFun (V_main_arg1 m c) _)
theorem in2 : (iblk m c 2 t : FVec Ideal S352x1024 .f32) y =
    Cert.AdamDownRefIdeal.Read.val_main_v1 (F := Ideal) (X2 m c) ((win0_4.blk t).view.emb y) :=
  Eq.trans (b := V m c main_v1 ((win0_4.blk t).view.emb y)) rfl (congrFun (V1 m c) _)
theorem in3 : (iblk m c 3 t : FVec Ideal S352x1024 .f32) y =
    Cert.AdamDownRefIdeal.Read.val_main_v2 (F := Ideal) (X3 m c) ((win0_4.blk t).view.emb y) :=
  Eq.trans (b := V m c main_v2 ((win0_4.blk t).view.emb y)) rfl (congrFun (V2 m c) _)
end Blocks

/-- The updates. -/
theorem final4 : (dats m 0 c).arrAt 4 cfg0.N =
    Cert.AdamDownRefIdeal.Read.val_main_v26 (F := Ideal) (X0 m c) (X1 m c) (X2 m c) (X3 m c) := by
  refine (dats m 0 c).arrAt_eq_of_covers 4 _ (by decide +kernel) fun t ht y => ?_
  blk_simp
  rw [after0_4]
  have e : out0_4 (F := Ideal) (iblk m c 0 t) (iblk m c 1 t) (iblk m c 2 t) (iblk m c 3 t) =
      k0_pay3 (F := Ideal) (iblk m c 1 t) (iblk m c 2 t) (iblk m c 3 t) (iblk m c 0 t) := by
    frame_out
  exact (congrFun e _).trans (Adam.delta_at (in1 t y) (in2 t y) (in3 t y) (in0 t y))

/-- The new first moments. -/
theorem final5 : (dats m 0 c).arrAt 5 cfg0.N = Cert.AdamDownRefIdeal.Read.val_main_v7 (F := Ideal) (X1 m c) (X2 m c) := by
  refine (dats m 0 c).arrAt_eq_of_covers 5 _ (by decide +kernel) fun t ht y => ?_
  blk_simp
  rw [after0_5]
  have e : out0_5 (F := Ideal) (iblk m c 0 t) (iblk m c 1 t) (iblk m c 2 t) (iblk m c 3 t) =
      k0_pay1 (F := Ideal) (iblk m c 1 t) (iblk m c 2 t) := by
    frame_out
  exact (congrFun e _).trans (Adam.newM_at (in1 t y) (in2 t y))

/-- The new second moments. -/
theorem final6 : (dats m 0 c).arrAt 6 cfg0.N = Cert.AdamDownRefIdeal.Read.val_main_v13 (F := Ideal) (X1 m c) (X3 m c) := by
  refine (dats m 0 c).arrAt_eq_of_covers 6 _ (by decide +kernel) fun t ht y => ?_
  blk_simp
  rw [after0_6]
  have e : out0_6 (F := Ideal) (iblk m c 0 t) (iblk m c 1 t) (iblk m c 2 t) (iblk m c 3 t) =
      k0_pay2 (F := Ideal) (iblk m c 1 t) (iblk m c 3 t) := by
    frame_out
  exact (congrFun e _).trans (Adam.newV_at (in1 t y) (in3 t y))

end Cert.AdamDownIdeal.Val

namespace Cert.Proof

open Idealize.ShloMosaic Idealize.SL.Sem

theorem frame_AdamDownRefIdeal : Cert.quiescent_AdamDownRefIdeal (hAdamDownRefIdeal := Cert.AdamDownRefIdeal.Gen.facts) := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

/-- The optimiser of the feed-forward blocks' second products: the call's results are the reference's. -/
theorem alg_AdamDown : Cert.algebraic_AdamDownIdeal_AdamDownRefIdeal (hAdamDownIdeal := Cert.AdamDownIdeal.Gen.facts)
    (hAdamDownRefIdeal := Cert.AdamDownRefIdeal.Gen.facts) := by
  intro m g m' g' _ same
  refine ⟨fun c => Cert.AdamDownRefIdeal.Read.val_main_v26 (F := Ideal) (Cert.AdamDownIdeal.Val.X0 m c) (Cert.AdamDownIdeal.Val.X1 m c)
      (Cert.AdamDownIdeal.Val.X2 m c) (Cert.AdamDownIdeal.Val.X3 m c),
    fun c => Cert.AdamDownRefIdeal.Read.val_main_v7 (F := Ideal) (Cert.AdamDownIdeal.Val.X1 m c) (Cert.AdamDownIdeal.Val.X2 m c),
    fun c => Cert.AdamDownRefIdeal.Read.val_main_v13 (F := Ideal) (Cert.AdamDownIdeal.Val.X1 m c) (Cert.AdamDownIdeal.Val.X3 m c),
    (θ_run _ _ _).mono (fun r h c => ⟨(h c).1.trans (Cert.AdamDownIdeal.Val.final4 m c), (h c).2.1.trans (Cert.AdamDownIdeal.Val.final5 m c),
      (h c).2.2.1.trans (Cert.AdamDownIdeal.Val.final6 m c), (h c).2.2.2⟩) (Cert.AdamDownIdeal.Value.run_blocks m g),
    (θ_run _ _ _).mono (fun r h c => ?_) (Cert.AdamDownRefIdeal.Value.run m' g')⟩
  obtain ⟨e0, e1, e2, e3⟩ := same c
  refine ⟨((h c).1.trans (Cert.AdamDownRefIdeal.Read.val_main_v26_eq _ _ _ _)).trans ?_,
    ((h c).2.1.trans (Cert.AdamDownRefIdeal.Read.val_main_v7_eq _ _)).trans ?_,
    ((h c).2.2.1.trans (Cert.AdamDownRefIdeal.Read.val_main_v13_eq _ _)).trans ?_, (h c).2.2.2⟩
  · rw [e0, e1, e2, e3]
  · rw [e1, e2]
  · rw [e1, e3]

end Cert.Proof
-- ==== Proof.Row.lean ====
/- One row of masked attention and of its gradient, over the extended reals.

   A row has 256 keys.  `M` says which keys the query may see, `a` is the row of scaled scores, `V` the values,
   `dO` the cotangent of the row's output, `dl` the cotangent of its log-sum-exp.  The definitions under
   `the textbook gradient` are the derivative rule applied operation by operation (the maximum included); the
   definitions under `the short form` use the saved log-sum-exp instead.  `short_prob` and `short_grad` say
   that on real data both agree. -/
module

public import Idealize.ShloMosaic.PureOps.Ideal

@[expose] public section

noncomputable section

namespace Cert.Row

open Idealize.ShloMosaic

theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-! ### The forward row -/

section Defs
variable (M : Fin 256 → Prop) [DecidablePred M] (a : Fin 256 → EReal) (V : Fin 256 → Fin 64 → EReal)
variable (dO : Fin 64 → EReal) (dl : EReal)

/-- The masked scores. -/
def sm (k : Fin 256) : EReal := if M k then a k else ⊥
/-- Their maximum. -/
def mx : EReal := Finset.univ.fold max ⊥ (sm M a)
/-- The exponentials of the masked scores less the maximum. -/
def pt (k : Fin 256) : EReal := Ideal.exp (sm M a k - mx M a)
/-- Their sum. -/
def den : EReal := ∑ k, pt M a k
/-- The weighted sum of the values. -/
def num (d : Fin 64) : EReal := ∑ k, pt M a k * V k d
/-- The row's output. -/
def out (d : Fin 64) : EReal := Ideal.div (num M a V d) (den M a)
/-- The row's log-sum-exp. -/
def lse : EReal := mx M a + Ideal.log (den M a)
/-- What the short form subtracts from the gradient of a probability. -/
def dterm : EReal := (∑ d, dO d * out M a V d) - dl

/-! ### The textbook gradient -/

/-- Which keys attain the maximum, as zeros and ones. -/
def hit (k : Fin 256) : EReal := if sm M a k = mx M a then 1 else 0
/-- How many there are. -/
def count : EReal := ∑ k, hit M a k
/-- The cotangent of the sum of the exponentials. -/
def ctDen : EReal :=
  Ideal.div dl (den M a) + -(∑ d, dO d * Ideal.div 1 (den M a * den M a) * num M a V d)
/-- The cotangent of an exponential. -/
def ctExp (k : Fin 256) : EReal := (∑ d, Ideal.div (dO d) (den M a) * V k d) + ctDen M a V dO dl
/-- The cotangent of a score less the maximum. -/
def ctSub (k : Fin 256) : EReal := ctExp M a V dO dl k * pt M a k
/-- The cotangent of the maximum. -/
def ctMax : EReal := dl + ∑ k, -ctSub M a V dO dl k
/-- The cotangent of a score before scaling by `c`. -/
def ctScore (c : EReal) (k : Fin 256) : EReal :=
  (if M k then ctSub M a V dO dl k + Ideal.div (ctMax M a V dO dl) (count M a) * hit M a k else 0) * c

/-! ### The short form -/

/-- A probability, from the saved log-sum-exp `L`. -/
def prob (L : EReal) (k : Fin 256) : EReal := Ideal.exp (if M k then a k - L else ⊥)
/-- The cotangent of a score before scaling by `c`, from the saved log-sum-exp `L` and the row's term `T`. -/
def grad (L T c : EReal) (k : Fin 256) : EReal :=
  prob M a L k * ((∑ d, dO d * V k d) - T) * c

end Defs

/-! ### The row over the reals -/

theorem fold_max_coe (M : Fin 256 → Prop) [DecidablePred M] (a : Fin 256 → ℝ) (hM : ∃ k, M k) :
    ∃ m : ℝ, mx M (fun k => (a k : EReal)) = (m : EReal) ∧ ∃ k, sm M (fun k => (a k : EReal)) k = (m : EReal) := by
  classical
  have key : ∀ s : Finset (Fin 256), (∃ k ∈ s, M k) →
      ∃ k ∈ s, M k ∧ s.fold max ⊥ (sm M (fun k => (a k : EReal))) = (a k : EReal) := by
    intro s
    induction s using Finset.induction_on with
    | empty => rintro ⟨k, hk, -⟩; simp at hk
    | insert x s hx ih =>
      rintro ⟨k, hk, hMk⟩
      rw [Finset.fold_insert hx]
      by_cases hs : ∃ k ∈ s, M k
      · obtain ⟨y, hy, hMy, e⟩ := ih hs
        rw [e]
        by_cases hMx : M x
        · rcases le_total (sm M (fun k => (a k : EReal)) x) (a y : EReal) with h | h
          · exact ⟨y, Finset.mem_insert_of_mem hy, hMy, max_eq_right h⟩
          · exact ⟨x, Finset.mem_insert_self _ _, hMx, by rw [max_eq_left h]; simp [sm, hMx]⟩
        · refine ⟨y, Finset.mem_insert_of_mem hy, hMy, ?_⟩
          simp [sm, hMx]
      · have hkx : k = x := by
          rcases Finset.mem_insert.1 hk with h | h
          · exact h
          · exact absurd ⟨k, h, hMk⟩ hs
        subst hkx
        refine ⟨k, Finset.mem_insert_self _ _, hMk, ?_⟩
        have : s.fold max ⊥ (sm M (fun k => (a k : EReal))) = ⊥ := by
          refine le_bot_iff.1 (Finset.fold_max_le _ |>.2 ⟨le_rfl, fun y hy => ?_⟩)
          have : ¬ M y := fun h => hs ⟨y, hy, h⟩
          simp [sm, this]
        rw [this]; simp [sm, hMk]
  obtain ⟨k, hk⟩ := hM
  obtain ⟨y, -, hMy, e⟩ := key Finset.univ ⟨k, Finset.mem_univ _, hk⟩
  exact ⟨a y, e, y, by simp [sm, hMy]⟩

/-- The exponentials over the reals. -/
def ptR (M : Fin 256 → Prop) [DecidablePred M] (a : Fin 256 → ℝ) (m : ℝ) (k : Fin 256) : ℝ :=
  if M k then Real.exp (a k - m) else 0

/-- A family of reals as a family of extended reals. -/
abbrev up {ι : Type} (f : ι → ℝ) : ι → EReal := fun k => ((f k : ℝ) : EReal)
/-- The same for a family of two indices. -/
abbrev up2 {ι κ : Type} (f : ι → κ → ℝ) : ι → κ → EReal := fun k d => ((f k d : ℝ) : EReal)

section Real
variable (M : Fin 256 → Prop) [DecidablePred M] (a : Fin 256 → ℝ) (V : Fin 256 → Fin 64 → ℝ)
variable (dO : Fin 64 → ℝ) (dl : ℝ)

theorem pt_coe {m : ℝ} (hm : mx M (up a) = (m : EReal)) (k : Fin 256) :
    pt M (up a) k = ((ptR M a m k : ℝ) : EReal) := by
  unfold pt ptR
  rw [hm]
  by_cases h : M k
  · simp only [sm, if_pos h]
    rw [← EReal.coe_sub]; rfl
  · simp only [sm, if_neg h]
    rw [EReal.bot_sub]; simp

/-- The facts of a row on real data: the maximum, the sum of the exponentials and the count are real, the last
    two positive. -/
theorem facts (hM : ∃ k, M k) :
    ∃ m D c : ℝ, mx M (up a) = (m : EReal) ∧ D = ∑ k, ptR M a m k ∧ 0 < D ∧ den M (up a) = (D : EReal) ∧
      0 < c ∧ count M (up a) = (c : EReal) := by
  obtain ⟨m, hm, k0, hk0⟩ := fold_max_coe M a hM
  refine ⟨m, ∑ k, ptR M a m k, ∑ k, (if sm M (up a) k = mx M (up a) then 1 else 0), hm, rfl, ?_, ?_, ?_, ?_⟩
  · obtain ⟨k, hk⟩ := hM
    refine Finset.sum_pos' (fun k _ => ?_) ⟨k, Finset.mem_univ _, ?_⟩
    · unfold ptR; split_ifs <;> positivity
    · unfold ptR; rw [if_pos hk]; positivity
  · unfold den
    rw [coe_sum]
    exact Finset.sum_congr rfl fun k _ => pt_coe M a hm k
  · refine Finset.sum_pos' (fun k _ => ?_) ⟨k0, Finset.mem_univ _, ?_⟩
    · split_ifs <;> norm_num
    · rw [if_pos (hk0.trans hm.symm)]; norm_num
  · unfold count
    rw [coe_sum]
    refine Finset.sum_congr rfl fun k _ => ?_
    unfold hit; split_ifs <;> simp

theorem div_coe' {y : ℝ} (h : 0 < y) (x : ℝ) : Ideal.div (x : EReal) (y : EReal) = ((x / y : ℝ) : EReal) := by
  rw [Ideal.div_coe h.ne', ← EReal.coe_mul]; congr 1; field_simp

theorem log_coe' {y : ℝ} (h : 0 < y) : Ideal.log (y : EReal) = ((Real.log y : ℝ) : EReal) := by
  rw [Ideal.log_coe, if_neg h.not_ge]

/-- A short-form probability is the exponential divided by the sum; `a2` need only agree with the scores the row
    sees. -/
theorem prob_coe {m D : ℝ} (hm : mx M (up a) = (m : EReal)) (hD : 0 < D) (hden : den M (up a) = (D : EReal))
    (a2 : Fin 256 → EReal) (h2 : ∀ k, M k → a2 k = a k) (k : Fin 256) :
    prob M a2 (lse M (up a)) k = ((ptR M a m k / D : ℝ) : EReal) := by
  unfold prob lse ptR
  rw [hm, hden, log_coe' hD, ← EReal.coe_add]
  by_cases h : M k
  · rw [if_pos h, if_pos h, h2 k h, ← EReal.coe_sub, Ideal.exp_coe]
    congr 1
    rw [← sub_sub, Real.exp_sub, Real.exp_log hD]
  · rw [if_neg h, if_neg h]; simp

theorem num_coe {m : ℝ} (hm : mx M (up a) = (m : EReal)) (d : Fin 64) :
    num M (up a) (up2 V) d = ((∑ k, ptR M a m k * V k d : ℝ) : EReal) := by
  unfold num
  rw [coe_sum]
  refine Finset.sum_congr rfl fun k _ => ?_
  rw [pt_coe M a hm k, ← EReal.coe_mul]

theorem out_coe {m D : ℝ} (hm : mx M (up a) = (m : EReal)) (hD : 0 < D) (hden : den M (up a) = (D : EReal)) (d : Fin 64) :
    out M (up a) (up2 V) d = (((∑ k, ptR M a m k * V k d) / D : ℝ) : EReal) := by
  unfold out
  rw [num_coe M a V hm d, hden, div_coe' hD]

theorem dterm_coe {m D : ℝ} (hm : mx M (up a) = (m : EReal)) (hD : 0 < D) (hden : den M (up a) = (D : EReal)) :
    dterm M (up a) (up2 V) (up dO) (dl : EReal) =
      (((∑ d, dO d * ((∑ k, ptR M a m k * V k d) / D)) - dl : ℝ) : EReal) := by
  unfold dterm
  rw [EReal.coe_sub, coe_sum]
  congr 1
  refine Finset.sum_congr rfl fun d _ => ?_
  rw [out_coe M a V hm hD hden d, ← EReal.coe_mul]

theorem ctExp_coe {m D : ℝ} (hm : mx M (up a) = (m : EReal)) (hD : 0 < D) (hden : den M (up a) = (D : EReal)) (k : Fin 256) :
    ctExp M (up a) (up2 V) (up dO) (dl : EReal) k =
      (((∑ d, dO d * V k d) - ((∑ d, dO d * ((∑ k, ptR M a m k * V k d) / D)) - dl)) / D : ℝ) := by
  unfold ctExp ctDen
  have e1 : (∑ d, Ideal.div (dO d : EReal) (den M (up a)) * (V k d : EReal)) = ((∑ d, dO d / D * V k d : ℝ) : EReal) := by
    rw [coe_sum]
    refine Finset.sum_congr rfl fun d _ => ?_
    rw [hden, div_coe' hD, ← EReal.coe_mul]
  have e2 : (∑ d, (dO d : EReal) * Ideal.div 1 (den M (up a) * den M (up a)) * num M (up a) (up2 V) d)
      = ((∑ d, dO d * (1 / (D * D)) * (∑ k, ptR M a m k * V k d) : ℝ) : EReal) := by
    rw [coe_sum]
    refine Finset.sum_congr rfl fun d _ => ?_
    rw [hden, num_coe M a V hm d, ← EReal.coe_mul, ← EReal.coe_one, div_coe' (mul_pos hD hD), ← EReal.coe_mul,
      ← EReal.coe_mul]
  rw [e1, e2, hden, div_coe' hD, ← EReal.coe_neg, ← EReal.coe_add, ← EReal.coe_add]
  congr 1
  have s1 : (∑ d, dO d / D * V k d) = (∑ d, dO d * V k d) / D := by
    rw [Finset.sum_div]; exact Finset.sum_congr rfl fun d _ => by ring
  have s2 : (∑ d, dO d * (1 / (D * D)) * (∑ k, ptR M a m k * V k d))
      = (∑ d, dO d * ((∑ k, ptR M a m k * V k d) / D)) / D := by
    rw [Finset.sum_div]; exact Finset.sum_congr rfl fun d _ => by field_simp
  rw [s1, s2]; field_simp; ring

/-- The cotangent of the maximum is zero: shifting every score alike changes neither the output nor, the shift
    apart, the log-sum-exp. -/
theorem ctMax_zero {m D : ℝ} (hm : mx M (up a) = (m : EReal)) (hD : 0 < D) (hS : D = ∑ k, ptR M a m k)
    (hden : den M (up a) = (D : EReal)) : ctMax M (up a) (up2 V) (up dO) (dl : EReal) = 0 := by
  unfold ctMax ctSub
  have e : (∑ k, -(ctExp M (up a) (up2 V) (up dO) (dl : EReal) k * pt M (up a) k)) =
      ((∑ k, -((((∑ d, dO d * V k d) - ((∑ d, dO d * ((∑ k, ptR M a m k * V k d) / D)) - dl)) / D) * ptR M a m k) : ℝ) :
        EReal) := by
    rw [coe_sum]
    refine Finset.sum_congr rfl fun k _ => ?_
    rw [ctExp_coe M a V dO dl hm hD hden k, pt_coe M a hm k, ← EReal.coe_mul, ← EReal.coe_neg]
  rw [e, ← EReal.coe_add, ← EReal.coe_zero]
  congr 1
  set T := (∑ d, dO d * ((∑ k, ptR M a m k * V k d) / D)) with hT
  have s : (∑ k, -((((∑ d, dO d * V k d) - (T - dl)) / D) * ptR M a m k))
      = -((∑ k, (∑ d, dO d * V k d) * ptR M a m k) / D) + (T - dl) / D * (∑ k, ptR M a m k) := by
    rw [Finset.sum_div, ← Finset.sum_neg_distrib, Finset.mul_sum, ← Finset.sum_add_distrib]
    exact Finset.sum_congr rfl fun k _ => by ring
  have t : (∑ k, (∑ d, dO d * V k d) * ptR M a m k) / D = T := by
    rw [hT, Finset.sum_div]
    have : ∀ k ∈ Finset.univ, ((∑ d, dO d * V k d) * ptR M a m k) / D = ∑ d, dO d * (ptR M a m k * V k d / D) := by
      intro k _
      rw [Finset.sum_mul, Finset.sum_div]
      exact Finset.sum_congr rfl fun d _ => by ring
    rw [Finset.sum_congr rfl this, Finset.sum_comm]
    refine Finset.sum_congr rfl fun d _ => ?_
    rw [Finset.sum_div, Finset.mul_sum]
  rw [s, t, ← hS]; field_simp; ring

/-- On real data the short form's probability times a number is the exponential times that number divided by the
    sum. -/
theorem short_prob (hM : ∃ k, M k) (a2 : Fin 256 → EReal) (h2 : ∀ k, M k → a2 k = a k) (x : ℝ) (k : Fin 256) :
    prob M a2 (lse M (up a)) k * (x : EReal) = Ideal.div (x : EReal) (den M (up a)) * pt M (up a) k := by
  obtain ⟨m, D, c, hm, hS, hD, hden, hc, hcount⟩ := facts M a hM
  rw [prob_coe M a hm hD hden a2 h2 k, hden, div_coe' hD, pt_coe M a hm k, ← EReal.coe_mul, ← EReal.coe_mul]
  congr 1; ring

/-- On real data the short form's gradient of a score is the textbook one. -/
theorem short_grad (hM : ∃ k, M k) (a2 : Fin 256 → EReal) (h2 : ∀ k, M k → a2 k = a k)
    (V2 : Fin 256 → Fin 64 → ℝ) (hV2 : ∀ k, M k → V2 k = V k) (s : ℝ) (k : Fin 256) :
    grad M a2 (up2 V2) (up dO) (lse M (up a)) (dterm M (up a) (up2 V) (up dO) (dl : EReal)) (s : EReal) k
      = ctScore M (up a) (up2 V) (up dO) (dl : EReal) (s : EReal) k := by
  obtain ⟨m, D, c, hm, hS, hD, hden, hc, hcount⟩ := facts M a hM
  unfold grad ctScore
  rw [prob_coe M a hm hD hden a2 h2 k, dterm_coe M a V dO dl hm hD hden, ctMax_zero M a V dO dl hm hD hS hden, hcount,
    ← EReal.coe_zero, div_coe' hc]
  have e : (∑ d, (dO d : EReal) * (V2 k d : EReal)) = ((∑ d, dO d * V2 k d : ℝ) : EReal) := by
    rw [coe_sum]; exact Finset.sum_congr rfl fun d _ => (EReal.coe_mul _ _).symm
  rw [e, ← EReal.coe_sub, ← EReal.coe_mul, ← EReal.coe_mul]
  by_cases h : M k
  · rw [if_pos h, zero_div, EReal.coe_zero, zero_mul, add_zero]
    unfold ctSub
    rw [ctExp_coe M a V dO dl hm hD hden k, pt_coe M a hm k, hV2 k h, ← EReal.coe_mul, ← EReal.coe_mul]
    congr 1; ring
  · rw [if_neg h]
    simp [ptR, h]

end Real

end Cert.Row
-- ==== Proof.Ref.lean ====
/- The reference program read at an index: each stage is the row of `Row.lean` that belongs to the index.

   A phase `r` (of 16), a head `h` (of 8), a block `j` (of 4) and a row `i` (of 128) name a query; its token is
   `tok r j i`.  The window of a block has 256 keys: the 128 of the block before (zero for the first block), then
   the block's own. -/
module

public import proofs.«01_k».proof.Proof.Gen.ReferenceIdeal.Read
public import proofs.«01_k».proof.Proof.Row
public import Idealize.ShloMosaic.Lib.Pointwise
public import Idealize.ShloMosaic.Lib.Tactic.WordOmega

@[expose] public section

set_option maxRecDepth 16384

noncomputable section

namespace Cert.ReferenceIdeal.At

open Cert.ReferenceIdeal Cert.ReferenceIdeal.Gen Cert.ReferenceIdeal.Read Idealize.ShloMosaic Idealize.ShloMosaic.TcCoe Idealize.SL.Sem Idealize.ShloMosaic.StableHlo

/-- The token of row `i` of block `j` of phase `r`. -/
def tok (r : Fin 16) (j : Fin 4) (i : Fin 128) : Fin 8192 := ⟨((j : ℕ) * 128 + i) * 16 + r, by omega⟩

/-- Which keys of its window a query sees. -/
def Seen (j : Fin 4) (i : Fin 128) (k : Fin 256) : Prop :=
  ((i : ℕ) ≤ k ∧ (k : ℕ) ≤ i + 128) ∧ (0 < (j : ℕ) ∨ 128 ≤ (k : ℕ))

instance (j : Fin 4) (i : Fin 128) : DecidablePred (Seen j i) := fun k => by unfold Seen; infer_instance

/-- The window of a block, of the keys or of the values. -/
def win (x : FVec Ideal S1x8192x8x64 .f32) (r : Fin 16) (h : Fin 8) (j : Fin 4) (k : Fin 256) (d : Fin 64) : EReal :=
  if hk : (k : ℕ) < 128 then
    if hj : 0 < (j : ℕ) then x (ix4 0 (tok r ⟨(j : ℕ) - 1, by omega⟩ ⟨k, hk⟩) h d) else 0
  else x (ix4 0 (tok r j ⟨(k : ℕ) - 128, by omega⟩) h d)

/-- The scaled scores of a query. -/
def score (x0 x1 : FVec Ideal S1x8192x8x64 .f32) (r : Fin 16) (h : Fin 8) (j : Fin 4) (i : Fin 128) (k : Fin 256) : EReal :=
  (∑ d : Fin 64, x0 (ix4 0 (tok r j i) h d) * win x1 r h j k d) * Ideal.ofBits .f32 0x3E000000#32

variable (x0 x1 x2 x3 : FVec Ideal S1x8192x8x64 .f32) (x4 : FVec Ideal S1x8192x8 .f32)
variable (r : Fin 16) (h : Fin 8) (j : Fin 4) (i : Fin 128) (k : Fin 256) (d : Fin 64)

theorem v2_at : val_main_v2 (F := Ideal) x0 (ix5 r h j i d) = x0 (ix4 0 (tok r j i) h d) := by
  pointwise [val_main_v2, val_main_v1, val_main_v0]; rfl
theorem v5_at : val_main_v5 (F := Ideal) x1 (ix5 r h j i d) = x1 (ix4 0 (tok r j i) h d) := by
  pointwise [val_main_v5, val_main_v4, val_main_v3]; rfl
theorem v8_at : val_main_v8 (F := Ideal) x2 (ix5 r h j i d) = x2 (ix4 0 (tok r j i) h d) := by
  pointwise [val_main_v8, val_main_v7, val_main_v6]; rfl
theorem v11_at : val_main_v11 (F := Ideal) x3 (ix5 r h j i d) = x3 (ix4 0 (tok r j i) h d) := by
  pointwise [val_main_v11, val_main_v10, val_main_v9]; rfl
theorem v16_at : val_main_v16 (F := Ideal) x4 (ix4 r h j i) = x4 (ix3 0 (tok r j i) h) := by
  pointwise [val_main_v12, val_main_v13, val_main_v14, val_main_v15, val_main_v16]; rfl

theorem zero_int : FloatOps.sitofp (F := Ideal) .f32 (0#32 : BitVec 32) = (0 : EReal) := by
  show ((((0#32 : BitVec 32).toInt : ℤ) : ℝ) : EReal) = 0
  simp

theorem v19_at : val_main_v19 (F := Ideal) x1 (ix5 r h j k d) = win x1 r h j k d := by
  pointwise [val_main_v19, val_main_v18, val_main_v17, val_main_call0_v0, val_main_c]
  unfold win
  by_cases hk : (k : ℕ) < 128
  · by_cases hj : 0 < (j : ℕ)
    · have hj' : (1 ≤ (j : ℕ) ∧ (j : ℕ) - 1 < 4) ∧ (k : ℕ) < 128 := by omega
      simp only [dif_pos hk, dif_pos hj, dif_pos hj']
      exact v5_at ..
    · have hj' : ¬ ((1 ≤ (j : ℕ) ∧ (j : ℕ) - 1 < 4) ∧ (k : ℕ) < 128) := by omega
      simp only [dif_pos hk, dif_neg hj, dif_neg hj']
      exact zero_int
  · simp only [dif_neg hk]
    exact v5_at ..

theorem v22_at : val_main_v22 (F := Ideal) x2 (ix5 r h j k d) = win x2 r h j k d := by
  rw [← v19_at]; rfl

theorem v25_at : val_main_v25 (F := Ideal) x0 x1 (ix5 r h j i k) = score x0 x1 r h j i k := by
  pointwise [val_main_v25, val_main_v23, val_main_v24, val_main_cst]
  simp only [v2_at, v19_at]; rfl

theorem toInt_small {n : ℕ} (h : n < 512) : (BitVec.ofNat 32 n).toInt = (n : ℤ) := by
  rw [BitVec.toInt_eq_toNat_cond, BitVec.toNat_ofNat, Nat.mod_eq_of_lt (by omega), if_pos (by omega)]

theorem toInt_dist {a b : ℕ} (ha : a < 128) (hb : b < 256) :
    (IntOp.subi (IntOp.addi (BitVec.ofNat 32 a) 128#32) (BitVec.ofNat 32 b)).toInt = (a : ℤ) + 128 - b := by
  show (BitVec.ofNat 32 a + BitVec.ofNat 32 128 - BitVec.ofNat 32 b).toInt = _
  rw [← BitVec.ofNat_add, BitVec.toInt_sub, toInt_small (by omega), toInt_small (by omega)]
  rw [Int.bmod_def]
  split <;> omega

theorem bits (p q s t : Bool) :
    IntOp.andi (IntOp.andi (BitVec.ofBool p) (BitVec.ofBool q)) (IntOp.ori (BitVec.ofBool s) (BitVec.ofBool t)) = 1#1
      ↔ (p = true ∧ q = true) ∧ (s = true ∨ t = true) := by
  revert p q s t; decide

theorem v53_at : val_main_v53 (F := Ideal) (ix3 j i k) = 1#1 ↔ Seen j i k := by
  have hj := j.isLt
  have hi := i.isLt
  have hk := k.isLt
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c_1, val_main_c_2, val_main_c_3, val_main_c_4, val_main_c_5]
  refine (bits
    (decide ((BitVec.ofNat 32 0).toInt ≤ (IntOp.subi (IntOp.addi (BitVec.ofNat 32 (i : ℕ)) 128#32) (BitVec.ofNat 32 (k : ℕ))).toInt))
    (decide ((IntOp.subi (IntOp.addi (BitVec.ofNat 32 (i : ℕ)) 128#32) (BitVec.ofNat 32 (k : ℕ))).toInt ≤ (BitVec.ofNat 32 128).toInt))
    (decide ((BitVec.ofNat 32 0).toInt < (BitVec.ofNat 32 (j : ℕ)).toInt))
    (decide ((BitVec.ofNat 32 128).toInt ≤ (BitVec.ofNat 32 (k : ℕ)).toInt))).trans ?_
  simp only [decide_eq_true_eq]
  rw [toInt_dist hi hk, toInt_small (by omega), toInt_small (by omega), toInt_small (by omega), toInt_small (by omega)]
  unfold Seen
  omega

theorem neg_inf : Ideal.ofBits .f32 0xFF800000#32 = (⊥ : EReal) := by
  simp [Ideal.ofBits, Ideal.ieee]

theorem pick (c : BitVec 1) (x y : EReal) : Scalar.select c x y = if c = 1#1 then x else y := by
  rfl

theorem pick_seen (x y : EReal) :
    Scalar.select (val_main_v53 (F := Ideal) (ix3 j i k)) x y = if Seen j i k then x else y := by
  rw [pick]
  by_cases hs : Seen j i k
  · rw [if_pos hs, if_pos ((v53_at ..).2 hs)]
  · rw [if_neg hs, if_neg (mt (v53_at ..).1 hs)]

theorem v54_at : val_main_v54_0 (F := Ideal) x0 x1 (ix5 r h j i k) = Row.sm (Seen j i) (score x0 x1 r h j i) k := by
  pointwise [val_main_v54_0, val_main_v54_1, val_main_call2_v2, val_main_call2_v0, val_main_cst_6]
  rw [v25_at, show id (constant (F := Ideal) S_ .f32 0xFF800000#32) ix0 = (⊥ : EReal) from neg_inf]
  exact pick_seen ..

theorem v55_at : val_main_v55 (F := Ideal) x0 x1 (ix4 r h j i) = Row.mx (Seen j i) (score x0 x1 r h j i) := by
  pointwise [val_main_v55, val_main_cst_7]
  simp only [v54_at]
  rw [neg_inf]; rfl

theorem v64_at : val_main_v64 (F := Ideal) x0 x1 (ix5 r h j i k) = Row.pt (Seen j i) (score x0 x1 r h j i) k := by
  pointwise [val_main_v64, val_main_v63, val_main_v62, val_main_v61]
  rw [v54_at, v55_at]; rfl

theorem v65_at : val_main_v65 (F := Ideal) x0 x1 (ix4 r h j i) = Row.den (Seen j i) (score x0 x1 r h j i) := by
  pointwise [val_main_v65, val_main_cst_9]
  simp only [v64_at]
  rfl

theorem hit_bit (x y : EReal) : FloatOps.uitofp (F := Ideal) .f32 (BitVec.ofBool (decide (x = y))) = (if x = y then (1 : EReal) else 0) := by
  show ((((BitVec.ofBool (decide (x = y))).toNat : ℕ) : ℝ) : EReal) = _
  by_cases e : x = y
  · simp [e]
  · simp [e]

theorem v59_at : val_main_v59 (F := Ideal) x0 x1 (ix5 r h j i k) = Row.hit (Seen j i) (score x0 x1 r h j i) k := by
  pointwise [val_main_v59, val_main_v58, val_main_v57, val_main_v56]
  rw [v54_at, v55_at]
  exact hit_bit _ _

theorem v60_at : val_main_v60 (F := Ideal) x0 x1 (ix4 r h j i) = Row.count (Seen j i) (score x0 x1 r h j i) := by
  pointwise [val_main_v60, val_main_cst_8]
  simp only [v59_at]
  rfl

theorem v66_at : val_main_v66 (F := Ideal) x0 x1 x2 (ix5 r h j i d) = Row.num (Seen j i) (score x0 x1 r h j i) (win x2 r h j) d := by
  pointwise [val_main_v66]
  simp only [v64_at, v22_at]
  rfl

theorem v69_at : val_main_v69 (F := Ideal) x0 x1 x2 (ix5 r h j i d) = Row.out (Seen j i) (score x0 x1 r h j i) (win x2 r h j) d := by
  pointwise [val_main_v69, val_main_v68, val_main_v67]
  simp only [v66_at, v65_at]
  rfl

theorem v73_at : val_main_v73 (F := Ideal) x0 x1 (ix4 r h j i) = Row.mx (Seen j i) (score x0 x1 r h j i) := by
  pointwise [val_main_v73, val_main_v61]
  exact v55_at ..

theorem v74_at : val_main_v74 (F := Ideal) x0 x1 (ix4 r h j i) = Ideal.log (Row.den (Seen j i) (score x0 x1 r h j i)) := by
  rw [← v65_at, val_main_v74_apply]; rfl

theorem v75_at : val_main_v75 (F := Ideal) x0 x1 (ix4 r h j i) = Row.lse (Seen j i) (score x0 x1 r h j i) := by
  rw [val_main_v75_apply, v73_at, v74_at]; rfl

/-- The row of the cotangent. -/
def cot (x3 : FVec Ideal S1x8192x8x64 .f32) (r : Fin 16) (h : Fin 8) (j : Fin 4) (i : Fin 128) (d : Fin 64) : EReal :=
  x3 (ix4 0 (tok r j i) h d)

theorem v83_at : val_main_v83 (F := Ideal) x0 x1 x2 x3 (ix5 r h j i 0) =
    -(∑ d, cot x3 r h j i d * Ideal.div 1 (Row.den (Seen j i) (score x0 x1 r h j i) * Row.den (Seen j i) (score x0 x1 r h j i))
      * Row.num (Seen j i) (score x0 x1 r h j i) (win x2 r h j) d) := by
  pointwise [val_main_v83, val_main_v82, val_main_v81, val_main_v80, val_main_v79, val_main_v78, val_main_v72, val_main_v71,
    val_main_v70, val_main_v67, val_main_cst_10, val_main_cst_11]
  simp only [v66_at, v65_at, v11_at]
  rfl

theorem v87_at : val_main_v87 (F := Ideal) x0 x1 x2 x3 x4 (ix4 r h j i) =
    Row.ctDen (Seen j i) (score x0 x1 r h j i) (win x2 r h j) (cot x3 r h j i) (x4 (ix3 0 (tok r j i) h)) := by
  pointwise [val_main_v87, val_main_v86, val_main_v76, val_main_cst_12]
  rw [Fin.sum_univ_one, v83_at, v65_at, v16_at]
  rfl

theorem v93_at : val_main_v93 (F := Ideal) x0 x1 x2 x3 x4 (ix5 r h j i k) =
    Row.ctSub (Seen j i) (score x0 x1 r h j i) (win x2 r h j) (cot x3 r h j i) (x4 (ix3 0 (tok r j i) h)) k := by
  pointwise [val_main_v93, val_main_v92, val_main_v91, val_main_v90, val_main_v85, val_main_v84, val_main_v67]
  simp only [v87_at, v65_at, v64_at, v22_at, v11_at]
  rfl

theorem v98_at : val_main_v98 (F := Ideal) x0 x1 x2 x3 x4 (ix4 r h j i) =
    Row.ctMax (Seen j i) (score x0 x1 r h j i) (win x2 r h j) (cot x3 r h j i) (x4 (ix3 0 (tok r j i) h)) := by
  pointwise [val_main_v98, val_main_v97, val_main_v96, val_main_v95, val_main_v94, val_main_v77, val_main_cst_13, val_main_cst_14]
  rw [Fin.sum_univ_one]
  simp only [v93_at, v16_at]
  rfl

theorem v105_at : val_main_v105 (F := Ideal) x0 x1 x2 x3 x4 (ix5 r h j i k) =
    Row.ctScore (Seen j i) (score x0 x1 r h j i) (win x2 r h j) (cot x3 r h j i) (x4 (ix3 0 (tok r j i) h))
      (Ideal.ofBits .f32 0x3E000000#32) k := by
  pointwise [val_main_v105, val_main_v104, val_main_v103, val_main_v102, val_main_v101, val_main_v100, val_main_v99, val_main_v54_1,
    val_main_call3_v0, val_main_call3_cst, val_main_cst_15]
  simp only [v98_at, v93_at, v60_at, v59_at]
  rw [pick_seen]
  unfold Row.ctScore
  by_cases hs : Seen j i k
  · simp only [if_pos hs]
  · simp only [if_neg hs, zero_mul]

/-- Row `j * 128 + i` of a result. -/
def row (j : Fin 4) (i : Fin 128) : Fin 512 := ⟨(j : ℕ) * 128 + i, by omega⟩
/-- Column `r * 512 + h * 64 + d` of a result. -/
def col (r : Fin 16) (h : Fin 8) (d : Fin 64) : Fin 8192 := ⟨(r : ℕ) * 512 + h * 64 + d, by omega⟩

theorem unphase_idx (h0 : (col r h d : ℕ) / 512 < 16) (h1 : (col r h d : ℕ) / 64 % 8 < 8) (h2 : (row j i : ℕ) / 128 < 4)
    (h3 : (row j i : ℕ) % 128 < 128) (h4 : (col r h d : ℕ) % 64 < 64) :
    (ix5 ⟨(col r h d : ℕ) / 512, h0⟩ ⟨(col r h d : ℕ) / 64 % 8, h1⟩ ⟨(row j i : ℕ) / 128, h2⟩ ⟨(row j i : ℕ) % 128, h3⟩
      ⟨(col r h d : ℕ) % 64, h4⟩ : S16x8x4x128x64.Idx) = ix5 r h j i d := by
  have e0 : (col r h d : ℕ) / 512 = r := by show ((r : ℕ) * 512 + h * 64 + d) / 512 = r; omega
  have e1 : (col r h d : ℕ) / 64 % 8 = h := by show ((r : ℕ) * 512 + h * 64 + d) / 64 % 8 = h; omega
  have e2 : (row j i : ℕ) / 128 = j := by show ((j : ℕ) * 128 + i) / 128 = j; omega
  have e3 : (row j i : ℕ) % 128 = i := by show ((j : ℕ) * 128 + i) % 128 = i; omega
  have e4 : (col r h d : ℕ) % 64 = d := by show ((r : ℕ) * 512 + h * 64 + d) % 64 = d; omega
  simp only [e0, e1, e2, e3, e4]

theorem v107_at : val_main_v107 (F := Ideal) x0 x1 x2 x3 x4 (ix5 r h j i d) =
    ∑ k, Row.ctScore (Seen j i) (score x0 x1 r h j i) (win x2 r h j) (cot x3 r h j i) (x4 (ix3 0 (tok r j i) h))
      (Ideal.ofBits .f32 0x3E000000#32) k * win x1 r h j k d := by
  pointwise [val_main_v107]
  simp only [v105_at, v19_at]

theorem v106_at : val_main_v106 (F := Ideal) x0 x1 x2 x3 x4 (ix5 r h j k d) =
    ∑ i, Row.ctScore (Seen j i) (score x0 x1 r h j i) (win x2 r h j) (cot x3 r h j i) (x4 (ix3 0 (tok r j i) h))
      (Ideal.ofBits .f32 0x3E000000#32) k * x0 (ix4 0 (tok r j i) h d) := by
  pointwise [val_main_v106]
  simp only [v105_at, v2_at]

theorem v89_at : val_main_v89 (F := Ideal) x0 x1 x3 (ix5 r h j k d) =
    ∑ i, Ideal.div (cot x3 r h j i d) (Row.den (Seen j i) (score x0 x1 r h j i)) * Row.pt (Seen j i) (score x0 x1 r h j i) k := by
  pointwise [val_main_v89, val_main_v88, val_main_v85, val_main_v84, val_main_v67]
  simp only [v64_at, v65_at, v11_at]
  rfl

/-- The gradient of the queries. -/
theorem v115_at : val_main_v115 (F := Ideal) x0 x1 x2 x3 x4 (ix2 (row j i) (col r h d)) =
    val_main_v107 (F := Ideal) x0 x1 x2 x3 x4 (ix5 r h j i d) := by
  pointwise [val_main_v115, val_main_v114, val_main_v113, val_main_v112]
  rw [unphase_idx]

/-- The gradient of a block's own keys. -/
theorem v119_at : val_main_v119 (F := Ideal) x0 x1 x2 x3 x4 (ix2 (row j i) (col r h d)) =
    val_main_v106 (F := Ideal) x0 x1 x2 x3 x4 (ix5 r h j ⟨128 + i, by omega⟩ d) := by
  have e : val_main_v119 (F := Ideal) x0 x1 x2 x3 x4 (ix2 (row j i) (col r h d)) =
      val_main_v108 (F := Ideal) x0 x1 x2 x3 x4 (ix5 r h j i d) := by
    pointwise [val_main_v119, val_main_v118, val_main_v117, val_main_v116]
    rw [unphase_idx]
  rw [e]
  pointwise [val_main_v108]

/-- The gradient of the keys of the block before. -/
theorem v123_at : val_main_v123 (F := Ideal) x0 x1 x2 x3 x4 (ix2 (row j i) (col r h d)) =
    val_main_v106 (F := Ideal) x0 x1 x2 x3 x4 (ix5 r h j ⟨i, by omega⟩ d) := by
  have e : val_main_v123 (F := Ideal) x0 x1 x2 x3 x4 (ix2 (row j i) (col r h d)) =
      val_main_v109 (F := Ideal) x0 x1 x2 x3 x4 (ix5 r h j i d) := by
    pointwise [val_main_v123, val_main_v122, val_main_v121, val_main_v120]
    rw [unphase_idx]
  rw [e]
  pointwise [val_main_v109]

/-- The gradient of a block's own values. -/
theorem v127_at : val_main_v127 (F := Ideal) x0 x1 x3 (ix2 (row j i) (col r h d)) =
    val_main_v89 (F := Ideal) x0 x1 x3 (ix5 r h j ⟨128 + i, by omega⟩ d) := by
  have e : val_main_v127 (F := Ideal) x0 x1 x3 (ix2 (row j i) (col r h d)) =
      val_main_v110 (F := Ideal) x0 x1 x3 (ix5 r h j i d) := by
    pointwise [val_main_v127, val_main_v126, val_main_v125, val_main_v124]
    rw [unphase_idx]
  rw [e]
  pointwise [val_main_v110]

/-- The gradient of the values of the block before. -/
theorem v131_at : val_main_v131 (F := Ideal) x0 x1 x3 (ix2 (row j i) (col r h d)) =
    val_main_v89 (F := Ideal) x0 x1 x3 (ix5 r h j ⟨i, by omega⟩ d) := by
  have e : val_main_v131 (F := Ideal) x0 x1 x3 (ix2 (row j i) (col r h d)) =
      val_main_v111 (F := Ideal) x0 x1 x3 (ix5 r h j i d) := by
    pointwise [val_main_v131, val_main_v130, val_main_v129, val_main_v128]
    rw [unphase_idx]
  rw [e]
  pointwise [val_main_v111]

end Cert.ReferenceIdeal.At
-- ==== Proof.Host.lean ====
/- What the arrays that the kernel call reads hold when it starts, as terms over the arguments. -/
module

public import proofs.«01_k».proof.Proof.Gen.KernelIdeal.Value
public import proofs.«01_k».proof.Proof.Ref
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col)

variable (m : (ℓ : Loc nD τ sig) → Buf (Elt Ideal) ℓ) (c : Dev nD)

/-- The launch contents of the arguments. -/
abbrev X0 : FVec Ideal S1x8192x8x64 .f32 := m ((c : Thread nD τ).loc main_arg0)
abbrev X1 : FVec Ideal S1x8192x8x64 .f32 := m ((c : Thread nD τ).loc main_arg1)
abbrev X2 : FVec Ideal S1x8192x8x64 .f32 := m ((c : Thread nD τ).loc main_arg2)
abbrev X3 : FVec Ideal S1x8192x8x64 .f32 := m ((c : Thread nD τ).loc main_arg3)
abbrev X4 : FVec Ideal S1x8192x8 .f32 := m ((c : Thread nD τ).loc main_arg4)

theorem V90 : V m c main_v90 = shapeCast S1x512x24576 (shapeCast S8192x1536 (broadcastInDim S1x8192x1536 ![1, 2] bcast_S8192x1536_S1x8192x1536_1_2
     (truncf (F := Ideal) .bf16 (concatenate S8192x1536 1 [⟨S8192x512, shapeCast S8192x512 (X0 m c) shapeCasts_S1x8192x8x64_S8192x512⟩,
       ⟨S8192x512, shapeCast S8192x512 (X1 m c) shapeCasts_S1x8192x8x64_S8192x512⟩, ⟨S8192x512, shapeCast S8192x512 (X2 m c) shapeCasts_S1x8192x8x64_S8192x512⟩]
       concatenates_S8192x512_S8192x512_S8192x512_S8192x1536_d1) bitsLt_bf16_f32)) shapeCasts_S1x8192x1536_S8192x1536) shapeCasts_S8192x1536_S1x512x24576 := by
  unfold V
  simp only [List.flatten_cons, List.flatten_nil, List.append_nil, List.cons_append, List.nil_append]
  after_reads_simp
  rfl

theorem V91 : V m c main_v91 = shapeCast S512x8192 (truncf (F := Ideal) .bf16 (shapeCast S8192x512 (X3 m c) shapeCasts_S1x8192x8x64_S8192x512) bitsLt_bf16_f32) shapeCasts_S8192x512_S512x8192 := by
  unfold V
  simp only [List.flatten_cons, List.flatten_nil, List.append_nil, List.cons_append, List.nil_append]
  after_reads_simp
  rfl

theorem V77 : V m c main_v77 = shapeCast S512x8192 (transpose S1x512x16x8x64 [0, 3, 1, 2, 4] (shapeCast S1x16x8x512x64
     (broadcastInDim S16x8x4x128x64 ![0, 1, 2, 3, 4] bcast_S16x8x4x128x1_S16x8x4x128x64_0_1_2_3_4 (broadcastInDim S16x8x4x128x1 ![0, 1, 2, 3] bcast_S16x8x4x128_S16x8x4x128x1_0_1_2_3
        (Cert.ReferenceIdeal.Read.val_main_v75 (F := Ideal) (X0 m c) (X1 m c))))
     shapeCasts_S16x8x4x128x64_S1x16x8x512x64) transposes_S1x16x8x512x64_S1x512x16x8x64_0_3_1_2_4) shapeCasts_S1x512x16x8x64_S512x8192 := by
  unfold V
  simp only [List.flatten_cons, List.flatten_nil, List.append_nil, List.cons_append, List.nil_append]
  after_reads_simp
  rfl

theorem V92 : V m c main_v92 = shapeCast S512x8192 (shapeCast S8192x512 (shapeCast S512x8192 (transpose S1x512x16x8x64 [0, 3, 1, 2, 4] (shapeCast S1x16x8x512x64
     (broadcastInDim S16x8x4x128x64 ![0, 1, 2, 3, 4] bcast_S16x8x4x128x1_S16x8x4x128x64_0_1_2_3_4
       (subf (F := Ideal) (broadcastInDim S16x8x4x128x1 ![0, 1, 2, 3] bcast_S16x8x4x128_S16x8x4x128x1_0_1_2_3
        (Host.reduceAdd (F := Ideal) (mulf (F := Ideal) (Cert.ReferenceIdeal.Read.val_main_v11 (F := Ideal) (X3 m c)) (Cert.ReferenceIdeal.Read.val_main_v69 (F := Ideal) (X0 m c) (X1 m c) (X2 m c)))
           (constant S_ .f32 0x00000000#32) reducesTo_S16x8x4x128x64_S16x8x4x128_d4 h_S_))
        (Cert.ReferenceIdeal.Read.val_main_v15 (F := Ideal) (X4 m c))))
     shapeCasts_S16x8x4x128x64_S1x16x8x512x64) transposes_S1x16x8x512x64_S1x512x16x8x64_0_3_1_2_4) shapeCasts_S1x512x16x8x64_S512x8192)
      shapeCasts_S512x8192_S8192x512) shapeCasts_S8192x512_S512x8192 := by
  unfold V
  simp only [List.flatten_cons, List.flatten_nil, List.append_nil, List.cons_append, List.nil_append]
  after_reads_simp
  rfl

end Cert.KernelIdeal.Val
-- ==== Proof.HostAt.lean ====
/- The same arrays read at the query, key or value that an index names. -/
module

public import proofs.«01_k».proof.Proof.Host

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col)

variable (m : (ℓ : Loc nD τ sig) → Buf (Elt Ideal) ℓ) (c : Dev nD)

open Cert.ReferenceIdeal.At (Seen score win cot v11_at v69_at v75_at)

variable (r : Fin 16) (h : Fin 8) (j : Fin 4) (i : Fin 128) (d : Fin 64)

theorem read4 (x : FVec Ideal S1x8192x8x64 .f32) {t t' : Fin 8192} {h h' : Fin 8} {d d' : Fin 64} (e0 : (t : ℕ) = t') (e1 : (h : ℕ) = h')
    (e2 : (d : ℕ) = d') : x (ix4 0 t h d) = x (ix4 0 t' h' d') := by
  rw [Fin.ext e0, Fin.ext e1, Fin.ext e2]

/-- The packed array's columns of the queries. -/
theorem V90_q (b : Fin 24576) (hb : (b : ℕ) = r * 1536 + (h * 64 + d)) :
    V m c main_v90 (ix3 0 (row j i) b) = X0 m c (ix4 0 (tok r j i) h d) := by
  rw [V90]
  pointwise
  rw [dif_pos (by omega)]
  exact read4 _ (by show ((j : ℕ) * 128 + i) * 16 + (b : ℕ) / 1536 = ((j : ℕ) * 128 + i) * 16 + r; omega)
    (by show (b : ℕ) % 1536 / 64 = h; omega) (by show (b : ℕ) % 1536 % 64 = d; omega)

/-- The packed array's columns of the keys. -/
theorem V90_k (b : Fin 24576) (hb : (b : ℕ) = r * 1536 + 512 + (h * 64 + d)) :
    V m c main_v90 (ix3 0 (row j i) b) = X1 m c (ix4 0 (tok r j i) h d) := by
  rw [V90]
  pointwise
  rw [dif_neg (by omega), dif_pos (by omega)]
  exact read4 _ (by show ((j : ℕ) * 128 + i) * 16 + (b : ℕ) / 1536 = ((j : ℕ) * 128 + i) * 16 + r; omega)
    (by show ((b : ℕ) % 1536 - 512) / 64 = h; omega) (by show ((b : ℕ) % 1536 - 512) % 64 = d; omega)

/-- The packed array's columns of the values. -/
theorem V90_v (b : Fin 24576) (hb : (b : ℕ) = r * 1536 + 1024 + (h * 64 + d)) :
    V m c main_v90 (ix3 0 (row j i) b) = X2 m c (ix4 0 (tok r j i) h d) := by
  rw [V90]
  pointwise
  rw [dif_neg (by omega), dif_neg (by omega)]
  exact read4 _ (by show ((j : ℕ) * 128 + i) * 16 + (b : ℕ) / 1536 = ((j : ℕ) * 128 + i) * 16 + r; omega)
    (by show ((b : ℕ) % 1536 - 512 - 512) / 64 = h; omega) (by show ((b : ℕ) % 1536 - 512 - 512) % 64 = d; omega)

theorem V91_at : V m c main_v91 (ix2 (row j i) (col r h d)) = X3 m c (ix4 0 (tok r j i) h d) := by
  rw [V91]
  pointwise
  exact read4 _
    (by show ((j : ℕ) * 128 + i) * 16 + ((r : ℕ) * 512 + h * 64 + d) / 512 = ((j : ℕ) * 128 + i) * 16 + r; omega)
    (by show ((r : ℕ) * 512 + h * 64 + d) % 512 / 64 = h; omega) (by show ((r : ℕ) * 512 + h * 64 + d) % 512 % 64 = d; omega)

theorem ph0 : (col r h d : ℕ) / 512 = r := by show ((r : ℕ) * 512 + h * 64 + d) / 512 = r; omega
theorem ph1 : (col r h d : ℕ) / 64 % 8 = h := by show ((r : ℕ) * 512 + h * 64 + d) / 64 % 8 = h; omega
theorem ph2 : (row j i : ℕ) / 128 = j := by show ((j : ℕ) * 128 + i) / 128 = j; omega
theorem ph3 : (row j i : ℕ) % 128 = i := by show ((j : ℕ) * 128 + i) % 128 = i; omega

/-- The log-sum-exp that the call gets. -/
theorem V77_at : V m c main_v77 (ix2 (row j i) (col r h d)) = Row.lse (Seen j i) (score (X0 m c) (X1 m c) r h j i) := by
  rw [V77]
  pointwise
  simp only [ph0, ph1, ph2, ph3]
  exact v75_at ..

theorem v15_at (x4 : FVec Ideal S1x8192x8 .f32) :
    Cert.ReferenceIdeal.Read.val_main_v15 (F := Ideal) x4 (ix5 r h j i 0) = x4 (ix3 0 (tok r j i) h) := by
  pointwise [Cert.ReferenceIdeal.Read.val_main_v15, Cert.ReferenceIdeal.Read.val_main_v14, Cert.ReferenceIdeal.Read.val_main_v13,
    Cert.ReferenceIdeal.Read.val_main_v12]
  rfl

/-- The rows' terms that the call gets. -/
theorem V92_at : V m c main_v92 (ix2 (row j i) (col r h d)) =
    Row.dterm (Seen j i) (score (X0 m c) (X1 m c) r h j i) (win (X2 m c) r h j) (cot (X3 m c) r h j i) (X4 m c (ix3 0 (tok r j i) h)) := by
  rw [V92]
  pointwise
  simp only [ph0, ph1, ph2, ph3]
  simp only [v11_at, v69_at, v15_at]
  rfl

end Cert.KernelIdeal.Val
-- ==== Proof.Pay.lean ====
module
public import proofs.«01_k».proof.Proof.Gen.KernelIdeal.Skeleton
public import proofs.«01_k».proof.Proof.Row
public import Idealize.ShloMosaic.Lib.Pipeline.ValueKit
public import Idealize.ShloMosaic.Lib.Pointwise
public import Idealize.ShloMosaic.Lib.Tactic.WordOmega
@[expose] public section
set_option maxRecDepth 16384
noncomputable section
open Idealize.ShloMosaic Idealize.ShloMosaic.TcCoe Idealize.SL.Sem
namespace Cert.KernelIdeal.Val
open Cert.KernelIdeal Cert.KernelIdeal.Gen

theorem mask_named : Named.named (F := Ideal) (φ := .f32) κ "mask" 0xF149F2CA#32 = (⊥ : EReal) :=
  IdealRules.named_const.ideal_named_scalar _ _ _ _ rfl

theorem toInt_small {n : ℕ} (h : n < 512) : (BitVec.ofNat 32 n).toInt = (n : ℤ) := by
  rw [BitVec.toInt_eq_toNat_cond, BitVec.toNat_ofNat, Nat.mod_eq_of_lt (by omega), if_pos (by omega)]

theorem toInt_less {n : ℕ} (h : n < 512) : (IntOp.subi (BitVec.ofNat 32 n) 128#32).toInt = (n : ℤ) - 128 := by
  show (BitVec.ofNat 32 n - BitVec.ofNat 32 128).toInt = _
  rw [BitVec.toInt_sub, toInt_small h, toInt_small (by omega)]
  rw [Int.bmod_def]
  split <;> omega

theorem bits (p q r s t : Bool) :
    IntOp.ori (IntOp.andi (IntOp.andi (BitVec.ofBool p) (BitVec.ofBool q)) (BitVec.ofBool r))
      (IntOp.andi (BitVec.ofBool s) (BitVec.ofBool t)) = 1#1 ↔ (p = true ∧ q = true) ∧ r = true ∨ s = true ∧ t = true := by
  revert p q r s t; decide

/-- Which keys the mask of a point lets a query see. -/
theorem pay6_at (i : grid0.Coords) (a : Fin 128) (b : Fin 256) :
    k0_pay6 i (ix2 a b) = 1#1 ↔ ((a : ℕ) ≤ b ∧ (b : ℕ) ≤ a + 128) ∧ (0 < (i 1 : ℕ) ∨ 128 ≤ (b : ℕ)) := by
  have h1 : (i 1 : ℕ) < 4 := (i 1).isLt
  have ha := a.isLt
  have hb := b.isLt
  pointwise [k0_pay6]
  generalize (i 1 : ℕ) = j at h1 ⊢
  refine (bits (decide ((BitVec.ofNat 32 (b : ℕ)).toInt < (BitVec.ofNat 32 128).toInt))
    (decide ((BitVec.ofNat 32 (a : ℕ)).toInt ≤ (BitVec.ofNat 32 (b : ℕ)).toInt))
    (decide ((BitVec.ofNat 32 0).toInt < (BitVec.ofNat 32 j).toInt))
    (decide ((BitVec.ofNat 32 128).toInt ≤ (BitVec.ofNat 32 (b : ℕ)).toInt))
    (decide ((IntOp.subi (BitVec.ofNat 32 (b : ℕ)) 128#32).toInt ≤ (BitVec.ofNat 32 (a : ℕ)).toInt))).trans ?_
  simp only [decide_eq_true_eq]
  rw [toInt_less (by omega), toInt_small (by omega), toInt_small (by omega), toInt_small (by omega), toInt_small (by omega),
    toInt_small (by omega)]
  omega

theorem pay14_at (M : IVec S128x256 1) (q : Vec Ideal S1x128x64 .bf16) (kk : Vec Ideal S256x64 .bf16) (l : Vec Ideal S128x1 .f32)
    (i : Fin 128) (k : Fin 256) :
    k0_pay14 (F := Ideal) M q kk l (ix2 i k)
      = Row.prob (fun k => M (ix2 i k) = 1#1)
          (fun k => (∑ d : Fin 64, q (ix3 0 i d) * kk (ix2 k d)) * Ideal.ofBits .f32 0x3E000000#32) (l (ix2 i 0)) k := by
  pointwise [k0_pay14, k0_pay12, mask_named, Row.prob]
  rfl

theorem pay15_at (M : IVec S128x256 1) (q : Vec Ideal S1x128x64 .bf16) (kk : Vec Ideal S256x64 .bf16) (dov : Vec Ideal S128x64 .bf16)
    (l : Vec Ideal S128x1 .f32) (vv : Vec Ideal S256x64 .bf16) (tt : Vec Ideal S128x1 .f32)
    (i : Fin 128) (k : Fin 256) :
    k0_pay15 (F := Ideal) M q kk dov l vv tt (ix2 i k)
      = Row.grad (fun k => M (ix2 i k) = 1#1)
          (fun k => (∑ d : Fin 64, q (ix3 0 i d) * kk (ix2 k d)) * Ideal.ofBits .f32 0x3E000000#32)
          (fun k d => vv (ix2 k d)) (fun d => dov (ix2 i d)) (l (ix2 i 0)) (tt (ix2 i 0)) (Ideal.ofBits .f32 0x3E000000#32) k := by
  unfold Row.grad
  rw [← pay14_at]
  pointwise [k0_pay15, k0_pay13]

theorem pay16_at (M : IVec S128x256 1) (q : Vec Ideal S1x128x64 .bf16) (kk : Vec Ideal S256x64 .bf16) (dov : Vec Ideal S128x64 .bf16)
    (l : Vec Ideal S128x1 .f32) (vv : Vec Ideal S256x64 .bf16) (tt : Vec Ideal S128x1 .f32)
    (i : Fin 128) (d : Fin 64) :
    k0_pay16 (F := Ideal) M q kk dov l vv tt (ix2 i d)
      = ∑ k : Fin 256, k0_pay15 (F := Ideal) M q kk dov l vv tt (ix2 i k) * kk (ix2 k d) := by
  pointwise [k0_pay16]
theorem pay17_at (M : IVec S128x256 1) (q : Vec Ideal S1x128x64 .bf16) (kk : Vec Ideal S256x64 .bf16) (dov : Vec Ideal S128x64 .bf16)
    (l : Vec Ideal S128x1 .f32) (vv : Vec Ideal S256x64 .bf16) (tt : Vec Ideal S128x1 .f32)
    (k : Fin 256) (d : Fin 64) :
    k0_pay17 (F := Ideal) M q kk dov l vv tt (ix2 k d)
      = ∑ i : Fin 128, k0_pay15 (F := Ideal) M q kk dov l vv tt (ix2 i k) * q (ix3 0 i d) := by
  pointwise [k0_pay17, k0_pay12]
theorem pay19_at (M : IVec S128x256 1) (q : Vec Ideal S1x128x64 .bf16) (kk : Vec Ideal S256x64 .bf16) (dov : Vec Ideal S128x64 .bf16)
    (l : Vec Ideal S128x1 .f32) (k : Fin 256) (d : Fin 64) :
    k0_pay19 (F := Ideal) (k0_pay13 dov) (k0_pay18 M q kk l) (ix2 k d)
      = ∑ i : Fin 128, k0_pay14 (F := Ideal) M q kk l (ix2 i k) * dov (ix2 i d) := by
  pointwise [k0_pay19, k0_pay18, k0_pay13]

/-- What a load of 64 columns reads of the scratch once the previous block `B` lies in its first 128 rows and the
    own block `A` in the others. -/
theorem scr_at {sg : RefSig} {κ : Kind} {sp : Space} (v : View sg κ sp S256x512 .bf16) (A B : FVec Ideal S128x512 .bf16) (o : ℕ)
    (h1 : ∀ a, ![128, 0] a + ![128, 512] a ≤ S256x512.size a) (h0 : ∀ a, ![0, 0] a + ![128, 512] a ≤ S256x512.size a)
    (h : ∀ a, ![0, o] a + ![256, 64] a ≤ S256x512.size a) (ho : o + 64 ≤ 512) (k : Fin 256) (d : Fin 64) :
    v.readCov (Val := Elt Ideal) [⟨Rect.unit (s := S256x512) ![128, 0] ![128, 512] h1, A⟩, ⟨Rect.unit (s := S256x512) ![0, 0] ![128, 512] h0, B⟩]
      (Rect.unit (s := S256x512) ![0, o] ![256, 64] h).toLoadRect (ix2 k d) =
      if hk : (k : ℕ) < 128 then B (ix2 ⟨k, hk⟩ ⟨o + d, by omega⟩) else A (ix2 ⟨k - 128, by omega⟩ ⟨o + d, by omega⟩) := by
  rw [View.readCov_eq_canon']
  have hy0 : (((Rect.unit (s := S256x512) ![0, o] ![256, 64] h).idx (ix2 k d)) 0 : ℕ) = k := by
    show 0 + 1 * (k : ℕ) = k; omega
  have hy1 : (((Rect.unit (s := S256x512) ![0, o] ![256, 64] h).idx (ix2 k d)) 1 : ℕ) = o + d := by
    show o + 1 * (d : ℕ) = o + d; omega
  show View.canon _ ((Rect.unit (s := S256x512) ![0, o] ![256, 64] h).idx (ix2 k d)) = _
  generalize (Rect.unit (s := S256x512) ![0, o] ![256, 64] h).idx (ix2 k d) = y at hy0 hy1 ⊢
  have hy2 : (y 1 : ℕ) < 512 := (y 1).isLt
  by_cases hk : (k : ℕ) < 128
  · rw [dif_pos hk, View.canon_cons_of_not_mem]
    · have hm : y ∈ (Rect.unit (s := S256x512) ![0, 0] ![128, 512] h0).set := by
        rw [Rect.mem_set_unit]
        intro a
        match a with
        | ⟨0, _⟩ => exact ⟨Nat.zero_le _, by show (y 0 : ℕ) < 0 + 128; omega⟩
        | ⟨1, _⟩ => exact ⟨Nat.zero_le _, by show (y 1 : ℕ) < 0 + 512; omega⟩
      obtain ⟨x, rfl⟩ := (Rect.unit (s := S256x512) ![0, 0] ![128, 512] h0).exists_idx_of_mem hm
      have e0 : (0 + 1 * (x 0 : ℕ)) = k := hy0
      have e1 : (0 + 1 * (x 1 : ℕ)) = o + d := hy1
      refine (View.canon_cons_emb _ _ _ x).trans ?_
      congr 1; funext a; apply Fin.ext
      match a with
      | ⟨0, _⟩ => show (x 0 : ℕ) = k; omega
      | ⟨1, _⟩ => show (x 1 : ℕ) = o + d; omega
    · show y ∉ (Rect.unit (s := S256x512) ![128, 0] ![128, 512] h1).set
      rw [Rect.mem_set_unit]
      intro hm
      have e0 : 128 ≤ (y 0 : ℕ) := (hm 0).1
      omega
  · rw [dif_neg hk]
    have hm : y ∈ (Rect.unit (s := S256x512) ![128, 0] ![128, 512] h1).set := by
      rw [Rect.mem_set_unit]
      intro a
      match a with
      | ⟨0, _⟩ => exact ⟨by show 128 ≤ (y 0 : ℕ); omega, by show (y 0 : ℕ) < 128 + 128; omega⟩
      | ⟨1, _⟩ => exact ⟨Nat.zero_le _, by show (y 1 : ℕ) < 0 + 512; omega⟩
    obtain ⟨x, rfl⟩ := (Rect.unit (s := S256x512) ![128, 0] ![128, 512] h1).exists_idx_of_mem hm
    have e0 : (128 + 1 * (x 0 : ℕ)) = k := hy0
    have e1 : (0 + 1 * (x 1 : ℕ)) = o + d := hy1
    refine (View.canon_cons_emb _ _ _ x).trans ?_
    congr 1; funext a; apply Fin.ext
    match a with
    | ⟨0, _⟩ => show (x 0 : ℕ) = k - 128; omega
    | ⟨1, _⟩ => show (x 1 : ℕ) = o + d; omega
-- ==== Proof.Core.lean ====
/- One head of one block: what the body computes from the head's slices is what the reference has there. -/
module

public import proofs.«01_k».proof.Proof.Pay
public import proofs.«01_k».proof.Proof.Ref

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At
open Cert.ReferenceIdeal.Read (val_main_v115 val_main_v119 val_main_v123 val_main_v127 val_main_v131)

/-- Every entry is a real number. -/
def Reals {ι : Type} (x : ι → EReal) : Prop := ∀ i, ∃ y : ℝ, x i = (y : EReal)

theorem Reals.up {ι : Type} {x : ι → EReal} (hx : Reals x) : ∃ f : ι → ℝ, x = Row.up f := by
  choose f hf using hx
  exact ⟨f, funext hf⟩

theorem Reals.up2 {ι κ : Type} {x : ι → κ → EReal} (hx : ∀ i, Reals (x i)) : ∃ f : ι → κ → ℝ, x = Row.up2 f := by
  choose f hf using hx
  exact ⟨f, funext fun i => funext fun k => hf i k⟩

/-- The window of a block as the call loads it: the first block has itself in the place of the block before. -/
def kwin (x : FVec Ideal S1x8192x8x64 .f32) (r : Fin 16) (h : Fin 8) (j : Fin 4) (k : Fin 256) (d : Fin 64) : EReal :=
  if hk : (k : ℕ) < 128 then x (ix4 0 (tok r ⟨(j : ℕ) - 1, by omega⟩ ⟨k, hk⟩) h d)
  else x (ix4 0 (tok r j ⟨(k : ℕ) - 128, by omega⟩) h d)

variable (x0 x1 x2 x3 : FVec Ideal S1x8192x8x64 .f32) (x4 : FVec Ideal S1x8192x8 .f32)
variable (r : Fin 16) (h : Fin 8) (j : Fin 4)

theorem kwin_seen (x : FVec Ideal S1x8192x8x64 .f32) {i : Fin 128} {k : Fin 256} (hs : Seen j i k) (d : Fin 64) :
    kwin x r h j k d = win x r h j k d := by
  unfold kwin win
  by_cases hk : (k : ℕ) < 128
  · have hj : 0 < (j : ℕ) := by
      rcases hs.2 with h1 | h1
      · exact h1
      · omega
    simp only [dif_pos hk, dif_pos hj]
  · simp only [dif_neg hk]

theorem kwin_real {x : FVec Ideal S1x8192x8x64 .f32} (hx : Reals x) (k : Fin 256) : Reals (kwin x r h j k) := by
  intro d
  unfold kwin
  split
  · exact hx _
  · exact hx _

theorem win_real {x : FVec Ideal S1x8192x8x64 .f32} (hx : Reals x) (k : Fin 256) : Reals (win x r h j k) := by
  intro d
  unfold win
  split
  · split
    · exact hx _
    · exact ⟨0, rfl⟩
  · exact hx _

theorem eighth : Ideal.ofBits .f32 0x3E000000#32 = ((1 / 8 : ℝ) : EReal) := by
  simp [Ideal.ofBits, Ideal.ieee, -EReal.coe_mul]; norm_num

theorem dot_real {n : ℕ} {f g : Fin n → EReal} (hf : Reals f) (hg : Reals g) : ∃ y : ℝ, ∑ d, f d * g d = (y : EReal) := by
  obtain ⟨f, rfl⟩ := hf.up
  obtain ⟨g, rfl⟩ := hg.up
  refine ⟨∑ d, f d * g d, ?_⟩
  rw [Row.coe_sum]
  exact Finset.sum_congr rfl fun d _ => (EReal.coe_mul _ _).symm

theorem score_real (h0 : Reals x0) (h1 : Reals x1) (i : Fin 128) : Reals (score x0 x1 r h j i) := by
  intro k
  obtain ⟨y, hy⟩ := dot_real (f := fun d => x0 (ix4 0 (tok r j i) h d)) (g := win x1 r h j k) (fun d => h0 _) (win_real r h j h1 k)
  refine ⟨y * (1 / 8), ?_⟩
  unfold score
  rw [hy, eighth, EReal.coe_mul]

theorem seen_one (i : Fin 128) : ∃ k, Seen j i k := ⟨⟨(i : ℕ) + 128, by omega⟩, by unfold Seen; constructor <;> dsimp only <;> omega⟩

section Congr
variable {M M' : Fin 256 → Prop} [DecidablePred M] [DecidablePred M']
theorem prob_iff (hM : ∀ k, M k ↔ M' k) (a : Fin 256 → EReal) (L : EReal) (k : Fin 256) : Row.prob M a L k = Row.prob M' a L k := by
  unfold Row.prob
  by_cases hk : M k
  · rw [if_pos hk, if_pos ((hM k).1 hk)]
  · rw [if_neg hk, if_neg (mt (hM k).2 hk)]
theorem grad_iff (hM : ∀ k, M k ↔ M' k) (a : Fin 256 → EReal) (V : Fin 256 → Fin 64 → EReal) (dO : Fin 64 → EReal) (L T s : EReal)
    (k : Fin 256) : Row.grad M a V dO L T s k = Row.grad M' a V dO L T s k := by
  unfold Row.grad
  rw [prob_iff hM]
end Congr

/-- What a head's slices have to be: the head's queries, keys, cotangents, log-sum-exps, values and terms, and the mask. -/
structure Head (Mk : IVec S128x256 1) (q : Vec Ideal S1x128x64 .bf16) (kk : Vec Ideal S256x64 .bf16) (dov : Vec Ideal S128x64 .bf16)
    (l : Vec Ideal S128x1 .f32) (vv : Vec Ideal S256x64 .bf16) (tt : Vec Ideal S128x1 .f32) : Prop where
  mask : ∀ (i : Fin 128) (k : Fin 256), Mk (ix2 i k) = 1#1 ↔ Seen j i k
  q : ∀ (i : Fin 128) (d : Fin 64), q (ix3 0 i d) = x0 (ix4 0 (tok r j i) h d)
  kk : ∀ (k : Fin 256) (d : Fin 64), kk (ix2 k d) = kwin x1 r h j k d
  dov : ∀ (i : Fin 128) (d : Fin 64), dov (ix2 i d) = x3 (ix4 0 (tok r j i) h d)
  l : ∀ i : Fin 128, l (ix2 i 0) = Row.lse (Seen j i) (score x0 x1 r h j i)
  vv : ∀ (k : Fin 256) (d : Fin 64), vv (ix2 k d) = kwin x2 r h j k d
  tt : ∀ i : Fin 128, tt (ix2 i 0) = Row.dterm (Seen j i) (score x0 x1 r h j i) (win x2 r h j) (cot x3 r h j i) (x4 (ix3 0 (tok r j i) h))

section Heads
variable {x0 x1 x2 x3 x4 r h j}
variable {Mk : IVec S128x256 1} {q : Vec Ideal S1x128x64 .bf16} {kk : Vec Ideal S256x64 .bf16} {dov : Vec Ideal S128x64 .bf16}
    {l : Vec Ideal S128x1 .f32} {vv : Vec Ideal S256x64 .bf16} {tt : Vec Ideal S128x1 .f32}
variable (h0 : Reals x0) (h1 : Reals x1) (h2 : Reals x2) (h3 : Reals x3) (h4 : Reals x4)

include h0 h1 in
theorem Head.prob (H : Head x0 x1 x2 x3 x4 r h j Mk q kk dov l vv tt) (i : Fin 128) (k : Fin 256) (x : ℝ) :
    k0_pay14 (F := Ideal) Mk q kk l (ix2 i k) * (x : EReal) =
      Ideal.div (x : EReal) (Row.den (Seen j i) (score x0 x1 r h j i)) * Row.pt (Seen j i) (score x0 x1 r h j i) k := by
  rw [pay14_at, prob_iff (H.mask i), H.l]
  obtain ⟨a, ha⟩ := (score_real x0 x1 r h j h0 h1 i).up
  rw [ha]
  refine Row.short_prob _ a (seen_one j i) _ (fun k hk => ?_) x k
  refine Eq.trans ?_ (congrFun ha k)
  unfold score
  refine congrArg (· * _) (Finset.sum_congr rfl fun d _ => ?_)
  rw [H.q, H.kk, kwin_seen r h j x1 hk]

include h0 h1 h2 h3 h4 in
theorem Head.grad (H : Head x0 x1 x2 x3 x4 r h j Mk q kk dov l vv tt) (i : Fin 128) (k : Fin 256) :
    k0_pay15 (F := Ideal) Mk q kk dov l vv tt (ix2 i k) =
      Row.ctScore (Seen j i) (score x0 x1 r h j i) (win x2 r h j) (cot x3 r h j i) (x4 (ix3 0 (tok r j i) h))
        (Ideal.ofBits .f32 0x3E000000#32) k := by
  rw [pay15_at, grad_iff (H.mask i), H.l, H.tt]
  obtain ⟨a, ha⟩ := (score_real x0 x1 r h j h0 h1 i).up
  obtain ⟨V, hV⟩ := Reals.up2 (win_real r h j h2)
  obtain ⟨V2, hV2⟩ := Reals.up2 (kwin_real r h j h2)
  obtain ⟨dO, hdO⟩ := Reals.up (x := cot x3 r h j i) (fun d => h3 _)
  obtain ⟨dl, hdl⟩ := h4 (ix3 0 (tok r j i) h)
  have e1 : (fun k d => vv (ix2 k d)) = Row.up2 V2 := by rw [← hV2]; funext k d; exact H.vv k d
  have e2 : (fun d => dov (ix2 i d)) = Row.up dO := by rw [← hdO]; funext d; exact H.dov i d
  rw [e1, e2, ha, hV, hdO, hdl, eighth]
  refine Row.short_grad _ a V dO dl (seen_one j i) _ (fun k hk => ?_) V2 (fun k hk => ?_) _ k
  · refine Eq.trans ?_ (congrFun ha k)
    unfold score
    rw [← eighth]
    refine congrArg (· * _) (Finset.sum_congr rfl fun d _ => ?_)
    rw [H.q, H.kk, kwin_seen r h j x1 hk]
  · funext d
    have e := kwin_seen r h j x2 hk d
    rw [hV, hV2] at e
    exact EReal.coe_injective e

theorem ctScore_unseen {M : Fin 256 → Prop} [DecidablePred M] (a : Fin 256 → EReal) (V : Fin 256 → Fin 64 → EReal) (dO : Fin 64 → EReal)
    (dl s : EReal) {k : Fin 256} (hk : ¬ M k) : Row.ctScore M a V dO dl s k = 0 := by
  unfold Row.ctScore
  rw [if_neg hk, zero_mul]

include h0 h1 h2 h3 h4 in
/-- The gradient of the queries. -/
theorem Head.dq (H : Head x0 x1 x2 x3 x4 r h j Mk q kk dov l vv tt) (i : Fin 128) (d : Fin 64) :
    k0_pay16 (F := Ideal) Mk q kk dov l vv tt (ix2 i d) = val_main_v115 (F := Ideal) x0 x1 x2 x3 x4 (ix2 (row j i) (col r h d)) := by
  rw [pay16_at, v115_at, v107_at]
  refine Finset.sum_congr rfl fun k _ => ?_
  rw [H.grad h0 h1 h2 h3 h4, H.kk]
  by_cases hk : Seen j i k
  · rw [kwin_seen r h j x1 hk]
  · rw [ctScore_unseen _ _ _ _ _ hk, zero_mul, zero_mul]

include h0 h1 h2 h3 h4 in
theorem Head.dk (H : Head x0 x1 x2 x3 x4 r h j Mk q kk dov l vv tt) (k : Fin 256) (d : Fin 64) :
    k0_pay17 (F := Ideal) Mk q kk dov l vv tt (ix2 k d) =
      Cert.ReferenceIdeal.Read.val_main_v106 (F := Ideal) x0 x1 x2 x3 x4 (ix5 r h j k d) := by
  rw [pay17_at, v106_at]
  refine Finset.sum_congr rfl fun i _ => ?_
  rw [H.grad h0 h1 h2 h3 h4, H.q]

include h0 h1 h3 in
theorem Head.dv (H : Head x0 x1 x2 x3 x4 r h j Mk q kk dov l vv tt) (k : Fin 256) (d : Fin 64) :
    k0_pay19 (F := Ideal) (k0_pay13 dov) (k0_pay18 Mk q kk l) (ix2 k d) =
      Cert.ReferenceIdeal.Read.val_main_v89 (F := Ideal) x0 x1 x3 (ix5 r h j k d) := by
  rw [pay19_at, v89_at]
  refine Finset.sum_congr rfl fun i _ => ?_
  rw [H.dov]
  obtain ⟨x, hx⟩ := h3 (ix4 0 (tok r j i) h d)
  unfold cot
  rw [hx]
  exact H.prob h0 h1 i k x

theorem pay20_at (v : FVec Ideal S256x64 .bf16) (i : Fin 128) (d : Fin 64) :
    k0_pay20 (F := Ideal) v (ix2 i d) = v (ix2 ⟨i, by omega⟩ d) := by
  pointwise [k0_pay20]
theorem pay21_at (v : FVec Ideal S256x64 .bf16) (i : Fin 128) (d : Fin 64) :
    k0_pay21 (F := Ideal) v (ix2 i d) = v (ix2 ⟨128 + i, by omega⟩ d) := by
  pointwise [k0_pay21]
theorem pay22_at (v : FVec Ideal S128x64 .bf16) (w : FVec Ideal S128x256 .bf16) (i : Fin 128) (d : Fin 64) :
    k0_pay22 (F := Ideal) v w (ix2 i d) = k0_pay19 v w (ix2 ⟨i, by omega⟩ d) := by
  pointwise [k0_pay22]
theorem pay23_at (v : FVec Ideal S128x64 .bf16) (w : FVec Ideal S128x256 .bf16) (i : Fin 128) (d : Fin 64) :
    k0_pay23 (F := Ideal) v w (ix2 i d) = k0_pay19 v w (ix2 ⟨128 + i, by omega⟩ d) := by
  pointwise [k0_pay23]

include h0 h1 h2 h3 h4 in
/-- The gradient of a block's own keys. -/
theorem Head.dk_own (H : Head x0 x1 x2 x3 x4 r h j Mk q kk dov l vv tt) (i : Fin 128) (d : Fin 64) :
    k0_pay21 (F := Ideal) (k0_pay17 Mk q kk dov l vv tt) (ix2 i d) = val_main_v119 (F := Ideal) x0 x1 x2 x3 x4 (ix2 (row j i) (col r h d)) := by
  rw [pay21_at, v119_at, H.dk h0 h1 h2 h3 h4]
include h0 h1 h2 h3 h4 in
/-- The gradient of the keys of the block before. -/
theorem Head.dk_prev (H : Head x0 x1 x2 x3 x4 r h j Mk q kk dov l vv tt) (i : Fin 128) (d : Fin 64) :
    k0_pay20 (F := Ideal) (k0_pay17 Mk q kk dov l vv tt) (ix2 i d) = val_main_v123 (F := Ideal) x0 x1 x2 x3 x4 (ix2 (row j i) (col r h d)) := by
  rw [pay20_at, v123_at, H.dk h0 h1 h2 h3 h4]
include h0 h1 h3 in
/-- The gradient of a block's own values. -/
theorem Head.dv_own (H : Head x0 x1 x2 x3 x4 r h j Mk q kk dov l vv tt) (i : Fin 128) (d : Fin 64) :
    k0_pay23 (F := Ideal) (k0_pay13 dov) (k0_pay18 Mk q kk l) (ix2 i d) = val_main_v127 (F := Ideal) x0 x1 x3 (ix2 (row j i) (col r h d)) := by
  rw [pay23_at, v127_at, H.dv h0 h1 h3]
include h0 h1 h3 in
/-- The gradient of the values of the block before. -/
theorem Head.dv_prev (H : Head x0 x1 x2 x3 x4 r h j Mk q kk dov l vv tt) (i : Fin 128) (d : Fin 64) :
    k0_pay22 (F := Ideal) (k0_pay13 dov) (k0_pay18 Mk q kk l) (ix2 i d) = val_main_v131 (F := Ideal) x0 x1 x3 (ix2 (row j i) (col r h d)) := by
  rw [pay22_at, v131_at, H.dv h0 h1 h3]
end Heads

end Cert.KernelIdeal.Val
-- ==== Proof.Blk.lean ====
/- Each block the call reads, as elements of the arguments. -/
module

public import proofs.«01_k».proof.Proof.HostAt
public import proofs.«01_k».proof.Proof.Core
public import proofs.«01_k».proof.Proof.Gen.KernelIdeal.Frame
public import Idealize.ShloMosaic.Lib.Pipeline.Value

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col Seen score win cot)

theorem idx : ∀ t : Fin cfg0.N, win0_0.index t = ![0, t.val % 4, t.val / 4 * 3] ∧ win0_1.index t = ![0, t.val % 4, t.val / 4 * 3 + 1]
    ∧ win0_2.index t = ![0, t.val % 4 - 1, t.val / 4 * 3 + 1] ∧ win0_3.index t = ![0, t.val % 4, t.val / 4 * 3 + 2]
    ∧ win0_4.index t = ![0, t.val % 4 - 1, t.val / 4 * 3 + 2] ∧ win0_5.index t = ![t.val % 4, t.val / 4] ∧ win0_6.index t = ![t.val % 4, t.val / 4]
    ∧ win0_7.index t = ![t.val % 4, t.val / 4] ∧ win0_8.index t = ![t.val % 4, t.val / 4] ∧ win0_9.index t = ![t.val % 4, t.val / 4]
    ∧ win0_10.index t = ![t.val % 4, t.val / 4] ∧ win0_11.index t = ![t.val % 4, t.val / 4] ∧ win0_12.index t = ![t.val % 4, t.val / 4] :=
  (by decide +kernel : ∀ t : Fin grid0.N, _)

theorem second : ∀ t : Fin cfg0.N, (grid0.coords t 1).val = t.val % 4 := (by decide +kernel : ∀ t : Fin grid0.N, _)

theorem points (t : Fin cfg0.N) : t.val < 64 := t.isLt

/-- A point's phase and block. -/
def rt (t : Fin cfg0.N) : Fin 16 := ⟨t.val / 4, by have := points t; omega⟩
def jt (t : Fin cfg0.N) : Fin 4 := ⟨t.val % 4, by omega⟩

variable (m : (ℓ : Loc nD τ sig) → Buf (Elt Ideal) ℓ) (c : Dev nD) (t : Fin cfg0.N) (h : Fin 8) (i : Fin 128) (d : Fin 64)

section Geometry
variable {m c}
theorem geo0 (A : FVec Ideal S1x512x24576 .bf16) (i : Fin 128) (b : Fin 512) :
    ((cfg0.win 0).blk t).view.read (Elt Ideal) A (ix3 0 i b) =
      A (ix3 0 (row (jt t) i) ⟨(rt t : ℕ) * 1536 + b, by omega⟩) := by
  have ht := points t
  blk_ext [idx t, rt, jt, row]
theorem geo1 (A : FVec Ideal S1x512x24576 .bf16) (i : Fin 128) (b : Fin 512) :
    ((cfg0.win 1).blk t).view.read (Elt Ideal) A (ix3 0 i b) =
      A (ix3 0 (row (jt t) i) ⟨(rt t : ℕ) * 1536 + 512 + b, by omega⟩) := by
  have ht := points t
  blk_ext [idx t, rt, jt, row]
theorem geo2 (A : FVec Ideal S1x512x24576 .bf16) (i : Fin 128) (b : Fin 512) :
    ((cfg0.win 2).blk t).view.read (Elt Ideal) A (ix3 0 i b) =
      A (ix3 0 (row ⟨(jt t : ℕ) - 1, by omega⟩ i) ⟨(rt t : ℕ) * 1536 + 512 + b, by omega⟩) := by
  have ht := points t
  blk_ext [idx t, rt, jt, row]
theorem geo3 (A : FVec Ideal S1x512x24576 .bf16) (i : Fin 128) (b : Fin 512) :
    ((cfg0.win 3).blk t).view.read (Elt Ideal) A (ix3 0 i b) =
      A (ix3 0 (row (jt t) i) ⟨(rt t : ℕ) * 1536 + 1024 + b, by omega⟩) := by
  have ht := points t
  blk_ext [idx t, rt, jt, row]
theorem geo4 (A : FVec Ideal S1x512x24576 .bf16) (i : Fin 128) (b : Fin 512) :
    ((cfg0.win 4).blk t).view.read (Elt Ideal) A (ix3 0 i b) =
      A (ix3 0 (row ⟨(jt t : ℕ) - 1, by omega⟩ i) ⟨(rt t : ℕ) * 1536 + 1024 + b, by omega⟩) := by
  have ht := points t
  blk_ext [idx t, rt, jt, row]
theorem geo5 (A : FVec Ideal S512x8192 .bf16) (i : Fin 128) (d : Fin 64) (b : Fin 512) (hb : (b : ℕ) = h * 64 + d) :
    ((cfg0.win 5).blk t).view.read (Elt Ideal) A (ix2 i b) = A (ix2 (row (jt t) i) (col (rt t) h d)) := by
  have ht := points t
  blk_ext [idx t, rt, jt, row, col]
theorem geo6 (A : FVec Ideal S512x8192 .f32) (i : Fin 128) (d : Fin 64) (b : Fin 512) (hb : (b : ℕ) = h * 64 + d) :
    ((cfg0.win 6).blk t).view.read (Elt Ideal) A (ix2 i b) = A (ix2 (row (jt t) i) (col (rt t) h d)) := by
  have ht := points t
  blk_ext [idx t, rt, jt, row, col]
theorem geo7 (A : FVec Ideal S512x8192 .f32) (i : Fin 128) (d : Fin 64) (b : Fin 512) (hb : (b : ℕ) = h * 64 + d) :
    ((cfg0.win 7).blk t).view.read (Elt Ideal) A (ix2 i b) = A (ix2 (row (jt t) i) (col (rt t) h d)) := by
  have ht := points t
  blk_ext [idx t, rt, jt, row, col]
end Geometry

theorem blk0 (b : Fin 512) (hb : (b : ℕ) = h * 64 + d) :
    iblk m c 0 t (ix3 0 i b) = X0 m c (ix4 0 (tok (rt t) (jt t) i) h d) :=
  (geo0 t (V m c main_v90) i b).trans (V90_q m c (rt t) h (jt t) i d _ (by dsimp only; omega))
theorem blk1 (b : Fin 512) (hb : (b : ℕ) = h * 64 + d) :
    iblk m c 1 t (ix3 0 i b) = X1 m c (ix4 0 (tok (rt t) (jt t) i) h d) :=
  (geo1 t (V m c main_v90) i b).trans (V90_k m c (rt t) h (jt t) i d _ (by dsimp only; omega))
theorem blk2 (b : Fin 512) (hb : (b : ℕ) = h * 64 + d) :
    iblk m c 2 t (ix3 0 i b) = X1 m c (ix4 0 (tok (rt t) ⟨(jt t : ℕ) - 1, by omega⟩ i) h d) :=
  (geo2 t (V m c main_v90) i b).trans (V90_k m c (rt t) h ⟨(jt t : ℕ) - 1, by omega⟩ i d _ (by dsimp only; omega))
theorem blk3 (b : Fin 512) (hb : (b : ℕ) = h * 64 + d) :
    iblk m c 3 t (ix3 0 i b) = X2 m c (ix4 0 (tok (rt t) (jt t) i) h d) :=
  (geo3 t (V m c main_v90) i b).trans (V90_v m c (rt t) h (jt t) i d _ (by dsimp only; omega))
theorem blk4 (b : Fin 512) (hb : (b : ℕ) = h * 64 + d) :
    iblk m c 4 t (ix3 0 i b) = X2 m c (ix4 0 (tok (rt t) ⟨(jt t : ℕ) - 1, by omega⟩ i) h d) :=
  (geo4 t (V m c main_v90) i b).trans (V90_v m c (rt t) h ⟨(jt t : ℕ) - 1, by omega⟩ i d _ (by dsimp only; omega))
theorem blk5 (b : Fin 512) (hb : (b : ℕ) = h * 64 + d) :
    iblk m c 5 t (ix2 i b) = X3 m c (ix4 0 (tok (rt t) (jt t) i) h d) :=
  (geo5 t h (V m c main_v91) i d b hb).trans (V91_at m c (rt t) h (jt t) i d)
theorem blk6 (b : Fin 512) (hb : (b : ℕ) = h * 64 + d) :
    iblk m c 6 t (ix2 i b) = Row.lse (Seen (jt t) i) (score (X0 m c) (X1 m c) (rt t) h (jt t) i) :=
  (geo6 t h (V m c main_v77) i d b hb).trans (V77_at m c (rt t) h (jt t) i d)
theorem blk7 (b : Fin 512) (hb : (b : ℕ) = h * 64 + d) :
    iblk m c 7 t (ix2 i b) = Row.dterm (Seen (jt t) i) (score (X0 m c) (X1 m c) (rt t) h (jt t) i) (win (X2 m c) (rt t) h (jt t))
      (cot (X3 m c) (rt t) h (jt t) i) (X4 m c (ix3 0 (tok (rt t) (jt t) i) h)) :=
  (geo7 t h (V m c main_v92) i d b hb).trans (V92_at m c (rt t) h (jt t) i d)

theorem mask_at (k : Fin 256) : k0_pay6 (grid0.coords t) (ix2 i k) = 1#1 ↔ Seen (jt t) i k := by
  rw [pay6_at, second t]
  rfl

theorem pay7_at (x : Vec Ideal S1x128x512 .bf16) (i : Fin 128) (b : Fin 512) : k0_pay7 (F := Ideal) x (ix2 i b) = x (ix3 0 i b) := by
  pointwise [k0_pay7]
theorem pay8_at (x : Vec Ideal S1x128x512 .bf16) (i : Fin 128) (b : Fin 512) : k0_pay8 (F := Ideal) x (ix2 i b) = x (ix3 0 i b) := by
  pointwise [k0_pay8]
theorem pay9_at (x : Vec Ideal S1x128x512 .bf16) (i : Fin 128) (b : Fin 512) : k0_pay9 (F := Ideal) x (ix2 i b) = x (ix3 0 i b) := by
  pointwise [k0_pay9]
theorem pay11_at (x : Vec Ideal S1x128x512 .bf16) (i : Fin 128) (b : Fin 512) :
    k0_pay11 (F := Ideal) (k0_pay10 x) (ix2 i b) = x (ix3 0 i b) := by
  pointwise [k0_pay10, k0_pay11]

/-- The keys of a head, read off the scratch that holds the block before and the block itself. -/
theorem keys_at {sg : RefSig} {κ : Kind} {sp : Space} (v : View sg κ sp S256x512 .bf16) (o : ℕ) (ho : o = h * 64)
    (h1 : ∀ a, ![128, 0] a + ![128, 512] a ≤ S256x512.size a) (h0 : ∀ a, ![0, 0] a + ![128, 512] a ≤ S256x512.size a)
    (hh : ∀ a, ![0, o] a + ![256, 64] a ≤ S256x512.size a) (k : Fin 256) (d : Fin 64) :
    v.readCov (Val := Elt Ideal) [⟨Rect.unit (s := S256x512) ![128, 0] ![128, 512] h1, k0_pay8 (F := Ideal) (iblk m c 1 t)⟩,
        ⟨Rect.unit (s := S256x512) ![0, 0] ![128, 512] h0, k0_pay7 (F := Ideal) (iblk m c 2 t)⟩]
      (Rect.unit (s := S256x512) ![0, o] ![256, 64] hh).toLoadRect (ix2 k d) = kwin (X1 m c) (rt t) h (jt t) k d := by
  rw [scr_at v _ _ o h1 h0 hh (by omega) k d]
  unfold kwin
  by_cases hk : (k : ℕ) < 128
  · rw [dif_pos hk, dif_pos hk, pay7_at]
    exact blk2 m c t h ⟨k, hk⟩ d _ (by dsimp only; omega)
  · rw [dif_neg hk, dif_neg hk, pay8_at]
    exact blk1 m c t h ⟨k - 128, by omega⟩ d _ (by dsimp only; omega)

/-- The values of a head, read off the other scratch. -/
theorem vals_at {sg : RefSig} {κ : Kind} {sp : Space} (v : View sg κ sp S256x512 .bf16) (o : ℕ) (ho : o = h * 64)
    (h1 : ∀ a, ![128, 0] a + ![128, 512] a ≤ S256x512.size a) (h0 : ∀ a, ![0, 0] a + ![128, 512] a ≤ S256x512.size a)
    (hh : ∀ a, ![0, o] a + ![256, 64] a ≤ S256x512.size a) (k : Fin 256) (d : Fin 64) :
    v.readCov (Val := Elt Ideal) [⟨Rect.unit (s := S256x512) ![128, 0] ![128, 512] h1, k0_pay11 (F := Ideal) (k0_pay10 (iblk m c 3 t))⟩,
        ⟨Rect.unit (s := S256x512) ![0, 0] ![128, 512] h0, k0_pay9 (F := Ideal) (iblk m c 4 t)⟩]
      (Rect.unit (s := S256x512) ![0, o] ![256, 64] hh).toLoadRect (ix2 k d) = kwin (X2 m c) (rt t) h (jt t) k d := by
  rw [scr_at v _ _ o h1 h0 hh (by omega) k d]
  unfold kwin
  by_cases hk : (k : ℕ) < 128
  · rw [dif_pos hk, dif_pos hk, pay9_at]
    exact blk4 m c t h ⟨k, hk⟩ d _ (by dsimp only; omega)
  · rw [dif_neg hk, dif_neg hk, pay11_at]
    exact blk3 m c t h ⟨k - 128, by omega⟩ d _ (by dsimp only; omega)

/-- What a head's pieces of the blocks are, as one fact about the head. -/
theorem head_of {q : Vec Ideal S1x128x64 .bf16} {kk : Vec Ideal S256x64 .bf16} {dov : Vec Ideal S128x64 .bf16}
    {l : Vec Ideal S128x1 .f32} {vv : Vec Ideal S256x64 .bf16} {tt : Vec Ideal S128x1 .f32}
    (hq : ∀ (i : Fin 128) (d : Fin 64), q (ix3 0 i d) = iblk m c 0 t (ix3 0 i ⟨h * 64 + d, by omega⟩))
    (hk : ∀ (k : Fin 256) (d : Fin 64), kk (ix2 k d) = kwin (X1 m c) (rt t) h (jt t) k d)
    (hd : ∀ (i : Fin 128) (d : Fin 64), dov (ix2 i d) = iblk m c 5 t (ix2 i ⟨h * 64 + d, by omega⟩))
    (hl : ∀ i : Fin 128, l (ix2 i 0) = iblk m c 6 t (ix2 i ⟨h * 64, by omega⟩))
    (hv : ∀ (k : Fin 256) (d : Fin 64), vv (ix2 k d) = kwin (X2 m c) (rt t) h (jt t) k d)
    (ht : ∀ i : Fin 128, tt (ix2 i 0) = iblk m c 7 t (ix2 i ⟨h * 64, by omega⟩)) :
    Head (X0 m c) (X1 m c) (X2 m c) (X3 m c) (X4 m c) (rt t) h (jt t) (k0_pay6 (grid0.coords t)) q kk dov l vv tt where
  mask i k := mask_at t i k
  q i d := (hq i d).trans (blk0 m c t h i d _ rfl)
  kk := hk
  dov i d := (hd i d).trans (blk5 m c t h i d _ rfl)
  l i := (hl i).trans (blk6 m c t h i 0 _ rfl)
  vv := hv
  tt i := (ht i).trans (blk7 m c t h i 0 _ rfl)

/-- The same without the values and the terms, which the gradient of the values doesn't read. -/
theorem head2_of {q : Vec Ideal S1x128x64 .bf16} {kk : Vec Ideal S256x64 .bf16} {dov : Vec Ideal S128x64 .bf16} {l : Vec Ideal S128x1 .f32}
    (hq : ∀ (i : Fin 128) (d : Fin 64), q (ix3 0 i d) = iblk m c 0 t (ix3 0 i ⟨h * 64 + d, by omega⟩))
    (hk : ∀ (k : Fin 256) (d : Fin 64), kk (ix2 k d) = kwin (X1 m c) (rt t) h (jt t) k d)
    (hd : ∀ (i : Fin 128) (d : Fin 64), dov (ix2 i d) = iblk m c 5 t (ix2 i ⟨h * 64 + d, by omega⟩))
    (hl : ∀ i : Fin 128, l (ix2 i 0) = iblk m c 6 t (ix2 i ⟨h * 64, by omega⟩)) :
    Head (X0 m c) (X1 m c) (X2 m c) (X3 m c) (X4 m c) (rt t) h (jt t) (k0_pay6 (grid0.coords t)) q kk dov l
      (fun y => kwin (X2 m c) (rt t) h (jt t) (y 0) (y 1))
      (fun y => (fun i : Fin 128 => Row.dterm (Seen (jt t) i) (score (X0 m c) (X1 m c) (rt t) h (jt t) i) (win (X2 m c) (rt t) h (jt t))
        (cot (X3 m c) (rt t) h (jt t) i) (X4 m c (ix3 0 (tok (rt t) (jt t) i) h))) (y 0)) where
  mask i k := mask_at t i k
  q i d := (hq i d).trans (blk0 m c t h i d _ rfl)
  kk := hk
  dov i d := (hd i d).trans (blk5 m c t h i d _ rfl)
  l i := (hl i).trans (blk6 m c t h i 0 _ rfl)
  vv _ _ := rfl
  tt _ := rfl

end Cert.KernelIdeal.Val
-- ==== Proof.Final8.lean ====
/- The call's result 0, the gradient of the queries, is the reference's. -/
module

public import proofs.«01_k».proof.Proof.Blk

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col Seen score win cot)

variable (m : (ℓ : Loc nD τ sig) → Buf (Elt Ideal) ℓ) (c : Dev nD)

set_option maxHeartbeats 8000000 in
theorem final8 (A0 : Reals (X0 m c)) (A1 : Reals (X1 m c)) (A2 : Reals (X2 m c)) (A3 : Reals (X3 m c)) (A4 : Reals (X4 m c)) :
    (dats m 0 c).arrAt 8 cfg0.N = Cert.ReferenceIdeal.Read.val_main_v115 (F := Ideal) (X0 m c) (X1 m c) (X2 m c) (X3 m c) (X4 m c) := by
  refine (dats m 0 c).arrAt_eq_of_covers 8 _ (by decide +kernel) fun t _ y => ?_
  blk_simp
  rw [after0_8]
  unfold Gen.outsAt0
  frame_out
  canon_tiles x h
  · have e : (((View.whole main_v93_0).slice (win0_8.rect t)).emb y) = ix2 (row (jt t) (x 0)) (col (rt t) 7 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 7 (fun i d => ?_) (keys_at m c t 7 _ 448 rfl _ _ _) (fun i d => ?_) (fun i => ?_) (vals_at m c t 7 _ 448 rfl _ _ _) (fun i => ?_)).dq A0 A1 A2 A3 A4 (x 0) (x 1)
    all_goals pointwise
  · have e : (((View.whole main_v93_0).slice (win0_8.rect t)).emb y) = ix2 (row (jt t) (x 0)) (col (rt t) 6 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 6 (fun i d => ?_) (keys_at m c t 6 _ 384 rfl _ _ _) (fun i d => ?_) (fun i => ?_) (vals_at m c t 6 _ 384 rfl _ _ _) (fun i => ?_)).dq A0 A1 A2 A3 A4 (x 0) (x 1)
    all_goals pointwise
  · have e : (((View.whole main_v93_0).slice (win0_8.rect t)).emb y) = ix2 (row (jt t) (x 0)) (col (rt t) 5 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 5 (fun i d => ?_) (keys_at m c t 5 _ 320 rfl _ _ _) (fun i d => ?_) (fun i => ?_) (vals_at m c t 5 _ 320 rfl _ _ _) (fun i => ?_)).dq A0 A1 A2 A3 A4 (x 0) (x 1)
    all_goals pointwise
  · have e : (((View.whole main_v93_0).slice (win0_8.rect t)).emb y) = ix2 (row (jt t) (x 0)) (col (rt t) 4 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 4 (fun i d => ?_) (keys_at m c t 4 _ 256 rfl _ _ _) (fun i d => ?_) (fun i => ?_) (vals_at m c t 4 _ 256 rfl _ _ _) (fun i => ?_)).dq A0 A1 A2 A3 A4 (x 0) (x 1)
    all_goals pointwise
  · have e : (((View.whole main_v93_0).slice (win0_8.rect t)).emb y) = ix2 (row (jt t) (x 0)) (col (rt t) 3 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 3 (fun i d => ?_) (keys_at m c t 3 _ 192 rfl _ _ _) (fun i d => ?_) (fun i => ?_) (vals_at m c t 3 _ 192 rfl _ _ _) (fun i => ?_)).dq A0 A1 A2 A3 A4 (x 0) (x 1)
    all_goals pointwise
  · have e : (((View.whole main_v93_0).slice (win0_8.rect t)).emb y) = ix2 (row (jt t) (x 0)) (col (rt t) 2 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 2 (fun i d => ?_) (keys_at m c t 2 _ 128 rfl _ _ _) (fun i d => ?_) (fun i => ?_) (vals_at m c t 2 _ 128 rfl _ _ _) (fun i => ?_)).dq A0 A1 A2 A3 A4 (x 0) (x 1)
    all_goals pointwise
  · have e : (((View.whole main_v93_0).slice (win0_8.rect t)).emb y) = ix2 (row (jt t) (x 0)) (col (rt t) 1 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 1 (fun i d => ?_) (keys_at m c t 1 _ 64 rfl _ _ _) (fun i d => ?_) (fun i => ?_) (vals_at m c t 1 _ 64 rfl _ _ _) (fun i => ?_)).dq A0 A1 A2 A3 A4 (x 0) (x 1)
    all_goals pointwise
  · have e : (((View.whole main_v93_0).slice (win0_8.rect t)).emb y) = ix2 (row (jt t) (x 0)) (col (rt t) 0 (x 1)) := by
      blk_ext [idx t, jt, rt, row, col]
    have ex : x = ix2 (x 0) (x 1) := by funext a; fin_cases a <;> rfl
    refine Eq.trans (b := k0_pay16 (F := Ideal) _ _ _ _ _ _ _ x) rfl ?_
    rw [e, ex]
    refine (head_of m c t 0 (fun i d => ?_) (keys_at m c t 0 _ 0 rfl _ _ _) (fun i d => ?_) (fun i => ?_) (vals_at m c t 0 _ 0 rfl _ _ _) (fun i => ?_)).dq A0 A1 A2 A3 A4 (x 0) (x 1)
    all_goals pointwise

end Cert.KernelIdeal.Val
-- ==== Proof.Final9.lean ====
/- The call's result 1, the gradient of each block's own keys, is the reference's. -/
module

public import proofs.«01_k».proof.Proof.Blk

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col Seen score win cot)

variable (m : (ℓ : Loc nD τ sig) → Buf (Elt Ideal) ℓ) (c : Dev nD)

set_option maxHeartbeats 8000000 in
theorem final9 (A0 : Reals (X0 m c)) (A1 : Reals (X1 m c)) (A2 : Reals (X2 m c)) (A3 : Reals (X3 m c)) (A4 : Reals (X4 m c)) :
    (dats m 0 c).arrAt 9 cfg0.N = Cert.ReferenceIdeal.Read.val_main_v119 (F := Ideal) (X0 m c) (X1 m c) (X2 m c) (X3 m c) (X4 m c) := by
  refine (dats m 0 c).arrAt_eq_of_covers 9 _ (by decide +kernel) fun t _ y => ?_
  blk_simp
  rw [after0_9]
  unfold Gen.outsAt0
  frame_out
  canon_tiles x h
  · have e : (((View.whole main_v93_1).slice (win0_9.rect t)).emb y) = ix2 (row (jt t) (x 0)) (col (rt t) 7 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 7 (fun i d => ?_) (keys_at m c t 7 _ 448 rfl _ _ _) (fun i d => ?_) (fun i => ?_) (vals_at m c t 7 _ 448 rfl _ _ _) (fun i => ?_)).dk_own A0 A1 A2 A3 A4 (x 0) (x 1)
    all_goals pointwise
  · have e : (((View.whole main_v93_1).slice (win0_9.rect t)).emb y) = ix2 (row (jt t) (x 0)) (col (rt t) 6 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 6 (fun i d => ?_) (keys_at m c t 6 _ 384 rfl _ _ _) (fun i d => ?_) (fun i => ?_) (vals_at m c t 6 _ 384 rfl _ _ _) (fun i => ?_)).dk_own A0 A1 A2 A3 A4 (x 0) (x 1)
    all_goals pointwise
  · have e : (((View.whole main_v93_1).slice (win0_9.rect t)).emb y) = ix2 (row (jt t) (x 0)) (col (rt t) 5 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 5 (fun i d => ?_) (keys_at m c t 5 _ 320 rfl _ _ _) (fun i d => ?_) (fun i => ?_) (vals_at m c t 5 _ 320 rfl _ _ _) (fun i => ?_)).dk_own A0 A1 A2 A3 A4 (x 0) (x 1)
    all_goals pointwise
  · have e : (((View.whole main_v93_1).slice (win0_9.rect t)).emb y) = ix2 (row (jt t) (x 0)) (col (rt t) 4 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 4 (fun i d => ?_) (keys_at m c t 4 _ 256 rfl _ _ _) (fun i d => ?_) (fun i => ?_) (vals_at m c t 4 _ 256 rfl _ _ _) (fun i => ?_)).dk_own A0 A1 A2 A3 A4 (x 0) (x 1)
    all_goals pointwise
  · have e : (((View.whole main_v93_1).slice (win0_9.rect t)).emb y) = ix2 (row (jt t) (x 0)) (col (rt t) 3 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 3 (fun i d => ?_) (keys_at m c t 3 _ 192 rfl _ _ _) (fun i d => ?_) (fun i => ?_) (vals_at m c t 3 _ 192 rfl _ _ _) (fun i => ?_)).dk_own A0 A1 A2 A3 A4 (x 0) (x 1)
    all_goals pointwise
  · have e : (((View.whole main_v93_1).slice (win0_9.rect t)).emb y) = ix2 (row (jt t) (x 0)) (col (rt t) 2 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 2 (fun i d => ?_) (keys_at m c t 2 _ 128 rfl _ _ _) (fun i d => ?_) (fun i => ?_) (vals_at m c t 2 _ 128 rfl _ _ _) (fun i => ?_)).dk_own A0 A1 A2 A3 A4 (x 0) (x 1)
    all_goals pointwise
  · have e : (((View.whole main_v93_1).slice (win0_9.rect t)).emb y) = ix2 (row (jt t) (x 0)) (col (rt t) 1 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 1 (fun i d => ?_) (keys_at m c t 1 _ 64 rfl _ _ _) (fun i d => ?_) (fun i => ?_) (vals_at m c t 1 _ 64 rfl _ _ _) (fun i => ?_)).dk_own A0 A1 A2 A3 A4 (x 0) (x 1)
    all_goals pointwise
  · have e : (((View.whole main_v93_1).slice (win0_9.rect t)).emb y) = ix2 (row (jt t) (x 0)) (col (rt t) 0 (x 1)) := by
      blk_ext [idx t, jt, rt, row, col]
    have ex : x = ix2 (x 0) (x 1) := by funext a; fin_cases a <;> rfl
    refine Eq.trans (b := k0_pay21 (F := Ideal) (k0_pay17 _ _ _ _ _ _ _) x) rfl ?_
    rw [e, ex]
    refine (head_of m c t 0 (fun i d => ?_) (keys_at m c t 0 _ 0 rfl _ _ _) (fun i d => ?_) (fun i => ?_) (vals_at m c t 0 _ 0 rfl _ _ _) (fun i => ?_)).dk_own A0 A1 A2 A3 A4 (x 0) (x 1)
    all_goals pointwise

end Cert.KernelIdeal.Val
-- ==== Proof.Final10.lean ====
/- The call's result 2, the gradient of the keys of the block before, is the reference's. -/
module

public import proofs.«01_k».proof.Proof.Blk

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col Seen score win cot)

variable (m : (ℓ : Loc nD τ sig) → Buf (Elt Ideal) ℓ) (c : Dev nD)

set_option maxHeartbeats 8000000 in
theorem final10 (A0 : Reals (X0 m c)) (A1 : Reals (X1 m c)) (A2 : Reals (X2 m c)) (A3 : Reals (X3 m c)) (A4 : Reals (X4 m c)) :
    (dats m 0 c).arrAt 10 cfg0.N = Cert.ReferenceIdeal.Read.val_main_v123 (F := Ideal) (X0 m c) (X1 m c) (X2 m c) (X3 m c) (X4 m c) := by
  refine (dats m 0 c).arrAt_eq_of_covers 10 _ (by decide +kernel) fun t _ y => ?_
  blk_simp
  rw [after0_10]
  unfold Gen.outsAt0
  frame_out
  canon_tiles x h
  · have e : (((View.whole main_v93_2).slice (win0_10.rect t)).emb y) = ix2 (row (jt t) (x 0)) (col (rt t) 7 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 7 (fun i d => ?_) (keys_at m c t 7 _ 448 rfl _ _ _) (fun i d => ?_) (fun i => ?_) (vals_at m c t 7 _ 448 rfl _ _ _) (fun i => ?_)).dk_prev A0 A1 A2 A3 A4 (x 0) (x 1)
    all_goals pointwise
  · have e : (((View.whole main_v93_2).slice (win0_10.rect t)).emb y) = ix2 (row (jt t) (x 0)) (col (rt t) 6 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 6 (fun i d => ?_) (keys_at m c t 6 _ 384 rfl _ _ _) (fun i d => ?_) (fun i => ?_) (vals_at m c t 6 _ 384 rfl _ _ _) (fun i => ?_)).dk_prev A0 A1 A2 A3 A4 (x 0) (x 1)
    all_goals pointwise
  · have e : (((View.whole main_v93_2).slice (win0_10.rect t)).emb y) = ix2 (row (jt t) (x 0)) (col (rt t) 5 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 5 (fun i d => ?_) (keys_at m c t 5 _ 320 rfl _ _ _) (fun i d => ?_) (fun i => ?_) (vals_at m c t 5 _ 320 rfl _ _ _) (fun i => ?_)).dk_prev A0 A1 A2 A3 A4 (x 0) (x 1)
    all_goals pointwise
  · have e : (((View.whole main_v93_2).slice (win0_10.rect t)).emb y) = ix2 (row (jt t) (x 0)) (col (rt t) 4 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 4 (fun i d => ?_) (keys_at m c t 4 _ 256 rfl _ _ _) (fun i d => ?_) (fun i => ?_) (vals_at m c t 4 _ 256 rfl _ _ _) (fun i => ?_)).dk_prev A0 A1 A2 A3 A4 (x 0) (x 1)
    all_goals pointwise
  · have e : (((View.whole main_v93_2).slice (win0_10.rect t)).emb y) = ix2 (row (jt t) (x 0)) (col (rt t) 3 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 3 (fun i d => ?_) (keys_at m c t 3 _ 192 rfl _ _ _) (fun i d => ?_) (fun i => ?_) (vals_at m c t 3 _ 192 rfl _ _ _) (fun i => ?_)).dk_prev A0 A1 A2 A3 A4 (x 0) (x 1)
    all_goals pointwise
  · have e : (((View.whole main_v93_2).slice (win0_10.rect t)).emb y) = ix2 (row (jt t) (x 0)) (col (rt t) 2 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 2 (fun i d => ?_) (keys_at m c t 2 _ 128 rfl _ _ _) (fun i d => ?_) (fun i => ?_) (vals_at m c t 2 _ 128 rfl _ _ _) (fun i => ?_)).dk_prev A0 A1 A2 A3 A4 (x 0) (x 1)
    all_goals pointwise
  · have e : (((View.whole main_v93_2).slice (win0_10.rect t)).emb y) = ix2 (row (jt t) (x 0)) (col (rt t) 1 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 1 (fun i d => ?_) (keys_at m c t 1 _ 64 rfl _ _ _) (fun i d => ?_) (fun i => ?_) (vals_at m c t 1 _ 64 rfl _ _ _) (fun i => ?_)).dk_prev A0 A1 A2 A3 A4 (x 0) (x 1)
    all_goals pointwise
  · have e : (((View.whole main_v93_2).slice (win0_10.rect t)).emb y) = ix2 (row (jt t) (x 0)) (col (rt t) 0 (x 1)) := by
      blk_ext [idx t, jt, rt, row, col]
    have ex : x = ix2 (x 0) (x 1) := by funext a; fin_cases a <;> rfl
    refine Eq.trans (b := k0_pay20 (F := Ideal) (k0_pay17 _ _ _ _ _ _ _) x) rfl ?_
    rw [e, ex]
    refine (head_of m c t 0 (fun i d => ?_) (keys_at m c t 0 _ 0 rfl _ _ _) (fun i d => ?_) (fun i => ?_) (vals_at m c t 0 _ 0 rfl _ _ _) (fun i => ?_)).dk_prev A0 A1 A2 A3 A4 (x 0) (x 1)
    all_goals pointwise

end Cert.KernelIdeal.Val
-- ==== Proof.Final11.lean ====
/- The call's result 3, the gradient of each block's own values, is the reference's. -/
module

public import proofs.«01_k».proof.Proof.Blk

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col Seen score win cot)

variable (m : (ℓ : Loc nD τ sig) → Buf (Elt Ideal) ℓ) (c : Dev nD)

set_option maxHeartbeats 8000000 in
theorem final11 (A0 : Reals (X0 m c)) (A1 : Reals (X1 m c)) (A3 : Reals (X3 m c)) :
    (dats m 0 c).arrAt 11 cfg0.N = Cert.ReferenceIdeal.Read.val_main_v127 (F := Ideal) (X0 m c) (X1 m c) (X3 m c) := by
  refine (dats m 0 c).arrAt_eq_of_covers 11 _ (by decide +kernel) fun t _ y => ?_
  blk_simp
  rw [after0_11]
  unfold Gen.outsAt0
  frame_out
  canon_tiles x h
  · have e : (((View.whole main_v93_3).slice (win0_11.rect t)).emb y) = ix2 (row (jt t) (x 0)) (col (rt t) 7 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 7 (fun i d => ?_) (keys_at m c t 7 _ 448 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 6 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 6 (fun i d => ?_) (keys_at m c t 6 _ 384 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 5 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 5 (fun i d => ?_) (keys_at m c t 5 _ 320 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 4 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 4 (fun i d => ?_) (keys_at m c t 4 _ 256 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 3 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 3 (fun i d => ?_) (keys_at m c t 3 _ 192 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 2 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 2 (fun i d => ?_) (keys_at m c t 2 _ 128 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 1 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 1 (fun i d => ?_) (keys_at m c t 1 _ 64 rfl _ _ _) (fun i d => ?_) (fun i => ?_)).dv_own A0 A1 A3 (x 0) (x 1)
    all_goals pointwise
  · have e : (((View.whole main_v93_3).slice (win0_11.rect t)).emb y) = ix2 (row (jt t) (x 0)) (col (rt t) 0 (x 1)) := by
      blk_ext [idx t, jt, rt, row, col]
    have ex : x = ix2 (x 0) (x 1) := by funext a; fin_cases a <;> rfl
    refine Eq.trans (b := k0_pay23 (F := Ideal) (k0_pay13 _) (k0_pay18 _ _ _ _) x) rfl ?_
    rw [e, ex]
    refine (head2_of m c t 0 (fun i d => ?_) (keys_at m c t 0 _ 0 rfl _ _ _) (fun i d => ?_) (fun i => ?_)).dv_own A0 A1 A3 (x 0) (x 1)
    all_goals pointwise

end Cert.KernelIdeal.Val
-- ==== Proof.Final12.lean ====
/- The call's result 4, the gradient of the values of the block before, is the reference's. -/
module

public import proofs.«01_k».proof.Proof.Blk

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.At (tok row col Seen score win cot)

variable (m : (ℓ : Loc nD τ sig) → Buf (Elt Ideal) ℓ) (c : Dev nD)

set_option maxHeartbeats 8000000 in
theorem final12 (A0 : Reals (X0 m c)) (A1 : Reals (X1 m c)) (A3 : Reals (X3 m c)) :
    (dats m 0 c).arrAt 12 cfg0.N = Cert.ReferenceIdeal.Read.val_main_v131 (F := Ideal) (X0 m c) (X1 m c) (X3 m c) := by
  refine (dats m 0 c).arrAt_eq_of_covers 12 _ (by decide +kernel) fun t _ y => ?_
  blk_simp
  rw [after0_12]
  unfold Gen.outsAt0
  frame_out
  canon_tiles x h
  · have e : (((View.whole main_v93_4).slice (win0_12.rect t)).emb y) = ix2 (row (jt t) (x 0)) (col (rt t) 7 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 7 (fun i d => ?_) (keys_at m c t 7 _ 448 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 6 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 6 (fun i d => ?_) (keys_at m c t 6 _ 384 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 5 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 5 (fun i d => ?_) (keys_at m c t 5 _ 320 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 4 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 4 (fun i d => ?_) (keys_at m c t 4 _ 256 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 3 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 3 (fun i d => ?_) (keys_at m c t 3 _ 192 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 2 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 2 (fun i d => ?_) (keys_at m c t 2 _ 128 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 1 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 1 (fun i d => ?_) (keys_at m c t 1 _ 64 rfl _ _ _) (fun i d => ?_) (fun i => ?_)).dv_prev A0 A1 A3 (x 0) (x 1)
    all_goals pointwise
  · have e : (((View.whole main_v93_4).slice (win0_12.rect t)).emb y) = ix2 (row (jt t) (x 0)) (col (rt t) 0 (x 1)) := by
      blk_ext [idx t, jt, rt, row, col]
    have ex : x = ix2 (x 0) (x 1) := by funext a; fin_cases a <;> rfl
    refine Eq.trans (b := k0_pay22 (F := Ideal) (k0_pay13 _) (k0_pay18 _ _ _ _) x) rfl ?_
    rw [e, ex]
    refine (head2_of m c t 0 (fun i d => ?_) (keys_at m c t 0 _ 0 rfl _ _ _) (fun i d => ?_) (fun i => ?_)).dv_prev A0 A1 A3 (x 0) (x 1)
    all_goals pointwise

end Cert.KernelIdeal.Val
-- ==== Proof.Finite.lean ====
/- What the precondition says: every entry of every argument is a real number. -/
module

public import proofs.«01_k».proof.Pre_finite
public import proofs.«01_k».proof.Proof.Core
public import Idealize.ShloMosaic.Lib.ReduceAll

@[expose] public section

set_option maxRecDepth 16384

noncomputable section

namespace Cert.Pre_finite

open Idealize.ShloMosaic Cert.KernelIdeal.Val

instance facts : Facts where
  bcast_S_S1x8192x8x64 := by decide
  reducesTo_S1x8192x8x64_S_d0_1_2_3 := by decide
  h_S_ := by decide
  bcast_S_S1x8192x8 := by decide
  reducesTo_S1x8192x8_S_d0_1_2 := by decide

theorem pos_inf : Ideal.ofBits .f32 0x7F800000#32 = (⊤ : EReal) := by
  simp [Ideal.ofBits, Ideal.ieee]

theorem real_of_abs {x : EReal} (h : max x (-x) < ⊤) : ∃ y : ℝ, x = (y : EReal) := by
  induction x with
  | bot => simp at h
  | top => simp at h
  | coe y => exact ⟨y, rfl⟩

theorem real_of_cmp {x : EReal} (h : Ideal.cmp .olt (max x (-x)) (Ideal.ofBits .f32 0x7F800000#32) = 1#1) : ∃ y : ℝ, x = (y : EReal) := by
  rw [pos_inf] at h
  refine real_of_abs ?_
  by_contra hn
  simp [Ideal.cmp, hn] at h

instance : Subsingleton S_.Idx := ⟨fun a b => funext fun i => i.elim0⟩

theorem reals4 (x : FVec Ideal S1x8192x8x64 .f32)
    (h : Host.reduce IntOp.andi (cmpf .olt (Host.absf x) (broadcastInDim S1x8192x8x64 ![] facts.bcast_S_S1x8192x8x64 (constant (F := Ideal) S_ .f32 0x7F800000#32)))
      (constantI S_ 1 1#1) facts.reducesTo_S1x8192x8x64_S_d0_1_2_3 facts.h_S_ ix0 = 1#1) : Reals x := fun i =>
  real_of_cmp (Host.reduce_andi_all _ _ _ _ _ h i)

theorem reals3 (x : FVec Ideal S1x8192x8 .f32)
    (h : Host.reduce IntOp.andi (cmpf .olt (Host.absf x) (broadcastInDim S1x8192x8 ![] facts.bcast_S_S1x8192x8 (constant (F := Ideal) S_ .f32 0x7F800000#32)))
      (constantI S_ 1 1#1) facts.reducesTo_S1x8192x8_S_d0_1_2 facts.h_S_ ix0 = 1#1) : Reals x := fun i =>
  real_of_cmp (Host.reduce_andi_all _ _ _ _ _ h i)

theorem reals {x0 x1 x2 x3 : FVec Ideal S1x8192x8x64 .f32} {x4 : FVec Ideal S1x8192x8 .f32}
    (h : fn (F := Ideal) x0 x1 x2 x3 x4 = fun _ => 1#1) : Reals x0 ∧ Reals x1 ∧ Reals x2 ∧ Reals x3 ∧ Reals x4 := by
  have h := congrFun h ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨reals4 _ h0, reals4 _ h1, reals4 _ h2, reals4 _ h3, reals3 _ h4⟩

end Cert.Pre_finite
-- ==== Proof.Alg.lean ====
/- The two runs end with equal results. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Final8
public import proofs.«01_k».proof.Proof.Final9
public import proofs.«01_k».proof.Proof.Final10
public import proofs.«01_k».proof.Proof.Final11
public import proofs.«01_k».proof.Proof.Final12
public import proofs.«01_k».proof.Proof.Finite
public import Idealize.ShloMosaic.Lib.Claim

@[expose] public section

set_option maxRecDepth 16384

noncomputable section

namespace Cert.Proof

open Idealize.ShloMosaic Idealize.SL.Sem

variable (m' : (ℓ : Loc Cert.ReferenceIdeal.nD Cert.ReferenceIdeal.τ Cert.ReferenceIdeal.sig) → Buf (Elt Ideal) ℓ) (c : Dev Cert.ReferenceIdeal.nD)

/-- What the reference's run states for its result 0, over arguments that equal the kernel's. -/
theorem ref0 {x0 : FVec Ideal Cert.ReferenceIdeal.S1x8192x8x64 .f32} {x1 : FVec Ideal Cert.ReferenceIdeal.S1x8192x8x64 .f32} {x2 : FVec Ideal Cert.ReferenceIdeal.S1x8192x8x64 .f32} {x3 : FVec Ideal Cert.ReferenceIdeal.S1x8192x8x64 .f32} {x4 : FVec Ideal Cert.ReferenceIdeal.S1x8192x8 .f32}
    (s0 : m' ((c.tc : Thread Cert.ReferenceIdeal.nD Cert.ReferenceIdeal.τ).loc Cert.ReferenceIdeal.main_arg0) = x0)
    (s1 : m' ((c.tc : Thread Cert.ReferenceIdeal.nD Cert.ReferenceIdeal.τ).loc Cert.ReferenceIdeal.main_arg1) = x1)
    (s2 : m' ((c.tc : Thread Cert.ReferenceIdeal.nD Cert.ReferenceIdeal.τ).loc Cert.ReferenceIdeal.main_arg2) = x2)
    (s3 : m' ((c.tc : Thread Cert.ReferenceIdeal.nD Cert.ReferenceIdeal.τ).loc Cert.ReferenceIdeal.main_arg3) = x3)
    (s4 : m' ((c.tc : Thread Cert.ReferenceIdeal.nD Cert.ReferenceIdeal.τ).loc Cert.ReferenceIdeal.main_arg4) = x4) :
    Cert.ReferenceIdeal.Read.val_main_v115 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) =
      Cert.ReferenceIdeal.Read.val_main_v115 (F := Ideal) x0 x1 x2 x3 x4 := by
  subst s0 s1 s2 s3 s4
  rfl

/-- What the reference's run states for its result 1, over arguments that equal the kernel's. -/
theorem ref1 {x0 : FVec Ideal Cert.ReferenceIdeal.S1x8192x8x64 .f32} {x1 : FVec Ideal Cert.ReferenceIdeal.S1x8192x8x64 .f32} {x2 : FVec Ideal Cert.ReferenceIdeal.S1x8192x8x64 .f32} {x3 : FVec Ideal Cert.ReferenceIdeal.S1x8192x8x64 .f32} {x4 : FVec Ideal Cert.ReferenceIdeal.S1x8192x8 .f32}
    (s0 : m' ((c.tc : Thread Cert.ReferenceIdeal.nD Cert.ReferenceIdeal.τ).loc Cert.ReferenceIdeal.main_arg0) = x0)
    (s1 : m' ((c.tc : Thread Cert.ReferenceIdeal.nD Cert.ReferenceIdeal.τ).loc Cert.ReferenceIdeal.main_arg1) = x1)
    (s2 : m' ((c.tc : Thread Cert.ReferenceIdeal.nD Cert.ReferenceIdeal.τ).loc Cert.ReferenceIdeal.main_arg2) = x2)
    (s3 : m' ((c.tc : Thread Cert.ReferenceIdeal.nD Cert.ReferenceIdeal.τ).loc Cert.ReferenceIdeal.main_arg3) = x3)
    (s4 : m' ((c.tc : Thread Cert.ReferenceIdeal.nD Cert.ReferenceIdeal.τ).loc Cert.ReferenceIdeal.main_arg4) = x4) :
    Cert.ReferenceIdeal.Read.val_main_v119 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) =
      Cert.ReferenceIdeal.Read.val_main_v119 (F := Ideal) x0 x1 x2 x3 x4 := by
  subst s0 s1 s2 s3 s4
  rfl

/-- What the reference's run states for its result 2, over arguments that equal the kernel's. -/
theorem ref2 {x0 : FVec Ideal Cert.ReferenceIdeal.S1x8192x8x64 .f32} {x1 : FVec Ideal Cert.ReferenceIdeal.S1x8192x8x64 .f32} {x2 : FVec Ideal Cert.ReferenceIdeal.S1x8192x8x64 .f32} {x3 : FVec Ideal Cert.ReferenceIdeal.S1x8192x8x64 .f32} {x4 : FVec Ideal Cert.ReferenceIdeal.S1x8192x8 .f32}
    (s0 : m' ((c.tc : Thread Cert.ReferenceIdeal.nD Cert.ReferenceIdeal.τ).loc Cert.ReferenceIdeal.main_arg0) = x0)
    (s1 : m' ((c.tc : Thread Cert.ReferenceIdeal.nD Cert.ReferenceIdeal.τ).loc Cert.ReferenceIdeal.main_arg1) = x1)
    (s2 : m' ((c.tc : Thread Cert.ReferenceIdeal.nD Cert.ReferenceIdeal.τ).loc Cert.ReferenceIdeal.main_arg2) = x2)
    (s3 : m' ((c.tc : Thread Cert.ReferenceIdeal.nD Cert.ReferenceIdeal.τ).loc Cert.ReferenceIdeal.main_arg3) = x3)
    (s4 : m' ((c.tc : Thread Cert.ReferenceIdeal.nD Cert.ReferenceIdeal.τ).loc Cert.ReferenceIdeal.main_arg4) = x4) :
    Cert.ReferenceIdeal.Read.val_main_v123 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) =
      Cert.ReferenceIdeal.Read.val_main_v123 (F := Ideal) x0 x1 x2 x3 x4 := by
  subst s0 s1 s2 s3 s4
  rfl

/-- What the reference's run states for its result 3, over arguments that equal the kernel's. -/
theorem ref3 {x0 : FVec Ideal Cert.ReferenceIdeal.S1x8192x8x64 .f32} {x1 : FVec Ideal Cert.ReferenceIdeal.S1x8192x8x64 .f32} {x3 : FVec Ideal Cert.ReferenceIdeal.S1x8192x8x64 .f32}
    (s0 : m' ((c.tc : Thread Cert.ReferenceIdeal.nD Cert.ReferenceIdeal.τ).loc Cert.ReferenceIdeal.main_arg0) = x0)
    (s1 : m' ((c.tc : Thread Cert.ReferenceIdeal.nD Cert.ReferenceIdeal.τ).loc Cert.ReferenceIdeal.main_arg1) = x1)
    (s3 : m' ((c.tc : Thread Cert.ReferenceIdeal.nD Cert.ReferenceIdeal.τ).loc Cert.ReferenceIdeal.main_arg3) = x3) :
    Cert.ReferenceIdeal.Read.val_main_v127 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg3)) =
      Cert.ReferenceIdeal.Read.val_main_v127 (F := Ideal) x0 x1 x3 := by
  subst s0 s1 s3
  rfl

/-- What the reference's run states for its result 4, over arguments that equal the kernel's. -/
theorem ref4 {x0 : FVec Ideal Cert.ReferenceIdeal.S1x8192x8x64 .f32} {x1 : FVec Ideal Cert.ReferenceIdeal.S1x8192x8x64 .f32} {x3 : FVec Ideal Cert.ReferenceIdeal.S1x8192x8x64 .f32}
    (s0 : m' ((c.tc : Thread Cert.ReferenceIdeal.nD Cert.ReferenceIdeal.τ).loc Cert.ReferenceIdeal.main_arg0) = x0)
    (s1 : m' ((c.tc : Thread Cert.ReferenceIdeal.nD Cert.ReferenceIdeal.τ).loc Cert.ReferenceIdeal.main_arg1) = x1)
    (s3 : m' ((c.tc : Thread Cert.ReferenceIdeal.nD Cert.ReferenceIdeal.τ).loc Cert.ReferenceIdeal.main_arg3) = x3) :
    Cert.ReferenceIdeal.Read.val_main_v131 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg3)) =
      Cert.ReferenceIdeal.Read.val_main_v131 (F := Ideal) x0 x1 x3 := by
  subst s0 s1 s3
  rfl

set_option maxHeartbeats 2000000 in
theorem alg : Cert.algebraic_KernelIdeal_ReferenceIdeal_pre_finite := by
  intro m g m' g' pre same
  have fin := fun c => Cert.Pre_finite.reals (pre c)
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m g, (θ_run _ _ _).mono (fun r h c => ?_) (Cert.ReferenceIdeal.Value.run m' g')⟩
  obtain ⟨e0, e1, e2, e3, e4, rest⟩ := h c
  obtain ⟨f0, f1, f2, f3, f4⟩ := fin c
  obtain ⟨s0, s1, s2, s3, s4⟩ := same c
  have d0 := Cert.KernelIdeal.Val.final8 m c f0 f1 f2 f3 f4
  have d1 := Cert.KernelIdeal.Val.final9 m c f0 f1 f2 f3 f4
  have d2 := Cert.KernelIdeal.Val.final10 m c f0 f1 f2 f3 f4
  have d3 := Cert.KernelIdeal.Val.final11 m c f0 f1 f3
  have d4 := Cert.KernelIdeal.Val.final12 m c f0 f1 f3
  exact ⟨((e0.trans (Cert.ReferenceIdeal.Read.val_main_v115_eq _)).trans (ref0 m' c s0 s1 s2 s3 s4)).trans d0.symm,
    ((e1.trans (Cert.ReferenceIdeal.Read.val_main_v119_eq _)).trans (ref1 m' c s0 s1 s2 s3 s4)).trans d1.symm,
    ((e2.trans (Cert.ReferenceIdeal.Read.val_main_v123_eq _)).trans (ref2 m' c s0 s1 s2 s3 s4)).trans d2.symm,
    ((e3.trans (Cert.ReferenceIdeal.Read.val_main_v127_eq _)).trans (ref3 m' c s0 s1 s3)).trans d3.symm,
    ((e4.trans (Cert.ReferenceIdeal.Read.val_main_v131_eq _)).trans (ref4 m' c s0 s1 s3)).trans d4.symm, rest⟩

end Cert.Proof
-- ==== Proof.lean ====
module

public import proofs.«01_k».proof.Proof.Gen.UpDw.Frame
public import proofs.«01_k».proof.Proof.UpDw
public import proofs.«01_k».proof.Proof.Gen.UpDh.Frame
public import proofs.«01_k».proof.Proof.UpDh
public import proofs.«01_k».proof.Proof.Gen.DownDw.Frame
public import proofs.«01_k».proof.Proof.DownDw
public import proofs.«01_k».proof.Proof.Gen.DownDa.Frame
public import proofs.«01_k».proof.Proof.DownDa
public import proofs.«01_k».proof.Proof.Gen.QkvDw.Frame
public import proofs.«01_k».proof.Proof.QkvDw
public import proofs.«01_k».proof.Proof.Gen.QkvDh.Frame
public import proofs.«01_k».proof.Proof.QkvDh
public import proofs.«01_k».proof.Proof.Gen.Up.Frame
public import proofs.«01_k».proof.Proof.Up
public import proofs.«01_k».proof.Proof.Gen.Down.Frame
public import proofs.«01_k».proof.Proof.Down
public import proofs.«01_k».proof.Proof.Gen.PwOne.Frame
public import proofs.«01_k».proof.Proof.PwOne
public import proofs.«01_k».proof.Proof.Gen.PwOneDw.Frame
public import proofs.«01_k».proof.Proof.PwOneDw
public import proofs.«01_k».proof.Proof.Gen.PwOneDh.Frame
public import proofs.«01_k».proof.Proof.PwOneDh
public import proofs.«01_k».proof.Proof.Gen.NormBwd.Frame
public import proofs.«01_k».proof.Proof.NormBwd
public import proofs.«01_k».proof.Proof.Gen.UpZero.Frame
public import proofs.«01_k».proof.Proof.UpZero
public import proofs.«01_k».proof.Proof.Gen.UpDhZero.Frame
public import proofs.«01_k».proof.Proof.UpDhZero
public import proofs.«01_k».proof.Proof.Gen.PwTwo.Frame
public import proofs.«01_k».proof.Proof.PwTwo
public import proofs.«01_k».proof.Proof.Gen.PwTwoDw.Frame
public import proofs.«01_k».proof.Proof.PwTwoDw
public import proofs.«01_k».proof.Proof.Gen.PwTwoDu.Frame
public import proofs.«01_k».proof.Proof.PwTwoDu
public import proofs.«01_k».proof.Proof.Gen.AttnOut.Frame
public import proofs.«01_k».proof.Proof.AttnOut
public import proofs.«01_k».proof.Proof.Gen.AttnOutDw.Frame
public import proofs.«01_k».proof.Proof.AttnOutDw
public import proofs.«01_k».proof.Proof.Gen.AttnOutDm.Frame
public import proofs.«01_k».proof.Proof.AttnOutDm
public import proofs.«01_k».proof.Proof.Gen.AdamQkv.Frame
public import proofs.«01_k».proof.Proof.AdamQkv
public import proofs.«01_k».proof.Proof.Gen.AdamOut.Frame
public import proofs.«01_k».proof.Proof.AdamOut
public import proofs.«01_k».proof.Proof.Gen.AdamPwOne.Frame
public import proofs.«01_k».proof.Proof.AdamPwOne
public import proofs.«01_k».proof.Proof.Gen.AdamPwTwo.Frame
public import proofs.«01_k».proof.Proof.AdamPwTwo
public import proofs.«01_k».proof.Proof.Gen.AdamUp.Frame
public import proofs.«01_k».proof.Proof.AdamUp
public import proofs.«01_k».proof.Proof.Gen.AdamDown.Frame
public import proofs.«01_k».proof.Proof.AdamDown
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The reference keeps its arguments, and has no semaphores. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.UpDh.Gen.facts, Cert.UpDhIdeal.Gen.facts, Cert.UpDhRefIdeal.Gen.facts,
  Cert.DownDw.Gen.facts, Cert.DownDwIdeal.Gen.facts, Cert.DownDwRefIdeal.Gen.facts,
  Cert.DownDa.Gen.facts, Cert.DownDaIdeal.Gen.facts, Cert.DownDaRefIdeal.Gen.facts,
  Cert.QkvDw.Gen.facts, Cert.QkvDwIdeal.Gen.facts, Cert.QkvDwRefIdeal.Gen.facts,
  Cert.QkvDh.Gen.facts, Cert.QkvDhIdeal.Gen.facts, Cert.QkvDhRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.PwOne.Gen.facts, Cert.PwOneIdeal.Gen.facts, Cert.PwOneRefIdeal.Gen.facts,
  Cert.PwOneDw.Gen.facts, Cert.PwOneDwIdeal.Gen.facts, Cert.PwOneDwRefIdeal.Gen.facts,
  Cert.PwOneDh.Gen.facts, Cert.PwOneDhIdeal.Gen.facts, Cert.PwOneDhRefIdeal.Gen.facts,
  Cert.NormBwd.Gen.facts, Cert.NormBwdIdeal.Gen.facts, Cert.NormBwdRefIdeal.Gen.facts,
  Cert.UpZero.Gen.facts, Cert.UpZeroIdeal.Gen.facts, Cert.UpZeroRefIdeal.Gen.facts,
  Cert.UpDhZero.Gen.facts, Cert.UpDhZeroIdeal.Gen.facts, Cert.UpDhZeroRefIdeal.Gen.facts,
  Cert.PwTwo.Gen.facts, Cert.PwTwoIdeal.Gen.facts, Cert.PwTwoRefIdeal.Gen.facts,
  Cert.PwTwoDw.Gen.facts, Cert.PwTwoDwIdeal.Gen.facts, Cert.PwTwoDwRefIdeal.Gen.facts,
  Cert.PwTwoDu.Gen.facts, Cert.PwTwoDuIdeal.Gen.facts, Cert.PwTwoDuRefIdeal.Gen.facts,
  Cert.AttnOut.Gen.facts, Cert.AttnOutIdeal.Gen.facts, Cert.AttnOutRefIdeal.Gen.facts,
  Cert.AttnOutDw.Gen.facts, Cert.AttnOutDwIdeal.Gen.facts, Cert.AttnOutDwRefIdeal.Gen.facts,
  Cert.AttnOutDm.Gen.facts, Cert.AttnOutDmIdeal.Gen.facts, Cert.AttnOutDmRefIdeal.Gen.facts,
  Cert.AdamQkv.Gen.facts, Cert.AdamQkvIdeal.Gen.facts, Cert.AdamQkvRefIdeal.Gen.facts,
  Cert.AdamOut.Gen.facts, Cert.AdamOutIdeal.Gen.facts, Cert.AdamOutRefIdeal.Gen.facts,
  Cert.AdamPwOne.Gen.facts, Cert.AdamPwOneIdeal.Gen.facts, Cert.AdamPwOneRefIdeal.Gen.facts,
  Cert.AdamPwTwo.Gen.facts, Cert.AdamPwTwoIdeal.Gen.facts, Cert.AdamPwTwoRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.Pre_finite.facts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  fun m ρ _ => Cert.UpDw.Gen.frame m ρ, fun m ρ _ => Cert.UpDwIdeal.Gen.frame m ρ, frame_UpDwRefIdeal,
  fun m ρ _ => Cert.UpDh.Gen.frame m ρ, fun m ρ _ => Cert.UpDhIdeal.Gen.frame m ρ, frame_UpDhRefIdeal,
  fun m ρ _ => Cert.DownDw.Gen.frame m ρ, fun m ρ _ => Cert.DownDwIdeal.Gen.frame m ρ, frame_DownDwRefIdeal,
  fun m ρ _ => Cert.DownDa.Gen.frame m ρ, fun m ρ _ => Cert.DownDaIdeal.Gen.frame m ρ, frame_DownDaRefIdeal,
  fun m ρ _ => Cert.QkvDw.Gen.frame m ρ, fun m ρ _ => Cert.QkvDwIdeal.Gen.frame m ρ, frame_QkvDwRefIdeal,
  fun m ρ _ => Cert.QkvDh.Gen.frame m ρ, fun m ρ _ => Cert.QkvDhIdeal.Gen.frame m ρ, frame_QkvDhRefIdeal,
  fun m ρ _ => Cert.Up.Gen.frame m ρ, fun m ρ _ => Cert.UpIdeal.Gen.frame m ρ, frame_UpRefIdeal,
  fun m ρ _ => Cert.Down.Gen.frame m ρ, fun m ρ _ => Cert.DownIdeal.Gen.frame m ρ, frame_DownRefIdeal,
  fun m ρ _ => Cert.PwOne.Gen.frame m ρ, fun m ρ _ => Cert.PwOneIdeal.Gen.frame m ρ, frame_PwOneRefIdeal,
  fun m ρ _ => Cert.PwOneDw.Gen.frame m ρ, fun m ρ _ => Cert.PwOneDwIdeal.Gen.frame m ρ, frame_PwOneDwRefIdeal,
  fun m ρ _ => Cert.PwOneDh.Gen.frame m ρ, fun m ρ _ => Cert.PwOneDhIdeal.Gen.frame m ρ, frame_PwOneDhRefIdeal,
  fun m ρ _ => Cert.NormBwd.Gen.frame m ρ, fun m ρ _ => Cert.NormBwdIdeal.Gen.frame m ρ, frame_NormBwdRefIdeal,
  fun m ρ _ => Cert.UpZero.Gen.frame m ρ, fun m ρ _ => Cert.UpZeroIdeal.Gen.frame m ρ, frame_UpZeroRefIdeal,
  fun m ρ _ => Cert.UpDhZero.Gen.frame m ρ, fun m ρ _ => Cert.UpDhZeroIdeal.Gen.frame m ρ, frame_UpDhZeroRefIdeal,
  fun m ρ _ => Cert.PwTwo.Gen.frame m ρ, fun m ρ _ => Cert.PwTwoIdeal.Gen.frame m ρ, frame_PwTwoRefIdeal,
  fun m ρ _ => Cert.PwTwoDw.Gen.frame m ρ, fun m ρ _ => Cert.PwTwoDwIdeal.Gen.frame m ρ, frame_PwTwoDwRefIdeal,
  fun m ρ _ => Cert.PwTwoDu.Gen.frame m ρ, fun m ρ _ => Cert.PwTwoDuIdeal.Gen.frame m ρ, frame_PwTwoDuRefIdeal,
  fun m ρ _ => Cert.AttnOut.Gen.frame m ρ, fun m ρ _ => Cert.AttnOutIdeal.Gen.frame m ρ, frame_AttnOutRefIdeal,
  fun m ρ _ => Cert.AttnOutDw.Gen.frame m ρ, fun m ρ _ => Cert.AttnOutDwIdeal.Gen.frame m ρ, frame_AttnOutDwRefIdeal,
  fun m ρ _ => Cert.AttnOutDm.Gen.frame m ρ, fun m ρ _ => Cert.AttnOutDmIdeal.Gen.frame m ρ, frame_AttnOutDmRefIdeal,
  fun m ρ _ => Cert.AdamQkv.Gen.frame m ρ, fun m ρ _ => Cert.AdamQkvIdeal.Gen.frame m ρ, frame_AdamQkvRefIdeal,
  fun m ρ _ => Cert.AdamOut.Gen.frame m ρ, fun m ρ _ => Cert.AdamOutIdeal.Gen.frame m ρ, frame_AdamOutRefIdeal,
  fun m ρ _ => Cert.AdamPwOne.Gen.frame m ρ, fun m ρ _ => Cert.AdamPwOneIdeal.Gen.frame m ρ, frame_AdamPwOneRefIdeal,
  fun m ρ _ => Cert.AdamPwTwo.Gen.frame m ρ, fun m ρ _ => Cert.AdamPwTwoIdeal.Gen.frame m ρ, frame_AdamPwTwoRefIdeal,
  fun m ρ _ => Cert.AdamUp.Gen.frame m ρ, fun m ρ _ => Cert.AdamUpIdeal.Gen.frame m ρ, frame_AdamUpRefIdeal,
  fun m ρ _ => Cert.AdamDown.Gen.frame m ρ, fun m ρ _ => Cert.AdamDownIdeal.Gen.frame m ρ, frame_AdamDownRefIdeal,
  IdealRules.named_const.statement Cert.KernelIdeal.κ "mask" .f32 0xF149F2CA#32 ⊥ rfl,
  alg,
  trivial, alg_UpDw,
  trivial, alg_UpDh,
  trivial, alg_DownDw,
  trivial, alg_DownDa,
  trivial, alg_QkvDw,
  trivial, alg_QkvDh,
  trivial, alg_Up,
  trivial, alg_Down,
  trivial, alg_PwOne,
  trivial, alg_PwOneDw,
  trivial, alg_PwOneDh,
  trivial, alg_NormBwd,
  trivial, alg_UpZero,
  trivial, alg_UpDhZero,
  trivial, alg_PwTwo,
  trivial, alg_PwTwoDw,
  trivial, alg_PwTwoDu,
  trivial, alg_AttnOut,
  trivial, alg_AttnOutDw,
  trivial, alg_AttnOutDm,
  trivial, alg_AdamQkv,
  trivial, alg_AdamOut,
  trivial, alg_AdamPwOne,
  trivial, alg_AdamPwTwo,
  trivial, alg_AdamUp,
  trivial, alg_AdamDown⟩

end Cert.Proof

end
